-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_v82) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def preserves_Kernel10_Kernel10Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hPre_pool_finite : Cert.Pre_pool_finite.Facts) (hPre_ffn_finite : Cert.Pre_ffn_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
-- ==== Pre_ffn_finite.lean ====
abbrev S2x4096x2048 : Shape := ⟨3, ![2, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S_ : Shape := ⟨0, ![]⟩

class Facts : Prop where
  bcast_S_S2x4096x2048 : S_.BroadcastsInDim S2x4096x2048 (![] : Fin 0 → Fin S2x4096x2048.rank)
  bcast_S_S2x2048 : S_.BroadcastsInDim S2x2048 (![] : Fin 0 → Fin S2x2048.rank)
  bcast_S_S2x2048x5632 : S_.BroadcastsInDim S2x2048x5632 (![] : Fin 0 → Fin S2x2048x5632.rank)

variable [Facts]

def fn {F : FTy → Type} [FloatOps F] (main_arg0 : FVec F S2x4096x2048 .f32) (main_arg1 : FVec F S2x2048 .f32) (main_arg2 : FVec F S2x2048x5632 .f32) (main_arg3 : FVec F S2x2048x5632 .f32) (main_arg4 : FVec F S2x5632x2048 .f32) : IVec S2x4096x2048 1 × IVec S2x2048 1 × IVec S2x2048x5632 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S2x2048 .f32 := Host.absf main_arg1
  let main_cst_0 : FVec F S_ .f32 := constant S_ .f32 0x7F800000#32
  let main_v4 : FVec F S2x2048 .f32 := broadcastInDim S2x2048 ![] bcast_S_S2x2048 main_cst_0
  let main_v5 : IVec S2x2048 1 := cmpf .olt main_v3 main_v4
  let main_v6 : FVec F S2x2048x5632 .f32 := Host.absf main_arg2
  let main_cst_1 : FVec F S_ .f32 := constant S_ .f32 0x7F800000#32
  let main_v7 : FVec F S2x2048x5632 .f32 := broadcastInDim S2x2048x5632 ![] bcast_S_S2x2048x5632 main_cst_1
  let main_v8 : IVec S2x2048x5632 1 := cmpf .olt main_v6 main_v7
  (main_v2, main_v5, main_v8)
-- ==== Pre_pool_finite.lean ====
abbrev S2x4096x1024 : Shape := ⟨3, ![2, 4096, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S2x4096x1024 : S_.BroadcastsInDim S2x4096x1024 (![] : Fin 0 → Fin S2x4096x1024.rank)

variable [Facts]

def fn {F : FTy → Type} [FloatOps F] (main_arg0 : FVec F S2x4096x1024 .f32) (main_arg1 : FVec F S1x4x256x256 .f32) (main_arg2 : FVec F S1x1024 .f32) : IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  main_v2
-- ==== Kernel.lean ====
abbrev S2x4096x1024 : Shape := ⟨3, ![2, 4096, 1024]⟩
abbrev S1x4x256x256 : Shape := ⟨4, ![1, 4, 256, 256]⟩
abbrev S1x1024 : Shape := ⟨2, ![1, 1024]⟩
abbrev S1x1x1024 : Shape := ⟨3, ![1, 1, 1024]⟩
abbrev S1x512x1024 : Shape := ⟨3, ![1, 512, 1024]⟩
abbrev S528x1024 : Shape := ⟨2, ![528, 1024]⟩
abbrev S16x1024 : Shape := ⟨2, ![16, 1024]⟩
abbrev S512x1024 : Shape := ⟨2, ![512, 1024]⟩
abbrev S512x256 : Shape := ⟨2, ![512, 256]⟩
abbrev S528x256 : Shape := ⟨2, ![528, 256]⟩
abbrev S1x512x256 : Shape := ⟨3, ![1, 512, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S1x4x256x256, .f32⟩
  | .hbm, ⟨2, _⟩ => ⟨S1x1024, .f32⟩
  | .hbm, ⟨3, _⟩ => ⟨S1x1x1024, .f32⟩
  | .hbm, ⟨4, _⟩ => ⟨S2x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x4x256x256, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S528x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x4096x1024 : Shape := ⟨3, ![2, 4096, 1024]⟩
abbrev S1x4x256x256 : Shape := ⟨4, ![1, 4, 256, 256]⟩
abbrev S1x1024 : Shape := ⟨2, ![1, 1024]⟩
abbrev S2x4096x4x256 : Shape := ⟨4, ![2, 4096, 4, 256]⟩
abbrev S4096 : Shape := ⟨1, ![4096]⟩
abbrev S_ : Shape := ⟨0, ![]⟩
abbrev S2x4096x1x256 : Shape := ⟨4, ![2, 4096, 1, 256]⟩
abbrev S2x4096x256 : Shape := ⟨3, ![2, 4096, 256]⟩
abbrev S2x4098x256 : Shape := ⟨3, ![2, 4098, 256]⟩
abbrev S1x4096x1 : Shape := ⟨3, ![1, 4096, 1]⟩
abbrev S2x4100x256 : Shape := ⟨3, ![2, 4100, 256]⟩
abbrev S2x4104x256 : Shape := ⟨3, ![2, 4104, 256]⟩
abbrev S2x4112x256 : Shape := ⟨3, ![2, 4112, 256]⟩
abbrev S4x256x256 : Shape := ⟨3, ![4, 256, 256]⟩
abbrev S4x256x2x4096 : Shape := ⟨4, ![4, 256, 2, 4096]⟩
abbrev S1024 : Shape := ⟨1, ![1024]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x4x256x256, .f32⟩
  | .hbm, ⟨2, _⟩ => ⟨S1x1024, .f32⟩
  | .hbm, ⟨3, _⟩ => ⟨S2x4096x4x256, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .f32⟩
  | .hbm, ⟨9, _⟩ => ⟨S2x4096x1x256, .f32⟩
  | .hbm, ⟨10, _⟩ => ⟨S2x4096x256, .f32⟩
  | .hbm, ⟨11, _⟩ => ⟨S_, .f32⟩
  | .hbm, ⟨12, _⟩ => ⟨S_, .f32⟩
  | .hbm, ⟨13, _⟩ => ⟨S2x4096x256, .f32⟩
  | .hbm, ⟨14, _⟩ => ⟨S_, .i32⟩
  | .hbm, ⟨15, _⟩ => ⟨S_, .f32⟩
  | .hbm, ⟨16, _⟩ => ⟨S2x4098x256, .f32⟩
  | .hbm, ⟨17, _⟩ => ⟨S2x4096x256, .f32⟩
  | .hbm, ⟨18, _⟩ => ⟨S2x4096x256, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S1x4096x1, .f32⟩
  | .hbm, ⟨23, _⟩ => ⟨S2x4096x256, .f32⟩
  | .hbm, ⟨24, _⟩ => ⟨S2x4096x256, .f32⟩
  | .hbm, ⟨25, _⟩ => ⟨S2x4096x256, .f32⟩
  | .hbm, ⟨26, _⟩ => ⟨S2x4096x1x256, .f32⟩
  | .hbm, ⟨27, _⟩ => ⟨S2x4096x256, .f32⟩
  | .hbm, ⟨28, _⟩ => ⟨S_, .f32⟩
  | .hbm, ⟨29, _⟩ => ⟨S_, .f32⟩
  | .hbm, ⟨30, _⟩ => ⟨S2x4096x256, .f32⟩
  | .hbm, ⟨31, _⟩ => ⟨S_, .i32⟩
  | .hbm, ⟨32, _⟩ => ⟨S_, .f32⟩
  | .hbm, ⟨33, _⟩ => ⟨S2x4100x256, .f32⟩
  | .hbm, ⟨34, _⟩ => ⟨S2x4096x256, .f32⟩
  | .hbm, ⟨35, _⟩ => ⟨S2x4096x256, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096x1, .f32⟩
  | .hbm, ⟨40, _⟩ => ⟨S2x4096x256, .f32⟩
  | .hbm, ⟨41, _⟩ => ⟨S2x4096x256, .f32⟩
  | .hbm, ⟨42, _⟩ => ⟨S2x4096x256, .f32⟩
  | .hbm, ⟨43, _⟩ => ⟨S2x4096x1x256, .f32⟩
  | .hbm, ⟨44, _⟩ => ⟨S2x4096x256, .f32⟩
  | .hbm, ⟨45, _⟩ => ⟨S_, .f32⟩
  | .hbm, ⟨46, _⟩ => ⟨S_, .f32⟩
  | .hbm, ⟨47, _⟩ => ⟨S2x4096x256, .f32⟩
  | .hbm, ⟨48, _⟩ => ⟨S_, .i32⟩
  | .hbm, ⟨49, _⟩ => ⟨S_, .f32⟩
  | .hbm, ⟨50, _⟩ => ⟨S2x4104x256, .f32⟩
  | .hbm, ⟨51, _⟩ => ⟨S2x4096x256, .f32⟩
  | .hbm, ⟨52, _⟩ => ⟨S2x4096x256, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S1x4096x1, .f32⟩
  | .hbm, ⟨57, _⟩ => ⟨S2x4096x256, .f32⟩
  | .hbm, ⟨58, _⟩ => ⟨S2x4096x256, .f32⟩
  | .hbm, ⟨59, _⟩ => ⟨S2x4096x256, .f32⟩
  | .hbm, ⟨60, _⟩ => ⟨S2x4096x1x256, .f32⟩
  | .hbm, ⟨61, _⟩ => ⟨S2x4096x256, .f32⟩
  | .hbm, ⟨62, _⟩ => ⟨S_, .f32⟩
  | .hbm, ⟨63, _⟩ => ⟨S_, .f32⟩
  | .hbm, ⟨64, _⟩ => ⟨S2x4096x256, .f32⟩
  | .hbm, ⟨65, _⟩ => ⟨S_, .i32⟩
  | .hbm, ⟨66, _⟩ => ⟨S_, .f32⟩
  | .hbm, ⟨67, _⟩ => ⟨S2x4112x256, .f32⟩
  | .hbm, ⟨68, _⟩ => ⟨S2x4096x256, .f32⟩
  | .hbm, ⟨69, _⟩ => ⟨S2x4096x256, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S1x4096x1, .f32⟩
  | .hbm, ⟨74, _⟩ => ⟨S2x4096x256, .f32⟩
  | .hbm, ⟨75, _⟩ => ⟨S2x4096x256, .f32⟩
  | .hbm, ⟨76, _⟩ => ⟨S2x4096x256, .f32⟩
  | .hbm, ⟨77, _⟩ => ⟨S2x4096x1x256, .f32⟩
  | .hbm, ⟨78, _⟩ => ⟨S2x4096x1x256, .f32⟩
  | .hbm, ⟨79, _⟩ => ⟨S2x4096x1x256, .f32⟩
  | .hbm, ⟨80, _⟩ => ⟨S2x4096x1x256, .f32⟩
  | .hbm, ⟨81, _⟩ => ⟨S2x4096x4x256, .f32⟩
  | .hbm, ⟨82, _⟩ => ⟨S4x256x256, .f32⟩
  | .hbm, ⟨83, _⟩ => ⟨S4x256x2x4096, .f32⟩
  | .hbm, ⟨84, _⟩ => ⟨S2x4096x4x256, .f32⟩
  | .hbm, ⟨85, _⟩ => ⟨S2x4096x1024, .f32⟩
  | .hbm, ⟨86, _⟩ => ⟨S1024, .f32⟩
  | .hbm, ⟨87, _⟩ => ⟨S1x1x1024, .f32⟩
  | .hbm, ⟨88, _⟩ => ⟨S2x4096x1024, .f32⟩
  | .hbm, ⟨89, _⟩ => ⟨S2x4096x1024, .f32⟩
  | .hbm, ⟨90, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call2_call0_cst : Ref sig .tc := ⟨.hbm, 28, rfl⟩
abbrev main_call2_call0_v0 : Ref sig .tc := ⟨.hbm, 29, rfl⟩
abbrev main_v19 : Ref sig .tc := ⟨.hbm, 30, rfl⟩
abbrev main_c_1 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call4_call0_cst : Ref sig .tc := ⟨.hbm, 45, rfl⟩
abbrev main_call4_call0_v0 : Ref sig .tc := ⟨.hbm, 46, rfl⟩
abbrev main_v31 : Ref sig .tc := ⟨.hbm, 47, rfl⟩
abbrev main_c_3 : Ref sig .tc := ⟨.hbm, 48, rfl⟩
abbrev main_call5_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call6_call0_cst : Ref sig .tc := ⟨.hbm, 62, rfl⟩
abbrev main_call6_call0_v0 : Ref sig .tc := ⟨.hbm, 63, rfl⟩
abbrev main_v43 : Ref sig .tc := ⟨.hbm, 64, rfl⟩
abbrev main_c_5 : Ref sig .tc := ⟨.hbm, 65, rfl⟩
abbrev main_call7_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S8192x2048 : Shape := ⟨2, ![8192, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x2048x256 : Shape := ⟨3, ![1, 2048, 256]⟩
abbrev S1x256x2048 : Shape := ⟨3, ![1, 256, 2048]⟩
abbrev S1x2048 : Shape := ⟨2, ![1, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 8
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8192x2048, .f32⟩
  | .hbm, ⟨6, _⟩ => ⟨S2x1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4096x2048 : Shape := ⟨3, ![2, 4096, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048x5632, .f32⟩
  | .hbm, ⟨24, _⟩ => ⟨S2048x5632, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S_, .f32⟩
  | .hbm, ⟨29, _⟩ => ⟨S2x4096x5632, .f32⟩
  | .hbm, ⟨30, _⟩ => ⟨S2x4096x5632, .f32⟩
  | .hbm, ⟨31, _⟩ => ⟨S_, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S1x2048x5632, .f32⟩
  | .hbm, ⟨36, _⟩ => ⟨S2048x5632, .f32⟩
  | .hbm, ⟨37, _⟩ => ⟨S2x4096x5632, .f32⟩
  | .hbm, ⟨38, _⟩ => ⟨S2x4096x5632, .f32⟩
  | .hbm, ⟨39, _⟩ => ⟨S1x5632x2048, .f32⟩
  | .hbm, ⟨40, _⟩ => ⟨S5632x2048, .f32⟩
  | .hbm, ⟨41, _⟩ => ⟨S2x4096x2048, .f32⟩
  | .hbm, ⟨42, _⟩ => ⟨S_, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S2x4096x2048 : Shape := ⟨3, ![2, 4096, 2048]⟩
abbrev S2x2x4096x256 : Shape := ⟨4, ![2, 2, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S8192x2048 : Shape := ⟨2, ![8192, 2048]⟩
abbrev S2x8192x256 : Shape := ⟨3, ![2, 8192, 256]⟩
abbrev S2x1x2048 : Shape := ⟨3, ![2, 1, 2048]⟩
abbrev S1x2048 : Shape := ⟨2, ![1, 2048]⟩
abbrev S512x2048 : Shape := ⟨2, ![512, 2048]⟩
abbrev S1x512x256 : Shape := ⟨3, ![1, 512, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x2x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S8192x2048, .f32⟩
  | .hbm, ⟨7, _⟩ => ⟨S2x8192x256, .f32⟩
  | .hbm, ⟨8, _⟩ => ⟨S2x1x2048, .f32⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x1x2048, .f32⟩
  | .local _ .vmem, ⟨5, _⟩ => ⟨S1x2048x2048, .f32⟩
  | .local _ .vmem, ⟨6, _⟩ => ⟨S1x256x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x4096x2048 : Shape := ⟨3, ![2, 4096, 2048]⟩
abbrev S2x2x4096x256 : Shape := ⟨4, ![2, 2, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x2x4096x256 : Shape := ⟨4, ![1, 2, 4096, 256]⟩
abbrev S2x4096x256 : Shape := ⟨3, ![2, 4096, 256]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S1x2048x2048, .f32⟩
  | .hbm, ⟨25, _⟩ => ⟨S2048x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x4096x2048, .f32⟩
  | .hbm, ⟨34, _⟩ => ⟨S2x4096x2048, .f32⟩
  | .hbm, ⟨35, _⟩ => ⟨S1x2x4096x256, .f32⟩
  | .hbm, ⟨36, _⟩ => ⟨S2x4096x256, .f32⟩
  | .hbm, ⟨37, _⟩ => ⟨S1x256x2048, .f32⟩
  | .hbm, ⟨38, _⟩ => ⟨S256x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S2x4096x1, .f32⟩
  | .hbm, ⟨53, _⟩ => ⟨S2x4096x2048, .f32⟩
  | .hbm, ⟨54, _⟩ => ⟨S2x4096x2048, .f32⟩
  | .hbm, ⟨55, _⟩ => ⟨S1x1x2048, .f32⟩
  | .hbm, ⟨56, _⟩ => ⟨S2x4096x2048, .f32⟩
  | .hbm, ⟨57, _⟩ => ⟨S2x4096x2048, .f32⟩
  | .hbm, ⟨58, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S2x4096x2048 : Shape := ⟨3, ![2, 4096, 2048]⟩
abbrev S2x2048 : Shape := ⟨2, ![2, 2048]⟩
abbrev S1x2048x8192 : Shape := ⟨3, ![1, 2048, 8192]⟩
abbrev S8192x2048 : Shape := ⟨2, ![8192, 2048]⟩
abbrev S2x1x2048 : Shape := ⟨3, ![2, 1, 2048]⟩
abbrev S8192x8192 : Shape := ⟨2, ![8192, 8192]⟩
abbrev S1x2048x512 : Shape := ⟨3, ![1, 2048, 512]⟩
abbrev S2048x2048 : Shape := ⟨2, ![2048, 2048]⟩
abbrev S1x1x2048 : Shape := ⟨3, ![1, 1, 2048]⟩
abbrev S2048x512 : Shape := ⟨2, ![2048, 512]⟩
abbrev S1x2048 : Shape := ⟨2, ![1, 2048]⟩
abbrev S2048 : Shape := ⟨1, ![2048]⟩
abbrev S2048x1 : Shape := ⟨2, ![2048, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x8192, .f32⟩
  | .hbm, ⟨3, _⟩ => ⟨S8192x2048, .f32⟩
  | .hbm, ⟨4, _⟩ => ⟨S2x1x2048, .f32⟩
  | .hbm, ⟨5, _⟩ => ⟨S8192x8192, .f32⟩
  | .local _ .vmem, ⟨0, _⟩ => ⟨S1x2048x512, .f32⟩
  | .local _ .vmem, ⟨1, _⟩ => ⟨S1x2048x512, .f32⟩
  | .local _ .vmem, ⟨2, _⟩ => ⟨S2048x2048, .f32⟩
  | .local _ .vmem, ⟨3, _⟩ => ⟨S1x1x2048, .f32⟩
  | .local _ .vmem, ⟨4, _⟩ => ⟨S2048x512, .f32⟩
  | .local _ .vmem, ⟨5, _⟩ => ⟨S2048x512, .f32⟩
  | .local _ .vmem, ⟨6, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S2x2048 : Shape := ⟨2, ![2, 2048]⟩
abbrev S1x2048x8192 : Shape := ⟨3, ![1, 2048, 8192]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x8192 : Shape := ⟨2, ![2048, 8192]⟩
abbrev S2x4096x8192 : Shape := ⟨3, ![2, 4096, 8192]⟩
abbrev S8192x8192 : Shape := ⟨2, ![8192, 8192]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x8192, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x8192, .f32⟩
  | .hbm, ⟨22, _⟩ => ⟨S2x4096x8192, .f32⟩
  | .hbm, ⟨23, _⟩ => ⟨S8192x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S2x4096x2048 : Shape := ⟨3, ![2, 4096, 2048]⟩
abbrev S1x2048x2048 : Shape := ⟨3, ![1, 2048, 2048]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .bf16⟩
  | .hbm, ⟨2, _⟩ => ⟨S1x2048x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x4096x2048 : Shape := ⟨3, ![2, 4096, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .bf16⟩
  | .hbm, ⟨2, _⟩ => ⟨S1x2048x2048, .f32⟩
  | .hbm, ⟨3, _⟩ => ⟨S2x4096x2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2x4096x2048 : Shape := ⟨3, ![2, 4096, 2048]⟩
abbrev S2x4096x1024 : Shape := ⟨3, ![2, 4096, 1024]⟩
abbrev S1x2048x2048 : Shape := ⟨3, ![1, 2048, 2048]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S2048x2048 : Shape := ⟨2, ![2048, 2048]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .bf16⟩
  | .hbm, ⟨2, _⟩ => ⟨S2x4096x1024, .bf16⟩
  | .hbm, ⟨3, _⟩ => ⟨S1x2048x2048, .f32⟩
  | .hbm, ⟨4, _⟩ => ⟨S8192x2048, .f32⟩
  | .hbm, ⟨5, _⟩ => ⟨S8192x1024, .bf16⟩
  | .hbm, ⟨6, _⟩ => ⟨S8192x1024, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .f32⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2x4096x2048 : Shape := ⟨3, ![2, 4096, 2048]⟩
abbrev S2x4096x1024 : Shape := ⟨3, ![2, 4096, 1024]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .bf16⟩
  | .hbm, ⟨2, _⟩ => ⟨S2x4096x1024, .bf16⟩
  | .hbm, ⟨3, _⟩ => ⟨S1x2048x2048, .f32⟩
  | .hbm, ⟨4, _⟩ => ⟨S2x4096x2048, .bf16⟩
  | .hbm, ⟨5, _⟩ => ⟨S2x4096x2048, .f32⟩
  | .hbm, ⟨6, _⟩ => ⟨S2048x2048, .f32⟩
  | .hbm, ⟨7, _⟩ => ⟨S2x4096x2048, .f32⟩
  | .hbm, ⟨8, _⟩ => ⟨S2x4096x2048, .f32⟩
  | .hbm, ⟨9, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S2x4096x2048 : Shape := ⟨3, ![2, 4096, 2048]⟩
abbrev S2x4096 : Shape := ⟨2, ![2, 4096]⟩
abbrev S2x2048 : Shape := ⟨2, ![2, 2048]⟩
abbrev S1x2048x4096 : Shape := ⟨3, ![1, 2048, 4096]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8192x1 : Shape := ⟨2, ![8192, 1]⟩
abbrev S8192x2048 : Shape := ⟨2, ![8192, 2048]⟩
abbrev S2x1x2048 : Shape := ⟨3, ![2, 1, 2048]⟩
abbrev S8192x1024 : Shape := ⟨2, ![8192, 1024]⟩
abbrev S8192x3072 : Shape := ⟨2, ![8192, 3072]⟩
abbrev S1024x2048 : Shape := ⟨2, ![1024, 2048]⟩
abbrev S1x1x2048 : Shape := ⟨3, ![1, 1, 2048]⟩
abbrev S1x2048x512 : Shape := ⟨3, ![1, 2048, 512]⟩
abbrev S1024x1 : Shape := ⟨2, ![1024, 1]⟩
abbrev S1024x512 : Shape := ⟨2, ![1024, 512]⟩
abbrev S1024x128 : Shape := ⟨2, ![1024, 128]⟩
abbrev S1x2048 : Shape := ⟨2, ![1, 2048]⟩
abbrev S1024 : Shape := ⟨1, ![1024]⟩
abbrev S2048x512 : Shape := ⟨2, ![2048, 512]⟩

abbrev nBuf : Space → Nat
  | .hbm => 35
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S2x2048, .f32⟩
  | .hbm, ⟨3, _⟩ => ⟨S1x2048x4096, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S96, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S128, .f32⟩
  | .hbm, ⟨28, _⟩ => ⟨S1x128, .f32⟩
  | .hbm, ⟨29, _⟩ => ⟨S8192x1, .i32⟩
  | .hbm, ⟨30, _⟩ => ⟨S8192x1, .f32⟩
  | .hbm, ⟨31, _⟩ => ⟨S8192x2048, .f32⟩
  | .hbm, ⟨32, _⟩ => ⟨S2x1x2048, .f32⟩
  | .hbm, ⟨33, _⟩ => ⟨S8192x1024, .f32⟩
  | .hbm, ⟨34, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x1, .f32⟩
  | .local _ .vmem, ⟨6, _⟩ => ⟨S1024x1, .f32⟩
  | .local _ .vmem, ⟨7, _⟩ => ⟨S1x128, .f32⟩
  | .local _ .vmem, ⟨8, _⟩ => ⟨S1x128, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | .local _ .vmem, ⟨14, _⟩ => ⟨S1024x128, .f32⟩
  | .local _ .vmem, ⟨15, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_4 : BitVec 32 := 0#32
  let v17 : BitVec 1 := Scalar.cmpi .eq arg1 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_6 : BitVec 32 := 0#32
  let v20 : BitVec 1 := Scalar.cmpi .eq v16 c0_i32_6
  let c0_i32_7 : BitVec 32 := 0#32
  let v21 : BitVec 1 := Scalar.cmpi .sgt arg1 c0_i32_7
  let v22 : BitVec 1 := Scalar.andi v20 v21
  let v23 : BitVec 32 := Scalar.extui v22
  let c0_i32_8 : BitVec 32 := 0#32
  let v24 : BitVec 1 := Scalar.cmpi .ne v23 c0_i32_8
  v24

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_9 : BitVec 32 := 1#32
  let v25 : BitVec 1 := Scalar.cmpi .eq v16 c1_i32_9
  let v26 : BitVec 32 := Scalar.extui v25
  let c0_i32_10 : BitVec 32 := 0#32
  let v27 : BitVec 1 := Scalar.cmpi .ne v26 c0_i32_10
  v27

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_11 : BitVec 32 := 2#32
  let v28 : BitVec 1 := Scalar.cmpi .eq v16 c2_i32_11
  let v29 : BitVec 32 := Scalar.extui v28
  let c0_i32_12 : BitVec 32 := 0#32
  let v30 : BitVec 1 := Scalar.cmpi .ne v29 c0_i32_12
  v30

def k0_cond5 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c3_i32 : BitVec 32 := 3#32
  let v31 : BitVec 1 := Scalar.cmpi .eq v16 c3_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x4096x2048 : Shape := ⟨3, ![2, 4096, 2048]⟩
abbrev S2x4096 : Shape := ⟨2, ![2, 4096]⟩
abbrev S2x2048 : Shape := ⟨2, ![2, 2048]⟩
abbrev S1x2048x4096 : Shape := ⟨3, ![1, 2048, 4096]⟩
abbrev S16 : Shape := ⟨1, ![16]⟩
abbrev S_ : Shape := ⟨0, ![]⟩
abbrev S2x4096x1 : Shape := ⟨3, ![2, 4096, 1]⟩
abbrev S1x1x16 : Shape := ⟨3, ![1, 1, 16]⟩
abbrev S2x4096x16 : Shape := ⟨3, ![2, 4096, 16]⟩
abbrev S1x2048 : Shape := ⟨2, ![1, 2048]⟩
abbrev S2048 : Shape := ⟨1, ![2048]⟩
abbrev S1x1x2048 : Shape := ⟨3, ![1, 1, 2048]⟩
abbrev S2048x4096 : Shape := ⟨2, ![2048, 4096]⟩
abbrev S2x4096x4096 : Shape := ⟨3, ![2, 4096, 4096]⟩
abbrev S2x4096x1024 : Shape := ⟨3, ![2, 4096, 1024]⟩
abbrev S2x4096x4x2x128 : Shape := ⟨5, ![2, 4096, 4, 2, 128]⟩
abbrev S2x4096x1x1x16 : Shape := ⟨5, ![2, 4096, 1, 1, 16]⟩
abbrev S2x4096x4x2x16 : Shape := ⟨5, ![2, 4096, 4, 2, 16]⟩
abbrev S2x4096x4x2x32 : Shape := ⟨5, ![2, 4096, 4, 2, 32]⟩
abbrev S2x4096x4x2x96 : Shape := ⟨5, ![2, 4096, 4, 2, 96]⟩
abbrev S2x4096x3072 : Shape := ⟨3, ![2, 4096, 3072]⟩
abbrev S8192x1024 : Shape := ⟨2, ![8192, 1024]⟩
abbrev S8192x3072 : Shape := ⟨2, ![8192, 3072]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096, .i32⟩
  | .hbm, ⟨2, _⟩ => ⟨S2x2048, .f32⟩
  | .hbm, ⟨3, _⟩ => ⟨S1x2048x4096, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2x4096, .f32⟩
  | .hbm, ⟨19, _⟩ => ⟨S2x4096x1, .f32⟩
  | .hbm, ⟨20, _⟩ => ⟨S1x1x16, .f32⟩
  | .hbm, ⟨21, _⟩ => ⟨S2x4096x16, .f32⟩
  | .hbm, ⟨22, _⟩ => ⟨S2x4096x16, .f32⟩
  | .hbm, ⟨23, _⟩ => ⟨S2x4096x16, .f32⟩
  | .hbm, ⟨24, _⟩ => ⟨S2x4096x16, .f32⟩
  | .hbm, ⟨25, _⟩ => ⟨S2x4096x16, .f32⟩
  | .hbm, ⟨26, _⟩ => ⟨S1x2048, .f32⟩
  | .hbm, ⟨27, _⟩ => ⟨S2048, .f32⟩
  | .hbm, ⟨28, _⟩ => ⟨S2x4096x2048, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x1, .f32⟩
  | .hbm, ⟨39, _⟩ => ⟨S2x4096x2048, .f32⟩
  | .hbm, ⟨40, _⟩ => ⟨S2x4096x2048, .f32⟩
  | .hbm, ⟨41, _⟩ => ⟨S1x1x2048, .f32⟩
  | .hbm, ⟨42, _⟩ => ⟨S2x4096x2048, .f32⟩
  | .hbm, ⟨43, _⟩ => ⟨S2x4096x2048, .f32⟩
  | .hbm, ⟨44, _⟩ => ⟨S2048x4096, .f32⟩
  | .hbm, ⟨45, _⟩ => ⟨S2x4096x4096, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x4x2x128, .f32⟩
  | .hbm, ⟨51, _⟩ => ⟨S2x4096x1x1x16, .f32⟩
  | .hbm, ⟨52, _⟩ => ⟨S2x4096x1x1x16, .f32⟩
  | .hbm, ⟨53, _⟩ => ⟨S2x4096x4x2x16, .f32⟩
  | .hbm, ⟨54, _⟩ => ⟨S2x4096x4x2x16, .f32⟩
  | .hbm, ⟨55, _⟩ => ⟨S2x4096x4x2x16, .f32⟩
  | .hbm, ⟨56, _⟩ => ⟨S2x4096x4x2x16, .f32⟩
  | .hbm, ⟨57, _⟩ => ⟨S2x4096x4x2x16, .f32⟩
  | .hbm, ⟨58, _⟩ => ⟨S2x4096x4x2x16, .f32⟩
  | .hbm, ⟨59, _⟩ => ⟨S2x4096x4x2x16, .f32⟩
  | .hbm, ⟨60, _⟩ => ⟨S2x4096x4x2x16, .f32⟩
  | .hbm, ⟨61, _⟩ => ⟨S2x4096x4x2x16, .f32⟩
  | .hbm, ⟨62, _⟩ => ⟨S2x4096x4x2x16, .f32⟩
  | .hbm, ⟨63, _⟩ => ⟨S2x4096x4x2x16, .f32⟩
  | .hbm, ⟨64, _⟩ => ⟨S2x4096x4x2x16, .f32⟩
  | .hbm, ⟨65, _⟩ => ⟨S2x4096x4x2x32, .f32⟩
  | .hbm, ⟨66, _⟩ => ⟨S2x4096x4x2x96, .f32⟩
  | .hbm, ⟨67, _⟩ => ⟨S2x4096x4x2x128, .f32⟩
  | .hbm, ⟨68, _⟩ => ⟨S2x4096x1024, .f32⟩
  | .hbm, ⟨69, _⟩ => ⟨S2x4096x4x2x128, .f32⟩
  | .hbm, ⟨70, _⟩ => ⟨S2x4096x1x1x16, .f32⟩
  | .hbm, ⟨71, _⟩ => ⟨S2x4096x1x1x16, .f32⟩
  | .hbm, ⟨72, _⟩ => ⟨S2x4096x4x2x16, .f32⟩
  | .hbm, ⟨73, _⟩ => ⟨S2x4096x4x2x16, .f32⟩
  | .hbm, ⟨74, _⟩ => ⟨S2x4096x4x2x16, .f32⟩
  | .hbm, ⟨75, _⟩ => ⟨S2x4096x4x2x16, .f32⟩
  | .hbm, ⟨76, _⟩ => ⟨S2x4096x4x2x16, .f32⟩
  | .hbm, ⟨77, _⟩ => ⟨S2x4096x4x2x16, .f32⟩
  | .hbm, ⟨78, _⟩ => ⟨S2x4096x4x2x16, .f32⟩
  | .hbm, ⟨79, _⟩ => ⟨S2x4096x4x2x16, .f32⟩
  | .hbm, ⟨80, _⟩ => ⟨S2x4096x4x2x16, .f32⟩
  | .hbm, ⟨81, _⟩ => ⟨S2x4096x4x2x16, .f32⟩
  | .hbm, ⟨82, _⟩ => ⟨S2x4096x4x2x16, .f32⟩
  | .hbm, ⟨83, _⟩ => ⟨S2x4096x4x2x16, .f32⟩
  | .hbm, ⟨84, _⟩ => ⟨S2x4096x4x2x32, .f32⟩
  | .hbm, ⟨85, _⟩ => ⟨S2x4096x4x2x96, .f32⟩
  | .hbm, ⟨86, _⟩ => ⟨S2x4096x4x2x128, .f32⟩
  | .hbm, ⟨87, _⟩ => ⟨S2x4096x1024, .f32⟩
  | .hbm, ⟨88, _⟩ => ⟨S_, .f32⟩
  | .hbm, ⟨89, _⟩ => ⟨S2x4096x1024, .f32⟩
  | .hbm, ⟨90, _⟩ => ⟨S2x4096x1024, .f32⟩
  | .hbm, ⟨91, _⟩ => ⟨S2x4096x3072, .f32⟩
  | .hbm, ⟨92, _⟩ => ⟨S2x4096x3072, .bf16⟩
  | .hbm, ⟨93, _⟩ => ⟨S8192x1024, .f32⟩
  | .hbm, ⟨94, _⟩ => ⟨S8192x3072, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩

abbrev nD : Nat := 1
abbrev τ : Topo := Topo.v7x

variable {F : FTy → Type} [FloatOps F]
-- ==== Kernel8.lean ====
abbrev S2x4096x2048 : Shape := ⟨3, ![2, 4096, 2048]⟩
abbrev S2x2x4096x256 : Shape := ⟨4, ![2, 2, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S8192x2048 : Shape := ⟨2, ![8192, 2048]⟩
abbrev S2x8192x256 : Shape := ⟨3, ![2, 8192, 256]⟩
abbrev S2x1x2048 : Shape := ⟨3, ![2, 1, 2048]⟩
abbrev S1x2048 : Shape := ⟨2, ![1, 2048]⟩
abbrev S512x2048 : Shape := ⟨2, ![512, 2048]⟩
abbrev S1x512x256 : Shape := ⟨3, ![1, 512, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x2x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S8192x2048, .f32⟩
  | .hbm, ⟨7, _⟩ => ⟨S2x8192x256, .f32⟩
  | .hbm, ⟨8, _⟩ => ⟨S2x1x2048, .f32⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x1x2048, .f32⟩
  | .local _ .vmem, ⟨5, _⟩ => ⟨S1x2048x2048, .f32⟩
  | .local _ .vmem, ⟨6, _⟩ => ⟨S1x256x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x4096x2048 : Shape := ⟨3, ![2, 4096, 2048]⟩
abbrev S2x2x4096x256 : Shape := ⟨4, ![2, 2, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x2x4096x256 : Shape := ⟨4, ![1, 2, 4096, 256]⟩
abbrev S2x4096x256 : Shape := ⟨3, ![2, 4096, 256]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S1x2048x2048, .f32⟩
  | .hbm, ⟨25, _⟩ => ⟨S2048x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x4096x2048, .f32⟩
  | .hbm, ⟨34, _⟩ => ⟨S2x4096x2048, .f32⟩
  | .hbm, ⟨35, _⟩ => ⟨S1x2x4096x256, .f32⟩
  | .hbm, ⟨36, _⟩ => ⟨S2x4096x256, .f32⟩
  | .hbm, ⟨37, _⟩ => ⟨S1x256x2048, .f32⟩
  | .hbm, ⟨38, _⟩ => ⟨S256x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel9.lean ====
abbrev S2x4096x3072 : Shape := ⟨3, ![2, 4096, 3072]⟩
abbrev S1x4x128 : Shape := ⟨3, ![1, 4, 128]⟩
abbrev S1x256 : Shape := ⟨2, ![1, 256]⟩
abbrev S1x1x256 : Shape := ⟨3, ![1, 1, 256]⟩
abbrev S2x4096x1024 : Shape := ⟨3, ![2, 4096, 1024]⟩
abbrev S1x4096x256 : Shape := ⟨3, ![1, 4096, 256]⟩
abbrev S1x2048x256 : Shape := ⟨3, ![1, 2048, 256]⟩
abbrev S2x2048x1 : Shape := ⟨3, ![2, 2048, 1]⟩
abbrev S2x2048x128 : Shape := ⟨3, ![2, 2048, 128]⟩
abbrev S2x2048x256 : Shape := ⟨3, ![2, 2048, 256]⟩
abbrev S2x2x512x2048 : Shape := ⟨4, ![2, 2, 512, 2048]⟩
abbrev S2x1024x2048 : Shape := ⟨3, ![2, 1024, 2048]⟩
abbrev S2x2x512x1 : Shape := ⟨4, ![2, 2, 512, 1]⟩
abbrev S1x512x128 : Shape := ⟨3, ![1, 512, 128]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S1x1x512x2048 : Shape := ⟨4, ![1, 1, 512, 2048]⟩
abbrev S1x512x1 : Shape := ⟨3, ![1, 512, 1]⟩
abbrev S512x1 : Shape := ⟨2, ![512, 1]⟩
abbrev S512 : Shape := ⟨1, ![512]⟩
abbrev S1x1x512x1 : Shape := ⟨4, ![1, 1, 512, 1]⟩
abbrev S1x512x2048 : Shape := ⟨3, ![1, 512, 2048]⟩
abbrev S1x1024x2048 : Shape := ⟨3, ![1, 1024, 2048]⟩
abbrev S1024x2048 : Shape := ⟨2, ![1024, 2048]⟩
abbrev S2048x256 : Shape := ⟨2, ![2048, 256]⟩
abbrev S1024x256 : Shape := ⟨2, ![1024, 256]⟩
abbrev S1x512x256 : Shape := ⟨3, ![1, 512, 256]⟩
abbrev S512x256 : Shape := ⟨2, ![512, 256]⟩
abbrev S512x512 : Shape := ⟨2, ![512, 512]⟩
abbrev S1x1x512x512 : Shape := ⟨4, ![1, 1, 512, 512]⟩
abbrev S1x1024x128 : Shape := ⟨3, ![1, 1024, 128]⟩
abbrev S1024x128 : Shape := ⟨2, ![1024, 128]⟩
abbrev S512x1024 : Shape := ⟨2, ![512, 1024]⟩
abbrev S1x1x512x1024 : Shape := ⟨4, ![1, 1, 512, 1024]⟩
abbrev S1x512x512 : Shape := ⟨3, ![1, 512, 512]⟩
abbrev S1x1024x512 : Shape := ⟨3, ![1, 1024, 512]⟩
abbrev S1024x512 : Shape := ⟨2, ![1024, 512]⟩
abbrev S1x1536x128 : Shape := ⟨3, ![1, 1536, 128]⟩
abbrev S1536x128 : Shape := ⟨2, ![1536, 128]⟩
abbrev S512x1536 : Shape := ⟨2, ![512, 1536]⟩
abbrev S1x1x512x1536 : Shape := ⟨4, ![1, 1, 512, 1536]⟩
abbrev S1x512x1024 : Shape := ⟨3, ![1, 512, 1024]⟩
abbrev S1x1024x1024 : Shape := ⟨3, ![1, 1024, 1024]⟩
abbrev S1024x1024 : Shape := ⟨2, ![1024, 1024]⟩
abbrev S1x1024x256 : Shape := ⟨3, ![1, 1024, 256]⟩
abbrev S1x512x1536 : Shape := ⟨3, ![1, 512, 1536]⟩
abbrev S1x1024x1536 : Shape := ⟨3, ![1, 1024, 1536]⟩
abbrev S1024x1536 : Shape := ⟨2, ![1024, 1536]⟩
abbrev S1x1536x256 : Shape := ⟨3, ![1, 1536, 256]⟩
abbrev S1536x256 : Shape := ⟨2, ![1536, 256]⟩
abbrev S4x128 : Shape := ⟨2, ![4, 128]⟩
abbrev S1x128 : Shape := ⟨2, ![1, 128]⟩
abbrev S1 : Shape := ⟨1, ![1]⟩
abbrev S1x1 : Shape := ⟨2, ![1, 1]⟩
abbrev S2048 : Shape := ⟨1, ![2048]⟩
abbrev S2048x1 : Shape := ⟨2, ![2048, 1]⟩

abbrev nBuf : Space → Nat
  | .hbm => 5
  | .vmem => 14
  | .smem => 0
  | _ => 0

abbrev bufTy : (tb : Table) → Fin (tcTables nBuf tb) → BufTy
  | .hbm, ⟨0, _⟩ => ⟨S2x4096x3072, .bf16⟩
  | .hbm, ⟨1, _⟩ => ⟨S1x4x128, .f32⟩
  | .hbm, ⟨2, _⟩ => ⟨S1x256, .f32⟩
  | .hbm, ⟨3, _⟩ => ⟨S1x1x256, .f32⟩
  | .hbm, ⟨4, _⟩ => ⟨S2x4096x1024, .bf16⟩
  | .local _ .vmem, ⟨0, _⟩ => ⟨S1x4x128, .f32⟩
  | .local _ .vmem, ⟨1, _⟩ => ⟨S1x4096x256, .bf16⟩
  | .local _ .vmem, ⟨2, _⟩ => ⟨S1x4096x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x1x256, .f32⟩
  | .local _ .vmem, ⟨6, _⟩ => ⟨S1x2048x256, .bf16⟩
  | .local _ .vmem, ⟨7, _⟩ => ⟨S1x2048x256, .bf16⟩
  | .local _ .vmem, ⟨8, _⟩ => ⟨S2x2048x1, .f32⟩
  | .local _ .vmem, ⟨9, _⟩ => ⟨S2x2048x128, .f32⟩
  | .local _ .vmem, ⟨10, _⟩ => ⟨S2x2048x256, .f32⟩
  | .local _ .vmem, ⟨11, _⟩ => ⟨S2x2x512x2048, .f32⟩
  | .local _ .vmem, ⟨12, _⟩ => ⟨S2x1024x2048, .bf16⟩
  | .local _ .vmem, ⟨13, _⟩ => ⟨S2x2x512x1, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 4, 2], ![false, false, false]⟩

@[reducible] def k0_t1_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg15 : BitVec 32 := Scf.iv c0_i32_10 c1_i32_11 k0_t1
  let c2048_i32_427 : BitVec 32 := 2048#32
  let v707 : BitVec 32 := Scalar.muli arg15 c2048_i32_427
  v707
def k0_off1 (i : grid0.Coords) (k0_t1 : Fin (k0_t1_loop i).trips) : Fin 3 → Nat :=
  let c0_431 : Index := 0#32
  let c0_i32_10 : BitVec 32 := 0#32
  let c1_i32_11 : BitVec 32 := 1#32
  let arg15 : BitVec 32 := Scf.iv c0_i32_10 c1_i32_11 k0_t1
  let c2048_i32_427 : BitVec 32 := 2048#32
  let v707 : BitVec 32 := Scalar.muli arg15 c2048_i32_427
  let v708 : BitVec 32 := v707
  let v711 : Index := Scalar.indexCast v708
  let c0_432 : Index := 0#32
  ![0, v711.toNat, 0]
def k0_off2 (i : grid0.Coords) (k0_t1 : Fin (k0_t1_loop i).trips) : Fin 3 → Nat :=
  let c0_441 : Index := 0#32
  let c0_i32_10 : BitVec 32 := 0#32
  let c1_i32_11 : BitVec 32 := 1#32
  let arg15 : BitVec 32 := Scf.iv c0_i32_10 c1_i32_11 k0_t1
  let c2048_i32_427 : BitVec 32 := 2048#32
  let v707 : BitVec 32 := Scalar.muli arg15 c2048_i32_427
  let v708 : BitVec 32 := v707
  let v720 : Index := Scalar.indexCast v708
  let c128_442 : Index := 128#32
  ![0, v720.toNat, 128]
def k0_off3 (i : grid0.Coords) (k0_t1 : Fin (k0_t1_loop i).trips) : Fin 3 → Nat :=
  let c0_519 : Index := 0#32
  let c0_i32_10 : BitVec 32 := 0#32
  let c1_i32_11 : BitVec 32 := 1#32
  let arg15 : BitVec 32 := Scf.iv c0_i32_10 c1_i32_11 k0_t1
  let c2048_i32_427 : BitVec 32 := 2048#32
  let v707 : BitVec 32 := Scalar.muli arg15 c2048_i32_427
  let v708 : BitVec 32 := v707
  let v869 : Index := Scalar.indexCast v708
  let c0_520 : Index := 0#32
  ![0, v869.toNat, 0]
@[reducible] def k0_t2_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg15 : BitVec 32 := Scf.iv v16 c1_i32_12 k0_t2
  let c2048_i32_427 : BitVec 32 := 2048#32
  let v707 : BitVec 32 := Scalar.muli arg15 c2048_i32_427
  v707
def k0_off4 (i : grid0.Coords) (k0_t2 : Fin (k0_t2_loop i).trips) : Fin 3 → Nat :=
  let c0_431 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg15 : BitVec 32 := Scf.iv v16 c1_i32_12 k0_t2
  let c2048_i32_427 : BitVec 32 := 2048#32
  let v707 : BitVec 32 := Scalar.muli arg15 c2048_i32_427
  let v708 : BitVec 32 := v707
  let v711 : Index := Scalar.indexCast v708
  let c0_432 : Index := 0#32
  ![0, v711.toNat, 0]
def k0_off5 (i : grid0.Coords) (k0_t2 : Fin (k0_t2_loop i).trips) : Fin 3 → Nat :=
  let c0_441 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg15 : BitVec 32 := Scf.iv v16 c1_i32_12 k0_t2
  let c2048_i32_427 : BitVec 32 := 2048#32
  let v707 : BitVec 32 := Scalar.muli arg15 c2048_i32_427
  let v708 : BitVec 32 := v707
  let v720 : Index := Scalar.indexCast v708
  let c128_442 : Index := 128#32
  ![0, v720.toNat, 128]
def k0_off6 (i : grid0.Coords) (k0_t2 : Fin (k0_t2_loop i).trips) : Fin 3 → Nat :=
  let c0_519 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg15 : BitVec 32 := Scf.iv v16 c1_i32_12 k0_t2
  let c2048_i32_427 : BitVec 32 := 2048#32
  let v707 : BitVec 32 := Scalar.muli arg15 c2048_i32_427
  let v708 : BitVec 32 := v707
  let v869 : Index := Scalar.indexCast v708
  let c0_520 : Index := 0#32
  ![0, v869.toNat, 0]
def k0_mult3 (i : grid0.Coords) : BitVec 32 :=
  let arg2 : BitVec 32 := BitVec.ofNat 32 (i 2).val
  let c2048_i32 : BitVec 32 := 2048#32
  let v17 : BitVec 32 := Scalar.muli arg2 c2048_i32
  v17
def k0_off7 (i : grid0.Coords) : Fin 3 → Nat :=
  let c0_16 : Index := 0#32
  let arg2 : BitVec 32 := BitVec.ofNat 32 (i 2).val
  let c2048_i32 : BitVec 32 := 2048#32
  let v17 : BitVec 32 := Scalar.muli arg2 c2048_i32
  let v18 : BitVec 32 := v17
  let v21 : Index := Scalar.indexCast v18
  let c0_17 : Index := 0#32
  ![0, v21.toNat, 0]
def k0_off8 (i : grid0.Coords) : Fin 3 → Nat :=
  let c0_25 : Index := 0#32
  let arg2 : BitVec 32 := BitVec.ofNat 32 (i 2).val
  let c2048_i32 : BitVec 32 := 2048#32
  let v17 : BitVec 32 := Scalar.muli arg2 c2048_i32
  let v18 : BitVec 32 := v17
  let v30 : Index := Scalar.indexCast v18
  let c128_26 : Index := 128#32
  ![0, v30.toNat, 128]
def k0_off9 (i : grid0.Coords) : Fin 3 → Nat :=
  let c0_33 : Index := 0#32
  let arg2 : BitVec 32 := BitVec.ofNat 32 (i 2).val
  let c2048_i32 : BitVec 32 := 2048#32
  let v17 : BitVec 32 := Scalar.muli arg2 c2048_i32
  let v18 : BitVec 32 := v17
  let v39 : Index := Scalar.indexCast v18
  let c0_34 : Index := 0#32
  ![0, v39.toNat, 0]
def k0_off10 (i : grid0.Coords) : Fin 3 → Nat :=
  let c0_43 : Index := 0#32
  let arg2 : BitVec 32 := BitVec.ofNat 32 (i 2).val
  let c2048_i32 : BitVec 32 := 2048#32
  let v17 : BitVec 32 := Scalar.muli arg2 c2048_i32
  let v18 : BitVec 32 := v17
  let v48 : Index := Scalar.indexCast v18
  let c128_44 : Index := 128#32
  ![0, v48.toNat, 128]
def k0_off11 (i : grid0.Coords) : Fin 3 → Nat :=
  let c0_105 : Index := 0#32
  let arg2 : BitVec 32 := BitVec.ofNat 32 (i 2).val
  let c2048_i32 : BitVec 32 := 2048#32
  let v17 : BitVec 32 := Scalar.muli arg2 c2048_i32
  let v18 : BitVec 32 := v17
  let v145 : Index := Scalar.indexCast v18
  let c0_106 : Index := 0#32
  ![0, v145.toNat, 0]
def k0_off12 (i : grid0.Coords) : Fin 3 → Nat :=
  let c0_130 : Index := 0#32
  let arg2 : BitVec 32 := BitVec.ofNat 32 (i 2).val
  let c2048_i32 : BitVec 32 := 2048#32
  let v17 : BitVec 32 := Scalar.muli arg2 c2048_i32
  let v18 : BitVec 32 := v17
  let v173 : Index := Scalar.indexCast v18
  let c0_131 : Index := 0#32
  ![0, v173.toNat, 0]
def k0_off13 (i : grid0.Coords) : Fin 3 → Nat :=
  let c0_140 : Index := 0#32
  let arg2 : BitVec 32 := BitVec.ofNat 32 (i 2).val
  let c2048_i32 : BitVec 32 := 2048#32
  let v17 : BitVec 32 := Scalar.muli arg2 c2048_i32
  let v18 : BitVec 32 := v17
  let v182 : Index := Scalar.indexCast v18
  let c128_141 : Index := 128#32
  ![0, v182.toNat, 128]
def k0_off14 (i : grid0.Coords) : Fin 3 → Nat :=
  let c0_201 : Index := 0#32
  let arg2 : BitVec 32 := BitVec.ofNat 32 (i 2).val
  let c2048_i32 : BitVec 32 := 2048#32
  let v17 : BitVec 32 := Scalar.muli arg2 c2048_i32
  let v18 : BitVec 32 := v17
  let v295 : Index := Scalar.indexCast v18
  let c0_202 : Index := 0#32
  ![0, v295.toNat, 0]
def k0_off15 (i : grid0.Coords) : Fin 3 → Nat :=
  let c0_226 : Index := 0#32
  let arg2 : BitVec 32 := BitVec.ofNat 32 (i 2).val
  let c2048_i32 : BitVec 32 := 2048#32
  let v17 : BitVec 32 := Scalar.muli arg2 c2048_i32
  let v18 : BitVec 32 := v17
  let v323 : Index := Scalar.indexCast v18
  let c0_227 : Index := 0#32
  ![0, v323.toNat, 0]
def k0_off16 (i : grid0.Coords) : Fin 3 → Nat :=
  let c0_236 : Index := 0#32
  let arg2 : BitVec 32 := BitVec.ofNat 32 (i 2).val
  let c2048_i32 : BitVec 32 := 2048#32
  let v17 : BitVec 32 := Scalar.muli arg2 c2048_i32
  let v18 : BitVec 32 := v17
  let v332 : Index := Scalar.indexCast v18
  let c128_237 : Index := 128#32
  ![0, v332.toNat, 128]
def k0_off17 (i : grid0.Coords) : Fin 3 → Nat :=
  let c0_297 : Index := 0#32
  let arg2 : BitVec 32 := BitVec.ofNat 32 (i 2).val
  let c2048_i32 : BitVec 32 := 2048#32
  let v17 : BitVec 32 := Scalar.muli arg2 c2048_i32
  let v18 : BitVec 32 := v17
  let v461 : Index := Scalar.indexCast v18
  let c0_298 : Index := 0#32
  ![0, v461.toNat, 0]
def k0_off18 (i : grid0.Coords) : Fin 3 → Nat :=
  let c0_374 : Index := 0#32
  let arg2 : BitVec 32 := BitVec.ofNat 32 (i 2).val
  let c2048_i32 : BitVec 32 := 2048#32
  let v17 : BitVec 32 := Scalar.muli arg2 c2048_i32
  let v18 : BitVec 32 := v17
  let v625 : Index := Scalar.indexCast v18
  let c0_375 : Index := 0#32
  ![0, v625.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel10.lean ====
abbrev S2x4096x8192 : Shape := ⟨3, ![2, 4096, 8192]⟩
abbrev S1x2048 : Shape := ⟨2, ![1, 2048]⟩
abbrev S1x128 : Shape := ⟨2, ![1, 128]⟩
abbrev S1x1x128 : Shape := ⟨3, ![1, 1, 128]⟩
abbrev S2x4096x2048 : Shape := ⟨3, ![2, 4096, 2048]⟩
abbrev S1x256x2048 : Shape := ⟨3, ![1, 256, 2048]⟩
abbrev S16x128x128 : Shape := ⟨3, ![16, 128, 128]⟩
abbrev S256x2048 : Shape := ⟨2, ![256, 2048]⟩
abbrev S16x2048 : Shape := ⟨2, ![16, 2048]⟩
abbrev S1x16x2048 : Shape := ⟨3, ![1, 16, 2048]⟩
abbrev S128x128 : Shape := ⟨2, ![128, 128]⟩
abbrev S8x128 : Shape := ⟨2, ![8, 128]⟩
abbrev S64x64 : Shape := ⟨2, ![64, 64]⟩
abbrev S1x1x2048 : Shape := ⟨3, ![1, 1, 2048]⟩
abbrev S1 : Shape := ⟨1, ![1]⟩
abbrev S1x1x1 : Shape := ⟨3, ![1, 1, 1]⟩
abbrev S64x128 : Shape := ⟨2, ![64, 128]⟩
abbrev S1x64x128 : Shape := ⟨3, ![1, 64, 128]⟩
abbrev S1x128x128 : Shape := ⟨3, ![1, 128, 128]⟩
abbrev S64 : Shape := ⟨1, ![64]⟩
abbrev S64x1 : Shape := ⟨2, ![64, 1]⟩
abbrev S16x128 : Shape := ⟨2, ![16, 128]⟩
abbrev S1x16x128 : Shape := ⟨3, ![1, 16, 128]⟩
abbrev S192x128 : Shape := ⟨2, ![192, 128]⟩
abbrev S16 : Shape := ⟨1, ![16]⟩
abbrev S16x1 : Shape := ⟨2, ![16, 1]⟩

abbrev nBuf : Space → Nat
  | .hbm => 5
  | .vmem => 17
  | .smem => 0
  | _ => 0

abbrev bufTy : (tb : Table) → Fin (tcTables nBuf tb) → BufTy
  | .hbm, ⟨0, _⟩ => ⟨S2x4096x8192, .f32⟩
  | .hbm, ⟨1, _⟩ => ⟨S1x2048, .f32⟩
  | .hbm, ⟨2, _⟩ => ⟨S1x128, .f32⟩
  | .hbm, ⟨3, _⟩ => ⟨S1x1x128, .f32⟩
  | .hbm, ⟨4, _⟩ => ⟨S2x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x2048, .f32⟩
  | .local _ .vmem, ⟨9, _⟩ => ⟨S1x1x128, .f32⟩
  | .local _ .vmem, ⟨10, _⟩ => ⟨S1x256x2048, .bf16⟩
  | .local _ .vmem, ⟨11, _⟩ => ⟨S1x256x2048, .bf16⟩
  | .local _ .vmem, ⟨12, _⟩ => ⟨S16x128x128, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S2x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 1, 16], ![false, false, false]⟩

@[reducible] def k0_t1_loop : Scf.Loop 32 :=
  let c0_i32_3 : BitVec 32 := 0#32
  let c4_i32 : BitVec 32 := 4#32
  let v10 : BitVec 32 := Scalar.addi c0_i32_3 c4_i32
  let c1_i32 : BitVec 32 := 1#32
  ⟨c0_i32_3, v10, c1_i32⟩
def k0_mult1 (k0_t1 : Fin k0_t1_loop.trips) : BitVec 32 :=
  let c0_i32_3 : BitVec 32 := 0#32
  let c1_i32 : BitVec 32 := 1#32
  let arg15 : BitVec 32 := Scf.iv c0_i32_3 c1_i32 k0_t1
  let c4_i32_11 : BitVec 32 := 4#32
  let v28 : BitVec 32 := Scalar.muli arg15 c4_i32_11
  let c0_i32_12 : BitVec 32 := 0#32
  let v29 : BitVec 32 := Scalar.addi v28 c0_i32_12
  let c16_i32 : BitVec 32 := 16#32
  let v30 : BitVec 32 := Scalar.muli v29 c16_i32
  v30
def k0_off1 (k0_t1 : Fin k0_t1_loop.trips) (c0_i32_12 : BitVec 32) : Fin 3 → Nat :=
  let c0_13 : Index := 0#32
  let c0_i32_3 : BitVec 32 := 0#32
  let c1_i32 : BitVec 32 := 1#32
  let arg15 : BitVec 32 := Scf.iv c0_i32_3 c1_i32 k0_t1
  let c4_i32_11 : BitVec 32 := 4#32
  let v28 : BitVec 32 := Scalar.muli arg15 c4_i32_11
  let v29 : BitVec 32 := Scalar.addi v28 c0_i32_12
  let c16_i32 : BitVec 32 := 16#32
  let v30 : BitVec 32 := Scalar.muli v29 c16_i32
  let v31 : BitVec 32 := v30
  let v32 : Index := Scalar.indexCast v31
  let c0_14 : Index := 0#32
  ![0, v32.toNat, 0]
def k0_off2 (k0_t1 : Fin k0_t1_loop.trips) (c0_i32_12 : BitVec 32) : Fin 2 → Nat :=
  let c0_i32_3 : BitVec 32 := 0#32
  let c1_i32 : BitVec 32 := 1#32
  let arg15 : BitVec 32 := Scf.iv c0_i32_3 c1_i32 k0_t1
  let c4_i32_11 : BitVec 32 := 4#32
  let v28 : BitVec 32 := Scalar.muli arg15 c4_i32_11
  let v29 : BitVec 32 := Scalar.addi v28 c0_i32_12
  let c16_i32 : BitVec 32 := 16#32
  let v30 : BitVec 32 := Scalar.muli v29 c16_i32
  let v31 : BitVec 32 := v30
  let v40 : Index := Scalar.indexCast v31
  let c0_16 : Index := 0#32
  ![v40.toNat, 0]
def k0_mult2 (k0_t1 : Fin k0_t1_loop.trips) : BitVec 32 :=
  let c0_i32_3 : BitVec 32 := 0#32
  let c1_i32 : BitVec 32 := 1#32
  let arg15 : BitVec 32 := Scf.iv c0_i32_3 c1_i32 k0_t1
  let c4_i32_39 : BitVec 32 := 4#32
  let v117 : BitVec 32 := Scalar.muli arg15 c4_i32_39
  let c1_i32_40 : BitVec 32 := 1#32
  let v118 : BitVec 32 := Scalar.addi v117 c1_i32_40
  let c16_i32_41 : BitVec 32 := 16#32
  let v119 : BitVec 32 := Scalar.muli v118 c16_i32_41
  v119
def k0_mult3 (k0_t1 : Fin k0_t1_loop.trips) : BitVec 32 :=
  let c0_i32_3 : BitVec 32 := 0#32
  let c1_i32 : BitVec 32 := 1#32
  let arg15 : BitVec 32 := Scf.iv c0_i32_3 c1_i32 k0_t1
  let c4_i32_70 : BitVec 32 := 4#32
  let v206 : BitVec 32 := Scalar.muli arg15 c4_i32_70
  let c2_i32_71 : BitVec 32 := 2#32
  let v207 : BitVec 32 := Scalar.addi v206 c2_i32_71
  let c16_i32_72 : BitVec 32 := 16#32
  let v208 : BitVec 32 := Scalar.muli v207 c16_i32_72
  v208
def k0_mult4 (k0_t1 : Fin k0_t1_loop.trips) : BitVec 32 :=
  let c0_i32_3 : BitVec 32 := 0#32
  let c1_i32 : BitVec 32 := 1#32
  let arg15 : BitVec 32 := Scf.iv c0_i32_3 c1_i32 k0_t1
  let c4_i32_101 : BitVec 32 := 4#32
  let v295 : BitVec 32 := Scalar.muli arg15 c4_i32_101
  let c3_i32 : BitVec 32 := 3#32
  let v296 : BitVec 32 := Scalar.addi v295 c3_i32
  let c16_i32_102 : BitVec 32 := 16#32
  let v297 : BitVec 32 := Scalar.muli v296 c16_i32_102
  v297
@[reducible] def k0_t2_loop : Scf.Loop 32 :=
  let c0_i32_10 : BitVec 32 := 0#32
  let c4_i32_11 : BitVec 32 := 4#32
  let v27 : BitVec 32 := Scalar.addi c0_i32_10 c4_i32_11
  let c1_i32_12 : BitVec 32 := 1#32
  ⟨c0_i32_10, v27, c1_i32_12⟩
def k0_mult5 (k0_t2 : Fin k0_t2_loop.trips) : BitVec 32 :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  v28
def k0_off3 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v30 : Index := Scalar.indexCast v29
  let c0_14 : Index := 0#32
  ![v30.toNat, 0]
def k0_off4 (k0_t2 : Fin k0_t2_loop.trips) : Fin 3 → Nat :=
  let c0_18 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v50 : Index := Scalar.indexCast v29
  let c0_19 : Index := 0#32
  ![0, v50.toNat, 0]
def k0_off5 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v55 : Index := Scalar.indexCast v29
  let c128 : Index := 128#32
  ![v55.toNat, 128]
def k0_off6 (k0_t2 : Fin k0_t2_loop.trips) : Fin 3 → Nat :=
  let c0_23 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v75 : Index := Scalar.indexCast v29
  let c128_24 : Index := 128#32
  ![0, v75.toNat, 128]
def k0_off7 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v80 : Index := Scalar.indexCast v29
  let c256 : Index := 256#32
  ![v80.toNat, 256]
def k0_off8 (k0_t2 : Fin k0_t2_loop.trips) : Fin 3 → Nat :=
  let c0_28 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v100 : Index := Scalar.indexCast v29
  let c256_29 : Index := 256#32
  ![0, v100.toNat, 256]
def k0_off9 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v105 : Index := Scalar.indexCast v29
  let c384 : Index := 384#32
  ![v105.toNat, 384]
def k0_off10 (k0_t2 : Fin k0_t2_loop.trips) : Fin 3 → Nat :=
  let c0_33 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v125 : Index := Scalar.indexCast v29
  let c384_34 : Index := 384#32
  ![0, v125.toNat, 384]
def k0_off11 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v130 : Index := Scalar.indexCast v29
  let c512 : Index := 512#32
  ![v130.toNat, 512]
def k0_off12 (k0_t2 : Fin k0_t2_loop.trips) : Fin 3 → Nat :=
  let c0_38 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v150 : Index := Scalar.indexCast v29
  let c512_39 : Index := 512#32
  ![0, v150.toNat, 512]
def k0_off13 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v155 : Index := Scalar.indexCast v29
  let c640 : Index := 640#32
  ![v155.toNat, 640]
def k0_off14 (k0_t2 : Fin k0_t2_loop.trips) : Fin 3 → Nat :=
  let c0_43 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v175 : Index := Scalar.indexCast v29
  let c640_44 : Index := 640#32
  ![0, v175.toNat, 640]
def k0_off15 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v180 : Index := Scalar.indexCast v29
  let c768 : Index := 768#32
  ![v180.toNat, 768]
def k0_off16 (k0_t2 : Fin k0_t2_loop.trips) : Fin 3 → Nat :=
  let c0_48 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v200 : Index := Scalar.indexCast v29
  let c768_49 : Index := 768#32
  ![0, v200.toNat, 768]
def k0_off17 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v205 : Index := Scalar.indexCast v29
  let c896 : Index := 896#32
  ![v205.toNat, 896]
def k0_off18 (k0_t2 : Fin k0_t2_loop.trips) : Fin 3 → Nat :=
  let c0_53 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v225 : Index := Scalar.indexCast v29
  let c896_54 : Index := 896#32
  ![0, v225.toNat, 896]
def k0_off19 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v230 : Index := Scalar.indexCast v29
  let c1024 : Index := 1024#32
  ![v230.toNat, 1024]
def k0_off20 (k0_t2 : Fin k0_t2_loop.trips) : Fin 3 → Nat :=
  let c0_58 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v250 : Index := Scalar.indexCast v29
  let c1024_59 : Index := 1024#32
  ![0, v250.toNat, 1024]
def k0_off21 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v255 : Index := Scalar.indexCast v29
  let c1152 : Index := 1152#32
  ![v255.toNat, 1152]
def k0_off22 (k0_t2 : Fin k0_t2_loop.trips) : Fin 3 → Nat :=
  let c0_63 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v275 : Index := Scalar.indexCast v29
  let c1152_64 : Index := 1152#32
  ![0, v275.toNat, 1152]
def k0_off23 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v280 : Index := Scalar.indexCast v29
  let c1280 : Index := 1280#32
  ![v280.toNat, 1280]
def k0_off24 (k0_t2 : Fin k0_t2_loop.trips) : Fin 3 → Nat :=
  let c0_68 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v300 : Index := Scalar.indexCast v29
  let c1280_69 : Index := 1280#32
  ![0, v300.toNat, 1280]
def k0_off25 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v305 : Index := Scalar.indexCast v29
  let c1408 : Index := 1408#32
  ![v305.toNat, 1408]
def k0_off26 (k0_t2 : Fin k0_t2_loop.trips) : Fin 3 → Nat :=
  let c0_73 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v325 : Index := Scalar.indexCast v29
  let c1408_74 : Index := 1408#32
  ![0, v325.toNat, 1408]
def k0_off27 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v330 : Index := Scalar.indexCast v29
  let c1536 : Index := 1536#32
  ![v330.toNat, 1536]
def k0_off28 (k0_t2 : Fin k0_t2_loop.trips) : Fin 3 → Nat :=
  let c0_78 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v350 : Index := Scalar.indexCast v29
  let c1536_79 : Index := 1536#32
  ![0, v350.toNat, 1536]
def k0_off29 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v355 : Index := Scalar.indexCast v29
  let c1664 : Index := 1664#32
  ![v355.toNat, 1664]
def k0_off30 (k0_t2 : Fin k0_t2_loop.trips) : Fin 3 → Nat :=
  let c0_83 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v375 : Index := Scalar.indexCast v29
  let c1664_84 : Index := 1664#32
  ![0, v375.toNat, 1664]
def k0_off31 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v380 : Index := Scalar.indexCast v29
  let c1792 : Index := 1792#32
  ![v380.toNat, 1792]
def k0_off32 (k0_t2 : Fin k0_t2_loop.trips) : Fin 3 → Nat :=
  let c0_88 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v400 : Index := Scalar.indexCast v29
  let c1792_89 : Index := 1792#32
  ![0, v400.toNat, 1792]
def k0_off33 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v405 : Index := Scalar.indexCast v29
  let c1920 : Index := 1920#32
  ![v405.toNat, 1920]
def k0_off34 (k0_t2 : Fin k0_t2_loop.trips) : Fin 3 → Nat :=
  let c0_93 : Index := 0#32
  let c0_i32_10 : BitVec 32 := 0#32
  let c1_i32_12 : BitVec 32 := 1#32
  let arg15 : BitVec 32 := Scf.iv c0_i32_10 c1_i32_12 k0_t2
  let c64_i32 : BitVec 32 := 64#32
  let v28 : BitVec 32 := Scalar.muli arg15 c64_i32
  let v29 : BitVec 32 := v28
  let v425 : Index := Scalar.indexCast v29
  let c1920_94 : Index := 1920#32
  ![0, v425.toNat, 1920]
@[reducible] def k0_t3_loop : Scf.Loop 32 :=
  let c0_i32_10 : BitVec 32 := 0#32
  let c16_i32 : BitVec 32 := 16#32
  let v27 : BitVec 32 := Scalar.addi c0_i32_10 c16_i32
  let c1_i32_11 : BitVec 32 := 1#32
  ⟨c0_i32_10, v27, c1_i32_11⟩
def k0_mult6 (k0_t3 : Fin k0_t3_loop.trips) : BitVec 32 :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  v28
def k0_off35 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v30 : Index := Scalar.indexCast v29
  let c0_14 : Index := 0#32
  ![v30.toNat, 0]
def k0_off36 (k0_t3 : Fin k0_t3_loop.trips) : Fin 3 → Nat :=
  let c0_17 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v36 : Index := Scalar.indexCast v29
  let c0_18 : Index := 0#32
  ![0, v36.toNat, 0]
def k0_off37 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v406 : Index := Scalar.indexCast v29
  let c128 : Index := 128#32
  ![v406.toNat, 128]
def k0_off38 (k0_t3 : Fin k0_t3_loop.trips) : Fin 3 → Nat :=
  let c0_64 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v412 : Index := Scalar.indexCast v29
  let c128_65 : Index := 128#32
  ![0, v412.toNat, 128]
def k0_off39 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v782 : Index := Scalar.indexCast v29
  let c256 : Index := 256#32
  ![v782.toNat, 256]
def k0_off40 (k0_t3 : Fin k0_t3_loop.trips) : Fin 3 → Nat :=
  let c0_115 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v788 : Index := Scalar.indexCast v29
  let c256_116 : Index := 256#32
  ![0, v788.toNat, 256]
def k0_off41 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v1158 : Index := Scalar.indexCast v29
  let c384 : Index := 384#32
  ![v1158.toNat, 384]
def k0_off42 (k0_t3 : Fin k0_t3_loop.trips) : Fin 3 → Nat :=
  let c0_166 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v1164 : Index := Scalar.indexCast v29
  let c384_167 : Index := 384#32
  ![0, v1164.toNat, 384]
def k0_off43 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v1534 : Index := Scalar.indexCast v29
  let c512 : Index := 512#32
  ![v1534.toNat, 512]
def k0_off44 (k0_t3 : Fin k0_t3_loop.trips) : Fin 3 → Nat :=
  let c0_217 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v1540 : Index := Scalar.indexCast v29
  let c512_218 : Index := 512#32
  ![0, v1540.toNat, 512]
def k0_off45 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v1910 : Index := Scalar.indexCast v29
  let c640 : Index := 640#32
  ![v1910.toNat, 640]
def k0_off46 (k0_t3 : Fin k0_t3_loop.trips) : Fin 3 → Nat :=
  let c0_268 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v1916 : Index := Scalar.indexCast v29
  let c640_269 : Index := 640#32
  ![0, v1916.toNat, 640]
def k0_off47 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v2286 : Index := Scalar.indexCast v29
  let c768 : Index := 768#32
  ![v2286.toNat, 768]
def k0_off48 (k0_t3 : Fin k0_t3_loop.trips) : Fin 3 → Nat :=
  let c0_319 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v2292 : Index := Scalar.indexCast v29
  let c768_320 : Index := 768#32
  ![0, v2292.toNat, 768]
def k0_off49 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v2662 : Index := Scalar.indexCast v29
  let c896 : Index := 896#32
  ![v2662.toNat, 896]
def k0_off50 (k0_t3 : Fin k0_t3_loop.trips) : Fin 3 → Nat :=
  let c0_370 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v2668 : Index := Scalar.indexCast v29
  let c896_371 : Index := 896#32
  ![0, v2668.toNat, 896]
def k0_off51 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v3038 : Index := Scalar.indexCast v29
  let c1024 : Index := 1024#32
  ![v3038.toNat, 1024]
def k0_off52 (k0_t3 : Fin k0_t3_loop.trips) : Fin 3 → Nat :=
  let c0_421 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v3044 : Index := Scalar.indexCast v29
  let c1024_422 : Index := 1024#32
  ![0, v3044.toNat, 1024]
def k0_off53 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v3414 : Index := Scalar.indexCast v29
  let c1152 : Index := 1152#32
  ![v3414.toNat, 1152]
def k0_off54 (k0_t3 : Fin k0_t3_loop.trips) : Fin 3 → Nat :=
  let c0_472 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v3420 : Index := Scalar.indexCast v29
  let c1152_473 : Index := 1152#32
  ![0, v3420.toNat, 1152]
def k0_off55 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v3790 : Index := Scalar.indexCast v29
  let c1280 : Index := 1280#32
  ![v3790.toNat, 1280]
def k0_off56 (k0_t3 : Fin k0_t3_loop.trips) : Fin 3 → Nat :=
  let c0_523 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v3796 : Index := Scalar.indexCast v29
  let c1280_524 : Index := 1280#32
  ![0, v3796.toNat, 1280]
def k0_off57 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v4166 : Index := Scalar.indexCast v29
  let c1408 : Index := 1408#32
  ![v4166.toNat, 1408]
def k0_off58 (k0_t3 : Fin k0_t3_loop.trips) : Fin 3 → Nat :=
  let c0_574 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v4172 : Index := Scalar.indexCast v29
  let c1408_575 : Index := 1408#32
  ![0, v4172.toNat, 1408]
def k0_off59 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v4542 : Index := Scalar.indexCast v29
  let c1536 : Index := 1536#32
  ![v4542.toNat, 1536]
def k0_off60 (k0_t3 : Fin k0_t3_loop.trips) : Fin 3 → Nat :=
  let c0_625 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v4548 : Index := Scalar.indexCast v29
  let c1536_626 : Index := 1536#32
  ![0, v4548.toNat, 1536]
def k0_off61 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v4918 : Index := Scalar.indexCast v29
  let c1664 : Index := 1664#32
  ![v4918.toNat, 1664]
def k0_off62 (k0_t3 : Fin k0_t3_loop.trips) : Fin 3 → Nat :=
  let c0_676 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v4924 : Index := Scalar.indexCast v29
  let c1664_677 : Index := 1664#32
  ![0, v4924.toNat, 1664]
def k0_off63 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v5294 : Index := Scalar.indexCast v29
  let c1792 : Index := 1792#32
  ![v5294.toNat, 1792]
def k0_off64 (k0_t3 : Fin k0_t3_loop.trips) : Fin 3 → Nat :=
  let c0_727 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v5300 : Index := Scalar.indexCast v29
  let c1792_728 : Index := 1792#32
  ![0, v5300.toNat, 1792]
def k0_off65 (k0_t3 : Fin k0_t3_loop.trips) : Fin 2 → Nat :=
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v5670 : Index := Scalar.indexCast v29
  let c1920 : Index := 1920#32
  ![v5670.toNat, 1920]
def k0_off66 (k0_t3 : Fin k0_t3_loop.trips) : Fin 3 → Nat :=
  let c0_778 : Index := 0#32
  let c0_i32_10 : BitVec 32 := 0#32
  let c1_i32_11 : BitVec 32 := 1#32
  let arg15 : BitVec 32 := Scf.iv c0_i32_10 c1_i32_11 k0_t3
  let c16_i32_13 : BitVec 32 := 16#32
  let v28 : BitVec 32 := Scalar.muli arg15 c16_i32_13
  let v29 : BitVec 32 := v28
  let v5676 : Index := Scalar.indexCast v29
  let c1920_779 : Index := 1920#32
  ![0, v5676.toNat, 1920]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Proof.Base.lean ====
module

public import Idealize.ShloMosaic.Lib.Pointwise
public import Idealize.ShloMosaic.Lib.Pipeline.Value

/-! What the calls share: the two constants the layer spells in f32, the row normalisation, the two spellings of SiLU, and
    the closure of "is a real number" under the operations a gate is built of. -/

@[expose] public section

noncomputable section

namespace Cert.Base

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- A part of a buffer read back after one store of the whole of it is that part of what was stored. -/
theorem readCov_whole {Val : EltTy → Type} {sig : RefSig} {κ : Kind} {sp : Space} {S : Shape} {e : EltTy}
    [∀ e, Nonempty (Val e)] (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r = View.ld w r := by
  subst h
  have hc : ∀ y : S.Idx, y ∈ (Rect.unit (fun _ => 0) S.size inb : Rect S).set := fun y =>
    (Rect.mem_set_unit (inb := inb)).2 fun a => ⟨Nat.zero_le _, by rw [Nat.zero_add]; exact (y a).isLt⟩
  rw [View.readCov_eq_canon_ld _ _ _ (fun y => ⟨_, List.mem_singleton_self _, hc y⟩), View.canon_unit_zero rfl]

/-- The f32 literals: one half, the row length 2048 and the norm's epsilon. -/
abbrev half : EReal := Ideal.ofBits .f32 0x3F000000#32
abbrev width : EReal := Ideal.ofBits .f32 0x45000000#32
abbrev eps : EReal := Ideal.ofBits .f32 0x358637BD#32

theorem half_eq : half = ((1 / 2 : ℝ) : EReal) := by
  simp [half, Ideal.ofBits, Ideal.ieee, -EReal.coe_mul]; norm_num

theorem width_eq : width = ((2048 : ℝ) : EReal) := by
  simp [width, Ideal.ofBits, Ideal.ieee, -EReal.coe_mul]; norm_num

theorem eps_pos : ∃ e : ℝ, 0 < e ∧ eps = (e : EReal) := by
  refine ⟨8796093 / 8796093022208, by norm_num, ?_⟩
  simp [eps, Ideal.ofBits, Ideal.ieee, -EReal.coe_mul]; norm_num

/-- An extended real that is a number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The reciprocal root of a row's mean square plus epsilon. -/
def rowScale {K : ℕ} (X : Fin K → EReal) : EReal := Ideal.rsqrt (Ideal.div (∑ k, X k * X k) width + eps)

/-- A row normalised: each entry times the row's scale times its gain. -/
def rowNorm {K : ℕ} (X g : Fin K → EReal) (k : Fin K) : EReal := X k * rowScale X * g k

theorem IsReal.rowScale {K : ℕ} {X : Fin K → EReal} (h : ∀ k, IsReal (X k)) : IsReal (rowScale X) := by
  choose a ha using h
  obtain ⟨e, he, hE⟩ := eps_pos
  have hs : ∑ k, X k * X k = ((∑ k, a k * a k : ℝ) : EReal) := by
    have : ∀ s : Finset (Fin K), ∑ k ∈ s, X k * X k = ((∑ k ∈ s, a k * a k : ℝ) : EReal) := fun s => by
      classical
      induction s using Finset.induction_on with
      | empty => simp
      | insert b s hb ih => rw [Finset.sum_insert hb, Finset.sum_insert hb, ih, ha, EReal.coe_add, EReal.coe_mul]
    exact this _
  have h0 : 0 ≤ ∑ k, a k * a k := Finset.sum_nonneg fun k _ => mul_self_nonneg _
  unfold Base.rowScale
  rw [hs, width_eq, hE, Ideal.div, if_neg (by norm_cast), ← EReal.coe_inv, ← EReal.coe_mul, ← EReal.coe_add]
  have hp : 0 < (∑ k, a k * a k) * (2048 : ℝ)⁻¹ + e := by positivity
  show IsReal (if _ < (0 : ℝ) then ⊥ else if _ = (0 : ℝ) then ⊤ else ((Real.sqrt _)⁻¹ : ℝ))
  rw [if_neg (not_lt.2 hp.le), if_neg hp.ne']
  exact ⟨_, rfl⟩

theorem IsReal.rowNorm {K : ℕ} {X g : Fin K → EReal} (h : ∀ k, IsReal (X k)) (hg : ∀ k, IsReal (g k)) (k : Fin K) :
    IsReal (rowNorm X g k) := ((h k).mul (.rowScale h)).mul (hg k)

/-- SiLU as the kernel spells it, by a hyperbolic tangent of the half argument. -/
def siluT (z : EReal) : EReal := half * z + half * z * Ideal.tanh (half * z)

/-- SiLU as the problem spells it: the argument over one plus the exponential of its negative. -/
def siluE (z : EReal) : EReal := z * Ideal.div 1 (1 + Ideal.exp (-z))

/-- On a number the two spellings agree. -/
theorem siluT_eq_siluE {z : EReal} (h : IsReal z) : siluT z = siluE z := by
  obtain ⟨r, rfl⟩ := h
  have hE : 0 < Real.exp (-r) := Real.exp_pos _
  have e1 : Ideal.exp (-(r : EReal)) = ((Real.exp (-r) : ℝ) : EReal) := by rw [← EReal.coe_neg]; rfl
  have e2 : Ideal.tanh (((1 / 2 : ℝ) : EReal) * (r : EReal)) = ((Real.tanh (1 / 2 * r) : ℝ) : EReal) := by
    rw [← EReal.coe_mul]; rfl
  have e3 : ((1 : EReal) + ((Real.exp (-r) : ℝ) : EReal)) = ((1 + Real.exp (-r) : ℝ) : EReal) := by
    rw [EReal.coe_add, EReal.coe_one]
  unfold siluT siluE
  rw [half_eq, e1, e2, e3, Ideal.div, if_neg (by norm_cast; positivity), one_mul, ← EReal.coe_inv, ← EReal.coe_mul,
    ← EReal.coe_mul, ← EReal.coe_mul, ← EReal.coe_add]
  congr 1
  have ht : Real.tanh (1 / 2 * r) = (1 - Real.exp (-r)) / (1 + Real.exp (-r)) := by
    rw [Real.tanh_eq_sinh_div_cosh, Real.sinh_eq, Real.cosh_eq]
    have hx : Real.exp (-(1 / 2 * r)) = Real.exp (1 / 2 * r) * Real.exp (-r) := by
      rw [← Real.exp_add]; ring_nf
    have h1 : 0 < Real.exp (1 / 2 * r) := Real.exp_pos _
    rw [hx]
    field_simp
  rw [ht]
  field_simp
  ring

/-- An entry whose absolute value compares below the f32 infinity is a number. -/
theorem isReal_of_abs_lt {x : EReal}
    (h : FloatOps.cmpf (F := Ideal) (φ := .f32) .olt (FloatOps.hostAbsf (F := Ideal) (φ := .f32) x)
      (FloatOps.ofBits (F := Ideal) .f32 0x7F800000#32) = 1#1) : IsReal x := by
  have hT : Ideal.ofBits .f32 0x7F800000#32 = ⊤ := by simp [Ideal.ofBits, Ideal.ieee]
  replace h : Ideal.cmp .olt (max x (-x)) (Ideal.ofBits .f32 0x7F800000#32) = 1#1 := h
  rw [hT] at h
  induction x with
  | bot => simp [Ideal.cmp] at h
  | top => simp [Ideal.cmp] at h
  | coe r => exact ⟨r, rfl⟩

/-- An index is known by the values of its coordinates. -/
theorem ext2 {a b : ℕ} (i : (⟨2, ![a, b]⟩ : Shape).Idx) (p : Fin a) (q : Fin b) (h0 : (i 0).val = p.val)
    (h1 : (i 1).val = q.val) : i = ix2 p q := by
  rw [eq_ix2 i, show i 0 = p from Fin.ext h0, show i 1 = q from Fin.ext h1]

theorem ext3 {a b d : ℕ} (i : (⟨3, ![a, b, d]⟩ : Shape).Idx) (p : Fin a) (q : Fin b) (r : Fin d) (h0 : (i 0).val = p.val)
    (h1 : (i 1).val = q.val) (h2 : (i 2).val = r.val) : i = ix3 p q r := by
  rw [eq_ix3 i, show i 0 = p from Fin.ext h0, show i 1 = q from Fin.ext h1, show i 2 = r from Fin.ext h2]

theorem ext4 {a b d e : ℕ} (i : (⟨4, ![a, b, d, e]⟩ : Shape).Idx) (p : Fin a) (q : Fin b) (r : Fin d) (t : Fin e)
    (h0 : (i 0).val = p.val) (h1 : (i 1).val = q.val) (h2 : (i 2).val = r.val) (h3 : (i 3).val = t.val) : i = ix4 p q r t :=
  funext fun x => Fin.ext (match x with
    | ⟨0, _⟩ => h0
    | ⟨1, _⟩ => h1
    | ⟨2, _⟩ => h2
    | ⟨3, _⟩ => h3)

theorem one_eq : Ideal.ofBits .f32 0x3F800000#32 = 1 := by
  simp [Ideal.ofBits, Ideal.ieee, -EReal.coe_mul]
  norm_cast
  norm_num

theorem zero_eq : Ideal.ofBits .f32 0x00000000#32 = 0 := by
  simp [Ideal.ofBits, Ideal.ieee, -EReal.coe_mul]

end Cert.Base
end
-- ==== Proof.PoolSum.lean ====
module

public import proofs.«01_k».proof.Proof.Base
public import Idealize.ShloMosaic.Lib.KernelVsHost
public import Idealize.ShloMosaic.Lib.Pipeline.Value
public import Idealize.ShloMosaic.Lib.ValueIdx

/-! Running sums along a sequence, their differences, and the sums over a window that these are. -/

@[expose] public section

noncomputable section

namespace Cert.Pool

open Idealize.ShloMosaic Idealize.ShloMosaic.TcCoe Cert.Base

/-- The window a group is pooled over. -/
def win (g : Fin 4) : ℕ := 2 ^ (g.val + 1)

/-- A group's column among the columns. -/
def col (g : Fin 4) (k : Fin 256) : Fin 1024 := ⟨256 * g.val + k.val, by omega⟩

/-- A batch's column of the array that is pooled, zero past the end. -/
def colSeq (u : (⟨3, ![2, 4096, 1024]⟩ : Shape).Idx → EReal) (b : Fin 2) (C : Fin 1024) (j : ℕ) : EReal :=
  if h : j < 4096 then u (ix3 b ⟨j, h⟩ C) else 0

theorem colSeq_real (u : (⟨3, ![2, 4096, 1024]⟩ : Shape).Idx → EReal) (hu : ∀ i, IsReal (u i)) (b : Fin 2) (C : Fin 1024) (j : ℕ) :
    IsReal (colSeq u b C j) := by
  unfold colSeq
  by_cases h : j < 4096
  · rw [dif_pos h]; exact hu _
  · rw [dif_neg h]; exact ⟨0, rfl⟩

/-- The sum over the `w` last entries up to `s`, as many as there are. -/
def wsum (f : ℕ → EReal) (w s : ℕ) : EReal := ∑ j ∈ Finset.range w, if j ≤ s then f (s - j) else 0

/-- A running sum less the running sum `w` entries before is the sum over the window, where every entry is finite. -/
theorem running_sub (f : ℕ → EReal) (hf : ∀ n, IsReal (f n)) (w s : ℕ) :
    (∑ j ∈ Finset.range (s + 1), f j) - (if w ≤ s then ∑ j ∈ Finset.range (s - w + 1), f j else 0) = wsum f w s := by
  unfold wsum
  by_cases h : w ≤ s
  · rw [if_pos h]
    have hs : s + 1 = (s - w + 1) + w := by omega
    obtain ⟨a, ha⟩ := IsReal.sum (Finset.range (s - w + 1)) hf
    have e : ∑ j ∈ Finset.range w, (if j ≤ s then f (s - j) else 0) = ∑ j ∈ Finset.range w, f (s - w + 1 + j) := by
      rw [← Finset.sum_range_reflect (fun j => f (s - w + 1 + j)) w]
      refine Finset.sum_congr rfl fun j hj => ?_
      have hj' := Finset.mem_range.mp hj
      rw [if_pos (by omega)]
      exact congrArg f (by omega)
    obtain ⟨b, hb⟩ := IsReal.sum (Finset.range w) (fun j => hf (s - w + 1 + j))
    rw [e, hs, Finset.sum_range_add, ha, hb, ← EReal.coe_add, ← EReal.coe_sub]
    exact congrArg _ (by ring)
  · rw [if_neg h, sub_zero]
    have hs : w = (s + 1) + (w - (s + 1)) := by omega
    rw [← Finset.sum_range_reflect f (s + 1), hs, Finset.sum_range_add (fun j => if j ≤ s then f (s - j) else 0) (s + 1) (w - (s + 1))]
    rw [Finset.sum_eq_zero (s := Finset.range (w - (s + 1))) (fun j _ => if_neg (by omega)), add_zero]
    refine Finset.sum_congr rfl fun j hj => ?_
    have hj' := Finset.mem_range.mp hj
    rw [if_pos (by omega)]
    exact congrArg f (by omega)

/-- A fold of sums is a sum. -/
theorem foldl_add {α : Type} (L : List α) (g : α → EReal) (a : EReal) :
    L.foldl (fun r n => r + g n) a = a + (L.map g).sum := by
  induction L generalizing a with
  | nil => simp
  | cons x L ih => rw [List.foldl_cons, ih, List.map_cons, List.sum_cons, add_assoc]

/-- The entries along a batch's column, zero past the end. -/
def seqOf (x : (⟨3, ![2, 4096, 256]⟩ : Shape).Idx → EReal) (b : Fin 2) (c : Fin 256) (j : ℕ) : EReal :=
  if h : j < 4096 then x (ix3 b ⟨j, h⟩ c) else 0

theorem shift_sum (f : ℕ → EReal) (a n : ℕ) :
    ∑ k ∈ Finset.range (a + n), (if a ≤ k then f (k - a) else 0) = ∑ k ∈ Finset.range n, f k := by
  rw [Finset.sum_range_add, Finset.sum_eq_zero (s := Finset.range a) (fun k hk => if_neg (by have := Finset.mem_range.mp hk; omega)), zero_add]
  refine Finset.sum_congr rfl fun k _ => ?_
  rw [if_pos (by omega)]
  exact congrArg f (by omega)

/-- The windowed sum that a running sum is written as, at an entry. -/
theorem running_apply (x : (⟨3, ![2, 4096, 256]⟩ : Shape).Idx → EReal) (z : (⟨0, ![]⟩ : Shape).Idx → EReal) (hz : ∀ i, z i = 0)
    (h : (⟨3, ![2, 4096, 256]⟩ : Shape).ReduceWindows ![1, 4096, 1] ![1, 1, 1] ![0, 4095, 0] ![0, 0, 0] ⟨3, ![2, 4096, 256]⟩)
    (hu : 0 < (⟨0, ![]⟩ : Shape).numel) (b : Fin 2) (s : Fin 4096) (c : Fin 256) :
    Host.reduceWindowAdd (F := Ideal) (φ := .f32) ![1, 4096, 1] ![1, 1, 1] ![0, 4095, 0] ![0, 0, 0] x z h hu (ix3 b s c)
      = ∑ j ∈ Finset.range (s.val + 1), seqOf x b c j := by
  have hs := s.isLt
  have hN : (⟨3, ![1, 4096, 1]⟩ : Shape).numel = 4096 := by decide
  have e : ∀ n : Fin (⟨3, ![1, 4096, 1]⟩ : Shape).numel, (⟨3, ![1, 4096, 1]⟩ : Shape).rowMajor.symm n = ix3 0 (n.cast hN) 0 := by
    intro n
    rw [Equiv.symm_apply_eq]
    apply Fin.ext
    rw [Shape.rowMajor_val_three]
    show n.val = (0 * 4096 + n.val) * 1 + 0
    omega
  unfold Host.reduceWindowAdd
  change Ideal.hostReduceWindowAdd _ _ _ _ h x (z (Shape.Idx.first hu)) (ix3 b s c) = _
  unfold Ideal.hostReduceWindowAdd Host.reduceWindow
  dsimp only
  rw [foldl_add, hz, zero_add, ← List.ofFn_eq_map, List.sum_ofFn]
  rw [← shift_sum (seqOf x b c) (4095 - s.val) (s.val + 1), show 4095 - s.val + (s.val + 1) = (⟨3, ![1, 4096, 1]⟩ : Shape).numel by rw [hN]; omega]
  rw [Finset.sum_range]
  refine Finset.sum_congr rfl fun n _ => ?_
  have hn : n.val < 4096 := lt_of_lt_of_eq n.isLt hN
  have e0 : ((⟨3, ![1, 4096, 1]⟩ : Shape).rowMajor.symm n 0).val = 0 := by rw [e n]; rfl
  have e1 : ((⟨3, ![1, 4096, 1]⟩ : Shape).rowMajor.symm n 1).val = n.val := by rw [e n]; rfl
  have e2 : ((⟨3, ![1, 4096, 1]⟩ : Shape).rowMajor.symm n 2).val = 0 := by rw [e n]; rfl
  by_cases hle : 4095 - s.val ≤ n.val
  · rw [if_pos hle, dif_pos]
    · unfold seqOf
      rw [dif_pos (by omega)]
      refine congrArg x (ext3 _ _ _ _ ?_ ?_ ?_)
      · show b.val * 1 + ((⟨3, ![1, 4096, 1]⟩ : Shape).rowMajor.symm n 0).val - 0 = b.val; rw [e0]; omega
      · show s.val * 1 + ((⟨3, ![1, 4096, 1]⟩ : Shape).rowMajor.symm n 1).val - 4095 = n.val - (4095 - s.val); rw [e1]; omega
      · show c.val * 1 + ((⟨3, ![1, 4096, 1]⟩ : Shape).rowMajor.symm n 2).val - 0 = c.val; rw [e2]; omega
    · intro a
      match a with
      | ⟨0, _⟩ => exact ⟨Nat.zero_le _, by show b.val * 1 + ((⟨3, ![1, 4096, 1]⟩ : Shape).rowMajor.symm n 0).val - 0 < 2; rw [e0]; omega⟩
      | ⟨1, _⟩ => exact ⟨by show 4095 ≤ s.val * 1 + ((⟨3, ![1, 4096, 1]⟩ : Shape).rowMajor.symm n 1).val; rw [e1]; omega, by show s.val * 1 + ((⟨3, ![1, 4096, 1]⟩ : Shape).rowMajor.symm n 1).val - 4095 < 4096; rw [e1]; omega⟩
      | ⟨2, _⟩ => exact ⟨Nat.zero_le _, by show c.val * 1 + ((⟨3, ![1, 4096, 1]⟩ : Shape).rowMajor.symm n 2).val - 0 < 256; rw [e2]; omega⟩
  · rw [if_neg hle, dif_neg]
    intro hall
    have h1 := (hall 1).1
    have : 4095 ≤ s.val * 1 + ((⟨3, ![1, 4096, 1]⟩ : Shape).rowMajor.symm n 1).val := h1
    rw [e1] at this
    omega

/-- A running sum moved `w` entries along, zeros before it. -/
theorem lag_apply {N : ℕ} (w : ℕ) (y : (⟨3, ![2, 4096, 256]⟩ : Shape).Idx → EReal) (z : (⟨0, ![]⟩ : Shape).Idx → EReal) (hz : ∀ i, z i = 0)
    (h : (⟨3, ![2, 4096, 256]⟩ : Shape).Pads ![0, w, 0] ![0, 0, 0] ![0, 0, 0] ⟨3, ![2, N, 256]⟩)
    (hu : 0 < (⟨0, ![]⟩ : Shape).numel) (b : Fin 2) (j : Fin N) (hj : j.val < 4096) (c : Fin 256) :
    pad ⟨3, ![2, N, 256]⟩ ![0, w, 0] ![0, 0, 0] ![0, 0, 0] y z h hu (ix3 b j c)
      = if w ≤ j.val then y (ix3 b ⟨j.val - w, by omega⟩ c) else 0 := by
  by_cases hw : w ≤ j.val
  · rw [if_pos hw]
    refine pad_apply_of_inside _ _ _ y z h hu _ (ix3 b ⟨j.val - w, by omega⟩ c) (fun a => ?_)
    match a with
    | ⟨0, _⟩ => show b.val = 0 + b.val * (0 + 1); omega
    | ⟨1, _⟩ => show j.val = w + (j.val - w) * (0 + 1); omega
    | ⟨2, _⟩ => show c.val = 0 + c.val * (0 + 1); omega
  · rw [if_neg hw, ← hz (Shape.Idx.first hu)]
    exact pad_apply_of_not_inside _ _ _ y z h hu _ (1 : Fin 3) (fun hh => hw hh.1)

/-- The count of rows in floats: the smaller of the place and the window. -/
theorem count_eq (n w : ℕ) (x v : EReal) (hx : x = ((n : ℝ) : EReal)) (hv : v = ((w : ℝ) : EReal)) :
    min x v = (((min n w : ℕ) : ℝ) : EReal) := by
  rw [hx, hv]
  rcases le_total n w with h | h
  · rw [Nat.min_eq_left h, min_eq_left (EReal.coe_le_coe_iff.mpr (Nat.cast_le.mpr h))]
  · rw [Nat.min_eq_right h, min_eq_right (EReal.coe_le_coe_iff.mpr (Nat.cast_le.mpr h))]

end Cert.Pool
end
-- ==== Proof.PoolBlock.lean ====
module

public import proofs.«01_k».proof.Proof.Gen.KernelIdeal.Value
public import proofs.«01_k».proof.Proof.PoolSum
public import Idealize.ShloMosaic.Lib.KernelVsHost
public import Idealize.ShloMosaic.Lib.WritesUnit

/-! The pooling, one grid point. -/

@[expose] public section

noncomputable section

namespace Cert.Pool

open Idealize.ShloMosaic Idealize.ShloMosaic.TcCoe Cert.Base
open Cert.KernelIdeal Cert.KernelIdeal.Gen

/-- What a point of case A leaves in the output's block. -/
theorem out_A_3_eq (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : cond0_0 i)
    (x0 : Vec Ideal S1x512x1024 .f32) (x1 : Vec Ideal S1x4x256x256 .f32) (x2 : Vec Ideal S1x1x1024 .f32) :
    out0_A_3 (F := Ideal) c i arg2 harg2 arg3 harg3 arg4 harg4 arg5 harg5 arg6 harg6 hc0 x0 x1 x2 = View.canon [⟨Rect.unit ![0, 0, 768] ![1, 512, 256] inb_S1x512x1024_S1x512x256_0_0_768, k0_pay1 (F := Ideal) (k0_pay5 i) (k0_pay11 (F := Ideal) (arg6.view.readCov [⟨Rect.unit ![16, 0] ![512, 1024] inb_S528x1024_S512x1024_16_0, k0_pay4 (F := Ideal) x0⟩, ⟨Rect.unit ![0, 0] ![16, 1024] inb_S528x1024_S16x1024_0_0, k0_pay3 (F := Ideal)⟩] (Rect.unit ![0, 768] ![528, 256] inb_S528x1024_S528x256_0_768).toLoadRect)) (View.ld x0 (Rect.unit ![0, 0, 768] ![1, 512, 256] inb_S1x512x1024_S1x512x256_0_0_768)) (View.ld x1 (Rect.unit ![0, 3, 0, 0] ![1, 1, 256, 256] inb_S1x4x256x256_S1x1x256x256_0_3_0_0)) (View.ld x2 (Rect.unit ![0, 0, 768] ![1, 1, 256] inb_S1x1x1024_S1x1x256_0_0_768))⟩,
      ⟨Rect.unit ![0, 0, 512] ![1, 512, 256] inb_S1x512x1024_S1x512x256_0_0_512, k0_pay10 (F := Ideal) (k0_pay5 i) (arg6.view.readCov [⟨Rect.unit ![16, 0] ![512, 1024] inb_S528x1024_S512x1024_16_0, k0_pay4 (F := Ideal) x0⟩, ⟨Rect.unit ![0, 0] ![16, 1024] inb_S528x1024_S16x1024_0_0, k0_pay3 (F := Ideal)⟩] (Rect.unit ![0, 512] ![528, 256] inb_S528x1024_S528x256_0_512).toLoadRect) (View.ld x0 (Rect.unit ![0, 0, 512] ![1, 512, 256] inb_S1x512x1024_S1x512x256_0_0_512)) (View.ld x1 (Rect.unit ![0, 2, 0, 0] ![1, 1, 256, 256] inb_S1x4x256x256_S1x1x256x256_0_2_0_0)) (View.ld x2 (Rect.unit ![0, 0, 512] ![1, 1, 256] inb_S1x1x1024_S1x1x256_0_0_512))⟩,
      ⟨Rect.unit ![0, 0, 256] ![1, 512, 256] inb_S1x512x1024_S1x512x256_0_0_256, k0_pay9 (F := Ideal) (k0_pay5 i) (arg6.view.readCov [⟨Rect.unit ![16, 0] ![512, 1024] inb_S528x1024_S512x1024_16_0, k0_pay4 (F := Ideal) x0⟩, ⟨Rect.unit ![0, 0] ![16, 1024] inb_S528x1024_S16x1024_0_0, k0_pay3 (F := Ideal)⟩] (Rect.unit ![0, 256] ![528, 256] inb_S528x1024_S528x256_0_256).toLoadRect) (View.ld x0 (Rect.unit ![0, 0, 256] ![1, 512, 256] inb_S1x512x1024_S1x512x256_0_0_256)) (View.ld x1 (Rect.unit ![0, 1, 0, 0] ![1, 1, 256, 256] inb_S1x4x256x256_S1x1x256x256_0_1_0_0)) (View.ld x2 (Rect.unit ![0, 0, 256] ![1, 1, 256] inb_S1x1x1024_S1x1x256_0_0_256))⟩,
      ⟨Rect.unit ![0, 0, 0] ![1, 512, 256] inb_S1x512x1024_S1x512x256_0_0_0, k0_pay8 (F := Ideal) (k0_pay6 (F := Ideal) i (arg6.view.readCov [⟨Rect.unit ![16, 0] ![512, 1024] inb_S528x1024_S512x1024_16_0, k0_pay4 (F := Ideal) x0⟩, ⟨Rect.unit ![0, 0] ![16, 1024] inb_S528x1024_S16x1024_0_0, k0_pay3 (F := Ideal)⟩] (Rect.unit ![0, 0] ![528, 256] inb_S528x1024_S528x256_0_0).toLoadRect) (View.ld x0 (Rect.unit ![0, 0, 0] ![1, 512, 256] inb_S1x512x1024_S1x512x256_0_0_0)) (View.ld x1 (Rect.unit ![0, 0, 0, 0] ![1, 1, 256, 256] inb_S1x4x256x256_S1x1x256x256_0_0_0_0))) (k0_pay7 (F := Ideal) (View.ld x2 (Rect.unit ![0, 0, 0] ![1, 1, 256] inb_S1x1x1024_S1x1x256_0_0_0)))⟩] := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, shapeCast_self, harg2.read_unread, harg3.read_unread, harg4.read_unread, harg5.read_unread, harg6.read_unread, View.ld_unit_zero (S := S1x1x1024) hz3, View.readCov_unit_zero (S := S1x1x1024) _ hz3, View.canon_unit_zero (S := S1x1x1024) hz3, View.ld_unit_zero (S := S1x512x1024) hz3, View.readCov_unit_zero (S := S1x512x1024) _ hz3, View.canon_unit_zero (S := S1x512x1024) hz3, View.ld_unit_zero (S := S528x1024) hz2, View.readCov_unit_zero (S := S528x1024) _ hz2, View.canon_unit_zero (S := S528x1024) hz2]

/-- What a point of case A leaves in the carried scratch. -/
theorem sout_A_0_eq (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : cond0_0 i)
    (x0 : Vec Ideal S1x512x1024 .f32) (x1 : Vec Ideal S1x4x256x256 .f32) (x2 : Vec Ideal S1x1x1024 .f32) :
    sout0_A_0 (F := Ideal) c i arg2 harg2 arg3 harg3 arg4 harg4 arg5 harg5 arg6 harg6 hc0 x0 x1 x2 = View.canon [⟨Rect.unit ![0, 0] ![16, 1024] inb_S528x1024_S16x1024_0_0, k0_pay2 (F := Ideal) (arg6.view.readCov [⟨Rect.unit ![16, 0] ![512, 1024] inb_S528x1024_S512x1024_16_0, k0_pay4 (F := Ideal) x0⟩, ⟨Rect.unit ![0, 0] ![16, 1024] inb_S528x1024_S16x1024_0_0, k0_pay3 (F := Ideal)⟩] (Rect.unit ![512, 0] ![16, 1024] inb_S528x1024_S16x1024_512_0).toLoadRect)⟩, ⟨Rect.unit ![16, 0] ![512, 1024] inb_S528x1024_S512x1024_16_0, k0_pay4 (F := Ideal) x0⟩, ⟨Rect.unit ![0, 0] ![16, 1024] inb_S528x1024_S16x1024_0_0, k0_pay3 (F := Ideal)⟩] := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  simp only [View.readAt_eq_ld, shapeCast_self, harg2.read_unread, harg3.read_unread, harg4.read_unread, harg5.read_unread, harg6.read_unread, View.ld_unit_zero (S := S1x1x1024) hz3, View.readCov_unit_zero (S := S1x1x1024) _ hz3, View.canon_unit_zero (S := S1x1x1024) hz3, View.ld_unit_zero (S := S1x512x1024) hz3, View.readCov_unit_zero (S := S1x512x1024) _ hz3, View.canon_unit_zero (S := S1x512x1024) hz3, View.ld_unit_zero (S := S528x1024) hz2, View.readCov_unit_zero (S := S528x1024) _ hz2, View.canon_unit_zero (S := S528x1024) hz2]

/-- What a point of case B leaves in the output's block. -/
theorem out_B_3_eq (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : ¬cond0_0 i)
    (x0 : Vec Ideal S1x512x1024 .f32) (x1 : Vec Ideal S1x4x256x256 .f32) (x2 : Vec Ideal S1x1x1024 .f32) (xs0 : Vec Ideal S528x1024 .f32) :
    out0_B_3 (F := Ideal) c i arg2 harg2 arg3 harg3 arg4 harg4 arg5 harg5 arg6 harg6 hc0 x0 x1 x2 xs0 = View.canon [⟨Rect.unit ![0, 0, 768] ![1, 512, 256] inb_S1x512x1024_S1x512x256_0_0_768, k0_pay1 (F := Ideal) (k0_pay5 i) (k0_pay11 (F := Ideal) (View.ld (View.read (Elt Ideal) arg6.view (arg6.view.writes (Elt Ideal) (harg6.unread xs0) [⟨Rect.unit ![16, 0] ![512, 1024] inb_S528x1024_S512x1024_16_0, k0_pay4 (F := Ideal) x0⟩])) (Rect.unit ![0, 768] ![528, 256] inb_S528x1024_S528x256_0_768))) (View.ld x0 (Rect.unit ![0, 0, 768] ![1, 512, 256] inb_S1x512x1024_S1x512x256_0_0_768)) (View.ld x1 (Rect.unit ![0, 3, 0, 0] ![1, 1, 256, 256] inb_S1x4x256x256_S1x1x256x256_0_3_0_0)) (View.ld x2 (Rect.unit ![0, 0, 768] ![1, 1, 256] inb_S1x1x1024_S1x1x256_0_0_768))⟩,
      ⟨Rect.unit ![0, 0, 512] ![1, 512, 256] inb_S1x512x1024_S1x512x256_0_0_512, k0_pay10 (F := Ideal) (k0_pay5 i) (View.ld (View.read (Elt Ideal) arg6.view (arg6.view.writes (Elt Ideal) (harg6.unread xs0) [⟨Rect.unit ![16, 0] ![512, 1024] inb_S528x1024_S512x1024_16_0, k0_pay4 (F := Ideal) x0⟩])) (Rect.unit ![0, 512] ![528, 256] inb_S528x1024_S528x256_0_512)) (View.ld x0 (Rect.unit ![0, 0, 512] ![1, 512, 256] inb_S1x512x1024_S1x512x256_0_0_512)) (View.ld x1 (Rect.unit ![0, 2, 0, 0] ![1, 1, 256, 256] inb_S1x4x256x256_S1x1x256x256_0_2_0_0)) (View.ld x2 (Rect.unit ![0, 0, 512] ![1, 1, 256] inb_S1x1x1024_S1x1x256_0_0_512))⟩,
      ⟨Rect.unit ![0, 0, 256] ![1, 512, 256] inb_S1x512x1024_S1x512x256_0_0_256, k0_pay9 (F := Ideal) (k0_pay5 i) (View.ld (View.read (Elt Ideal) arg6.view (arg6.view.writes (Elt Ideal) (harg6.unread xs0) [⟨Rect.unit ![16, 0] ![512, 1024] inb_S528x1024_S512x1024_16_0, k0_pay4 (F := Ideal) x0⟩])) (Rect.unit ![0, 256] ![528, 256] inb_S528x1024_S528x256_0_256)) (View.ld x0 (Rect.unit ![0, 0, 256] ![1, 512, 256] inb_S1x512x1024_S1x512x256_0_0_256)) (View.ld x1 (Rect.unit ![0, 1, 0, 0] ![1, 1, 256, 256] inb_S1x4x256x256_S1x1x256x256_0_1_0_0)) (View.ld x2 (Rect.unit ![0, 0, 256] ![1, 1, 256] inb_S1x1x1024_S1x1x256_0_0_256))⟩,
      ⟨Rect.unit ![0, 0, 0] ![1, 512, 256] inb_S1x512x1024_S1x512x256_0_0_0, k0_pay8 (F := Ideal) (k0_pay6 (F := Ideal) i (View.ld (View.read (Elt Ideal) arg6.view (arg6.view.writes (Elt Ideal) (harg6.unread xs0) [⟨Rect.unit ![16, 0] ![512, 1024] inb_S528x1024_S512x1024_16_0, k0_pay4 (F := Ideal) x0⟩])) (Rect.unit ![0, 0] ![528, 256] inb_S528x1024_S528x256_0_0)) (View.ld x0 (Rect.unit ![0, 0, 0] ![1, 512, 256] inb_S1x512x1024_S1x512x256_0_0_0)) (View.ld x1 (Rect.unit ![0, 0, 0, 0] ![1, 1, 256, 256] inb_S1x4x256x256_S1x1x256x256_0_0_0_0))) (k0_pay7 (F := Ideal) (View.ld x2 (Rect.unit ![0, 0, 0] ![1, 1, 256] inb_S1x1x1024_S1x1x256_0_0_0)))⟩] := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  simp only [View.readAt_eq_ld, shapeCast_self, harg2.read_unread, harg3.read_unread, harg4.read_unread, harg5.read_unread, harg6.read_unread, View.ld_unit_zero (S := S1x1x1024) hz3, View.readCov_unit_zero (S := S1x1x1024) _ hz3, View.canon_unit_zero (S := S1x1x1024) hz3, View.ld_unit_zero (S := S1x512x1024) hz3, View.readCov_unit_zero (S := S1x512x1024) _ hz3, View.canon_unit_zero (S := S1x512x1024) hz3, View.ld_unit_zero (S := S528x1024) hz2, View.readCov_unit_zero (S := S528x1024) _ hz2, View.canon_unit_zero (S := S528x1024) hz2]

/-- What a point of case B leaves in the carried scratch. -/
theorem sout_B_0_eq (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : ¬cond0_0 i)
    (x0 : Vec Ideal S1x512x1024 .f32) (x1 : Vec Ideal S1x4x256x256 .f32) (x2 : Vec Ideal S1x1x1024 .f32) (xs0 : Vec Ideal S528x1024 .f32) :
    sout0_B_0 (F := Ideal) c i arg2 harg2 arg3 harg3 arg4 harg4 arg5 harg5 arg6 harg6 hc0 x0 x1 x2 xs0 = View.canon [⟨Rect.unit ![0, 0] ![16, 1024] inb_S528x1024_S16x1024_0_0, k0_pay2 (F := Ideal) (arg6.view.readCov [⟨Rect.unit ![16, 0] ![512, 1024] inb_S528x1024_S512x1024_16_0, k0_pay4 (F := Ideal) x0⟩] (Rect.unit ![512, 0] ![16, 1024] inb_S528x1024_S16x1024_512_0).toLoadRect)⟩, ⟨Rect.unit ![16, 0] ![512, 1024] inb_S528x1024_S512x1024_16_0, k0_pay4 (F := Ideal) x0⟩] := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  simp only [View.readAt_eq_ld, shapeCast_self, harg2.read_unread, harg3.read_unread, harg4.read_unread, harg5.read_unread, harg6.read_unread, View.ld_unit_zero (S := S1x1x1024) hz3, View.readCov_unit_zero (S := S1x1x1024) _ hz3, View.canon_unit_zero (S := S1x1x1024) hz3, View.ld_unit_zero (S := S1x512x1024) hz3, View.readCov_unit_zero (S := S1x512x1024) _ hz3, View.canon_unit_zero (S := S1x512x1024) hz3, View.ld_unit_zero (S := S528x1024) hz2, View.readCov_unit_zero (S := S528x1024) _ hz2, View.canon_unit_zero (S := S528x1024) hz2]

/-- A window sum doubled: what is there plus itself turned by `n`. -/
def roll (n : BitVec 32) (v : FVec Ideal S528x256 .f32) : FVec Ideal S528x256 .f32 :=
  addf v (dynamicRotate 0 n none v rotates_S528x256_d0)

/-- A turned column adds the entry `n` rows above. -/
theorem roll_apply (n : BitVec 32) (v : FVec Ideal S528x256 .f32) (p q : Fin 528) (c : Fin 256) (hn : n.toNat ≤ p.val)
    (hq : q.val = p.val - n.toNat) : roll n v (ix2 p c) = v (ix2 p c) + v (ix2 q c) := by
  have hp := p.isLt
  have e := dynamicRotate_apply (0 : Fin 2) n v rotates_S528x256_d0 (ix2 p c) (ix2 q c) (fun b => by
    match b with
    | ⟨0, _⟩ =>
      show q.val = if (0 : Fin 2) = 0 then (p.val + 528 - n.toNat % 528) % 528 else p.val
      rw [if_pos rfl]; omega
    | ⟨1, _⟩ => show c.val = if (1 : Fin 2) = 0 then _ else c.val; rw [if_neg (by decide)])
  unfold roll
  exact congrArg (fun z => v (ix2 p c) + z) e

/-- The group's block from its window sums: the mean less the entry, through the group's weights, by its gain. -/
def tail (w : BitVec 32) (i : grid0.Coords) (a : FVec Ideal S528x256 .f32) (x : Vec Ideal S1x512x256 .f32)
    (W : Vec Ideal S1x1x256x256 .f32) (g : Vec Ideal S1x1x256 .f32) : FVec Ideal S1x512x256 .bf16 :=
  shapeCast S1x512x256 (truncf .bf16 (mulf (matmul dot_S512x256_S256x256_S512x256_1_0_0_1_n_n none
    (truncf .bf16 (subf (divf (extractStridedSlice S512x256 ![16, 0] a slices_S528x256_o16_0_S512x256)
      (sitofp .f32 (minsi (addi (k0_pay5 i) (broadcast S512x256 1#32)) (broadcast S512x256 w))))
      (shapeCast S512x256 x shapeCasts_S1x512x256_S512x256)) bitsLt_bf16_f32)
    (truncf .bf16 (shapeCast S256x256 W shapeCasts_S1x1x256x256_S256x256) bitsLt_bf16_f32)
    (constant S512x256 .f32 0x00000000#32))
    (broadcastTo S512x256 (shapeCast S1x256 g shapeCasts_S1x1x256_S1x256) broadcasts_S1x256_S512x256)) bitsLt_bf16_f32)
    shapeCasts_S512x256_S1x512x256

theorem pay8_eq (i : grid0.Coords) (a : Vec Ideal S528x256 .f32) (x : Vec Ideal S1x512x256 .f32)
    (W : Vec Ideal S1x1x256x256 .f32) (g : Vec Ideal S1x1x256 .f32) :
    k0_pay8 (F := Ideal) (k0_pay6 i a x W) (k0_pay7 g) = tail 2#32 i (roll 1#32 a) x W g := rfl

theorem pay9_eq (i : grid0.Coords) (a : Vec Ideal S528x256 .f32) (x : Vec Ideal S1x512x256 .f32)
    (W : Vec Ideal S1x1x256x256 .f32) (g : Vec Ideal S1x1x256 .f32) :
    k0_pay9 (F := Ideal) (k0_pay5 i) a x W g = tail 4#32 i (roll 2#32 (roll 1#32 a)) x W g := rfl

theorem pay10_eq (i : grid0.Coords) (a : Vec Ideal S528x256 .f32) (x : Vec Ideal S1x512x256 .f32)
    (W : Vec Ideal S1x1x256x256 .f32) (g : Vec Ideal S1x1x256 .f32) :
    k0_pay10 (F := Ideal) (k0_pay5 i) a x W g = tail 8#32 i (roll 4#32 (roll 2#32 (roll 1#32 a))) x W g := rfl

theorem pay1_eq (i : grid0.Coords) (a : Vec Ideal S528x256 .f32) (x : Vec Ideal S1x512x256 .f32)
    (W : Vec Ideal S1x1x256x256 .f32) (g : Vec Ideal S1x1x256 .f32) :
    k0_pay1 (F := Ideal) (k0_pay5 i) (k0_pay11 a) x W g
      = tail 16#32 i (roll 8#32 (roll 4#32 (roll 2#32 (roll 1#32 a)))) x W g := rfl

/-- The rows a mean is taken over, counted in whole numbers and cast. -/
def rows (w : BitVec 32) (i : grid0.Coords) (r : Fin 512) : EReal :=
  FloatOps.sitofp (F := Ideal) .f32 (IntOp.minsi (IntOp.addi (k0_pay5 i (ix2 r 0)) 1#32) w)

theorem tail_apply (w : BitVec 32) (i : grid0.Coords) (a : FVec Ideal S528x256 .f32) (x : Vec Ideal S1x512x256 .f32)
    (W : Vec Ideal S1x1x256x256 .f32) (g : Vec Ideal S1x1x256 .f32) (r : Fin 512) (q : Fin 528) (c : Fin 256)
    (hq : q.val = 16 + r.val) :
    tail w i a x W g (ix3 0 r c)
      = (∑ k : Fin 256, (Ideal.div (a (ix2 q k)) (rows w i r) - x (ix3 0 r k)) * W (ix4 0 0 k c)) * g (ix3 0 0 c) := by
  have hr := r.isLt
  obtain ⟨q, hq'⟩ := q
  obtain rfl : q = 16 + r.val := hq
  unfold tail rows k0_pay5
  pointwise

theorem pay2_apply (x : Vec Ideal S16x1024 .f32) (y : S16x1024.Idx) : k0_pay2 (F := Ideal) x y = x y := by
  unfold k0_pay2
  rw [shapeCast_self]

theorem pay3_apply (y : S16x1024.Idx) : k0_pay3 (F := Ideal) y = 0 := by
  unfold k0_pay3
  rw [shapeCast_self]
  exact zero_eq

theorem pay4_apply (x : Vec Ideal S1x512x1024 .f32) (r : Fin 512) (c : Fin 1024) :
    k0_pay4 (F := Ideal) x (ix2 r c) = x (ix3 0 r c) := by
  unfold k0_pay4
  pointwise

/-- A list of pieces read under its newest piece. -/
theorem canon_in {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

/-- A list of pieces read off its newest piece. -/
theorem canon_out {s : Shape} {e : EltTy} {off size : Fin s.rank → ℕ} (inb : ∀ a, off a + size a ≤ s.size a)
    (w : (Rect.unit off size inb).shape.Idx → Elt Ideal e) (L : List (View.Piece (Elt Ideal) s e)) (y : s.Idx) (a : Fin s.rank)
    (ha : (y a).val < off a ∨ off a + size a ≤ (y a).val) :
    View.canon ((⟨Rect.unit off size inb, w⟩ : View.Piece (Elt Ideal) s e) :: L) y = View.canon L y := by
  refine View.canon_cons_of_not_mem _ L ?_
  rw [Rect.mem_set_unit]
  intro hall
  have := hall a
  omega

/-- A part of an array read at an entry. -/
theorem ld_at {s : Shape} {e : EltTy} {off size : Fin s.rank → ℕ} (inb : ∀ a, off a + size a ≤ s.size a)
    (X : s.Idx → Elt Ideal e) (j : (Rect.unit off size inb).shape.Idx) (y : s.Idx) (hy : ∀ a, (y a).val = off a + (j a).val) :
    View.ld X (Rect.unit off size inb) j = X y := by
  refine congrArg X (funext fun a => Fin.ext ?_)
  show off a + 1 * (j a).val = (y a).val
  rw [hy a, Nat.one_mul]

/-- One block of the result, over the rows before it and its own. -/
def blockOut (i : grid0.Coords) (X : Vec Ideal S528x1024 .f32) (x0 : Vec Ideal S1x512x1024 .f32)
    (x1 : Vec Ideal S1x4x256x256 .f32) (x2 : Vec Ideal S1x1x1024 .f32) : Vec Ideal S1x512x1024 .bf16 :=
  View.canon [⟨Rect.unit ![0, 0, 768] ![1, 512, 256] inb_S1x512x1024_S1x512x256_0_0_768, tail 16#32 i (roll 8#32 (roll 4#32 (roll 2#32 (roll 1#32 (View.ld X (Rect.unit ![0, 768] ![528, 256] inb_S528x1024_S528x256_0_768)))))) (View.ld x0 (Rect.unit ![0, 0, 768] ![1, 512, 256] inb_S1x512x1024_S1x512x256_0_0_768))
      (View.ld x1 (Rect.unit ![0, 3, 0, 0] ![1, 1, 256, 256] inb_S1x4x256x256_S1x1x256x256_0_3_0_0)) (View.ld x2 (Rect.unit ![0, 0, 768] ![1, 1, 256] inb_S1x1x1024_S1x1x256_0_0_768))⟩,
    ⟨Rect.unit ![0, 0, 512] ![1, 512, 256] inb_S1x512x1024_S1x512x256_0_0_512, tail 8#32 i (roll 4#32 (roll 2#32 (roll 1#32 (View.ld X (Rect.unit ![0, 512] ![528, 256] inb_S528x1024_S528x256_0_512))))) (View.ld x0 (Rect.unit ![0, 0, 512] ![1, 512, 256] inb_S1x512x1024_S1x512x256_0_0_512))
      (View.ld x1 (Rect.unit ![0, 2, 0, 0] ![1, 1, 256, 256] inb_S1x4x256x256_S1x1x256x256_0_2_0_0)) (View.ld x2 (Rect.unit ![0, 0, 512] ![1, 1, 256] inb_S1x1x1024_S1x1x256_0_0_512))⟩,
    ⟨Rect.unit ![0, 0, 256] ![1, 512, 256] inb_S1x512x1024_S1x512x256_0_0_256, tail 4#32 i (roll 2#32 (roll 1#32 (View.ld X (Rect.unit ![0, 256] ![528, 256] inb_S528x1024_S528x256_0_256)))) (View.ld x0 (Rect.unit ![0, 0, 256] ![1, 512, 256] inb_S1x512x1024_S1x512x256_0_0_256))
      (View.ld x1 (Rect.unit ![0, 1, 0, 0] ![1, 1, 256, 256] inb_S1x4x256x256_S1x1x256x256_0_1_0_0)) (View.ld x2 (Rect.unit ![0, 0, 256] ![1, 1, 256] inb_S1x1x1024_S1x1x256_0_0_256))⟩,
    ⟨Rect.unit ![0, 0, 0] ![1, 512, 256] inb_S1x512x1024_S1x512x256_0_0_0, tail 2#32 i (roll 1#32 (View.ld X (Rect.unit ![0, 0] ![528, 256] inb_S528x1024_S528x256_0_0))) (View.ld x0 (Rect.unit ![0, 0, 0] ![1, 512, 256] inb_S1x512x1024_S1x512x256_0_0_0))
      (View.ld x1 (Rect.unit ![0, 0, 0, 0] ![1, 1, 256, 256] inb_S1x4x256x256_S1x1x256x256_0_0_0_0)) (View.ld x2 (Rect.unit ![0, 0, 0] ![1, 1, 256] inb_S1x1x1024_S1x1x256_0_0_0))⟩]

/-- The rows a block is pooled over at a batch's first block: nothing, then its own. -/
def extA (x0 : Vec Ideal S1x512x1024 .f32) : Vec Ideal S528x1024 .f32 :=
  View.canon [⟨Rect.unit ![16, 0] ![512, 1024] inb_S528x1024_S512x1024_16_0, k0_pay4 (F := Ideal) x0⟩,
    ⟨Rect.unit ![0, 0] ![16, 1024] inb_S528x1024_S16x1024_0_0, k0_pay3 (F := Ideal)⟩]

/-- The rows a later block is pooled over: those carried to it, then its own. -/
def extB (arg6 : Memref sig .tc .vmem S528x1024 .f32) (harg6 : arg6.IsWhole) (x0 : Vec Ideal S1x512x1024 .f32)
    (xs0 : Vec Ideal S528x1024 .f32) : Vec Ideal S528x1024 .f32 :=
  View.read (Elt Ideal) arg6.view (arg6.view.writes (Elt Ideal) (harg6.unread xs0)
    [⟨Rect.unit ![16, 0] ![512, 1024] inb_S528x1024_S512x1024_16_0, k0_pay4 (F := Ideal) x0⟩])

theorem extA_own (x0 : Vec Ideal S1x512x1024 .f32) (p : Fin 528) (r : Fin 512) (c : Fin 1024) (h : p.val = 16 + r.val) :
    extA x0 (ix2 p c) = x0 (ix3 0 r c) := by
  unfold extA
  refine (canon_in _ _ _ _ (ix2 r c) (fun a => ?_)).trans ?_
  · match a with
    | ⟨0, _⟩ => exact h
    | ⟨1, _⟩ => exact (Nat.zero_add _).symm
  · exact pay4_apply x0 r c

theorem extA_before (x0 : Vec Ideal S1x512x1024 .f32) (p : Fin 528) (c : Fin 1024) (h : p.val < 16) :
    extA x0 (ix2 p c) = 0 := by
  unfold extA
  refine (canon_out _ _ _ _ (0 : Fin 2) (Or.inl h)).trans ?_
  refine (canon_in _ _ _ _ (ix2 (⟨p.val, h⟩ : Fin 16) c) (fun a => ?_)).trans ?_
  · match a with
    | ⟨0, _⟩ => exact (Nat.zero_add _).symm
    | ⟨1, _⟩ => exact (Nat.zero_add _).symm
  · exact pay3_apply _

theorem extB_own (arg6 : Memref sig .tc .vmem S528x1024 .f32) (harg6 : arg6.IsWhole) (x0 : Vec Ideal S1x512x1024 .f32)
    (xs0 : Vec Ideal S528x1024 .f32) (p : Fin 528) (r : Fin 512) (c : Fin 1024) (h : p.val = 16 + r.val) :
    extB arg6 harg6 x0 xs0 (ix2 p c) = x0 (ix3 0 r c) := by
  unfold extB
  refine (View.read_writes_cons_unit_of_mem _ _ _ _ _ _ (ix2 r c) rfl (fun a => ?_)).trans ?_
  · match a with
    | ⟨0, _⟩ => exact h
    | ⟨1, _⟩ => exact (Nat.zero_add _).symm
  · exact pay4_apply x0 r c

theorem extB_before (arg6 : Memref sig .tc .vmem S528x1024 .f32) (harg6 : arg6.IsWhole) (x0 : Vec Ideal S1x512x1024 .f32)
    (xs0 : Vec Ideal S528x1024 .f32) (p : Fin 528) (c : Fin 1024) (h : p.val < 16) :
    extB arg6 harg6 x0 xs0 (ix2 p c) = xs0 (ix2 p c) := by
  unfold extB
  refine (View.read_writes_cons_unit_of_not_mem _ _ _ _ _ _ rfl (0 : Fin 2) (Or.inl h)).trans ?_
  exact congrFun (harg6.read_unread xs0) _

/-- A point of case A leaves its block over the rows before it and its own. -/
theorem out_A_3_block (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : cond0_0 i)
    (x0 : Vec Ideal S1x512x1024 .f32) (x1 : Vec Ideal S1x4x256x256 .f32) (x2 : Vec Ideal S1x1x1024 .f32) :
    out0_A_3 (F := Ideal) c i arg2 harg2 arg3 harg3 arg4 harg4 arg5 harg5 arg6 harg6 hc0 x0 x1 x2 = blockOut i (extA x0) x0 x1 x2 := by
  rw [out_A_3_eq]
  simp only [View.readCov_eq_canon', pay8_eq, pay9_eq, pay10_eq, pay1_eq]
  rfl

/-- A point of case A carries on its last rows. -/
theorem sout_A_0_rows (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : cond0_0 i)
    (x0 : Vec Ideal S1x512x1024 .f32) (x1 : Vec Ideal S1x4x256x256 .f32) (x2 : Vec Ideal S1x1x1024 .f32)
    (p : Fin 16) (q : Fin 528) (C : Fin 1024) (hq : q.val = p.val) (r : Fin 512) (hr : r.val = 496 + p.val) :
    sout0_A_0 (F := Ideal) c i arg2 harg2 arg3 harg3 arg4 harg4 arg5 harg5 arg6 harg6 hc0 x0 x1 x2 (ix2 q C) = x0 (ix3 0 r C) := by
  rw [sout_A_0_eq]
  refine (canon_in _ _ _ _ (ix2 p C) (fun a => ?_)).trans ?_
  · match a with
    | ⟨0, _⟩ => exact hq.trans (Nat.zero_add _).symm
    | ⟨1, _⟩ => exact (Nat.zero_add _).symm
  rw [pay2_apply, View.readCov_eq_canon']
  refine (canon_in _ _ _ _ (ix2 r C) (fun a => ?_)).trans ?_
  · match a with
    | ⟨0, _⟩ => show 512 + 1 * p.val = 16 + r.val; omega
    | ⟨1, _⟩ => show 0 + 1 * C.val = 0 + C.val; omega
  · exact pay4_apply x0 r C

/-- A point of case B leaves its block over the rows before it and its own. -/
theorem out_B_3_block (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : ¬cond0_0 i)
    (x0 : Vec Ideal S1x512x1024 .f32) (x1 : Vec Ideal S1x4x256x256 .f32) (x2 : Vec Ideal S1x1x1024 .f32) (xs0 : Vec Ideal S528x1024 .f32) :
    out0_B_3 (F := Ideal) c i arg2 harg2 arg3 harg3 arg4 harg4 arg5 harg5 arg6 harg6 hc0 x0 x1 x2 xs0 = blockOut i (extB arg6 harg6 x0 xs0) x0 x1 x2 := by
  rw [out_B_3_eq]
  simp only [View.readCov_eq_canon', pay8_eq, pay9_eq, pay10_eq, pay1_eq]
  rfl

/-- A point of case B carries on its last rows. -/
theorem sout_B_0_rows (c : Dev nD) (i : grid0.Coords) (arg2 : Memref sig .tc .vmem S1x512x1024 .f32) (harg2 : arg2.IsWhole) (arg3 : Memref sig .tc .vmem S1x4x256x256 .f32) (harg3 : arg3.IsWhole) (arg4 : Memref sig .tc .vmem S1x1x1024 .f32) (harg4 : arg4.IsWhole) (arg5 : Memref sig .tc .vmem S1x512x1024 .bf16) (harg5 : arg5.IsWhole) (arg6 : Memref sig .tc .vmem S528x1024 .f32) (harg6 : arg6.IsWhole) (hc0 : ¬cond0_0 i)
    (x0 : Vec Ideal S1x512x1024 .f32) (x1 : Vec Ideal S1x4x256x256 .f32) (x2 : Vec Ideal S1x1x1024 .f32) (xs0 : Vec Ideal S528x1024 .f32)
    (p : Fin 16) (q : Fin 528) (C : Fin 1024) (hq : q.val = p.val) (r : Fin 512) (hr : r.val = 496 + p.val) :
    sout0_B_0 (F := Ideal) c i arg2 harg2 arg3 harg3 arg4 harg4 arg5 harg5 arg6 harg6 hc0 x0 x1 x2 xs0 (ix2 q C) = x0 (ix3 0 r C) := by
  rw [sout_B_0_eq]
  refine (canon_in _ _ _ _ (ix2 p C) (fun a => ?_)).trans ?_
  · match a with
    | ⟨0, _⟩ => exact hq.trans (Nat.zero_add _).symm
    | ⟨1, _⟩ => exact (Nat.zero_add _).symm
  rw [pay2_apply, View.readCov_eq_canon']
  refine (canon_in _ _ _ _ (ix2 r C) (fun a => ?_)).trans ?_
  · match a with
    | ⟨0, _⟩ => show 512 + 1 * p.val = 16 + r.val; omega
    | ⟨1, _⟩ => show 0 + 1 * C.val = 0 + C.val; omega
  · exact pay4_apply x0 r C

/-- Sums over `n` rows become, turned by `n` and added, sums over twice as many. -/
theorem roll_sum (n : ℕ) (nb : BitVec 32) (hnb : nb.toNat = n) (v : FVec Ideal S528x256 .f32) (f : ℕ → Fin 256 → EReal)
    (hv : ∀ (p : Fin 528) (k : Fin 256), n ≤ p.val + 1 → v (ix2 p k) = ∑ j ∈ Finset.range n, f (p.val - j) k)
    (p : Fin 528) (k : Fin 256) (hp : n + n ≤ p.val + 1) :
    roll nb v (ix2 p k) = ∑ j ∈ Finset.range (n + n), f (p.val - j) k := by
  by_cases h0 : n = 0
  · subst h0
    rw [roll_apply nb v p p k (by omega) (by omega), hv p k (by omega)]
    exact add_zero _
  have hpl := p.isLt
  have hq : p.val - n < 528 := by omega
  rw [roll_apply nb v p ⟨p.val - n, hq⟩ k (by omega) (by rw [hnb]), hv p k (by omega), hv ⟨p.val - n, hq⟩ k (by simp only; omega),
    Finset.sum_range_add]
  refine congrArg₂ (· + ·) rfl (Finset.sum_congr rfl fun j _ => ?_)
  simp only [Nat.sub_sub]

theorem tail_win (w : ℕ) (wb : BitVec 32) (i : grid0.Coords) (a : FVec Ideal S528x256 .f32) (f : ℕ → Fin 256 → EReal)
    (ha : ∀ (p : Fin 528) (k : Fin 256), w ≤ p.val + 1 → a (ix2 p k) = ∑ j ∈ Finset.range w, f (p.val - j) k) (hw : w ≤ 16)
    (x : Vec Ideal S1x512x256 .f32) (W : Vec Ideal S1x1x256x256 .f32) (g : Vec Ideal S1x1x256 .f32) (r : Fin 512) (c : Fin 256) :
    tail wb i a x W g (ix3 0 r c)
      = (∑ k : Fin 256, (Ideal.div (∑ j ∈ Finset.range w, f (16 + r.val - j) k) (rows wb i r) - x (ix3 0 r k)) * W (ix4 0 0 k c))
        * g (ix3 0 0 c) := by
  have hr := r.isLt
  rw [tail_apply wb i a x W g r ⟨16 + r.val, by omega⟩ c rfl]
  refine congrArg (fun z => z * g (ix3 0 0 c)) (Finset.sum_congr rfl fun k _ => ?_)
  rw [ha ⟨16 + r.val, by omega⟩ k (by simp only; omega)]

theorem rows_eq (w : ℕ) (wb : BitVec 32) (hwb : wb.toNat = w) (hw : w ≤ 16) (i : grid0.Coords) (n : ℕ) (hi : (i 1).val = n) (r : Fin 512) :
    rows wb i r = (((min (n * 512 + r.val + 1) w : ℕ) : ℝ) : EReal) := by
  have hn : n < 8 := hi ▸ (i 1).isLt
  have hr := r.isLt
  have e : IntOp.addi (k0_pay5 i (ix2 r 0)) 1#32 = BitVec.ofNat 32 (n * 512 + r.val + 1) := by
    unfold k0_pay5
    pointwise
    rw [hi]
    apply BitVec.eq_of_toNat_eq
    show ((BitVec.ofNat 32 r.val + BitVec.ofNat 32 n * 512#32) + 1#32).toNat = _
    simp only [BitVec.toNat_add, BitVec.toNat_mul, BitVec.toNat_ofNat]
    omega
  have hs : IntOp.minsi (BitVec.ofNat 32 (n * 512 + r.val + 1)) wb = BitVec.ofNat 32 (min (n * 512 + r.val + 1) w) := by
    have h1 : (BitVec.ofNat 32 (n * 512 + r.val + 1)).toInt = ((n * 512 + r.val + 1 : ℕ) : ℤ) := by
      rw [BitVec.toInt_eq_toNat_of_lt (by rw [BitVec.toNat_ofNat]; omega), BitVec.toNat_ofNat, Nat.mod_eq_of_lt (by omega)]
    have h2 : wb.toInt = (w : ℤ) := by
      rw [BitVec.toInt_eq_toNat_of_lt (by omega), hwb]
    have h3 : wb = BitVec.ofNat 32 w := BitVec.eq_of_toNat_eq (by rw [BitVec.toNat_ofNat, hwb]; omega)
    unfold IntOp.minsi
    by_cases hle : n * 512 + r.val + 1 ≤ w
    · rw [Nat.min_eq_left hle]
      have : (BitVec.ofNat 32 (n * 512 + r.val + 1)).slt wb ∨ n * 512 + r.val + 1 = w := by
        rcases Nat.lt_or_eq_of_le hle with h | h
        · left; rw [BitVec.slt_iff_toInt_lt, h1, h2]; omega
        · right; exact h
      rcases this with h | h
      · rw [if_pos h]
      · rw [h, ← h3, ite_self]
    · rw [Nat.min_eq_right (by omega)]
      rw [if_neg (by rw [BitVec.slt_iff_toInt_lt, h1, h2]; omega), h3]
  unfold rows
  rw [e, hs]
  show (((BitVec.ofNat 32 (min (n * 512 + r.val + 1) w)).toInt : ℝ) : EReal) = _
  rw [BitVec.toInt_eq_toNat_of_lt (by rw [BitVec.toNat_ofNat]; omega), BitVec.toNat_ofNat, Nat.mod_eq_of_lt (by omega)]
  rfl

/-- One block of the result at an entry: the mean over the group's window less the entry, through the group's weights, by
the group's gain. -/
theorem blockOut_apply (i : grid0.Coords) (X : Vec Ideal S528x1024 .f32) (x0 : Vec Ideal S1x512x1024 .f32)
    (x1 : Vec Ideal S1x4x256x256 .f32) (x2 : Vec Ideal S1x1x1024 .f32) (f : ℕ → Fin 1024 → EReal)
    (hX : ∀ (p : Fin 528) (C : Fin 1024), X (ix2 p C) = f p.val C) (n : ℕ) (hi : (i 1).val = n) (g : Fin 4) (r : Fin 512)
    (c : Fin 256) :
    blockOut i X x0 x1 x2 (ix3 0 r (col g c))
      = (∑ k : Fin 256, (Ideal.div (∑ j ∈ Finset.range (win g), f (16 + r.val - j) (col g k))
          (((min (n * 512 + r.val + 1) (win g) : ℕ) : ℝ) : EReal) - x0 (ix3 0 r (col g k))) * x1 (ix4 0 g k c))
        * x2 (ix3 0 0 (col g c)) := by
  have hc := c.isLt
  have h1 : ∀ (o : ℕ) (inb : ∀ a, (![0, o] : Fin 2 → ℕ) a + (![528, 256] : Fin 2 → ℕ) a ≤ S528x1024.size a) (g : Fin 4)
      (ho : o = 256 * g.val) (p : Fin 528) (k : Fin 256), 1 ≤ p.val + 1 →
      View.ld X (Rect.unit ![0, o] ![528, 256] inb) (ix2 p k) = ∑ j ∈ Finset.range 1, f (p.val - j) (col g k) := by
    intro o inb g ho p k _
    rw [Finset.sum_range_one, Nat.sub_zero, ← hX]
    refine ld_at inb X (ix2 p k) (ix2 p (col g k)) (fun a => ?_)
    match a with
    | ⟨0, _⟩ => exact (Nat.zero_add _).symm
    | ⟨1, _⟩ => show 256 * g.val + k.val = o + k.val; rw [ho]
  have hx : ∀ (o : ℕ) (inb : ∀ a, (![0, 0, o] : Fin 3 → ℕ) a + (![1, 512, 256] : Fin 3 → ℕ) a ≤ S1x512x1024.size a) (g : Fin 4)
      (ho : o = 256 * g.val) (k : Fin 256),
      View.ld x0 (Rect.unit ![0, 0, o] ![1, 512, 256] inb) (ix3 0 r k) = x0 (ix3 0 r (col g k)) := by
    intro o inb g ho k
    refine ld_at inb x0 (ix3 0 r k) (ix3 0 r (col g k)) (fun a => ?_)
    match a with
    | ⟨0, _⟩ => rfl
    | ⟨1, _⟩ => exact (Nat.zero_add _).symm
    | ⟨2, _⟩ => show 256 * g.val + k.val = o + k.val; rw [ho]
  have hg : ∀ (o : ℕ) (inb : ∀ a, (![0, 0, o] : Fin 3 → ℕ) a + (![1, 1, 256] : Fin 3 → ℕ) a ≤ S1x1x1024.size a) (g : Fin 4)
      (ho : o = 256 * g.val) (k : Fin 256),
      View.ld x2 (Rect.unit ![0, 0, o] ![1, 1, 256] inb) (ix3 0 0 k) = x2 (ix3 0 0 (col g k)) := by
    intro o inb g ho k
    refine ld_at inb x2 (ix3 0 0 k) (ix3 0 0 (col g k)) (fun a => ?_)
    match a with
    | ⟨0, _⟩ => rfl
    | ⟨1, _⟩ => rfl
    | ⟨2, _⟩ => show 256 * g.val + k.val = o + k.val; rw [ho]
  have hw : ∀ (o : ℕ) (inb : ∀ a, (![0, o, 0, 0] : Fin 4 → ℕ) a + (![1, 1, 256, 256] : Fin 4 → ℕ) a ≤ S1x4x256x256.size a) (g : Fin 4)
      (ho : o = g.val) (k : Fin 256),
      View.ld x1 (Rect.unit ![0, o, 0, 0] ![1, 1, 256, 256] inb) (ix4 0 0 k c) = x1 (ix4 0 g k c) := by
    intro o inb g ho k
    refine ld_at inb x1 (ix4 0 0 k c) (ix4 0 g k c) (fun a => ?_)
    match a with
    | ⟨0, _⟩ => rfl
    | ⟨1, _⟩ => show g.val = o + 0; rw [ho]; rfl
    | ⟨2, _⟩ => exact (Nat.zero_add _).symm
    | ⟨3, _⟩ => exact (Nat.zero_add _).symm
  unfold blockOut
  match g with
  | ⟨0, _⟩ =>
    refine (canon_out _ _ _ _ (2 : Fin 3) (Or.inl (show 0 + c.val < 768 by omega))).trans ?_
    refine (canon_out _ _ _ _ (2 : Fin 3) (Or.inl (show 0 + c.val < 512 by omega))).trans ?_
    refine (canon_out _ _ _ _ (2 : Fin 3) (Or.inl (show 0 + c.val < 256 by omega))).trans ?_
    refine (canon_in _ _ _ _ (ix3 0 r c) (fun a => ?_)).trans ?_
    · match a with
      | ⟨0, _⟩ => rfl
      | ⟨1, _⟩ => exact (Nat.zero_add _).symm
      | ⟨2, _⟩ => rfl
    refine (tail_win 2 2#32 i _ (fun p k => f p (col 0 k)) (roll_sum 1 1#32 rfl _ (fun p k => f p (col 0 k)) (h1 0 _ 0 rfl)) (by decide) _ _ _ r c).trans ?_
    rw [rows_eq 2 2#32 rfl (by decide) i n hi r, hg 0 _ 0 rfl c]
    refine congrArg (fun z => z * x2 (ix3 0 0 (col 0 c))) (Finset.sum_congr rfl fun k _ => ?_)
    rw [hx 0 _ 0 rfl k, hw 0 _ 0 rfl k]
    rfl
  | ⟨1, _⟩ =>
    refine (canon_out _ _ _ _ (2 : Fin 3) (Or.inl (show 256 + c.val < 768 by omega))).trans ?_
    refine (canon_out _ _ _ _ (2 : Fin 3) (Or.inl (show 256 + c.val < 512 by omega))).trans ?_
    refine (canon_in _ _ _ _ (ix3 0 r c) (fun a => ?_)).trans ?_
    · match a with
      | ⟨0, _⟩ => rfl
      | ⟨1, _⟩ => exact (Nat.zero_add _).symm
      | ⟨2, _⟩ => rfl
    refine (tail_win 4 4#32 i _ (fun p k => f p (col 1 k)) (roll_sum 2 2#32 rfl _ (fun p k => f p (col 1 k)) (roll_sum 1 1#32 rfl _ (fun p k => f p (col 1 k)) (h1 256 _ 1 rfl))) (by decide) _ _ _ r c).trans ?_
    rw [rows_eq 4 4#32 rfl (by decide) i n hi r, hg 256 _ 1 rfl c]
    refine congrArg (fun z => z * x2 (ix3 0 0 (col 1 c))) (Finset.sum_congr rfl fun k _ => ?_)
    rw [hx 256 _ 1 rfl k, hw 1 _ 1 rfl k]
    rfl
  | ⟨2, _⟩ =>
    refine (canon_out _ _ _ _ (2 : Fin 3) (Or.inl (show 512 + c.val < 768 by omega))).trans ?_
    refine (canon_in _ _ _ _ (ix3 0 r c) (fun a => ?_)).trans ?_
    · match a with
      | ⟨0, _⟩ => rfl
      | ⟨1, _⟩ => exact (Nat.zero_add _).symm
      | ⟨2, _⟩ => rfl
    refine (tail_win 8 8#32 i _ (fun p k => f p (col 2 k)) (roll_sum 4 4#32 rfl _ (fun p k => f p (col 2 k)) (roll_sum 2 2#32 rfl _ (fun p k => f p (col 2 k)) (roll_sum 1 1#32 rfl _ (fun p k => f p (col 2 k)) (h1 512 _ 2 rfl)))) (by decide) _ _ _ r c).trans ?_
    rw [rows_eq 8 8#32 rfl (by decide) i n hi r, hg 512 _ 2 rfl c]
    refine congrArg (fun z => z * x2 (ix3 0 0 (col 2 c))) (Finset.sum_congr rfl fun k _ => ?_)
    rw [hx 512 _ 2 rfl k, hw 2 _ 2 rfl k]
    rfl
  | ⟨3, _⟩ =>
    refine (canon_in _ _ _ _ (ix3 0 r c) (fun a => ?_)).trans ?_
    · match a with
      | ⟨0, _⟩ => rfl
      | ⟨1, _⟩ => exact (Nat.zero_add _).symm
      | ⟨2, _⟩ => rfl
    refine (tail_win 16 16#32 i _ (fun p k => f p (col 3 k)) (roll_sum 8 8#32 rfl _ (fun p k => f p (col 3 k)) (roll_sum 4 4#32 rfl _ (fun p k => f p (col 3 k)) (roll_sum 2 2#32 rfl _ (fun p k => f p (col 3 k)) (roll_sum 1 1#32 rfl _ (fun p k => f p (col 3 k)) (h1 768 _ 3 rfl))))) (by decide) _ _ _ r c).trans ?_
    rw [rows_eq 16 16#32 rfl (by decide) i n hi r, hg 768 _ 3 rfl c]
    refine congrArg (fun z => z * x2 (ix3 0 0 (col 3 c))) (Finset.sum_congr rfl fun k _ => ?_)
    rw [hx 768 _ 3 rfl k, hw 3 _ 3 rfl k]
    rfl

end Cert.Pool
end
-- ==== Proof.PoolRef.lean ====
module

public import proofs.«01_k».proof.Proof.PoolSum
public import proofs.«01_k».proof.Proof.Gen.ReferenceIdeal.Read
public import Idealize.ShloMosaic.Lib.Pipeline.ValueKit.Tiles

/-! The pooling's reference, read at an entry. -/

@[expose] public section

noncomputable section

namespace Cert.Pool

open Idealize.ShloMosaic Idealize.ShloMosaic.TcCoe Cert.Base
open Cert.ReferenceIdeal Cert.ReferenceIdeal.Gen Cert.ReferenceIdeal.Read

/-- A place along the sequence, counted from one. -/
theorem place_eq (i : S4096.Idx) (s : Fin 4096) (hi : (i 0).val = s.val) :
    (val_main_v4 (F := Ideal) i : EReal) = (((s.val + 1 : ℕ) : ℝ) : EReal) := by
  have hs := s.isLt
  rw [val_main_v4_apply, val_main_v3_apply, val_main_v2_apply, val_main_c_apply, val_main_v1_apply]
  have e : IntOp.addi 1#32 (BitVec.ofNat 32 (i 0).val) = BitVec.ofNat 32 (s.val + 1) := by
    rw [hi]
    apply BitVec.eq_of_toNat_eq
    show (1#32 + BitVec.ofNat 32 s.val).toNat = _
    simp only [BitVec.toNat_add, BitVec.toNat_ofNat]
    omega
  show ((((IntOp.addi 1#32 (BitVec.ofNat 32 (i 0).val)) : BitVec 32).toInt : ℝ) : EReal) = _
  rw [e, BitVec.toInt_eq_toNat_of_lt (by rw [BitVec.toNat_ofNat]; omega), BitVec.toNat_ofNat, Nat.mod_eq_of_lt (by omega)]
  rfl

/-- The entries of group 0, from the array that is pooled. -/
theorem entry_0 (u : (⟨S2x4096x1024, .f32⟩ : BufTy).Contents (Elt Ideal)) (b : Fin 2) (s : Fin 4096) (k : Fin 256) :
    val_main_v6 (F := Ideal) u (ix3 b s k) = u (ix3 b s (col 0 k)) := by
  have hb := b.isLt
  have hs := s.isLt
  have hk := k.isLt
  rw [val_main_v6_apply, val_main_v5_apply, val_main_v0_apply]
  refine congrArg u (ext3 _ _ _ _ ?_ ?_ ?_)
  · simp [ix3]; omega
  · simp [ix3]; omega
  · simp [ix3, col]; omega

theorem seq_0 (u : (⟨S2x4096x1024, .f32⟩ : BufTy).Contents (Elt Ideal)) (b : Fin 2) (k : Fin 256) :
    seqOf (val_main_v6 (F := Ideal) u) b k = colSeq u b (col 0 k) := by
  funext j
  unfold seqOf colSeq
  by_cases h : j < 4096
  · rw [dif_pos h, dif_pos h, entry_0]
  · rw [dif_neg h, dif_neg h]

theorem running_0 (u : (⟨S2x4096x1024, .f32⟩ : BufTy).Contents (Elt Ideal)) (b : Fin 2) (s : Fin 4096) (k : Fin 256) :
    val_main_v7 (F := Ideal) u (ix3 b s k) = ∑ j ∈ Finset.range (s.val + 1), colSeq u b (col 0 k) j := by
  unfold val_main_v7
  refine (running_apply _ _ (fun i => ?_) _ _ b s k).trans (by rw [seq_0])
  rw [val_main_call0_call0_v0_apply, val_main_call0_call0_cst_apply]
  exact zero_eq

/-- What group 0 leaves before its weights: the mean over its window less the entry, where every entry is finite. -/
theorem mean_0 (u : (⟨S2x4096x1024, .f32⟩ : BufTy).Contents (Elt Ideal)) (hu : ∀ i, IsReal (u i)) (b : Fin 2) (s : Fin 4096) (k : Fin 256) :
    val_main_v16 (F := Ideal) u (ix3 b s k)
      = Ideal.div (wsum (colSeq u b (col 0 k)) 2 s.val) (((min (s.val + 1) 2 : ℕ) : ℝ) : EReal) - u (ix3 b s (col 0 k)) := by
  have hs := s.isLt
  rw [val_main_v16_apply, val_main_v15_apply, val_main_v10_apply, entry_0, running_0, val_main_v9_apply]
  have el : val_main_v8 (F := Ideal) u (idx_main_v9 (ix3 b s k)) = if 2 ≤ s.val then ∑ j ∈ Finset.range (s.val - 2 + 1), colSeq u b (col 0 k) j else 0 := by
    rw [show idx_main_v9 (ix3 b s k) = ix3 b ⟨s.val, by omega⟩ k from ext3 _ _ _ _ rfl rfl rfl]
    unfold val_main_v8
    refine (lag_apply (N := 4098) 2 _ _ (fun i => ?_) _ _ b ⟨s.val, by omega⟩ hs k).trans ?_
    · rw [val_main_call1_v0_apply, val_main_c_0_apply]
      exact (congrArg (fun r : ℝ => (r : EReal)) (by norm_num : ((0#32 : BitVec 32).toInt : ℝ) = 0)).trans EReal.coe_zero
    · by_cases hw : 2 ≤ s.val
      · rw [if_pos hw, if_pos hw, running_0]
      · rw [if_neg hw, if_neg hw]
  have ec : (val_main_v14 (F := Ideal) (ix3 b s k) : EReal) = (((min (s.val + 1) 2 : ℕ) : ℝ) : EReal) := by
    rw [val_main_v14_apply, val_main_v13_apply, val_main_v12_apply, val_main_v11_apply, val_main_cst_apply]
    refine count_eq (s.val + 1) 2 _ _ (place_eq _ s rfl) ?_
    show Ideal.ofBits .f32 0x40000000#32 = _
    simp [Ideal.ofBits, Ideal.ieee, -EReal.coe_mul]; norm_num
  rw [el, ec]
  show Ideal.div ((∑ j ∈ Finset.range (s.val + 1), colSeq u b (col 0 k) j) - (if 2 ≤ s.val then ∑ j ∈ Finset.range (s.val - 2 + 1), colSeq u b (col 0 k) j else 0)) _ - _ = _
  rw [running_sub _ (colSeq_real u hu b (col 0 k)) 2 s.val]

/-- The entries of group 1, from the array that is pooled. -/
theorem entry_1 (u : (⟨S2x4096x1024, .f32⟩ : BufTy).Contents (Elt Ideal)) (b : Fin 2) (s : Fin 4096) (k : Fin 256) :
    val_main_v18 (F := Ideal) u (ix3 b s k) = u (ix3 b s (col 1 k)) := by
  have hb := b.isLt
  have hs := s.isLt
  have hk := k.isLt
  rw [val_main_v18_apply, val_main_v17_apply, val_main_v0_apply]
  refine congrArg u (ext3 _ _ _ _ ?_ ?_ ?_)
  · simp [ix3]; omega
  · simp [ix3]; omega
  · simp [ix3, col]; omega

theorem seq_1 (u : (⟨S2x4096x1024, .f32⟩ : BufTy).Contents (Elt Ideal)) (b : Fin 2) (k : Fin 256) :
    seqOf (val_main_v18 (F := Ideal) u) b k = colSeq u b (col 1 k) := by
  funext j
  unfold seqOf colSeq
  by_cases h : j < 4096
  · rw [dif_pos h, dif_pos h, entry_1]
  · rw [dif_neg h, dif_neg h]

theorem running_1 (u : (⟨S2x4096x1024, .f32⟩ : BufTy).Contents (Elt Ideal)) (b : Fin 2) (s : Fin 4096) (k : Fin 256) :
    val_main_v19 (F := Ideal) u (ix3 b s k) = ∑ j ∈ Finset.range (s.val + 1), colSeq u b (col 1 k) j := by
  unfold val_main_v19
  refine (running_apply _ _ (fun i => ?_) _ _ b s k).trans (by rw [seq_1])
  rw [val_main_call2_call0_v0_apply, val_main_call2_call0_cst_apply]
  exact zero_eq

/-- What group 1 leaves before its weights: the mean over its window less the entry, where every entry is finite. -/
theorem mean_1 (u : (⟨S2x4096x1024, .f32⟩ : BufTy).Contents (Elt Ideal)) (hu : ∀ i, IsReal (u i)) (b : Fin 2) (s : Fin 4096) (k : Fin 256) :
    val_main_v28 (F := Ideal) u (ix3 b s k)
      = Ideal.div (wsum (colSeq u b (col 1 k)) 4 s.val) (((min (s.val + 1) 4 : ℕ) : ℝ) : EReal) - u (ix3 b s (col 1 k)) := by
  have hs := s.isLt
  rw [val_main_v28_apply, val_main_v27_apply, val_main_v22_apply, entry_1, running_1, val_main_v21_apply]
  have el : val_main_v20 (F := Ideal) u (idx_main_v21 (ix3 b s k)) = if 4 ≤ s.val then ∑ j ∈ Finset.range (s.val - 4 + 1), colSeq u b (col 1 k) j else 0 := by
    rw [show idx_main_v21 (ix3 b s k) = ix3 b ⟨s.val, by omega⟩ k from ext3 _ _ _ _ rfl rfl rfl]
    unfold val_main_v20
    refine (lag_apply (N := 4100) 4 _ _ (fun i => ?_) _ _ b ⟨s.val, by omega⟩ hs k).trans ?_
    · rw [val_main_call3_v0_apply, val_main_c_1_apply]
      exact (congrArg (fun r : ℝ => (r : EReal)) (by norm_num : ((0#32 : BitVec 32).toInt : ℝ) = 0)).trans EReal.coe_zero
    · by_cases hw : 4 ≤ s.val
      · rw [if_pos hw, if_pos hw, running_1]
      · rw [if_neg hw, if_neg hw]
  have ec : (val_main_v26 (F := Ideal) (ix3 b s k) : EReal) = (((min (s.val + 1) 4 : ℕ) : ℝ) : EReal) := by
    rw [val_main_v26_apply, val_main_v25_apply, val_main_v24_apply, val_main_v23_apply, val_main_cst_2_apply]
    refine count_eq (s.val + 1) 4 _ _ (place_eq _ s rfl) ?_
    show Ideal.ofBits .f32 0x40800000#32 = _
    simp [Ideal.ofBits, Ideal.ieee, -EReal.coe_mul]; norm_num
  rw [el, ec]
  show Ideal.div ((∑ j ∈ Finset.range (s.val + 1), colSeq u b (col 1 k) j) - (if 4 ≤ s.val then ∑ j ∈ Finset.range (s.val - 4 + 1), colSeq u b (col 1 k) j else 0)) _ - _ = _
  rw [running_sub _ (colSeq_real u hu b (col 1 k)) 4 s.val]

/-- The entries of group 2, from the array that is pooled. -/
theorem entry_2 (u : (⟨S2x4096x1024, .f32⟩ : BufTy).Contents (Elt Ideal)) (b : Fin 2) (s : Fin 4096) (k : Fin 256) :
    val_main_v30 (F := Ideal) u (ix3 b s k) = u (ix3 b s (col 2 k)) := by
  have hb := b.isLt
  have hs := s.isLt
  have hk := k.isLt
  rw [val_main_v30_apply, val_main_v29_apply, val_main_v0_apply]
  refine congrArg u (ext3 _ _ _ _ ?_ ?_ ?_)
  · simp [ix3]; omega
  · simp [ix3]; omega
  · simp [ix3, col]; omega

theorem seq_2 (u : (⟨S2x4096x1024, .f32⟩ : BufTy).Contents (Elt Ideal)) (b : Fin 2) (k : Fin 256) :
    seqOf (val_main_v30 (F := Ideal) u) b k = colSeq u b (col 2 k) := by
  funext j
  unfold seqOf colSeq
  by_cases h : j < 4096
  · rw [dif_pos h, dif_pos h, entry_2]
  · rw [dif_neg h, dif_neg h]

theorem running_2 (u : (⟨S2x4096x1024, .f32⟩ : BufTy).Contents (Elt Ideal)) (b : Fin 2) (s : Fin 4096) (k : Fin 256) :
    val_main_v31 (F := Ideal) u (ix3 b s k) = ∑ j ∈ Finset.range (s.val + 1), colSeq u b (col 2 k) j := by
  unfold val_main_v31
  refine (running_apply _ _ (fun i => ?_) _ _ b s k).trans (by rw [seq_2])
  rw [val_main_call4_call0_v0_apply, val_main_call4_call0_cst_apply]
  exact zero_eq

/-- What group 2 leaves before its weights: the mean over its window less the entry, where every entry is finite. -/
theorem mean_2 (u : (⟨S2x4096x1024, .f32⟩ : BufTy).Contents (Elt Ideal)) (hu : ∀ i, IsReal (u i)) (b : Fin 2) (s : Fin 4096) (k : Fin 256) :
    val_main_v40 (F := Ideal) u (ix3 b s k)
      = Ideal.div (wsum (colSeq u b (col 2 k)) 8 s.val) (((min (s.val + 1) 8 : ℕ) : ℝ) : EReal) - u (ix3 b s (col 2 k)) := by
  have hs := s.isLt
  rw [val_main_v40_apply, val_main_v39_apply, val_main_v34_apply, entry_2, running_2, val_main_v33_apply]
  have el : val_main_v32 (F := Ideal) u (idx_main_v33 (ix3 b s k)) = if 8 ≤ s.val then ∑ j ∈ Finset.range (s.val - 8 + 1), colSeq u b (col 2 k) j else 0 := by
    rw [show idx_main_v33 (ix3 b s k) = ix3 b ⟨s.val, by omega⟩ k from ext3 _ _ _ _ rfl rfl rfl]
    unfold val_main_v32
    refine (lag_apply (N := 4104) 8 _ _ (fun i => ?_) _ _ b ⟨s.val, by omega⟩ hs k).trans ?_
    · rw [val_main_call5_v0_apply, val_main_c_3_apply]
      exact (congrArg (fun r : ℝ => (r : EReal)) (by norm_num : ((0#32 : BitVec 32).toInt : ℝ) = 0)).trans EReal.coe_zero
    · by_cases hw : 8 ≤ s.val
      · rw [if_pos hw, if_pos hw, running_2]
      · rw [if_neg hw, if_neg hw]
  have ec : (val_main_v38 (F := Ideal) (ix3 b s k) : EReal) = (((min (s.val + 1) 8 : ℕ) : ℝ) : EReal) := by
    rw [val_main_v38_apply, val_main_v37_apply, val_main_v36_apply, val_main_v35_apply, val_main_cst_4_apply]
    refine count_eq (s.val + 1) 8 _ _ (place_eq _ s rfl) ?_
    show Ideal.ofBits .f32 0x41000000#32 = _
    simp [Ideal.ofBits, Ideal.ieee, -EReal.coe_mul]; norm_num
  rw [el, ec]
  show Ideal.div ((∑ j ∈ Finset.range (s.val + 1), colSeq u b (col 2 k) j) - (if 8 ≤ s.val then ∑ j ∈ Finset.range (s.val - 8 + 1), colSeq u b (col 2 k) j else 0)) _ - _ = _
  rw [running_sub _ (colSeq_real u hu b (col 2 k)) 8 s.val]

/-- The entries of group 3, from the array that is pooled. -/
theorem entry_3 (u : (⟨S2x4096x1024, .f32⟩ : BufTy).Contents (Elt Ideal)) (b : Fin 2) (s : Fin 4096) (k : Fin 256) :
    val_main_v42 (F := Ideal) u (ix3 b s k) = u (ix3 b s (col 3 k)) := by
  have hb := b.isLt
  have hs := s.isLt
  have hk := k.isLt
  rw [val_main_v42_apply, val_main_v41_apply, val_main_v0_apply]
  refine congrArg u (ext3 _ _ _ _ ?_ ?_ ?_)
  · simp [ix3]; omega
  · simp [ix3]; omega
  · simp [ix3, col]; omega

theorem seq_3 (u : (⟨S2x4096x1024, .f32⟩ : BufTy).Contents (Elt Ideal)) (b : Fin 2) (k : Fin 256) :
    seqOf (val_main_v42 (F := Ideal) u) b k = colSeq u b (col 3 k) := by
  funext j
  unfold seqOf colSeq
  by_cases h : j < 4096
  · rw [dif_pos h, dif_pos h, entry_3]
  · rw [dif_neg h, dif_neg h]

theorem running_3 (u : (⟨S2x4096x1024, .f32⟩ : BufTy).Contents (Elt Ideal)) (b : Fin 2) (s : Fin 4096) (k : Fin 256) :
    val_main_v43 (F := Ideal) u (ix3 b s k) = ∑ j ∈ Finset.range (s.val + 1), colSeq u b (col 3 k) j := by
  unfold val_main_v43
  refine (running_apply _ _ (fun i => ?_) _ _ b s k).trans (by rw [seq_3])
  rw [val_main_call6_call0_v0_apply, val_main_call6_call0_cst_apply]
  exact zero_eq

/-- What group 3 leaves before its weights: the mean over its window less the entry, where every entry is finite. -/
theorem mean_3 (u : (⟨S2x4096x1024, .f32⟩ : BufTy).Contents (Elt Ideal)) (hu : ∀ i, IsReal (u i)) (b : Fin 2) (s : Fin 4096) (k : Fin 256) :
    val_main_v52 (F := Ideal) u (ix3 b s k)
      = Ideal.div (wsum (colSeq u b (col 3 k)) 16 s.val) (((min (s.val + 1) 16 : ℕ) : ℝ) : EReal) - u (ix3 b s (col 3 k)) := by
  have hs := s.isLt
  rw [val_main_v52_apply, val_main_v51_apply, val_main_v46_apply, entry_3, running_3, val_main_v45_apply]
  have el : val_main_v44 (F := Ideal) u (idx_main_v45 (ix3 b s k)) = if 16 ≤ s.val then ∑ j ∈ Finset.range (s.val - 16 + 1), colSeq u b (col 3 k) j else 0 := by
    rw [show idx_main_v45 (ix3 b s k) = ix3 b ⟨s.val, by omega⟩ k from ext3 _ _ _ _ rfl rfl rfl]
    unfold val_main_v44
    refine (lag_apply (N := 4112) 16 _ _ (fun i => ?_) _ _ b ⟨s.val, by omega⟩ hs k).trans ?_
    · rw [val_main_call7_v0_apply, val_main_c_5_apply]
      exact (congrArg (fun r : ℝ => (r : EReal)) (by norm_num : ((0#32 : BitVec 32).toInt : ℝ) = 0)).trans EReal.coe_zero
    · by_cases hw : 16 ≤ s.val
      · rw [if_pos hw, if_pos hw, running_3]
      · rw [if_neg hw, if_neg hw]
  have ec : (val_main_v50 (F := Ideal) (ix3 b s k) : EReal) = (((min (s.val + 1) 16 : ℕ) : ℝ) : EReal) := by
    rw [val_main_v50_apply, val_main_v49_apply, val_main_v48_apply, val_main_v47_apply, val_main_cst_6_apply]
    refine count_eq (s.val + 1) 16 _ _ (place_eq _ s rfl) ?_
    show Ideal.ofBits .f32 0x41800000#32 = _
    simp [Ideal.ofBits, Ideal.ieee, -EReal.coe_mul]; norm_num
  rw [el, ec]
  show Ideal.div ((∑ j ∈ Finset.range (s.val + 1), colSeq u b (col 3 k) j) - (if 16 ≤ s.val then ∑ j ∈ Finset.range (s.val - 16 + 1), colSeq u b (col 3 k) j else 0)) _ - _ = _
  rw [running_sub _ (colSeq_real u hu b (col 3 k)) 16 s.val]

/-- The four groups' means joined. -/
theorem mean_eq (u : (⟨S2x4096x1024, .f32⟩ : BufTy).Contents (Elt Ideal)) (hu : ∀ i, IsReal (u i)) (b : Fin 2) (s : Fin 4096) (g : Fin 4) (k : Fin 256) :
    val_main_v57 (F := Ideal) u (ix4 b s g k)
      = Ideal.div (wsum (colSeq u b (col g k)) (win g) s.val) (((min (s.val + 1) (win g) : ℕ) : ℝ) : EReal) - u (ix3 b s (col g k)) := by
  unfold val_main_v57
  concat_tiles i hi
  · obtain rfl : g = 0 := Fin.ext hi
    rw [val_main_v53_apply, show idx_main_v53 i = ix3 b s k from ext3 _ _ _ _ hi0 hi1 hi3]
    exact mean_0 u hu b s k
  · obtain rfl : g = 1 := Fin.ext hi
    rw [val_main_v54_apply, show idx_main_v54 i = ix3 b s k from ext3 _ _ _ _ hi0 hi1 hi3]
    exact mean_1 u hu b s k
  · obtain rfl : g = 2 := Fin.ext hi
    rw [val_main_v55_apply, show idx_main_v55 i = ix3 b s k from ext3 _ _ _ _ hi0 hi1 hi3]
    exact mean_2 u hu b s k
  · obtain rfl : g = 3 := Fin.ext hi
    rw [val_main_v56_apply, show idx_main_v56 i = ix3 b s k from ext3 _ _ _ _ hi0 hi1 hi3]
    exact mean_3 u hu b s k

/-- The reference at an entry. -/
theorem ref_eq (u : (⟨S2x4096x1024, .f32⟩ : BufTy).Contents (Elt Ideal)) (hu : ∀ i, IsReal (u i))
    (W : (⟨S1x4x256x256, .f32⟩ : BufTy).Contents (Elt Ideal)) (a : (⟨S1x1024, .f32⟩ : BufTy).Contents (Elt Ideal))
    (b : Fin 2) (s : Fin 4096) (g : Fin 4) (c : Fin 256) :
    val_main_v66 (F := Ideal) u W a (ix3 b s (col g c))
      = (∑ k : Fin 256, (Ideal.div (wsum (colSeq u b (col g k)) (win g) s.val) (((min (s.val + 1) (win g) : ℕ) : ℝ) : EReal) - u (ix3 b s (col g k)))
          * W (ix4 0 g k c)) * a (ix2 0 (col g c)) := by
  have hb := b.isLt
  have hs := s.isLt
  have hg := g.isLt
  have hc := c.isLt
  have hC : (col g c).val = 256 * g.val + c.val := rfl
  rw [val_main_v66_apply, val_main_v65_apply, val_main_v61_apply, val_main_v64_apply, val_main_v63_apply, val_main_v62_apply, val_main_v60_apply]
  rw [show idx_main_v61 (ix3 b s (col g c)) = ix4 b s g c from ext4 _ _ _ _ _ (by simp [ix3, col]; omega) (by simp [ix3, col]; omega) (by simp [ix3, col]; omega) (by simp [ix3, col]; omega)]
  rw [val_main_v59_apply]
  refine congrArg₂ (· * ·) (Finset.sum_congr rfl fun k _ => ?_) (congrArg a (ext2 _ _ _ rfl ?_))
  · rw [show ridx_main_v59 (idx_main_v60 (ix4 b s g c)) k = ix4 b s g k from ext4 _ _ _ _ _ rfl rfl rfl rfl, mean_eq u hu, val_main_v58_apply, mul_comm]
    refine congrArg (fun z => _ * z) (congrArg W (ext4 _ _ _ _ _ rfl ?_ ?_ ?_))
    · (simp [ix4]; try omega)
    · (simp [ix4]; try omega)
    · (simp [ix4]; try omega)
  · simp [ix3]

end Cert.Pool
end
-- ==== Proof.PoolEq.lean ====
module

public import proofs.«01_k».proof.Proof.PoolBlock
public import proofs.«01_k».proof.Proof.PoolRef

/-! The pooling: the array the kernel leaves is the reference's. -/

@[expose] public section

noncomputable section

namespace Cert.Pool

open Idealize.ShloMosaic Idealize.ShloMosaic.TcCoe Idealize.SL.Sem Cert.Base
open Cert.KernelIdeal Cert.KernelIdeal.Gen

variable (m : (ℓ : Loc nD τ sig) → Buf (Elt Ideal) ℓ)

/-- The array behind window 0, at an entry. -/
def A0 (c : Dev nD) (q0 : Fin 2) (q1 : Fin 4096) (q2 : Fin 1024) : EReal := V m c main_arg0 (ix3 q0 q1 q2)

/-- The block of window 0 at each grid point. -/
theorem index_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

/-- The block of window 0 at point `t`, read at an entry of the array. -/
theorem iblk_0 (c : Dev nD) (t : Fin cfg0.N) (p0 : Fin 1) (p1 : Fin 512) (p2 : Fin 1024) (q0 : Fin 2) (q1 : Fin 4096) (q2 : Fin 1024)
    (h0 : q0.val = t.val / 8 * 1 + p0.val) (h1 : q1.val = t.val % 8 * 512 + p1.val) (h2 : q2.val = 0 * 1024 + p2.val) :
    (iblk m c 0 t (ix3 p0 p1 p2) : EReal) = A0 m c q0 q1 q2 := by
  have hi := index_0 t
  unfold iblk A0
  rw [View.read_apply]
  show V m c main_arg0 _ = V m c main_arg0 _
  congr 1
  funext a; apply Fin.ext
  match a with
  | ⟨0, _⟩ => show win0_0.index t 0 * 1 + 1 * p0.val = q0.val; rw [hi.1, h0]; omega
  | ⟨1, _⟩ => show win0_0.index t 1 * 512 + 1 * p1.val = q1.val; rw [hi.2.1, h1]; omega
  | ⟨2, _⟩ => show win0_0.index t 2 * 1024 + 1 * p2.val = q2.val; rw [hi.2.2, h2]; omega

/-- The array behind window 1, at an entry. -/
def A1 (c : Dev nD) (q0 : Fin 1) (q1 : Fin 4) (q2 : Fin 256) (q3 : Fin 256) : EReal := V m c main_arg1 (ix4 q0 q1 q2 q3)

/-- The block of window 1 at each grid point. -/
theorem index_1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- The block of window 1 at point `t`, read at an entry of the array. -/
theorem iblk_1 (c : Dev nD) (t : Fin cfg0.N) (p0 : Fin 1) (p1 : Fin 4) (p2 : Fin 256) (p3 : Fin 256) (q0 : Fin 1) (q1 : Fin 4) (q2 : Fin 256) (q3 : Fin 256)
    (h0 : q0.val = 0 * 1 + p0.val) (h1 : q1.val = 0 * 4 + p1.val) (h2 : q2.val = 0 * 256 + p2.val) (h3 : q3.val = 0 * 256 + p3.val) :
    (iblk m c 1 t (ix4 p0 p1 p2 p3) : EReal) = A1 m c q0 q1 q2 q3 := by
  have hi := index_1 t
  unfold iblk A1
  rw [View.read_apply]
  show V m c main_arg1 _ = V m c main_arg1 _
  congr 1
  funext a; apply Fin.ext
  match a with
  | ⟨0, _⟩ => show win0_1.index t 0 * 1 + 1 * p0.val = q0.val; rw [hi.1, h0]; omega
  | ⟨1, _⟩ => show win0_1.index t 1 * 4 + 1 * p1.val = q1.val; rw [hi.2.1, h1]; omega
  | ⟨2, _⟩ => show win0_1.index t 2 * 256 + 1 * p2.val = q2.val; rw [hi.2.2.1, h2]; omega
  | ⟨3, _⟩ => show win0_1.index t 3 * 256 + 1 * p3.val = q3.val; rw [hi.2.2.2, h3]; omega

/-- The array behind window 2, at an entry. -/
def A2 (c : Dev nD) (q0 : Fin 1) (q1 : Fin 1) (q2 : Fin 1024) : EReal := V m c main_v0 (ix3 q0 q1 q2)

/-- The block of window 2 at each grid point. -/
theorem index_2 : ∀ t : Fin cfg0.N, win0_2.index t (0 : Fin 3) = 0 ∧ win0_2.index t (1 : Fin 3) = 0 ∧ win0_2.index t (2 : Fin 3) = 0 :=
  (by decide +kernel : ∀ t : Fin grid0.N, _)

/-- The block of window 2 at point `t`, read at an entry of the array. -/
theorem iblk_2 (c : Dev nD) (t : Fin cfg0.N) (p0 : Fin 1) (p1 : Fin 1) (p2 : Fin 1024) (q0 : Fin 1) (q1 : Fin 1) (q2 : Fin 1024)
    (h0 : q0.val = 0 * 1 + p0.val) (h1 : q1.val = 0 * 1 + p1.val) (h2 : q2.val = 0 * 1024 + p2.val) :
    (iblk m c 2 t (ix3 p0 p1 p2) : EReal) = A2 m c q0 q1 q2 := by
  have hi := index_2 t
  unfold iblk A2
  rw [View.read_apply]
  show V m c main_v0 _ = V m c main_v0 _
  congr 1
  funext a; apply Fin.ext
  match a with
  | ⟨0, _⟩ => show win0_2.index t 0 * 1 + 1 * p0.val = q0.val; rw [hi.1, h0]; omega
  | ⟨1, _⟩ => show win0_2.index t 1 * 1 + 1 * p1.val = q1.val; rw [hi.2.1, h1]; omega
  | ⟨2, _⟩ => show win0_2.index t 2 * 1024 + 1 * p2.val = q2.val; rw [hi.2.2, h2]; omega

/-- The place of a block along the sequence. -/
theorem coords_1 : ∀ t : Fin cfg0.N, (grid0.coords t 1).val = t.val % 8 := (by decide +kernel : ∀ t : Fin grid0.N, _)

/-- The array that is pooled, as the call finds it. -/
def U (c : Dev nD) : (⟨3, ![2, 4096, 1024]⟩ : Shape).Idx → EReal := V m c main_arg0

/-- The rows a block is pooled over, by number: the sequence from sixteen places before the block. -/
def rowAt (c : Dev nD) (b : Fin 2) (i : ℕ) (p : ℕ) (C : Fin 1024) : EReal :=
  if 16 ≤ i * 512 + p then colSeq (U m c) b C (i * 512 + p - 16) else 0

/-- The pooled result at an entry. -/
def pooled (c : Dev nD) (b : Fin 2) (s : Fin 4096) (g : Fin 4) (k : Fin 256) : EReal :=
  (∑ q : Fin 256, (Ideal.div (wsum (colSeq (U m c) b (col g q)) (win g) s.val) (((min (s.val + 1) (win g) : ℕ) : ℝ) : EReal) - U m c (ix3 b s (col g q)))
          * A1 m c 0 g q k) * A2 m c 0 0 (col g k)

theorem window_sum (c : Dev nD) (b : Fin 2) (i : ℕ) (r : ℕ) (C : Fin 1024) (w : ℕ) (hw : w ≤ 16) :
    ∑ j ∈ Finset.range w, rowAt m c b i (16 + r - j) C = wsum (colSeq (U m c) b C) w (i * 512 + r) := by
  unfold wsum rowAt
  refine Finset.sum_congr rfl fun j hj => ?_
  have hj' := Finset.mem_range.mp hj
  by_cases h : j ≤ i * 512 + r
  · rw [if_pos h, if_pos (by omega)]
    exact congrArg _ (by omega)
  · rw [if_neg h, if_neg (by omega)]

theorem win_le (g : Fin 4) : win g ≤ 16 := (by decide : ∀ g : Fin 4, win g ≤ 16) g

theorem own_row (c : Dev nD) (t : Fin cfg0.N) (b : Fin 2) (hb : b.val = t.val / 8) (p : Fin 528) (r : Fin 512) (C : Fin 1024)
    (h : p.val = 16 + r.val) : (iblk m c 0 t (ix3 0 r C) : EReal) = rowAt m c b (t.val % 8) p.val C := by
  have hr := r.isLt
  unfold rowAt colSeq
  rw [if_pos (by omega), dif_pos (by omega), iblk_0 m c t 0 r C b ⟨t.val % 8 * 512 + p.val - 16, by omega⟩ C (by rw [hb]; simp) (by simp only; omega) (by simp)]
  rfl

/-- What a point leaves its block, from the rows it is pooled over. -/
theorem block_eq (c : Dev nD) (t : Fin cfg0.N) (b : Fin 2) (hb : b.val = t.val / 8) (X : Vec Ideal S528x1024 .f32)
    (hX : ∀ (p : Fin 528) (C : Fin 1024), (X (ix2 p C) : EReal) = rowAt m c b (t.val % 8) p.val C)
    (r : Fin 512) (s : Fin 4096) (hs : s.val = t.val % 8 * 512 + r.val) (g : Fin 4) (k : Fin 256) :
    blockOut (grid0.coords t) X (iblk m c 0 t) (iblk m c 1 t) (iblk m c 2 t) (ix3 0 r (col g k))
      = pooled m c b s g k := by
  rw [blockOut_apply _ X _ _ _ (fun p C => rowAt m c b (t.val % 8) p C) hX (t.val % 8) (coords_1 t) g r k]
  unfold pooled
  rw [iblk_2 m c t 0 0 (col g k) 0 0 (col g k) (by simp) (by simp) (by simp)]
  refine congrArg (fun z => z * A2 m c 0 0 (col g k)) (Finset.sum_congr rfl fun q _ => ?_)
  rw [window_sum m c b (t.val % 8) r.val (col g q) (win g) (win_le g), ← hs]
  rw [iblk_1 m c t 0 g q k 0 g q k (by simp) (by simp) (by simp) (by simp)]
  rw [iblk_0 m c t 0 r (col g q) b s (col g q) (by rw [hb]; simp) (by rw [hs]) (by simp)]
  rfl

/-- What each point leaves: its block's result, and its last rows carried on. -/
theorem outsAt_eq (c : Dev nD) : ∀ (n : ℕ) (hn : n < cfg0.N) (b : Fin 2), b.val = n / 8 →
    (∀ (p : Fin 528) (C : Fin 1024), p.val < 16 →
      ((outsAt0 m c n hn).2 (ix2 p C) : EReal) = rowAt m c b (n % 8) (p.val + 512) C)
    ∧ ∀ (r : Fin 512) (s : Fin 4096) (g : Fin 4) (k : Fin 256), s.val = n % 8 * 512 + r.val →
      ((outsAt0 m c n hn).1 (ix3 0 r (col g k)) : EReal)
        = pooled m c b s g k := by
  have hA : ∀ (n : ℕ) (hn : n < cfg0.N) (b : Fin 2), b.val = n / 8 → n % 8 = 0 →
    (∀ (p : Fin 528) (C : Fin 1024), p.val < 16 →
      ((outsAt0 m c n hn).2 (ix2 p C) : EReal) = rowAt m c b (n % 8) (p.val + 512) C)
    ∧ ∀ (r : Fin 512) (s : Fin 4096) (g : Fin 4) (k : Fin 256), s.val = n % 8 * 512 + r.val →
      ((outsAt0 m c n hn).1 (ix3 0 r (col g k)) : EReal)
        = pooled m c b s g k := by
    intro n hn b hb h0
    have e := outsAt0_A m c ⟨n, hn⟩ h0
    simp only at e
    rw [e]
    constructor
    · intro p C hp
      dsimp only
      refine (sout_A_0_rows c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (iblk m c 0 ⟨n, hn⟩) (iblk m c 1 ⟨n, hn⟩) (iblk m c 2 ⟨n, hn⟩) ⟨p.val, hp⟩ p C rfl ⟨496 + p.val, by omega⟩ rfl).trans ?_
      exact own_row m c ⟨n, hn⟩ b hb ⟨512 + p.val, by omega⟩ ⟨496 + p.val, by omega⟩ C (by simp only; omega) |>.trans (congrArg (fun z => rowAt m c b (n % 8) z C) (by simp only; omega))
    · intro r s g k hs
      dsimp only
      rw [out_A_3_block]
      refine block_eq m c ⟨n, hn⟩ b hb _ (fun p C => ?_) r s hs g k
      by_cases hp : p.val < 16
      · rw [extA_before _ p C hp]
        unfold rowAt
        rw [if_neg (by simp only; omega)]
      · rw [extA_own _ p ⟨p.val - 16, by omega⟩ C (by simp only; omega)]
        exact own_row m c ⟨n, hn⟩ b hb p ⟨p.val - 16, by omega⟩ C (by simp only; omega)
  intro n
  induction n with
  | zero => intro hn b hb; exact hA 0 hn b hb rfl
  | succ n ih =>
    intro hn b hb
    have hN : n + 1 < 16 := lt_of_lt_of_eq hn (show cfg0.N = 16 from N_0)
    by_cases h0 : (n + 1) % 8 = 0
    · exact hA (n + 1) hn b hb h0
    obtain ⟨i1, -⟩ := ih (by omega) b (by omega)
    have e := outsAt0_B m c ⟨n + 1, hn⟩ h0
    simp only [Nat.add_sub_cancel] at e
    rw [e]
    constructor
    · intro p C hp
      dsimp only
      refine (sout_B_0_rows c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 m c n (by omega)).2 ⟨p.val, hp⟩ p C rfl ⟨496 + p.val, by omega⟩ rfl).trans ?_
      exact own_row m c ⟨n + 1, hn⟩ b hb ⟨512 + p.val, by omega⟩ ⟨496 + p.val, by omega⟩ C (by simp only; omega) |>.trans (congrArg (fun z => rowAt m c b ((n + 1) % 8) z C) (by simp only; omega))
    · intro r s g k hs
      dsimp only
      rw [out_B_3_block]
      refine block_eq m c ⟨n + 1, hn⟩ b hb _ (fun p C => ?_) r s hs g k
      by_cases hp : p.val < 16
      · rw [extB_before _ _ _ _ p C hp]
        refine (i1 p C hp).trans ?_
        unfold rowAt
        rw [if_pos (by omega), if_pos (by simp only; omega)]
        exact congrArg _ (by simp only; omega)
      · rw [extB_own _ _ _ _ p ⟨p.val - 16, by omega⟩ C (by simp only; omega)]
        exact own_row m c ⟨n + 1, hn⟩ b hb p ⟨p.val - 16, by omega⟩ C (by simp only; omega)

/-- The array the call leaves. -/
theorem G_eq (c : Dev nD) (b : Fin 2) (s : Fin 4096) (g : Fin 4) (k : Fin 256) :
    Value.G3 m c (ix3 b s (col g k))
      = pooled m c b s g k := by
  have hb := b.isLt
  have hs := s.isLt
  have hc := (col g k).isLt
  have hp : Value.pt3Of (ix3 b s (col g k)) = b.val * 8 + s.val / 512 := by
    show 8 * (b.val / 1 - 0) + 1 * (s.val / 512 - 0) + 1 * ((col g k).val / 1024 - 0) = _
    omega
  have hB : Value.pt3Of (ix3 b s (col g k)) < cfg0.N := by rw [hp, show cfg0.N = 16 from N_0]; omega
  have hl : Value.loc3Of (ix3 b s (col g k)) = ix3 0 ⟨s.val % 512, by omega⟩ (col g k) :=
    ext3 _ _ _ _ (Nat.mod_one _) rfl (Nat.mod_eq_of_lt hc)
  unfold Value.G3
  rw [dif_pos hB, ← Value.outsAt0_sweep m c _ hB, hl]
  exact (outsAt_eq m c _ hB b (by rw [hp]; omega)).2 _ s g k (by rw [hp]; simp only; omega)

/-- The gains laid out again. -/
theorem A2_eq (c : Dev nD) (C : Fin 1024) : A2 m c 0 0 C = m ((c.tc : Thread nD τ).loc main_arg2) (ix2 0 C) := by
  have e : V m c main_v0 = shapeCast S1x1x1024 (m ((c.tc : Thread nD τ).loc main_arg2)) shapeCasts_S1x1024_S1x1x1024 := by
    unfold V
    after_results_simp
    rfl
  unfold A2
  rw [e]
  refine shapeCast_apply _ _ (ix3 0 0 C) (ix2 0 C) ?_
  rw [Shape.rowMajor_val_three, Shape.rowMajor_val_two]
  show 0 * 1024 + C.val = (0 * 1 + 0) * 1024 + C.val
  omega

theorem A1_eq (c : Dev nD) (g : Fin 4) (q k : Fin 256) : A1 m c 0 g q k = m ((c.tc : Thread nD τ).loc main_arg1) (ix4 0 g q k) := by
  have e : V m c main_arg1 = m ((c.tc : Thread nD τ).loc main_arg1) := by
    unfold V
    after_results_simp
  unfold A1
  rw [e]

theorem U_eq (c : Dev nD) : U m c = m ((c.tc : Thread nD τ).loc main_arg0) := by
  unfold U V
  after_results_simp

/-- The array the call leaves is the reference's, where every entry that is pooled is finite. -/
theorem value_eq (c : Dev nD) (h0 : ∀ i, IsReal (m ((c.tc : Thread nD τ).loc main_arg0) i)) :
    Value.G3 m c = Cert.ReferenceIdeal.Read.val_main_v66 (F := Ideal) (m ((c.tc : Thread nD τ).loc main_arg0))
      (m ((c.tc : Thread nD τ).loc main_arg1)) (m ((c.tc : Thread nD τ).loc main_arg2)) := by
  refine funext fun (y : (⟨3, ![2, 4096, 1024]⟩ : Shape).Idx) => ?_
  have hC : (y 2).val < 1024 := (y 2).isLt
  have hy : y = ix3 (y 0) (y 1) (col ⟨(y 2).val / 256, by omega⟩ ⟨(y 2).val % 256, by omega⟩) :=
    ext3 _ _ _ _ rfl rfl (by show (y 2).val = 256 * ((y 2).val / 256) + (y 2).val % 256; omega)
  rw [hy]
  refine (G_eq m c (y 0) (y 1) _ _).trans ((ref_eq _ h0 _ _ (y 0) (y 1) _ _).trans ?_).symm
  unfold pooled
  rw [A2_eq, U_eq]
  refine congrArg (fun z => z * _) (Finset.sum_congr rfl fun q _ => ?_)
  rw [A1_eq]

end Cert.Pool
end
-- ==== Proof.FfnBlock.lean ====
module

public import proofs.«01_k».proof.Proof.Gen.Kernel2Ideal.Value
public import proofs.«01_k».proof.Proof.Base

/-! The feed-forward call, one grid point: what each of the three cases stores, and those blocks read at an entry. -/

@[expose] public section

noncomputable section

namespace Cert.Ffn

open Idealize.ShloMosaic Idealize.ShloMosaic.TcCoe Cert.Base
open Cert.Kernel2Ideal Cert.Kernel2Ideal.Gen

/-- What a point of case A leaves in the output's block. -/
theorem out_A_5_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i) (hc2 : ¬cond0_2 i)
    (x0 : Vec Ideal S1024x2048 .f32) (x1 : Vec Ideal S1x1x2048 .f32) (x2 : Vec Ideal S1x2048x256 .f32) (x3 : Vec Ideal S1x2048x256 .f32) (x4 : Vec Ideal S1x256x2048 .f32) :
    out0_A_5 (F := Ideal) c i arg2 harg2 arg3 harg3 arg4 harg4 arg5 harg5 arg6 harg6 arg7 harg7 arg8 harg8 hc0 hc1 hc2 x0 x1 x2 x3 x4 = k0_pay1 (k0_pay5 (k0_pay4 x0 x1) x2 x3) x4 := by
  unfold out0_A_5
  rw [View.read_writes_eq_canon _ _ _ (cover0_A_5 c i arg2 harg2 arg3 harg3 arg4 harg4 arg5 harg5 arg6 harg6 arg7 harg7 arg8 harg8 hc0 hc1 hc2 x0 x1 x2 x3 x4)]
  unfold kernelRun0_A
  dsimp only
  sl_unfold_words
  simp only [View.readAt_eq_ld, shapeCast_self, harg2.read_unread, harg3.read_unread, harg4.read_unread, harg5.read_unread, harg6.read_unread, harg7.read_unread, harg8.read_unread, View.ld_unit_zero (S := S1024x2048) hz2, View.readCov_unit_zero (S := S1024x2048) _ hz2, View.canon_unit_zero (S := S1024x2048) hz2, View.ld_unit_zero (S := S1x1x2048) hz3, View.readCov_unit_zero (S := S1x1x2048) _ hz3, View.canon_unit_zero (S := S1x1x2048) hz3, View.ld_unit_zero (S := S1x2048x256) hz3, View.readCov_unit_zero (S := S1x2048x256) _ hz3, View.canon_unit_zero (S := S1x2048x256) hz3, View.ld_unit_zero (S := S1x256x2048) hz3, View.readCov_unit_zero (S := S1x256x2048) _ hz3, View.canon_unit_zero (S := S1x256x2048) hz3]

/-- What a point of case A leaves in the carried scratch. -/
theorem sout_A_0_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i) (hc2 : ¬cond0_2 i)
    (x0 : Vec Ideal S1024x2048 .f32) (x1 : Vec Ideal S1x1x2048 .f32) (x2 : Vec Ideal S1x2048x256 .f32) (x3 : Vec Ideal S1x2048x256 .f32) (x4 : Vec Ideal S1x256x2048 .f32) :
    sout0_A_0 (F := Ideal) c i arg2 harg2 arg3 harg3 arg4 harg4 arg5 harg5 arg6 harg6 arg7 harg7 arg8 harg8 hc0 hc1 hc2 x0 x1 x2 x3 x4 = k0_pay4 x0 x1 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3 x4)]
  unfold kernelRun0_A
  dsimp only
  sl_unfold_words
  simp only [View.readAt_eq_ld, shapeCast_self, harg2.read_unread, harg3.read_unread, harg4.read_unread, harg5.read_unread, harg6.read_unread, harg7.read_unread, harg8.read_unread, View.ld_unit_zero (S := S1024x2048) hz2, View.readCov_unit_zero (S := S1024x2048) _ hz2, View.canon_unit_zero (S := S1024x2048) hz2, View.ld_unit_zero (S := S1x1x2048) hz3, View.readCov_unit_zero (S := S1x1x2048) _ hz3, View.canon_unit_zero (S := S1x1x2048) hz3, View.ld_unit_zero (S := S1x2048x256) hz3, View.readCov_unit_zero (S := S1x2048x256) _ hz3, View.canon_unit_zero (S := S1x2048x256) hz3, View.ld_unit_zero (S := S1x256x2048) hz3, View.readCov_unit_zero (S := S1x256x2048) _ hz3, View.canon_unit_zero (S := S1x256x2048) hz3]

/-- What a point of case B leaves in the output's block. -/
theorem out_B_5_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : cond0_1 i) (hc2 : ¬cond0_2 i)
    (x0 : Vec Ideal S1024x2048 .f32) (x1 : Vec Ideal S1x1x2048 .f32) (x2 : Vec Ideal S1x2048x256 .f32) (x3 : Vec Ideal S1x2048x256 .f32) (x4 : Vec Ideal S1x256x2048 .f32) (xo5 : Vec Ideal S1024x2048 .f32) (xs0 : Vec Ideal S1024x2048 .bf16) :
    out0_B_5 (F := Ideal) c i arg2 harg2 arg3 harg3 arg4 harg4 arg5 harg5 arg6 harg6 arg7 harg7 arg8 harg8 hc0 hc1 hc2 x0 x1 x2 x3 x4 xo5 xs0 = k0_pay2 xo5 xs0 x2 x3 x4 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 xo5 xs0)]
  unfold kernelRun0_B
  dsimp only
  sl_unfold_words
  simp only [View.readAt_eq_ld, shapeCast_self, harg2.read_unread, harg3.read_unread, harg4.read_unread, harg5.read_unread, harg6.read_unread, harg7.read_unread, harg8.read_unread, View.ld_unit_zero (S := S1024x2048) hz2, View.readCov_unit_zero (S := S1024x2048) _ hz2, View.canon_unit_zero (S := S1024x2048) hz2, View.ld_unit_zero (S := S1x1x2048) hz3, View.readCov_unit_zero (S := S1x1x2048) _ hz3, View.canon_unit_zero (S := S1x1x2048) hz3, View.ld_unit_zero (S := S1x2048x256) hz3, View.readCov_unit_zero (S := S1x2048x256) _ hz3, View.canon_unit_zero (S := S1x2048x256) hz3, View.ld_unit_zero (S := S1x256x2048) hz3, View.readCov_unit_zero (S := S1x256x2048) _ hz3, View.canon_unit_zero (S := S1x256x2048) hz3]

/-- What a point of case B leaves in the carried scratch. -/
theorem sout_B_0_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : cond0_1 i) (hc2 : ¬cond0_2 i)
    (x0 : Vec Ideal S1024x2048 .f32) (x1 : Vec Ideal S1x1x2048 .f32) (x2 : Vec Ideal S1x2048x256 .f32) (x3 : Vec Ideal S1x2048x256 .f32) (x4 : Vec Ideal S1x256x2048 .f32) (xo5 : Vec Ideal S1024x2048 .f32) (xs0 : Vec Ideal S1024x2048 .bf16) :
    sout0_B_0 (F := Ideal) c i arg2 harg2 arg3 harg3 arg4 harg4 arg5 harg5 arg6 harg6 arg7 harg7 arg8 harg8 hc0 hc1 hc2 x0 x1 x2 x3 x4 xo5 xs0 = xs0 := by
  unfold sout0_B_0
  rfl

/-- What a point of case C leaves in the output's block. -/
theorem out_C_5_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : ¬cond0_1 i) (hc2 : cond0_2 i)
    (x0 : Vec Ideal S1024x2048 .f32) (x1 : Vec Ideal S1x1x2048 .f32) (x2 : Vec Ideal S1x2048x256 .f32) (x3 : Vec Ideal S1x2048x256 .f32) (x4 : Vec Ideal S1x256x2048 .f32) (xo5 : Vec Ideal S1024x2048 .f32) (xs0 : Vec Ideal S1024x2048 .bf16) :
    out0_C_5 (F := Ideal) c i arg2 harg2 arg3 harg3 arg4 harg4 arg5 harg5 arg6 harg6 arg7 harg7 arg8 harg8 hc0 hc1 hc2 x0 x1 x2 x3 x4 xo5 xs0 = k0_pay3 x0 xo5 xs0 x2 x3 x4 := by
  unfold out0_C_5
  rw [View.read_writes_eq_canon _ _ _ (cover0_C_5 c i arg2 harg2 arg3 harg3 arg4 harg4 arg5 harg5 arg6 harg6 arg7 harg7 arg8 harg8 hc0 hc1 hc2 x0 x1 x2 x3 x4 xo5 xs0)]
  unfold kernelRun0_C
  dsimp only
  sl_unfold_words
  simp only [View.readAt_eq_ld, shapeCast_self, harg2.read_unread, harg3.read_unread, harg4.read_unread, harg5.read_unread, harg6.read_unread, harg7.read_unread, harg8.read_unread, View.ld_unit_zero (S := S1024x2048) hz2, View.readCov_unit_zero (S := S1024x2048) _ hz2, View.canon_unit_zero (S := S1024x2048) hz2, View.ld_unit_zero (S := S1x1x2048) hz3, View.readCov_unit_zero (S := S1x1x2048) _ hz3, View.canon_unit_zero (S := S1x1x2048) hz3, View.ld_unit_zero (S := S1x2048x256) hz3, View.readCov_unit_zero (S := S1x2048x256) _ hz3, View.canon_unit_zero (S := S1x2048x256) hz3, View.ld_unit_zero (S := S1x256x2048) hz3, View.readCov_unit_zero (S := S1x256x2048) _ hz3, View.canon_unit_zero (S := S1x256x2048) hz3]

/-- What a point of case C leaves in the carried scratch. -/
theorem sout_C_0_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : ¬cond0_1 i) (hc2 : cond0_2 i)
    (x0 : Vec Ideal S1024x2048 .f32) (x1 : Vec Ideal S1x1x2048 .f32) (x2 : Vec Ideal S1x2048x256 .f32) (x3 : Vec Ideal S1x2048x256 .f32) (x4 : Vec Ideal S1x256x2048 .f32) (xo5 : Vec Ideal S1024x2048 .f32) (xs0 : Vec Ideal S1024x2048 .bf16) :
    sout0_C_0 (F := Ideal) c i arg2 harg2 arg3 harg3 arg4 harg4 arg5 harg5 arg6 harg6 arg7 harg7 arg8 harg8 hc0 hc1 hc2 x0 x1 x2 x3 x4 xo5 xs0 = xs0 := by
  unfold sout0_C_0
  rfl

/-- One entry of the activation: SiLU of the gate's product times the up product. -/
def act (h wg wu : Fin 2048 → EReal) : EReal := siluT (∑ k, h k * wg k) * ∑ k, h k * wu k

/-- The normalised block, at an entry. -/
theorem pay4_apply (x : Vec Ideal S1024x2048 .f32) (g : Vec Ideal S1x1x2048 .f32) (r : Fin 1024) (k : Fin 2048) :
    k0_pay4 (F := Ideal) x g (ix2 r k) = rowNorm (fun k => x (ix2 r k)) (fun k => g (ix3 0 0 k)) k := by
  unfold k0_pay4
  pointwise
  rfl

/-- The activation's block, at an entry. -/
theorem pay5_apply (h : Vec Ideal S1024x2048 .bf16) (wg wu : Vec Ideal S1x2048x256 .f32) (r : Fin 1024) (f : Fin 256) :
    k0_pay5 (F := Ideal) h wg wu (ix2 r f) = act (fun k => h (ix2 r k)) (fun k => wg (ix3 0 k f)) (fun k => wu (ix3 0 k f)) := by
  unfold k0_pay5
  pointwise
  rfl

/-- The first tile's partial sum. -/
theorem pay1_apply (a : FVec Ideal S1024x256 .bf16) (wd : Vec Ideal S1x256x2048 .f32) (r : Fin 1024) (c : Fin 2048) :
    k0_pay1 (F := Ideal) a wd (ix2 r c) = ∑ f : Fin 256, a (ix2 r f) * wd (ix3 0 f c) := by
  unfold k0_pay1
  pointwise

/-- A middle tile adds its partial sum to what the block holds. -/
theorem pay2_apply (o : Vec Ideal S1024x2048 .f32) (h : Vec Ideal S1024x2048 .bf16) (wg wu : Vec Ideal S1x2048x256 .f32)
    (wd : Vec Ideal S1x256x2048 .f32) (r : Fin 1024) (c : Fin 2048) :
    k0_pay2 (F := Ideal) o h wg wu wd (ix2 r c) = o (ix2 r c) + ∑ f : Fin 256,
      act (fun k => h (ix2 r k)) (fun k => wg (ix3 0 k f)) (fun k => wu (ix3 0 k f)) * wd (ix3 0 f c) := by
  unfold k0_pay2
  pointwise
  rfl

/-- The last tile completes the sum, halves it and adds the residual. -/
theorem pay3_apply (x o : Vec Ideal S1024x2048 .f32) (h : Vec Ideal S1024x2048 .bf16) (wg wu : Vec Ideal S1x2048x256 .f32)
    (wd : Vec Ideal S1x256x2048 .f32) (r : Fin 1024) (c : Fin 2048) :
    k0_pay3 (F := Ideal) x o h wg wu wd (ix2 r c) = x (ix2 r c) + half * (o (ix2 r c) + ∑ f : Fin 256,
      act (fun k => h (ix2 r k)) (fun k => wg (ix3 0 k f)) (fun k => wu (ix3 0 k f)) * wd (ix3 0 f c)) := by
  unfold k0_pay3
  pointwise
  rfl

end Cert.Ffn
end
-- ==== Proof.FfnSum.lean ====
module

public import proofs.«01_k».proof.Proof.FfnBlock

/-! The feed-forward call, the whole array: the 22 tiles of the hidden axis summed, block of rows by block of rows. -/

@[expose] public section

noncomputable section

namespace Cert.Ffn

open Idealize.ShloMosaic Idealize.ShloMosaic.TcCoe Idealize.SL.Sem Cert.Base
open Cert.Kernel2Ideal Cert.Kernel2Ideal.Gen

variable (m : (ℓ : Loc nD τ sig) → Buf (Elt Ideal) ℓ)

/-- The array behind window 0, at an entry. -/
def A0 (c : Dev nD) (q0 : Fin 8192) (q1 : Fin 2048) : EReal := V m c main_v0 (ix2 q0 q1)

/-- The block of window 0 at each grid point. -/
theorem index_0 : ∀ t : Fin cfg0.N, win0_0.index t (0 : Fin 2) = t.val / 22 ∧ win0_0.index t (1 : Fin 2) = 0 :=
  (by decide +kernel : ∀ t : Fin grid0.N, _)

/-- The block of window 0 at point `t`, read at an entry of the array. -/
theorem iblk_0 (c : Dev nD) (t : Fin cfg0.N) (p0 : Fin 1024) (p1 : Fin 2048) (q0 : Fin 8192) (q1 : Fin 2048)
    (h0 : q0.val = t.val / 22 * 1024 + p0.val) (h1 : q1.val = 0 * 2048 + p1.val) :
    (iblk m c 0 t (ix2 p0 p1) : EReal) = A0 m c q0 q1 := by
  have hi := index_0 t
  unfold iblk A0
  rw [View.read_apply]
  show V m c main_v0 _ = V m c main_v0 _
  congr 1
  funext a; apply Fin.ext
  match a with
  | ⟨0, _⟩ => show win0_0.index t 0 * 1024 + 1 * p0.val = q0.val; rw [hi.1, h0]; omega
  | ⟨1, _⟩ => show win0_0.index t 1 * 2048 + 1 * p1.val = q1.val; rw [hi.2, h1]; omega

/-- The array behind window 1, at an entry. -/
def A1 (c : Dev nD) (q0 : Fin 2) (q1 : Fin 1) (q2 : Fin 2048) : EReal := V m c main_v1 (ix3 q0 q1 q2)

/-- The block of window 1 at each grid point. -/
theorem index_1 : ∀ t : Fin cfg0.N, win0_1.index t (0 : Fin 3) = 0 ∧ win0_1.index t (1 : Fin 3) = 0 ∧ win0_1.index t (2 : Fin 3) = 0 :=
  (by decide +kernel : ∀ t : Fin grid0.N, _)

/-- The block of window 1 at point `t`, read at an entry of the array. -/
theorem iblk_1 (c : Dev nD) (t : Fin cfg0.N) (p0 : Fin 1) (p1 : Fin 1) (p2 : Fin 2048) (q0 : Fin 2) (q1 : Fin 1) (q2 : Fin 2048)
    (h0 : q0.val = 0 * 1 + p0.val) (h1 : q1.val = 0 * 1 + p1.val) (h2 : q2.val = 0 * 2048 + p2.val) :
    (iblk m c 1 t (ix3 p0 p1 p2) : EReal) = A1 m c q0 q1 q2 := by
  have hi := index_1 t
  unfold iblk A1
  rw [View.read_apply]
  show V m c main_v1 _ = V m c main_v1 _
  congr 1
  funext a; apply Fin.ext
  match a with
  | ⟨0, _⟩ => show win0_1.index t 0 * 1 + 1 * p0.val = q0.val; rw [hi.1, h0]; omega
  | ⟨1, _⟩ => show win0_1.index t 1 * 1 + 1 * p1.val = q1.val; rw [hi.2.1, h1]; omega
  | ⟨2, _⟩ => show win0_1.index t 2 * 2048 + 1 * p2.val = q2.val; rw [hi.2.2, h2]; omega

/-- The array behind window 2, at an entry. -/
def A2 (c : Dev nD) (q0 : Fin 2) (q1 : Fin 2048) (q2 : Fin 5632) : EReal := V m c main_arg2 (ix3 q0 q1 q2)

/-- The block of window 2 at each grid point. -/
theorem index_2 : ∀ t : Fin cfg0.N, win0_2.index t (0 : Fin 3) = 0 ∧ win0_2.index t (1 : Fin 3) = 0 ∧ win0_2.index t (2 : Fin 3) = (t.val % 22) :=
  (by decide +kernel : ∀ t : Fin grid0.N, _)

/-- The block of window 2 at point `t`, read at an entry of the array. -/
theorem iblk_2 (c : Dev nD) (t : Fin cfg0.N) (p0 : Fin 1) (p1 : Fin 2048) (p2 : Fin 256) (q0 : Fin 2) (q1 : Fin 2048) (q2 : Fin 5632)
    (h0 : q0.val = 0 * 1 + p0.val) (h1 : q1.val = 0 * 2048 + p1.val) (h2 : q2.val = (t.val % 22) * 256 + p2.val) :
    (iblk m c 2 t (ix3 p0 p1 p2) : EReal) = A2 m c q0 q1 q2 := by
  have hi := index_2 t
  unfold iblk A2
  rw [View.read_apply]
  show V m c main_arg2 _ = V m c main_arg2 _
  congr 1
  funext a; apply Fin.ext
  match a with
  | ⟨0, _⟩ => show win0_2.index t 0 * 1 + 1 * p0.val = q0.val; rw [hi.1, h0]; omega
  | ⟨1, _⟩ => show win0_2.index t 1 * 2048 + 1 * p1.val = q1.val; rw [hi.2.1, h1]; omega
  | ⟨2, _⟩ => show win0_2.index t 2 * 256 + 1 * p2.val = q2.val; rw [hi.2.2, h2]; omega

/-- The array behind window 3, at an entry. -/
def A3 (c : Dev nD) (q0 : Fin 2) (q1 : Fin 2048) (q2 : Fin 5632) : EReal := V m c main_arg3 (ix3 q0 q1 q2)

/-- The block of window 3 at each grid point. -/
theorem index_3 : ∀ t : Fin cfg0.N, win0_3.index t (0 : Fin 3) = 0 ∧ win0_3.index t (1 : Fin 3) = 0 ∧ win0_3.index t (2 : Fin 3) = (t.val % 22) :=
  (by decide +kernel : ∀ t : Fin grid0.N, _)

/-- The block of window 3 at point `t`, read at an entry of the array. -/
theorem iblk_3 (c : Dev nD) (t : Fin cfg0.N) (p0 : Fin 1) (p1 : Fin 2048) (p2 : Fin 256) (q0 : Fin 2) (q1 : Fin 2048) (q2 : Fin 5632)
    (h0 : q0.val = 0 * 1 + p0.val) (h1 : q1.val = 0 * 2048 + p1.val) (h2 : q2.val = (t.val % 22) * 256 + p2.val) :
    (iblk m c 3 t (ix3 p0 p1 p2) : EReal) = A3 m c q0 q1 q2 := by
  have hi := index_3 t
  unfold iblk A3
  rw [View.read_apply]
  show V m c main_arg3 _ = V m c main_arg3 _
  congr 1
  funext a; apply Fin.ext
  match a with
  | ⟨0, _⟩ => show win0_3.index t 0 * 1 + 1 * p0.val = q0.val; rw [hi.1, h0]; omega
  | ⟨1, _⟩ => show win0_3.index t 1 * 2048 + 1 * p1.val = q1.val; rw [hi.2.1, h1]; omega
  | ⟨2, _⟩ => show win0_3.index t 2 * 256 + 1 * p2.val = q2.val; rw [hi.2.2, h2]; omega

/-- The array behind window 4, at an entry. -/
def A4 (c : Dev nD) (q0 : Fin 2) (q1 : Fin 5632) (q2 : Fin 2048) : EReal := V m c main_arg4 (ix3 q0 q1 q2)

/-- The block of window 4 at each grid point. -/
theorem index_4 : ∀ t : Fin cfg0.N, win0_4.index t (0 : Fin 3) = 0 ∧ win0_4.index t (1 : Fin 3) = (t.val % 22) ∧ win0_4.index t (2 : Fin 3) = 0 :=
  (by decide +kernel : ∀ t : Fin grid0.N, _)

/-- The block of window 4 at point `t`, read at an entry of the array. -/
theorem iblk_4 (c : Dev nD) (t : Fin cfg0.N) (p0 : Fin 1) (p1 : Fin 256) (p2 : Fin 2048) (q0 : Fin 2) (q1 : Fin 5632) (q2 : Fin 2048)
    (h0 : q0.val = 0 * 1 + p0.val) (h1 : q1.val = (t.val % 22) * 256 + p1.val) (h2 : q2.val = 0 * 2048 + p2.val) :
    (iblk m c 4 t (ix3 p0 p1 p2) : EReal) = A4 m c q0 q1 q2 := by
  have hi := index_4 t
  unfold iblk A4
  rw [View.read_apply]
  show V m c main_arg4 _ = V m c main_arg4 _
  congr 1
  funext a; apply Fin.ext
  match a with
  | ⟨0, _⟩ => show win0_4.index t 0 * 1 + 1 * p0.val = q0.val; rw [hi.1, h0]; omega
  | ⟨1, _⟩ => show win0_4.index t 1 * 256 + 1 * p1.val = q1.val; rw [hi.2.1, h1]; omega
  | ⟨2, _⟩ => show win0_4.index t 2 * 2048 + 1 * p2.val = q2.val; rw [hi.2.2, h2]; omega

/-- The rows of the call's first operand: the activations, batch and sequence joined. -/
theorem V_rows (c : Dev nD) : V m c main_v0 = shapeCast S8192x2048 (V m c main_arg0) shapeCasts_S2x4096x2048_S8192x2048 := by
  unfold V
  after_results_simp
  rfl

/-- The gains, one row per layer. -/
theorem V_gains (c : Dev nD) : V m c main_v1 = shapeCast S2x1x2048 (V m c main_arg1) shapeCasts_S2x2048_S2x1x2048 := by
  unfold V
  after_results_simp
  rfl

/-- Row `R` normalised. -/
def hid (c : Dev nD) (R : Fin 8192) : Fin 2048 → EReal :=
  rowNorm (fun k => A0 m c R k) (fun k => A1 m c 0 0 k)

/-- What hidden unit `f` adds to row `R`, column `C` of the down product. -/
def term (c : Dev nD) (R : Fin 8192) (C : Fin 2048) (f : ℕ) : EReal :=
  if h : f < 5632 then
    act (hid m c R) (fun k => A2 m c 0 k ⟨f, h⟩) (fun k => A3 m c 0 k ⟨f, h⟩)
      * A4 m c 0 ⟨f, h⟩ C
  else 0

/-- One tile's partial sum is 256 consecutive terms. -/
theorem tile_sum (c : Dev nD) (t : Fin cfg0.N) (R : Fin 8192) (C : Fin 2048) (h : Fin 2048 → EReal) (hh : h = hid m c R) :
    ∑ f : Fin 256, act h (fun k => iblk m c 2 t (ix3 0 k f)) (fun k => iblk m c 3 t (ix3 0 k f)) * iblk m c 4 t (ix3 0 f C)
      = ∑ f ∈ Finset.range 256, term m c R C (256 * (t.val % 22) + f) := by
  subst hh
  rw [Finset.sum_range]
  refine Finset.sum_congr rfl fun f _ => ?_
  have hf := f.isLt
  have hl : 256 * (t.val % 22) + f.val < 5632 := by omega
  unfold term
  rw [dif_pos hl]
  have e2 : (fun k => (iblk m c 2 t (ix3 0 k f) : EReal)) = fun k => A2 m c 0 k ⟨_, hl⟩ :=
    funext fun k => iblk_2 m c t 0 k f 0 k ⟨_, hl⟩ (by simp) (by simp) (by simp only; omega)
  have e3 : (fun k => (iblk m c 3 t (ix3 0 k f) : EReal)) = fun k => A3 m c 0 k ⟨_, hl⟩ :=
    funext fun k => iblk_3 m c t 0 k f 0 k ⟨_, hl⟩ (by simp) (by simp) (by simp only; omega)
  have e4 : (iblk m c 4 t (ix3 0 f C) : EReal) = A4 m c 0 ⟨_, hl⟩ C :=
    iblk_4 m c t 0 f C 0 ⟨_, hl⟩ C (by simp) (by simp only; omega) (by simp)
  exact congrArg₂ (· * ·) (congrArg₂ (act _) e2 e3) e4

/-- The normalised block of the point's rows. -/
theorem block_norm (c : Dev nD) (t : Fin cfg0.N) (r : Fin 1024) (R : Fin 8192) (hR : R.val = t.val / 22 * 1024 + r.val) :
    rowNorm (fun k => iblk m c 0 t (ix2 r k)) (fun k => iblk m c 1 t (ix3 0 0 k)) = hid m c R := by
  unfold hid
  have e0 : (fun k => (iblk m c 0 t (ix2 r k) : EReal)) = fun k => A0 m c R k :=
    funext fun k => iblk_0 m c t r k R k hR (by simp)
  have e1 : (fun k => (iblk m c 1 t (ix3 0 0 k) : EReal)) = fun k => A1 m c 0 0 k :=
    funext fun k => iblk_1 m c t 0 0 k 0 0 k (by simp) (by simp) (by simp)
  exact congrArg₂ (fun a b => rowNorm a b) e0 e1

/-- What the point before the last tile of a run has summed, and the normalised rows it carries. -/
theorem outsAt_eq (c : Dev nD) : ∀ (n : ℕ) (hn : n < cfg0.N) (r : Fin 1024) (R : Fin 8192), R.val = n / 22 * 1024 + r.val →
    (fun k => (outsAt0 m c n hn).2 (ix2 r k)) = hid m c R
    ∧ (n % 22 ≠ 21 → ∀ C, (outsAt0 m c n hn).1 (ix2 r C) = ∑ f ∈ Finset.range (256 * (n % 22) + 256), term m c R C f)
    ∧ (n % 22 = 21 → ∀ C, (outsAt0 m c n hn).1 (ix2 r C)
        = A0 m c R C + half * ∑ f ∈ Finset.range 5632, term m c R C f) := by
  intro n
  induction n with
  | zero =>
    intro hn r R hR
    have e := outsAt0_A m c ⟨0, hn⟩ rfl (by simp) (by simp)
    simp only at e
    rw [e, out_A_5_eq, sout_A_0_eq]
    have hN := block_norm m c ⟨0, hn⟩ r R hR
    have h1 : (fun k => k0_pay4 (F := Ideal) (iblk m c 0 ⟨0, hn⟩) (iblk m c 1 ⟨0, hn⟩) (ix2 r k)) = hid m c R := by
      rw [← hN]; funext k; rw [pay4_apply]
    refine ⟨h1, fun _ C => ?_, fun h => absurd h (by simp)⟩
    dsimp only
    rw [pay1_apply]
    simp only [pay5_apply]
    rw [tile_sum m c ⟨0, hn⟩ R C _ h1]
    simp
  | succ n ih =>
    intro hn r R hR
    have hN' : n + 1 < 176 := lt_of_lt_of_eq hn (show cfg0.N = 176 from N_0)
    rcases Nat.lt_or_ge ((n + 1) % 22) 1 with h0 | h0
    · have e := outsAt0_A m c ⟨n + 1, hn⟩ (by simp only; omega) (by simp only; omega) (by simp only; omega)
      simp only at e
      rw [e, out_A_5_eq, sout_A_0_eq]
      have hN := block_norm m c ⟨n + 1, hn⟩ r R hR
      have h1 : (fun k => k0_pay4 (F := Ideal) (iblk m c 0 ⟨n + 1, hn⟩) (iblk m c 1 ⟨n + 1, hn⟩) (ix2 r k)) = hid m c R := by
        rw [← hN]; funext k; rw [pay4_apply]
      refine ⟨h1, fun _ C => ?_, fun h => absurd h (by omega)⟩
      dsimp only
      rw [pay1_apply]
      simp only [pay5_apply]
      rw [tile_sum m c ⟨n + 1, hn⟩ R C _ h1]
      have hz : (n + 1) % 22 = 0 := by omega
      simp [hz]
    · have hR' : R.val = n / 22 * 1024 + r.val := by omega
      obtain ⟨i1, i2, -⟩ := ih (by omega) r R hR'
      have hm : (n + 1) % 22 = n % 22 + 1 := by omega
      rcases Nat.lt_or_ge ((n + 1) % 22) 21 with h2 | h2
      · have e := outsAt0_B m c ⟨n + 1, hn⟩ (by simp only; omega) (by simp only; omega) (by simp only; omega)
        simp only [Nat.add_sub_cancel] at e
        rw [e, out_B_5_eq, sout_B_0_eq]
        refine ⟨i1, fun _ C => ?_, fun h => absurd h (by omega)⟩
        dsimp only
        rw [pay2_apply, tile_sum m c ⟨n + 1, hn⟩ R C _ i1, i2 (by omega) C, hm,
          show 256 * (n % 22 + 1) = 256 * (n % 22) + 256 by omega, Finset.sum_range_add _ (256 * (n % 22) + 256)]
      · have e := outsAt0_C m c ⟨n + 1, hn⟩ (by simp only; omega) (by simp only; omega) (by simp only; omega)
        simp only [Nat.add_sub_cancel] at e
        rw [e, out_C_5_eq, sout_C_0_eq]
        refine ⟨i1, fun h => absurd h (by omega), fun _ C => ?_⟩
        have hq : n % 22 = 20 := by omega
        dsimp only
        rw [pay3_apply, tile_sum m c ⟨n + 1, hn⟩ R C _ i1, i2 (by omega) C, hm, hq,
          show 5632 = 256 * 20 + 256 + 256 from rfl, Finset.sum_range_add _ (256 * 20 + 256), show 256 * (20 + 1) = 256 * 20 + 256 from rfl,
          iblk_0 m c ⟨n + 1, hn⟩ r C R C hR (by omega)]

/-- The array the call leaves: the residual plus half the down product of the activations. -/
theorem G_eq (c : Dev nD) (R : Fin 8192) (C : Fin 2048) :
    Value.G5 m c (ix2 R C) = A0 m c R C
      + half * ∑ f : Fin 5632, act (hid m c R) (fun k => A2 m c 0 k f) (fun k => A3 m c 0 k f)
          * A4 m c 0 f C := by
  have hr := R.isLt
  have hc := C.isLt
  have hp : Value.pt5Of (ix2 R C) = 22 * (R.val / 1024) + 21 := by
    show 22 * (1 * (R.val / 1024 - 0) + 1 * (C.val / 2048 - 0)) + 21 = _
    omega
  have hb : Value.pt5Of (ix2 R C) < cfg0.N := by rw [hp, show cfg0.N = 176 from N_0]; omega
  have hl : Value.loc5Of (ix2 R C) = ix2 ⟨R.val % 1024, by omega⟩ C := by
    rw [eq_ix2 (Value.loc5Of (ix2 R C))]
    congr 1
    apply Fin.ext
    show C.val % 2048 = C.val
    omega
  unfold Value.G5
  rw [dif_pos hb, ← Value.outsAt0_sweep m c _ hb, hl,
    (outsAt_eq m c _ hb ⟨R.val % 1024, by omega⟩ R (by rw [hp]; simp only; omega)).2.2 (by rw [hp]; omega) C, Finset.sum_range]
  refine congrArg (fun s => A0 m c R C + half * s) (Finset.sum_congr rfl fun f _ => ?_)
  unfold term
  rw [dif_pos f.isLt]

end Cert.Ffn
end
-- ==== Proof.FfnRef.lean ====
module

public import proofs.«01_k».proof.Proof.Gen.Reference2Ideal.Read
public import proofs.«01_k».proof.Proof.Base

/-! The feed-forward reference read at an entry. -/

@[expose] public section

noncomputable section

namespace Cert.FfnRef

open Idealize.ShloMosaic Idealize.ShloMosaic.TcCoe Cert.Base
open Cert.Reference2Ideal Cert.Reference2Ideal.Read

variable (x0 : (⟨S2x4096x2048, .f32⟩ : BufTy).Contents (Elt Ideal)) (x1 : (⟨S2x2048, .f32⟩ : BufTy).Contents (Elt Ideal))
  (x2 x3 : (⟨S2x2048x5632, .f32⟩ : BufTy).Contents (Elt Ideal)) (x4 : (⟨S2x5632x2048, .f32⟩ : BufTy).Contents (Elt Ideal))

/-- A row of the activations normalised. -/
def hid (b : Fin 2) (s : Fin 4096) : Fin 2048 → EReal := rowNorm (fun k => x0 (ix3 b s k)) (fun k => x1 (ix2 0 k))

theorem norm_apply (b : Fin 2) (s : Fin 4096) (k : Fin 2048) :
    val_main_v14 (F := Ideal) x0 x1 (ix3 b s k) = hid x0 x1 b s k := by
  have e0 : ∀ q, idx_main_v3 (idx_main_v4 (idx_main_v10 (ix3 b s k))) q = ix3 b s q := fun q => ext3 _ _ _ _ rfl rfl rfl
  have e1 : idx_main_v0 (idx_main_v1 (idx_main_v12 (idx_main_v13 (ix3 b s k)))) = ix2 0 k :=
    ext2 _ _ _ rfl (Nat.mod_eq_of_lt k.isLt)
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, e0, e1]
  rw [show (FloatOps.ofBits FTy.f32 0#32 : Ideal FTy.f32) = 0 from zero_eq, zero_add]
  rfl

theorem gate_apply (b : Fin 2) (s : Fin 4096) (f : Fin 5632) :
    val_main_v17 (F := Ideal) x0 x1 x2 (ix3 b s f) = ∑ k, hid x0 x1 b s k * x2 (ix3 0 k f) := by
  rw [val_main_v17_apply]
  refine Finset.sum_congr rfl fun k _ => ?_
  rw [show lidx_main_v17 (ix3 b s f) k = ix3 b s k from ext3 _ _ _ _ rfl rfl rfl, norm_apply, val_main_v16_apply,
    val_main_v15_apply]
  have e : idx_main_v15 (idx_main_v16 (ridx_main_v17 (ix3 b s f) k)) = ix3 0 k f := by
    have hk := k.isLt; have hf := f.isLt
    refine ext3 _ _ _ _ rfl ?_ ?_
    · show (k.val * 5632 + f.val) / 5632 % 2048 = k.val; omega
    · show (k.val * 5632 + f.val) % 5632 = f.val; omega
  rw [e]

theorem up_apply (b : Fin 2) (s : Fin 4096) (f : Fin 5632) :
    val_main_v21 (F := Ideal) x0 x1 x3 (ix3 b s f) = ∑ k, hid x0 x1 b s k * x3 (ix3 0 k f) := by
  rw [val_main_v21_apply]
  refine Finset.sum_congr rfl fun k _ => ?_
  rw [show lidx_main_v21 (ix3 b s f) k = ix3 b s k from ext3 _ _ _ _ rfl rfl rfl, norm_apply, val_main_v20_apply,
    val_main_v19_apply]
  have e : idx_main_v19 (idx_main_v20 (ridx_main_v21 (ix3 b s f) k)) = ix3 0 k f := by
    have hk := k.isLt; have hf := f.isLt
    refine ext3 _ _ _ _ rfl ?_ ?_
    · show (k.val * 5632 + f.val) / 5632 % 2048 = k.val; omega
    · show (k.val * 5632 + f.val) % 5632 = f.val; omega
  rw [e]

theorem act_apply (b : Fin 2) (s : Fin 4096) (f : Fin 5632) :
    val_main_v22 (F := Ideal) x0 x1 x2 x3 (ix3 b s f)
      = siluE (∑ k, hid x0 x1 b s k * x2 (ix3 0 k f)) * ∑ k, hid x0 x1 b s k * x3 (ix3 0 k f) := by
  rw [val_main_v22_apply, up_apply, val_main_v18_apply]
  simp only [val_main_call0_v5_apply, val_main_call0_v4_apply, val_main_call0_v3_apply, val_main_call0_v2_apply,
    val_main_call0_v1_apply, val_main_call0_v0_apply, val_main_call0_cst_apply, val_main_call0_cst_0_apply, gate_apply]
  rw [show (FloatOps.ofBits FTy.f32 1065353216#32 : Ideal FTy.f32) = 1 from one_eq]
  rfl

/-- The reference's result at row `R` of the joined batch and sequence. -/
theorem out_apply (R : Fin 8192) (C : Fin 2048) (b : Fin 2) (s : Fin 4096) (h : R.val = b.val * 4096 + s.val) :
    val_main_v29 (F := Ideal) x0 x1 x2 x3 x4 (ix2 R C) = (x0 (ix3 b s C) : EReal)
      + half * ∑ f, (siluE (∑ k, hid x0 x1 b s k * x2 (ix3 0 k f)) * ∑ k, hid x0 x1 b s k * x3 (ix3 0 k f)) * x4 (ix3 0 f C) := by
  have hs := s.isLt; have hC := C.isLt; have hb := b.isLt
  rw [val_main_v29_apply]
  have e : idx_main_v29 (ix2 R C) = ix3 b s C := by
    refine ext3 _ _ _ _ ?_ ?_ ?_
    · show (R.val * 2048 + C.val) / 8388608 = b.val; omega
    · show (R.val * 2048 + C.val) / 2048 % 4096 = s.val; omega
    · show (R.val * 2048 + C.val) % 2048 = C.val; omega
  rw [e, val_main_v28_apply, val_main_v27_apply, val_main_v26_apply, val_main_cst_2_apply, val_main_v25_apply]
  have e2 : ∀ f : Fin 5632, idx_main_v23 (idx_main_v24 (ridx_main_v25 (ix3 b s C) f)) = ix3 0 f C := fun f => by
    have hf := f.isLt
    refine ext3 _ _ _ _ rfl ?_ ?_
    · show (f.val * 2048 + C.val) / 2048 % 5632 = f.val; omega
    · show (f.val * 2048 + C.val) % 2048 = C.val; omega
  have e3 : ∀ f : Fin 5632, lidx_main_v25 (ix3 b s C) f = ix3 b s f := fun f => ext3 _ _ _ _ rfl rfl rfl
  simp only [e3, act_apply, val_main_v24_apply, val_main_v23_apply, e2]
  rfl

end Cert.FfnRef
end
-- ==== Proof.FfnEq.lean ====
module

public import proofs.«01_k».proof.Proof.FfnSum
public import proofs.«01_k».proof.Proof.FfnRef

/-! The feed-forward call: the array the kernel leaves is the reference's, where the activations, the gains and the gate's
    weights are numbers. -/

@[expose] public section

noncomputable section

namespace Cert.Ffn

open Idealize.ShloMosaic Idealize.ShloMosaic.TcCoe Idealize.SL.Sem Cert.Base
open Cert.Kernel2Ideal Cert.Kernel2Ideal.Gen

variable (m : (ℓ : Loc nD τ sig) → Buf (Elt Ideal) ℓ)

/-- The joined rows read at batch `b`, position `s`. -/
theorem A0_eq (c : Dev nD) (R : Fin 8192) (k : Fin 2048) (b : Fin 2) (s : Fin 4096) (h : R.val = b.val * 4096 + s.val) :
    A0 m c R k = m ((c.tc : Thread nD τ).loc main_arg0) (ix3 b s k) := by
  unfold A0
  rw [V_rows]
  refine (shapeCast_apply _ _ (ix2 R k) (ix3 b s k) ?_).trans ?_
  · rw [Shape.rowMajor_val_three, Shape.rowMajor_val_two]
    show (b.val * 4096 + s.val) * 2048 + k.val = R.val * 2048 + k.val
    omega
  · unfold V
    after_results_simp

theorem A1_eq (c : Dev nD) (k : Fin 2048) : A1 m c 0 0 k = m ((c.tc : Thread nD τ).loc main_arg1) (ix2 0 k) := by
  unfold A1
  rw [V_gains]
  refine (shapeCast_apply _ _ (ix3 0 0 k) (ix2 0 k) ?_).trans ?_
  · rw [Shape.rowMajor_val_three, Shape.rowMajor_val_two]
    rfl
  · unfold V
    after_results_simp

theorem A2_eq (c : Dev nD) (k : Fin 2048) (f : Fin 5632) : A2 m c 0 k f = m ((c.tc : Thread nD τ).loc main_arg2) (ix3 0 k f) := by
  unfold A2 V
  after_results_simp

theorem A3_eq (c : Dev nD) (k : Fin 2048) (f : Fin 5632) : A3 m c 0 k f = m ((c.tc : Thread nD τ).loc main_arg3) (ix3 0 k f) := by
  unfold A3 V
  after_results_simp

theorem A4_eq (c : Dev nD) (f : Fin 5632) (C : Fin 2048) : A4 m c 0 f C = m ((c.tc : Thread nD τ).loc main_arg4) (ix3 0 f C) := by
  unfold A4 V
  after_results_simp

/-- The kernel's array is the reference's. -/
theorem value_eq (c : Dev nD) (h0 : ∀ i, IsReal (m ((c.tc : Thread nD τ).loc main_arg0) i))
    (h1 : ∀ i, IsReal (m ((c.tc : Thread nD τ).loc main_arg1) i)) (h2 : ∀ i, IsReal (m ((c.tc : Thread nD τ).loc main_arg2) i)) :
    Value.G5 m c = Reference2Ideal.Read.val_main_v29 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  funext i
  obtain ⟨R, C, rfl⟩ : ∃ (R : Fin 8192) (C : Fin 2048), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  generalize (⟨R.val / 4096, by omega⟩ : Fin 2) = b at hb
  generalize (⟨R.val % 4096, by omega⟩ : Fin 4096) = s at hb
  have eh : hid m c R = FfnRef.hid (m ((c.tc : Thread nD τ).loc main_arg0)) (m ((c.tc : Thread nD τ).loc main_arg1)) b s := by
    unfold hid FfnRef.hid
    exact congrArg₂ (fun x g => rowNorm x g) (funext fun k => A0_eq m c R k b s hb) (funext fun k => A1_eq m c k)
  have er : ∀ k, IsReal (FfnRef.hid (m ((c.tc : Thread nD τ).loc main_arg0)) (m ((c.tc : Thread nD τ).loc main_arg1)) b s k) :=
    IsReal.rowNorm (fun k => h0 _) (fun k => h1 _)
  rw [G_eq, FfnRef.out_apply _ _ _ _ _ R C b s hb, A0_eq m c R C b s hb, eh]
  refine congrArg (fun z => _ + half * z) (Finset.sum_congr rfl fun f _ => ?_)
  unfold act
  simp only [A2_eq, A3_eq, A4_eq]
  rw [siluT_eq_siluE (IsReal.sum _ fun k => (er k).mul (h2 _))]

end Cert.Ffn
end
-- ==== Proof.PleBlock.lean ====
module

public import proofs.«01_k».proof.Proof.Gen.Kernel3Ideal.Value
public import proofs.«01_k».proof.Proof.Base

/-! The per-layer embedding with the final norm, one grid point. -/

@[expose] public section

noncomputable section

namespace Cert.Ple

open Idealize.ShloMosaic Idealize.ShloMosaic.TcCoe Cert.Base
open Cert.Kernel3Ideal Cert.Kernel3Ideal.Gen

/-- What a point of case A leaves in the output's block. -/
theorem out_A_6_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) :
    out0_A_6 (F := Ideal) c i arg1 harg1 arg2 harg2 arg3 harg3 arg4 harg4 arg5 harg5 arg6 harg6 arg7 harg7 arg8 harg8 arg9 harg9 hc0 x0 x1 x2 x3 x4 x5 = k0_pay1 (k0_pay4 x0 x2 (k0_pay2 x3) x1 (k0_pay3 x4)) (k0_pay5 x5) (k0_pay6 x0 x2 (k0_pay2 x3) x1 (k0_pay3 x4)) (FloatOps.ofBits FTy.f32 1157627904#32) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case A leaves in the carried scratch. -/
theorem sout_A_0_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) :
    sout0_A_0 (F := Ideal) c i arg1 harg1 arg2 harg2 arg3 harg3 arg4 harg4 arg5 harg5 arg6 harg6 arg7 harg7 arg8 harg8 arg9 harg9 hc0 x0 x1 x2 x3 x4 x5 = k0_pay2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case A leaves in the carried scratch. -/
theorem sout_A_1_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) :
    sout0_A_1 (F := Ideal) c i arg1 harg1 arg2 harg2 arg3 harg3 arg4 harg4 arg5 harg5 arg6 harg6 arg7 harg7 arg8 harg8 arg9 harg9 hc0 x0 x1 x2 x3 x4 x5 = k0_pay3 x4 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case B leaves in the output's block. -/
theorem out_B_6_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : ¬cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) (xs0 : Vec Ideal S2048x2048 .bf16) (xs1 : Vec Ideal S256x2048 .bf16) :
    out0_B_6 (F := Ideal) c i arg1 harg1 arg2 harg2 arg3 harg3 arg4 harg4 arg5 harg5 arg6 harg6 arg7 harg7 arg8 harg8 arg9 harg9 hc0 x0 x1 x2 x3 x4 x5 xs0 xs1 = k0_pay1 (k0_pay4 x0 x2 xs0 x1 xs1) (k0_pay5 x5) (k0_pay6 x0 x2 xs0 x1 xs1) (FloatOps.ofBits FTy.f32 1157627904#32) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0 xs1)]
  unfold kernelRun0_B
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case B leaves in the carried scratch. -/
theorem sout_B_0_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : ¬cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) (xs0 : Vec Ideal S2048x2048 .bf16) (xs1 : Vec Ideal S256x2048 .bf16) :
    sout0_B_0 (F := Ideal) c i arg1 harg1 arg2 harg2 arg3 harg3 arg4 harg4 arg5 harg5 arg6 harg6 arg7 harg7 arg8 harg8 arg9 harg9 hc0 x0 x1 x2 x3 x4 x5 xs0 xs1 = xs0 := by
  unfold sout0_B_0
  rfl

/-- What a point of case B leaves in the carried scratch. -/
theorem sout_B_1_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : ¬cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) (xs0 : Vec Ideal S2048x2048 .bf16) (xs1 : Vec Ideal S256x2048 .bf16) :
    sout0_B_1 (F := Ideal) c i arg1 harg1 arg2 harg2 arg3 harg3 arg4 harg4 arg5 harg5 arg6 harg6 arg7 harg7 arg8 harg8 arg9 harg9 hc0 x0 x1 x2 x3 x4 x5 xs0 xs1 = xs1 := by
  unfold sout0_B_1
  rfl

/-- The cast weights, at an entry. -/
theorem pay2_apply (w : Vec Ideal S1x2048x2048 .f32) (k c : Fin 2048) : k0_pay2 (F := Ideal) w (ix2 k c) = w (ix3 0 k c) := by
  unfold k0_pay2
  pointwise

theorem pay3_apply (w : Vec Ideal S1x256x2048 .f32) (k : Fin 256) (c : Fin 2048) : k0_pay3 (F := Ideal) w (ix2 k c) = w (ix3 0 k c) := by
  unfold k0_pay3
  pointwise

/-- One entry of the gated sum: the residual plus the embedding's product times the gate. -/
def mixed (x h wg : Fin 2048 → EReal) (e wp : Fin 256 → EReal) (c : Fin 2048) : EReal :=
  x c + (∑ k, e k * wp k) * Ideal.div 1 (1 + Ideal.exp (-(∑ k, h k * wg k)))

theorem pay4_apply (x : Vec Ideal S512x2048 .f32) (g : Vec Ideal S1x1x2048 .f32) (wg : Vec Ideal S2048x2048 .bf16)
    (p : Vec Ideal S1x512x256 .f32) (wp : Vec Ideal S256x2048 .bf16) (r : Fin 512) (c : Fin 2048) :
    k0_pay4 (F := Ideal) x g wg p wp (ix2 r c)
      = mixed (fun k => x (ix2 r k)) (rowNorm (fun k => x (ix2 r k)) (fun k => g (ix3 0 0 k))) (fun k => wg (ix2 k c))
          (fun k => p (ix3 0 r k)) (fun k => wp (ix2 k c)) c := by
  unfold k0_pay4
  pointwise
  rfl

/-- The normalised block, at an entry. -/
theorem pay1_apply (x : Vec Ideal S512x2048 .f32) (g : Vec Ideal S1x1x2048 .f32) (wg : Vec Ideal S2048x2048 .bf16)
    (p : Vec Ideal S1x512x256 .f32) (wp : Vec Ideal S256x2048 .bf16) (fg : Vec Ideal S1x2048 .f32) (r : Fin 512) (c : Fin 2048) :
    k0_pay1 (F := Ideal) (k0_pay4 x g wg p wp) (k0_pay5 fg) (k0_pay6 x g wg p wp) (FloatOps.ofBits FTy.f32 1157627904#32) (ix2 r c)
      = rowNorm (fun k => k0_pay4 (F := Ideal) x g wg p wp (ix2 r k)) (fun k => fg (ix2 0 k)) c := by
  unfold k0_pay1 k0_pay5 k0_pay6
  generalize k0_pay4 (F := Ideal) x g wg p wp = y
  pointwise
  rfl

end Cert.Ple
end
-- ==== Proof.PleEq.lean ====
module

public import proofs.«01_k».proof.Proof.PleBlock
public import proofs.«01_k».proof.Proof.Gen.Reference3Ideal.Read

/-! The per-layer embedding with the final norm: the array the kernel leaves is the reference's. -/

@[expose] public section

noncomputable section

namespace Cert.Ple

open Idealize.ShloMosaic Idealize.ShloMosaic.TcCoe Idealize.SL.Sem Cert.Base
open Cert.Kernel3Ideal Cert.Kernel3Ideal.Gen

variable (m : (ℓ : Loc nD τ sig) → Buf (Elt Ideal) ℓ)

/-- The array behind window 0, at an entry. -/
def A0 (c : Dev nD) (q0 : Fin 8192) (q1 : Fin 2048) : EReal := V m c main_v0 (ix2 q0 q1)

/-- The block of window 0 at each grid point. -/
theorem index_0 : ∀ t : Fin cfg0.N, win0_0.index t (0 : Fin 2) = t.val ∧ win0_0.index t (1 : Fin 2) = 0 :=
  (by decide +kernel : ∀ t : Fin grid0.N, _)

/-- The block of window 0 at point `t`, read at an entry of the array. -/
theorem iblk_0 (c : Dev nD) (t : Fin cfg0.N) (p0 : Fin 512) (p1 : Fin 2048) (q0 : Fin 8192) (q1 : Fin 2048)
    (h0 : q0.val = t.val * 512 + p0.val) (h1 : q1.val = 0 * 2048 + p1.val) :
    (iblk m c 0 t (ix2 p0 p1) : EReal) = A0 m c q0 q1 := by
  have hi := index_0 t
  unfold iblk A0
  rw [View.read_apply]
  show V m c main_v0 _ = V m c main_v0 _
  congr 1
  funext a; apply Fin.ext
  match a with
  | ⟨0, _⟩ => show win0_0.index t 0 * 512 + 1 * p0.val = q0.val; rw [hi.1, h0]; omega
  | ⟨1, _⟩ => show win0_0.index t 1 * 2048 + 1 * p1.val = q1.val; rw [hi.2, h1]; omega

/-- The array behind window 1, at an entry. -/
def A1 (c : Dev nD) (q0 : Fin 2) (q1 : Fin 8192) (q2 : Fin 256) : EReal := V m c main_v1 (ix3 q0 q1 q2)

/-- The block of window 1 at each grid point. -/
theorem index_1 : ∀ t : Fin cfg0.N, win0_1.index t (0 : Fin 3) = 1 ∧ win0_1.index t (1 : Fin 3) = t.val ∧ win0_1.index t (2 : Fin 3) = 0 :=
  (by decide +kernel : ∀ t : Fin grid0.N, _)

/-- The block of window 1 at point `t`, read at an entry of the array. -/
theorem iblk_1 (c : Dev nD) (t : Fin cfg0.N) (p0 : Fin 1) (p1 : Fin 512) (p2 : Fin 256) (q0 : Fin 2) (q1 : Fin 8192) (q2 : Fin 256)
    (h0 : q0.val = 1 * 1 + p0.val) (h1 : q1.val = t.val * 512 + p1.val) (h2 : q2.val = 0 * 256 + p2.val) :
    (iblk m c 1 t (ix3 p0 p1 p2) : EReal) = A1 m c q0 q1 q2 := by
  have hi := index_1 t
  unfold iblk A1
  rw [View.read_apply]
  show V m c main_v1 _ = V m c main_v1 _
  congr 1
  funext a; apply Fin.ext
  match a with
  | ⟨0, _⟩ => show win0_1.index t 0 * 1 + 1 * p0.val = q0.val; rw [hi.1, h0]; omega
  | ⟨1, _⟩ => show win0_1.index t 1 * 512 + 1 * p1.val = q1.val; rw [hi.2.1, h1]; omega
  | ⟨2, _⟩ => show win0_1.index t 2 * 256 + 1 * p2.val = q2.val; rw [hi.2.2, h2]; omega

/-- The array behind window 2, at an entry. -/
def A2 (c : Dev nD) (q0 : Fin 2) (q1 : Fin 1) (q2 : Fin 2048) : EReal := V m c main_v2 (ix3 q0 q1 q2)

/-- The block of window 2 at each grid point. -/
theorem index_2 : ∀ t : Fin cfg0.N, win0_2.index t (0 : Fin 3) = 1 ∧ win0_2.index t (1 : Fin 3) = 0 ∧ win0_2.index t (2 : Fin 3) = 0 :=
  (by decide +kernel : ∀ t : Fin grid0.N, _)

/-- The block of window 2 at point `t`, read at an entry of the array. -/
theorem iblk_2 (c : Dev nD) (t : Fin cfg0.N) (p0 : Fin 1) (p1 : Fin 1) (p2 : Fin 2048) (q0 : Fin 2) (q1 : Fin 1) (q2 : Fin 2048)
    (h0 : q0.val = 1 * 1 + p0.val) (h1 : q1.val = 0 * 1 + p1.val) (h2 : q2.val = 0 * 2048 + p2.val) :
    (iblk m c 2 t (ix3 p0 p1 p2) : EReal) = A2 m c q0 q1 q2 := by
  have hi := index_2 t
  unfold iblk A2
  rw [View.read_apply]
  show V m c main_v2 _ = V m c main_v2 _
  congr 1
  funext a; apply Fin.ext
  match a with
  | ⟨0, _⟩ => show win0_2.index t 0 * 1 + 1 * p0.val = q0.val; rw [hi.1, h0]; omega
  | ⟨1, _⟩ => show win0_2.index t 1 * 1 + 1 * p1.val = q1.val; rw [hi.2.1, h1]; omega
  | ⟨2, _⟩ => show win0_2.index t 2 * 2048 + 1 * p2.val = q2.val; rw [hi.2.2, h2]; omega

/-- The array behind window 3, at an entry. -/
def A3 (c : Dev nD) (q0 : Fin 2) (q1 : Fin 2048) (q2 : Fin 2048) : EReal := V m c main_arg3 (ix3 q0 q1 q2)

/-- The block of window 3 at each grid point. -/
theorem index_3 : ∀ t : Fin cfg0.N, win0_3.index t (0 : Fin 3) = 1 ∧ win0_3.index t (1 : Fin 3) = 0 ∧ win0_3.index t (2 : Fin 3) = 0 :=
  (by decide +kernel : ∀ t : Fin grid0.N, _)

/-- The block of window 3 at point `t`, read at an entry of the array. -/
theorem iblk_3 (c : Dev nD) (t : Fin cfg0.N) (p0 : Fin 1) (p1 : Fin 2048) (p2 : Fin 2048) (q0 : Fin 2) (q1 : Fin 2048) (q2 : Fin 2048)
    (h0 : q0.val = 1 * 1 + p0.val) (h1 : q1.val = 0 * 2048 + p1.val) (h2 : q2.val = 0 * 2048 + p2.val) :
    (iblk m c 3 t (ix3 p0 p1 p2) : EReal) = A3 m c q0 q1 q2 := by
  have hi := index_3 t
  unfold iblk A3
  rw [View.read_apply]
  show V m c main_arg3 _ = V m c main_arg3 _
  congr 1
  funext a; apply Fin.ext
  match a with
  | ⟨0, _⟩ => show win0_3.index t 0 * 1 + 1 * p0.val = q0.val; rw [hi.1, h0]; omega
  | ⟨1, _⟩ => show win0_3.index t 1 * 2048 + 1 * p1.val = q1.val; rw [hi.2.1, h1]; omega
  | ⟨2, _⟩ => show win0_3.index t 2 * 2048 + 1 * p2.val = q2.val; rw [hi.2.2, h2]; omega

/-- The array behind window 4, at an entry. -/
def A4 (c : Dev nD) (q0 : Fin 2) (q1 : Fin 256) (q2 : Fin 2048) : EReal := V m c main_arg4 (ix3 q0 q1 q2)

/-- The block of window 4 at each grid point. -/
theorem index_4 : ∀ t : Fin cfg0.N, win0_4.index t (0 : Fin 3) = 1 ∧ win0_4.index t (1 : Fin 3) = 0 ∧ win0_4.index t (2 : Fin 3) = 0 :=
  (by decide +kernel : ∀ t : Fin grid0.N, _)

/-- The block of window 4 at point `t`, read at an entry of the array. -/
theorem iblk_4 (c : Dev nD) (t : Fin cfg0.N) (p0 : Fin 1) (p1 : Fin 256) (p2 : Fin 2048) (q0 : Fin 2) (q1 : Fin 256) (q2 : Fin 2048)
    (h0 : q0.val = 1 * 1 + p0.val) (h1 : q1.val = 0 * 256 + p1.val) (h2 : q2.val = 0 * 2048 + p2.val) :
    (iblk m c 4 t (ix3 p0 p1 p2) : EReal) = A4 m c q0 q1 q2 := by
  have hi := index_4 t
  unfold iblk A4
  rw [View.read_apply]
  show V m c main_arg4 _ = V m c main_arg4 _
  congr 1
  funext a; apply Fin.ext
  match a with
  | ⟨0, _⟩ => show win0_4.index t 0 * 1 + 1 * p0.val = q0.val; rw [hi.1, h0]; omega
  | ⟨1, _⟩ => show win0_4.index t 1 * 256 + 1 * p1.val = q1.val; rw [hi.2.1, h1]; omega
  | ⟨2, _⟩ => show win0_4.index t 2 * 2048 + 1 * p2.val = q2.val; rw [hi.2.2, h2]; omega

/-- The array behind window 5, at an entry. -/
def A5 (c : Dev nD) (q0 : Fin 1) (q1 : Fin 2048) : EReal := V m c main_v3 (ix2 q0 q1)

/-- The block of window 5 at each grid point. -/
theorem index_5 : ∀ t : Fin cfg0.N, win0_5.index t (0 : Fin 2) = 0 ∧ win0_5.index t (1 : Fin 2) = 0 :=
  (by decide +kernel : ∀ t : Fin grid0.N, _)

/-- The block of window 5 at point `t`, read at an entry of the array. -/
theorem iblk_5 (c : Dev nD) (t : Fin cfg0.N) (p0 : Fin 1) (p1 : Fin 2048) (q0 : Fin 1) (q1 : Fin 2048)
    (h0 : q0.val = 0 * 1 + p0.val) (h1 : q1.val = 0 * 2048 + p1.val) :
    (iblk m c 5 t (ix2 p0 p1) : EReal) = A5 m c q0 q1 := by
  have hi := index_5 t
  unfold iblk A5
  rw [View.read_apply]
  show V m c main_v3 _ = V m c main_v3 _
  congr 1
  funext a; apply Fin.ext
  match a with
  | ⟨0, _⟩ => show win0_5.index t 0 * 1 + 1 * p0.val = q0.val; rw [hi.1, h0]; omega
  | ⟨1, _⟩ => show win0_5.index t 1 * 2048 + 1 * p1.val = q1.val; rw [hi.2, h1]; omega

/-- Row `R` before the final norm. -/
def row (c : Dev nD) (R : Fin 8192) (C : Fin 2048) : EReal :=
  mixed (fun k => A0 m c R k) (rowNorm (fun k => A0 m c R k) (fun k => A2 m c 1 0 k)) (fun k => A3 m c 1 k C)
    (fun k => A1 m c 1 R k) (fun k => A4 m c 1 k C) C

/-- A point's block of the result, over the weights it reads. -/
theorem block_eq (c : Dev nD) (t : Fin cfg0.N) (wg : Vec Ideal S2048x2048 .bf16) (wp : Vec Ideal S256x2048 .bf16)
    (hg : ∀ k C : Fin 2048, wg (ix2 k C) = A3 m c 1 k C) (hp : ∀ (k : Fin 256) (C : Fin 2048), wp (ix2 k C) = A4 m c 1 k C)
    (r : Fin 512) (R : Fin 8192) (C : Fin 2048) (hR : R.val = t.val * 512 + r.val) :
    k0_pay1 (F := Ideal) (k0_pay4 (iblk m c 0 t) (iblk m c 2 t) wg (iblk m c 1 t) wp) (k0_pay5 (iblk m c 5 t))
        (k0_pay6 (iblk m c 0 t) (iblk m c 2 t) wg (iblk m c 1 t) wp) (FloatOps.ofBits FTy.f32 1157627904#32) (ix2 r C)
      = rowNorm (row m c R) (fun k => A5 m c 0 k) C := by
  rw [pay1_apply]
  have e0 : (fun k => (iblk m c 0 t (ix2 r k) : EReal)) = fun k => A0 m c R k :=
    funext fun k => iblk_0 m c t r k R k hR (by simp)
  have e2 : (fun k => (iblk m c 2 t (ix3 0 0 k) : EReal)) = fun k => A2 m c 1 0 k :=
    funext fun k => iblk_2 m c t 0 0 k 1 0 k (by simp) (by simp) (by simp)
  have e1 : (fun k => (iblk m c 1 t (ix3 0 r k) : EReal)) = fun k => A1 m c 1 R k :=
    funext fun k => iblk_1 m c t 0 r k 1 R k (by simp) hR (by simp)
  have e5 : (fun k => (iblk m c 5 t (ix2 0 k) : EReal)) = fun k => A5 m c 0 k :=
    funext fun k => iblk_5 m c t 0 k 0 k (by simp) (by simp)
  have er : (fun k => k0_pay4 (F := Ideal) (iblk m c 0 t) (iblk m c 2 t) wg (iblk m c 1 t) wp (ix2 r k)) = row m c R := by
    funext q
    rw [pay4_apply]
    unfold row
    have eg : (fun k => wg (ix2 k q)) = fun k => A3 m c 1 k q := funext fun k => hg k q
    have ep : (fun k => wp (ix2 k q)) = fun k => A4 m c 1 k q := funext fun k => hp k q
    rw [eg, ep]
    refine (congrArg (fun x => mixed x (rowNorm x (fun k => (iblk m c 2 t (ix3 0 0 k) : EReal))) (fun k => A3 m c 1 k q)
      (fun k => (iblk m c 1 t (ix3 0 r k) : EReal)) (fun k => A4 m c 1 k q) q) e0).trans ?_
    exact congrArg₂ (fun g e => mixed (fun k => A0 m c R k) (rowNorm (fun k => A0 m c R k) g) (fun k => A3 m c 1 k q) e
      (fun k => A4 m c 1 k q) q) e2 e1
  exact congrArg₂ (fun a b => rowNorm a b C) er e5

/-- What each point leaves: its rows' result, and the two cast weights carried on. -/
theorem outsAt_eq (c : Dev nD) : ∀ (n : ℕ) (hn : n < cfg0.N),
    (∀ k C : Fin 2048, (outsAt0 m c n hn).2.1 (ix2 k C) = A3 m c 1 k C)
    ∧ (∀ (k : Fin 256) (C : Fin 2048), (outsAt0 m c n hn).2.2 (ix2 k C) = A4 m c 1 k C)
    ∧ ∀ (r : Fin 512) (R : Fin 8192) (C : Fin 2048), R.val = n * 512 + r.val →
      (outsAt0 m c n hn).1 (ix2 r C) = rowNorm (row m c R) (fun k => A5 m c 0 k) C := by
  intro n
  induction n with
  | zero =>
    intro hn
    have e := outsAt0_A m c ⟨0, hn⟩ rfl
    simp only at e
    rw [e, out_A_6_eq, sout_A_0_eq, sout_A_1_eq]
    have h1 : ∀ k C : Fin 2048, k0_pay2 (F := Ideal) (iblk m c 3 ⟨0, hn⟩) (ix2 k C) = A3 m c 1 k C := fun k C => by
      rw [pay2_apply, iblk_3 m c ⟨0, hn⟩ 0 k C 1 k C (by simp) (by simp) (by simp)]
    have h2 : ∀ (k : Fin 256) (C : Fin 2048), k0_pay3 (F := Ideal) (iblk m c 4 ⟨0, hn⟩) (ix2 k C) = A4 m c 1 k C := fun k C => by
      rw [pay3_apply, iblk_4 m c ⟨0, hn⟩ 0 k C 1 k C (by simp) (by simp) (by simp)]
    exact ⟨h1, h2, fun r R C hR => block_eq m c ⟨0, hn⟩ _ _ h1 h2 r R C hR⟩
  | succ n ih =>
    intro hn
    have hN : n + 1 < 16 := lt_of_lt_of_eq hn (show cfg0.N = 16 from N_0)
    obtain ⟨i1, i2, -⟩ := ih (by omega)
    have e := outsAt0_B m c ⟨n + 1, hn⟩ (by simp only; omega)
    simp only [Nat.add_sub_cancel] at e
    rw [e, out_B_6_eq, sout_B_0_eq, sout_B_1_eq]
    exact ⟨i1, i2, fun r R C hR => block_eq m c ⟨n + 1, hn⟩ _ _ i1 i2 r R C hR⟩

/-- The array the call leaves. -/
theorem G_eq (c : Dev nD) (R : Fin 8192) (C : Fin 2048) :
    Value.G6 m c (ix2 R C) = rowNorm (row m c R) (fun k => A5 m c 0 k) C := by
  have hr := R.isLt
  have hc := C.isLt
  have hp : Value.pt6Of (ix2 R C) = R.val / 512 := by
    show 1 * (R.val / 512 - 0) + 1 * (C.val / 2048 - 0) = _
    omega
  have hb : Value.pt6Of (ix2 R C) < cfg0.N := by rw [hp, show cfg0.N = 16 from N_0]; omega
  have hl : Value.loc6Of (ix2 R C) = ix2 ⟨R.val % 512, by omega⟩ ⟨C.val % 2048, by omega⟩ := ext2 _ _ _ rfl rfl
  unfold Value.G6
  rw [dif_pos hb, ← Value.outsAt0_sweep m c _ hb, hl]
  exact (outsAt_eq m c _ hb).2.2 _ R _ (by rw [hp]; simp only; omega) |>.trans (by rw [show (⟨C.val % 2048, by omega⟩ : Fin 2048) = C from Fin.ext (Nat.mod_eq_of_lt C.isLt)])

/-- The joined rows read at batch `b`, position `s`. -/
theorem A0_eq (c : Dev nD) (R : Fin 8192) (k : Fin 2048) (b : Fin 2) (s : Fin 4096) (h : R.val = b.val * 4096 + s.val) :
    A0 m c R k = m ((c.tc : Thread nD τ).loc main_arg0) (ix3 b s k) := by
  have e : V m c main_v0 = shapeCast S8192x2048 (m ((c.tc : Thread nD τ).loc main_arg0)) shapeCasts_S2x4096x2048_S8192x2048 := by
    unfold V
    after_results_simp
    rfl
  unfold A0
  rw [e]
  refine shapeCast_apply _ _ (ix2 R k) (ix3 b s k) ?_
  rw [Shape.rowMajor_val_three, Shape.rowMajor_val_two]
  show (b.val * 4096 + s.val) * 2048 + k.val = R.val * 2048 + k.val
  omega

theorem A2_eq (c : Dev nD) (k : Fin 2048) : A2 m c 1 0 k = m ((c.tc : Thread nD τ).loc main_arg2) (ix2 1 k) := by
  have e : V m c main_v2 = shapeCast S2x1x2048 (m ((c.tc : Thread nD τ).loc main_arg2)) shapeCasts_S2x2048_S2x1x2048 := by
    unfold V
    after_results_simp
    rfl
  unfold A2
  rw [e]
  refine shapeCast_apply _ _ (ix3 1 0 k) (ix2 1 k) ?_
  rw [Shape.rowMajor_val_three, Shape.rowMajor_val_two]
  rfl

theorem A3_eq (c : Dev nD) (k : Fin 2048) (f : Fin 2048) : A3 m c 1 k f = m ((c.tc : Thread nD τ).loc main_arg3) (ix3 1 k f) := by
  unfold A3 V
  after_results_simp

theorem A4_eq (c : Dev nD) (k : Fin 256) (f : Fin 2048) : A4 m c 1 k f = m ((c.tc : Thread nD τ).loc main_arg4) (ix3 1 k f) := by
  unfold A4 V
  after_results_simp

/-- The last layer's embedding read at batch `b`, position `s`. -/
theorem A1_eq (c : Dev nD) (R : Fin 8192) (k : Fin 256) (b : Fin 2) (s : Fin 4096) (h : R.val = b.val * 4096 + s.val) :
    A1 m c 1 R k = m ((c.tc : Thread nD τ).loc main_arg1) (ix4 1 b s k) := by
  have e : V m c main_v1 = shapeCast S2x8192x256 (m ((c.tc : Thread nD τ).loc main_arg1)) shapeCasts_S2x2x4096x256_S2x8192x256 := by
    unfold V
    after_results_simp
    rfl
  unfold A1
  rw [e]
  refine shapeCast_apply _ _ (ix3 1 R k) (ix4 1 b s k) ?_
  rw [Shape.rowMajor_val_three, Shape.rowMajor_val_four]
  show ((1 * 2 + b.val) * 4096 + s.val) * 256 + k.val = (1 * 8192 + R.val) * 256 + k.val
  omega

theorem A5_eq (c : Dev nD) (k : Fin 2048) : A5 m c 0 k = m ((c.tc : Thread nD τ).loc main_arg5) (ix1 k) := by
  have e : V m c main_v3 = shapeCast S1x2048 (m ((c.tc : Thread nD τ).loc main_arg5)) shapeCasts_S2048_S1x2048 := by
    unfold V
    after_results_simp
    rfl
  unfold A5
  rw [e]
  refine shapeCast_apply _ _ (ix2 0 k) (ix1 k) ?_
  rw [Shape.rowMajor_val_one, Shape.rowMajor_val_two]
  show k.val = 0 * 2048 + k.val
  omega

open Cert.Reference3Ideal.Read in
/-- The reference's normalised row, at an entry. -/
theorem ref_norm (x : (⟨S2x4096x2048, .f32⟩ : BufTy).Contents (Elt Ideal)) (g : (⟨S2x2048, .f32⟩ : BufTy).Contents (Elt Ideal))
    (b : Fin 2) (s : Fin 4096) (k : Fin 2048) :
    val_main_v14 (F := Ideal) x g (ix3 b s k) = rowNorm (fun k => x (ix3 b s k)) (fun k => g (ix2 1 k)) k := by
  have e0 : ∀ q, idx_main_v3 (idx_main_v4 (idx_main_v10 (ix3 b s k))) q = ix3 b s q := fun q => ext3 _ _ _ _ rfl rfl rfl
  have e1 : idx_main_v0 (idx_main_v1 (idx_main_v12 (idx_main_v13 (ix3 b s k)))) = ix2 1 k :=
    ext2 _ _ _ rfl (Nat.mod_eq_of_lt k.isLt)
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, e0, e1]
  rw [show (FloatOps.ofBits FTy.f32 0#32 : Ideal FTy.f32) = 0 from zero_eq, zero_add]
  rfl

section
open Cert.Reference3Ideal.Read

variable (x : (⟨S2x4096x2048, .f32⟩ : BufTy).Contents (Elt Ideal)) (p : (⟨S2x2x4096x256, .f32⟩ : BufTy).Contents (Elt Ideal))
  (g : (⟨S2x2048, .f32⟩ : BufTy).Contents (Elt Ideal)) (wg : (⟨S2x2048x2048, .f32⟩ : BufTy).Contents (Elt Ideal))
  (wp : (⟨S2x256x2048, .f32⟩ : BufTy).Contents (Elt Ideal)) (fg : (⟨S2048, .f32⟩ : BufTy).Contents (Elt Ideal))

/-- The reference's gated sum, at an entry. -/
theorem ref_mixed (b : Fin 2) (s : Fin 4096) (C : Fin 2048) :
    val_main_v30 (F := Ideal) x p g wg wp (ix3 b s C)
      = mixed (fun k => x (ix3 b s k)) (rowNorm (fun k => x (ix3 b s k)) (fun k => g (ix2 1 k))) (fun k => wg (ix3 1 k C))
          (fun k => p (ix4 1 b s k)) (fun k => wp (ix3 1 k C)) C := by
  have hs := s.isLt; have hC := C.isLt; have hb := b.isLt
  have a1 : ∀ k, lidx_main_v17 (ix3 b s C) k = ix3 b s k := fun k => ext3 _ _ _ _ rfl rfl rfl
  have a2 : ∀ k, idx_main_v15 (idx_main_v16 (ridx_main_v17 (ix3 b s C) k)) = ix3 1 k C := fun k => by
    have hk := k.isLt
    refine ext3 _ _ _ _ rfl ?_ ?_
    · show (k.val * 2048 + C.val) / 2048 % 2048 = k.val; omega
    · show (k.val * 2048 + C.val) % 2048 = C.val; omega
  have a3 : ∀ k, idx_main_v24 (idx_main_v25 (lidx_main_v28 (ix3 b s C) k)) = ix4 1 b s k := fun k => by
    have hk := k.isLt
    refine ext4 _ _ _ _ _ rfl ?_ ?_ ?_
    · show ((b.val * 4096 + s.val) * 256 + k.val) / 1048576 % 2 = b.val; omega
    · show ((b.val * 4096 + s.val) * 256 + k.val) / 256 % 4096 = s.val; omega
    · show ((b.val * 4096 + s.val) * 256 + k.val) % 256 = k.val; omega
  have a4 : ∀ k, idx_main_v26 (idx_main_v27 (ridx_main_v28 (ix3 b s C) k)) = ix3 1 k C := fun k => by
    have hk := k.isLt
    refine ext3 _ _ _ _ rfl ?_ ?_
    · show (k.val * 2048 + C.val) / 2048 % 256 = k.val; omega
    · show (k.val * 2048 + C.val) % 2048 = C.val; omega
  simp only [val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_cst_2_apply,
    val_main_cst_3_apply, a1, a2, a3, a4, ref_norm]
  rw [show (FloatOps.ofBits FTy.f32 1065353216#32 : Ideal FTy.f32) = 1 from one_eq]
  rfl

/-- The reference's result at row `R` of the joined batch and sequence. -/
theorem ref_apply (R : Fin 8192) (C : Fin 2048) (b : Fin 2) (s : Fin 4096) (h : R.val = b.val * 4096 + s.val) :
    val_main_v44 (F := Ideal) x p g wg wp fg (ix2 R C)
      = rowNorm (fun C => mixed (fun k => x (ix3 b s k)) (rowNorm (fun k => x (ix3 b s k)) (fun k => g (ix2 1 k)))
          (fun k => wg (ix3 1 k C)) (fun k => p (ix4 1 b s k)) (fun k => wp (ix3 1 k C)) C) (fun k => fg (ix1 k)) C := by
  have hs := s.isLt; have hC := C.isLt; have hb' := b.isLt
  have e : idx_main_v44 (ix2 R C) = ix3 b s C := by
    refine ext3 _ _ _ _ ?_ ?_ ?_
    · show (R.val * 2048 + C.val) / 8388608 = b.val; omega
    · show (R.val * 2048 + C.val) / 2048 % 4096 = s.val; omega
    · show (R.val * 2048 + C.val) % 2048 = C.val; omega
  have e0 : ∀ q, idx_main_v32 (idx_main_v33 (idx_main_v39 (ix3 b s C))) q = ix3 b s q := fun q => ext3 _ _ _ _ rfl rfl rfl
  have e1 : idx_main_v41 (idx_main_v42 (ix3 b s C)) = ix1 C := funext fun a => match a with | ⟨0, _⟩ => rfl
  simp only [val_main_v44_apply, e, val_main_v43_apply, val_main_v42_apply, val_main_v41_apply, val_main_v40_apply,
    val_main_v39_apply, val_main_v38_apply, val_main_v37_apply, val_main_v36_apply, val_main_v35_apply, val_main_v34_apply,
    val_main_v33_apply, val_main_v32_apply, val_main_v31_apply, val_main_cst_4_apply, val_main_cst_5_apply,
    val_main_cst_6_apply, e0, e1, ref_mixed]
  rw [show (FloatOps.ofBits FTy.f32 0#32 : Ideal FTy.f32) = 0 from zero_eq, zero_add]
  rfl

end

/-- The kernel's array is the reference's. -/
theorem value_eq (c : Dev nD) : Value.G6 m c = Reference3Ideal.Read.val_main_v44 (F := Ideal) (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5)) := by
  funext i
  obtain ⟨R, C, rfl⟩ : ∃ (R : Fin 8192) (C : Fin 2048), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  generalize (⟨R.val / 4096, by omega⟩ : Fin 2) = b at hb
  generalize (⟨R.val % 4096, by omega⟩ : Fin 4096) = s at hb
  rw [G_eq, ref_apply _ _ _ _ _ _ R C b s hb]
  have e0 : (fun k => A0 m c R k) = fun k => (m ((c.tc : Thread nD τ).loc main_arg0)) (ix3 b s k) := funext fun k => A0_eq m c R k b s hb
  have e1 : (fun k => A1 m c 1 R k) = fun k => (m ((c.tc : Thread nD τ).loc main_arg1)) (ix4 1 b s k) := funext fun k => A1_eq m c R k b s hb
  have e2 : (fun k => A2 m c 1 0 k) = fun k => (m ((c.tc : Thread nD τ).loc main_arg2)) (ix2 1 k) := funext fun k => A2_eq m c k
  have e3 : ∀ q, (fun k => A3 m c 1 k q) = fun k => (m ((c.tc : Thread nD τ).loc main_arg3)) (ix3 1 k q) := fun q => funext fun k => A3_eq m c k q
  have e4 : ∀ q, (fun k => A4 m c 1 k q) = fun k => (m ((c.tc : Thread nD τ).loc main_arg4)) (ix3 1 k q) := fun q => funext fun k => A4_eq m c k q
  have e5 : (fun k => A5 m c 0 k) = fun k => (m ((c.tc : Thread nD τ).loc main_arg5)) (ix1 k) := funext fun k => A5_eq m c k
  have er : row m c R = fun q => mixed (fun k => (m ((c.tc : Thread nD τ).loc main_arg0)) (ix3 b s k)) (rowNorm (fun k => (m ((c.tc : Thread nD τ).loc main_arg0)) (ix3 b s k)) (fun k => (m ((c.tc : Thread nD τ).loc main_arg2)) (ix2 1 k)))
      (fun k => (m ((c.tc : Thread nD τ).loc main_arg3)) (ix3 1 k q)) (fun k => (m ((c.tc : Thread nD τ).loc main_arg1)) (ix4 1 b s k)) (fun k => (m ((c.tc : Thread nD τ).loc main_arg4)) (ix3 1 k q)) q := by
    funext q
    unfold row
    rw [e0, e1, e2, e3, e4]
  rw [er, e5]

end Cert.Ple
end
-- ==== Proof.NormMatmulBlock.lean ====
module

public import proofs.«01_k».proof.Proof.Gen.Kernel4Ideal.Value
public import proofs.«01_k».proof.Proof.Base

/-! The norm and projection, one grid point. -/

@[expose] public section

noncomputable section

namespace Cert.NormMatmul

open Idealize.ShloMosaic Idealize.ShloMosaic.TcCoe Cert.Base
open Cert.Kernel4Ideal Cert.Kernel4Ideal.Gen

/-- What a point of case A leaves in the output's block. -/
theorem out_A_3_eq (c : Dev nD) (i : grid0.Coords) (arg2 : Memref sig .tc .vmem S1x2048x512 .f32) (harg2 : arg2.IsWhole) (arg3 : Memref sig .tc .vmem S2048x2048 .f32) (harg3 : arg3.IsWhole) (arg4 : Memref sig .tc .vmem S1x1x2048 .f32) (harg4 : arg4.IsWhole) (arg5 : Memref sig .tc .vmem S2048x512 .f32) (harg5 : arg5.IsWhole) (arg6 : Memref sig .tc .vmem S2048x2048 .bf16) (harg6 : arg6.IsWhole) (hc0 : cond0_0 i) (hc1 : ¬cond0_1 i)
    (x0 : Vec Ideal S1x2048x512 .f32) (x1 : Vec Ideal S2048x2048 .f32) (x2 : Vec Ideal S1x1x2048 .f32) :
    out0_A_3 (F := Ideal) c i arg2 harg2 arg3 harg3 arg4 harg4 arg5 harg5 arg6 harg6 hc0 hc1 x0 x1 x2 = k0_pay2 (k0_pay1 x1 x2) x0 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  sl_unfold_words
  simp only [View.readAt_eq_ld, shapeCast_self, harg2.read_unread, harg3.read_unread, harg4.read_unread, harg5.read_unread, harg6.read_unread, View.ld_unit_zero (S := S1x1x2048) hz3, View.readCov_unit_zero (S := S1x1x2048) _ hz3, View.canon_unit_zero (S := S1x1x2048) hz3, View.ld_unit_zero (S := S1x2048x512) hz3, View.readCov_unit_zero (S := S1x2048x512) _ hz3, View.canon_unit_zero (S := S1x2048x512) hz3, View.ld_unit_zero (S := S2048x2048) hz2, View.readCov_unit_zero (S := S2048x2048) _ hz2, View.canon_unit_zero (S := S2048x2048) hz2, View.ld_unit_zero (S := S2048x512) hz2, View.readCov_unit_zero (S := S2048x512) _ hz2, View.canon_unit_zero (S := S2048x512) hz2]

/-- What a point of case A leaves in the carried scratch. -/
theorem sout_A_0_eq (c : Dev nD) (i : grid0.Coords) (arg2 : Memref sig .tc .vmem S1x2048x512 .f32) (harg2 : arg2.IsWhole) (arg3 : Memref sig .tc .vmem S2048x2048 .f32) (harg3 : arg3.IsWhole) (arg4 : Memref sig .tc .vmem S1x1x2048 .f32) (harg4 : arg4.IsWhole) (arg5 : Memref sig .tc .vmem S2048x512 .f32) (harg5 : arg5.IsWhole) (arg6 : Memref sig .tc .vmem S2048x2048 .bf16) (harg6 : arg6.IsWhole) (hc0 : cond0_0 i) (hc1 : ¬cond0_1 i)
    (x0 : Vec Ideal S1x2048x512 .f32) (x1 : Vec Ideal S2048x2048 .f32) (x2 : Vec Ideal S1x1x2048 .f32) :
    sout0_A_0 (F := Ideal) c i arg2 harg2 arg3 harg3 arg4 harg4 arg5 harg5 arg6 harg6 hc0 hc1 x0 x1 x2 = k0_pay1 x1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, shapeCast_self, harg2.read_unread, harg3.read_unread, harg4.read_unread, harg5.read_unread, harg6.read_unread, View.ld_unit_zero (S := S1x1x2048) hz3, View.readCov_unit_zero (S := S1x1x2048) _ hz3, View.canon_unit_zero (S := S1x1x2048) hz3, View.ld_unit_zero (S := S1x2048x512) hz3, View.readCov_unit_zero (S := S1x2048x512) _ hz3, View.canon_unit_zero (S := S1x2048x512) hz3, View.ld_unit_zero (S := S2048x2048) hz2, View.readCov_unit_zero (S := S2048x2048) _ hz2, View.canon_unit_zero (S := S2048x2048) hz2, View.ld_unit_zero (S := S2048x512) hz2, View.readCov_unit_zero (S := S2048x512) _ hz2, View.canon_unit_zero (S := S2048x512) hz2]

/-- What a point of case B leaves in the output's block. -/
theorem out_B_3_eq (c : Dev nD) (i : grid0.Coords) (arg2 : Memref sig .tc .vmem S1x2048x512 .f32) (harg2 : arg2.IsWhole) (arg3 : Memref sig .tc .vmem S2048x2048 .f32) (harg3 : arg3.IsWhole) (arg4 : Memref sig .tc .vmem S1x1x2048 .f32) (harg4 : arg4.IsWhole) (arg5 : Memref sig .tc .vmem S2048x512 .f32) (harg5 : arg5.IsWhole) (arg6 : Memref sig .tc .vmem S2048x2048 .bf16) (harg6 : arg6.IsWhole) (hc0 : ¬cond0_0 i) (hc1 : cond0_1 i)
    (x0 : Vec Ideal S1x2048x512 .f32) (x1 : Vec Ideal S2048x2048 .f32) (x2 : Vec Ideal S1x1x2048 .f32) (xs0 : Vec Ideal S2048x2048 .bf16) :
    out0_B_3 (F := Ideal) c i arg2 harg2 arg3 harg3 arg4 harg4 arg5 harg5 arg6 harg6 hc0 hc1 x0 x1 x2 xs0 = k0_pay3 xs0 x0 := by
  unfold out0_B_3
  rw [View.read_writes_eq_canon _ _ _ (cover0_B_3 c i arg2 harg2 arg3 harg3 arg4 harg4 arg5 harg5 arg6 harg6 hc0 hc1 x0 x1 x2 xs0)]
  unfold kernelRun0_B
  dsimp only
  sl_unfold_words
  simp only [View.readAt_eq_ld, shapeCast_self, harg2.read_unread, harg3.read_unread, harg4.read_unread, harg5.read_unread, harg6.read_unread, View.ld_unit_zero (S := S1x1x2048) hz3, View.readCov_unit_zero (S := S1x1x2048) _ hz3, View.canon_unit_zero (S := S1x1x2048) hz3, View.ld_unit_zero (S := S1x2048x512) hz3, View.readCov_unit_zero (S := S1x2048x512) _ hz3, View.canon_unit_zero (S := S1x2048x512) hz3, View.ld_unit_zero (S := S2048x2048) hz2, View.readCov_unit_zero (S := S2048x2048) _ hz2, View.canon_unit_zero (S := S2048x2048) hz2, View.ld_unit_zero (S := S2048x512) hz2, View.readCov_unit_zero (S := S2048x512) _ hz2, View.canon_unit_zero (S := S2048x512) hz2]

/-- What a point of case B leaves in the carried scratch. -/
theorem sout_B_0_eq (c : Dev nD) (i : grid0.Coords) (arg2 : Memref sig .tc .vmem S1x2048x512 .f32) (harg2 : arg2.IsWhole) (arg3 : Memref sig .tc .vmem S2048x2048 .f32) (harg3 : arg3.IsWhole) (arg4 : Memref sig .tc .vmem S1x1x2048 .f32) (harg4 : arg4.IsWhole) (arg5 : Memref sig .tc .vmem S2048x512 .f32) (harg5 : arg5.IsWhole) (arg6 : Memref sig .tc .vmem S2048x2048 .bf16) (harg6 : arg6.IsWhole) (hc0 : ¬cond0_0 i) (hc1 : cond0_1 i)
    (x0 : Vec Ideal S1x2048x512 .f32) (x1 : Vec Ideal S2048x2048 .f32) (x2 : Vec Ideal S1x1x2048 .f32) (xs0 : Vec Ideal S2048x2048 .bf16) :
    sout0_B_0 (F := Ideal) c i arg2 harg2 arg3 harg3 arg4 harg4 arg5 harg5 arg6 harg6 hc0 hc1 x0 x1 x2 xs0 = xs0 := by
  unfold sout0_B_0
  rfl

/-- The normalised rows, at an entry. -/
theorem pay1_apply (x : Vec Ideal S2048x2048 .f32) (g : Vec Ideal S1x1x2048 .f32) (r k : Fin 2048) :
    k0_pay1 (F := Ideal) x g (ix2 r k) = rowNorm (fun k => x (ix2 r k)) (fun k => g (ix3 0 0 k)) k := by
  unfold k0_pay1
  pointwise
  rfl

/-- The product with a tile of the weights, at an entry: at the first tile and at the others. -/
theorem pay2_apply (h : FVec Ideal S2048x2048 .bf16) (w : Vec Ideal S1x2048x512 .f32) (r : Fin 2048) (f : Fin 512) :
    k0_pay2 (F := Ideal) h w (ix2 r f) = ∑ k : Fin 2048, h (ix2 r k) * w (ix3 0 k f) := by
  unfold k0_pay2
  pointwise

theorem pay3_apply (h : Vec Ideal S2048x2048 .bf16) (w : Vec Ideal S1x2048x512 .f32) (r : Fin 2048) (f : Fin 512) :
    k0_pay3 (F := Ideal) h w (ix2 r f) = ∑ k : Fin 2048, h (ix2 r k) * w (ix3 0 k f) := by
  unfold k0_pay3
  pointwise

end Cert.NormMatmul
end
-- ==== Proof.NormMatmulEq.lean ====
module

public import proofs.«01_k».proof.Proof.NormMatmulBlock
public import proofs.«01_k».proof.Proof.Gen.Reference4Ideal.Read

/-! The norm and projection: the array the kernel leaves is the reference's. -/

@[expose] public section

noncomputable section

namespace Cert.NormMatmul

open Idealize.ShloMosaic Idealize.ShloMosaic.TcCoe Idealize.SL.Sem Cert.Base
open Cert.Kernel4Ideal Cert.Kernel4Ideal.Gen

variable (m : (ℓ : Loc nD τ sig) → Buf (Elt Ideal) ℓ)

/-- The array behind window 0, at an entry. -/
def A0 (c : Dev nD) (q0 : Fin 1) (q1 : Fin 2048) (q2 : Fin 8192) : EReal := V m c main_arg2 (ix3 q0 q1 q2)

/-- The block of window 0 at each grid point. -/
theorem index_0 : ∀ t : Fin cfg0.N, win0_0.index t (0 : Fin 3) = 0 ∧ win0_0.index t (1 : Fin 3) = 0 ∧ win0_0.index t (2 : Fin 3) = (t.val % 16) :=
  (by decide +kernel : ∀ t : Fin grid0.N, _)

/-- The block of window 0 at point `t`, read at an entry of the array. -/
theorem iblk_0 (c : Dev nD) (t : Fin cfg0.N) (p0 : Fin 1) (p1 : Fin 2048) (p2 : Fin 512) (q0 : Fin 1) (q1 : Fin 2048) (q2 : Fin 8192)
    (h0 : q0.val = 0 * 1 + p0.val) (h1 : q1.val = 0 * 2048 + p1.val) (h2 : q2.val = (t.val % 16) * 512 + p2.val) :
    (iblk m c 0 t (ix3 p0 p1 p2) : EReal) = A0 m c q0 q1 q2 := by
  have hi := index_0 t
  unfold iblk A0
  rw [View.read_apply]
  show V m c main_arg2 _ = V m c main_arg2 _
  congr 1
  funext a; apply Fin.ext
  match a with
  | ⟨0, _⟩ => show win0_0.index t 0 * 1 + 1 * p0.val = q0.val; rw [hi.1, h0]; omega
  | ⟨1, _⟩ => show win0_0.index t 1 * 2048 + 1 * p1.val = q1.val; rw [hi.2.1, h1]; omega
  | ⟨2, _⟩ => show win0_0.index t 2 * 512 + 1 * p2.val = q2.val; rw [hi.2.2, h2]; omega

/-- The array behind window 1, at an entry. -/
def A1 (c : Dev nD) (q0 : Fin 8192) (q1 : Fin 2048) : EReal := V m c main_v0 (ix2 q0 q1)

/-- The block of window 1 at each grid point. -/
theorem index_1 : ∀ t : Fin cfg0.N, win0_1.index t (0 : Fin 2) = t.val / 16 ∧ win0_1.index t (1 : Fin 2) = 0 :=
  (by decide +kernel : ∀ t : Fin grid0.N, _)

/-- The block of window 1 at point `t`, read at an entry of the array. -/
theorem iblk_1 (c : Dev nD) (t : Fin cfg0.N) (p0 : Fin 2048) (p1 : Fin 2048) (q0 : Fin 8192) (q1 : Fin 2048)
    (h0 : q0.val = t.val / 16 * 2048 + p0.val) (h1 : q1.val = 0 * 2048 + p1.val) :
    (iblk m c 1 t (ix2 p0 p1) : EReal) = A1 m c q0 q1 := by
  have hi := index_1 t
  unfold iblk A1
  rw [View.read_apply]
  show V m c main_v0 _ = V m c main_v0 _
  congr 1
  funext a; apply Fin.ext
  match a with
  | ⟨0, _⟩ => show win0_1.index t 0 * 2048 + 1 * p0.val = q0.val; rw [hi.1, h0]; omega
  | ⟨1, _⟩ => show win0_1.index t 1 * 2048 + 1 * p1.val = q1.val; rw [hi.2, h1]; omega

/-- The array behind window 2, at an entry. -/
def A2 (c : Dev nD) (q0 : Fin 2) (q1 : Fin 1) (q2 : Fin 2048) : EReal := V m c main_v1 (ix3 q0 q1 q2)

/-- The block of window 2 at each grid point. -/
theorem index_2 : ∀ t : Fin cfg0.N, win0_2.index t (0 : Fin 3) = 1 ∧ win0_2.index t (1 : Fin 3) = 0 ∧ win0_2.index t (2 : Fin 3) = 0 :=
  (by decide +kernel : ∀ t : Fin grid0.N, _)

/-- The block of window 2 at point `t`, read at an entry of the array. -/
theorem iblk_2 (c : Dev nD) (t : Fin cfg0.N) (p0 : Fin 1) (p1 : Fin 1) (p2 : Fin 2048) (q0 : Fin 2) (q1 : Fin 1) (q2 : Fin 2048)
    (h0 : q0.val = 1 * 1 + p0.val) (h1 : q1.val = 0 * 1 + p1.val) (h2 : q2.val = 0 * 2048 + p2.val) :
    (iblk m c 2 t (ix3 p0 p1 p2) : EReal) = A2 m c q0 q1 q2 := by
  have hi := index_2 t
  unfold iblk A2
  rw [View.read_apply]
  show V m c main_v1 _ = V m c main_v1 _
  congr 1
  funext a; apply Fin.ext
  match a with
  | ⟨0, _⟩ => show win0_2.index t 0 * 1 + 1 * p0.val = q0.val; rw [hi.1, h0]; omega
  | ⟨1, _⟩ => show win0_2.index t 1 * 1 + 1 * p1.val = q1.val; rw [hi.2.1, h1]; omega
  | ⟨2, _⟩ => show win0_2.index t 2 * 2048 + 1 * p2.val = q2.val; rw [hi.2.2, h2]; omega

/-- Row `R` normalised. -/
def hid (c : Dev nD) (R : Fin 8192) : Fin 2048 → EReal :=
  rowNorm (fun k => A1 m c R k) (fun k => A2 m c 1 0 k)

/-- The normalised block of the point's rows. -/
theorem block_norm (c : Dev nD) (t : Fin cfg0.N) (r : Fin 2048) (R : Fin 8192) (hR : R.val = t.val / 16 * 2048 + r.val) (k : Fin 2048) :
    k0_pay1 (F := Ideal) (iblk m c 1 t) (iblk m c 2 t) (ix2 r k) = hid m c R k := by
  rw [pay1_apply]
  unfold hid
  have e0 : (fun k => (iblk m c 1 t (ix2 r k) : EReal)) = fun k => A1 m c R k :=
    funext fun k => iblk_1 m c t r k R k hR (by simp)
  have e1 : (fun k => (iblk m c 2 t (ix3 0 0 k) : EReal)) = fun k => A2 m c 1 0 k :=
    funext fun k => iblk_2 m c t 0 0 k 1 0 k (by simp) (by simp) (by simp)
  exact congrArg₂ (fun a b => rowNorm a b k) e0 e1

/-- What each point leaves: its tile of the result, and the normalised rows carried on. -/
theorem outsAt_eq (c : Dev nD) : ∀ (n : ℕ) (hn : n < cfg0.N) (r : Fin 2048) (R : Fin 8192), R.val = n / 16 * 2048 + r.val →
    (∀ k : Fin 2048, (outsAt0 m c n hn).2 (ix2 r k) = hid m c R k)
    ∧ ∀ (f : Fin 512) (C : Fin 8192), C.val = n % 16 * 512 + f.val →
      (outsAt0 m c n hn).1 (ix2 r f) = ∑ k : Fin 2048, hid m c R k * A0 m c 0 k C := by
  intro n
  induction n with
  | zero =>
    intro hn r R hR
    have e := outsAt0_A m c ⟨0, hn⟩ rfl (by simp)
    simp only at e
    rw [e, out_A_3_eq, sout_A_0_eq]
    have h1 := block_norm m c ⟨0, hn⟩ r R hR
    refine ⟨h1, fun f C hC => ?_⟩
    dsimp only
    rw [pay2_apply]
    refine Finset.sum_congr rfl fun k _ => ?_
    rw [h1, iblk_0 m c ⟨0, hn⟩ 0 k f 0 k C (by simp) (by simp) hC]
  | succ n ih =>
    intro hn r R hR
    have hN : n + 1 < 64 := lt_of_lt_of_eq hn (show cfg0.N = 64 from N_0)
    rcases Nat.lt_or_ge ((n + 1) % 16) 1 with h0 | h0
    · have e := outsAt0_A m c ⟨n + 1, hn⟩ (by simp only; omega) (by simp only; omega)
      simp only at e
      rw [e, out_A_3_eq, sout_A_0_eq]
      have h1 := block_norm m c ⟨n + 1, hn⟩ r R hR
      refine ⟨h1, fun f C hC => ?_⟩
      dsimp only
      rw [pay2_apply]
      refine Finset.sum_congr rfl fun k _ => ?_
      rw [h1, iblk_0 m c ⟨n + 1, hn⟩ 0 k f 0 k C (by simp) (by simp) hC]
    · obtain ⟨i1, -⟩ := ih (by omega) r R (by omega)
      have e := outsAt0_B m c ⟨n + 1, hn⟩ (by simp only; omega) (by simp only; omega)
      simp only [Nat.add_sub_cancel] at e
      rw [e, out_B_3_eq, sout_B_0_eq]
      refine ⟨i1, fun f C hC => ?_⟩
      dsimp only
      rw [pay3_apply]
      refine Finset.sum_congr rfl fun k _ => ?_
      rw [i1, iblk_0 m c ⟨n + 1, hn⟩ 0 k f 0 k C (by simp) (by simp) hC]

/-- The array the call leaves. -/
theorem G_eq (c : Dev nD) (R C : Fin 8192) :
    Value.G3 m c (ix2 R C) = ∑ k : Fin 2048, hid m c R k * A0 m c 0 k C := by
  have hr := R.isLt
  have hc := C.isLt
  have hp : Value.pt3Of (ix2 R C) = 16 * (R.val / 2048) + C.val / 512 := by
    show 16 * (R.val / 2048 - 0) + 1 * (C.val / 512 - 0) = _
    omega
  have hb : Value.pt3Of (ix2 R C) < cfg0.N := by rw [hp, show cfg0.N = 64 from N_0]; omega
  have hl : Value.loc3Of (ix2 R C) = ix2 ⟨R.val % 2048, by omega⟩ ⟨C.val % 512, by omega⟩ := ext2 _ _ _ rfl rfl
  unfold Value.G3
  rw [dif_pos hb, ← Value.outsAt0_sweep m c _ hb, hl]
  exact (outsAt_eq m c _ hb _ R (by rw [hp]; simp only; omega)).2 _ C (by rw [hp]; simp only; omega)

/-- The joined rows read at batch `b`, position `s`. -/
theorem A1_eq (c : Dev nD) (R : Fin 8192) (k : Fin 2048) (b : Fin 2) (s : Fin 4096) (h : R.val = b.val * 4096 + s.val) :
    A1 m c R k = m ((c.tc : Thread nD τ).loc main_arg0) (ix3 b s k) := by
  have e : V m c main_v0 = shapeCast S8192x2048 (m ((c.tc : Thread nD τ).loc main_arg0)) shapeCasts_S2x4096x2048_S8192x2048 := by
    unfold V
    after_results_simp
    rfl
  unfold A1
  rw [e]
  refine shapeCast_apply _ _ (ix2 R k) (ix3 b s k) ?_
  rw [Shape.rowMajor_val_three, Shape.rowMajor_val_two]
  show (b.val * 4096 + s.val) * 2048 + k.val = R.val * 2048 + k.val
  omega

theorem A2_eq (c : Dev nD) (k : Fin 2048) : A2 m c 1 0 k = m ((c.tc : Thread nD τ).loc main_arg1) (ix2 1 k) := by
  have e : V m c main_v1 = shapeCast S2x1x2048 (m ((c.tc : Thread nD τ).loc main_arg1)) shapeCasts_S2x2048_S2x1x2048 := by
    unfold V
    after_results_simp
    rfl
  unfold A2
  rw [e]
  refine shapeCast_apply _ _ (ix3 1 0 k) (ix2 1 k) ?_
  rw [Shape.rowMajor_val_three, Shape.rowMajor_val_two]
  rfl

theorem A0_eq (c : Dev nD) (k : Fin 2048) (f : Fin 8192) : A0 m c 0 k f = m ((c.tc : Thread nD τ).loc main_arg2) (ix3 0 k f) := by
  unfold A0 V
  after_results_simp

open Cert.Reference4Ideal.Read in
/-- The reference's normalised row, at an entry. -/
theorem ref_norm (x : (⟨S2x4096x2048, .f32⟩ : BufTy).Contents (Elt Ideal)) (g : (⟨S2x2048, .f32⟩ : BufTy).Contents (Elt Ideal))
    (b : Fin 2) (s : Fin 4096) (k : Fin 2048) :
    val_main_v14 (F := Ideal) x g (ix3 b s k) = rowNorm (fun k => x (ix3 b s k)) (fun k => g (ix2 1 k)) k := by
  have e0 : ∀ q, idx_main_v3 (idx_main_v4 (idx_main_v10 (ix3 b s k))) q = ix3 b s q := fun q => ext3 _ _ _ _ rfl rfl rfl
  have e1 : idx_main_v0 (idx_main_v1 (idx_main_v12 (idx_main_v13 (ix3 b s k)))) = ix2 1 k :=
    ext2 _ _ _ rfl (Nat.mod_eq_of_lt k.isLt)
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, e0, e1]
  rw [show (FloatOps.ofBits FTy.f32 0#32 : Ideal FTy.f32) = 0 from zero_eq, zero_add]
  rfl

open Cert.Reference4Ideal.Read in
/-- The reference's result at row `R` of the joined batch and sequence. -/
theorem ref_apply (x : (⟨S2x4096x2048, .f32⟩ : BufTy).Contents (Elt Ideal)) (g : (⟨S2x2048, .f32⟩ : BufTy).Contents (Elt Ideal))
    (w : (⟨S1x2048x8192, .f32⟩ : BufTy).Contents (Elt Ideal)) (R C : Fin 8192) (b : Fin 2) (s : Fin 4096)
    (h : R.val = b.val * 4096 + s.val) :
    val_main_v17 (F := Ideal) x g w (ix2 R C)
      = ∑ k : Fin 2048, rowNorm (fun k => x (ix3 b s k)) (fun k => g (ix2 1 k)) k * w (ix3 0 k C) := by
  have hs := s.isLt; have hC := C.isLt; have hb' := b.isLt
  have e : idx_main_v17 (ix2 R C) = ix3 b s C := by
    refine ext3 _ _ _ _ ?_ ?_ ?_
    · show (R.val * 8192 + C.val) / 33554432 = b.val; omega
    · show (R.val * 8192 + C.val) / 8192 % 4096 = s.val; omega
    · show (R.val * 8192 + C.val) % 8192 = C.val; omega
  have e1 : ∀ k, lidx_main_v16 (ix3 b s C) k = ix3 b s k := fun k => ext3 _ _ _ _ rfl rfl rfl
  have e2 : ∀ k, idx_main_v15 (ridx_main_v16 (ix3 b s C) k) = ix3 0 k C := fun k => by
    have hk := k.isLt
    refine ext3 _ _ _ _ rfl ?_ ?_
    · show (k.val * 8192 + C.val) / 8192 % 2048 = k.val; omega
    · show (k.val * 8192 + C.val) % 8192 = C.val; omega
  rw [val_main_v17_apply, e, val_main_v16_apply]
  simp only [e1, ref_norm, val_main_v15_apply, e2]

/-- The kernel's array is the reference's. -/
theorem value_eq (c : Dev nD) : Value.G3 m c = Reference4Ideal.Read.val_main_v17 (F := Ideal) (m ((c.tc : Thread nD τ).loc main_arg0)) (m ((c.tc : Thread nD τ).loc main_arg1)) (m ((c.tc : Thread nD τ).loc main_arg2)) := by
  funext i
  obtain ⟨R, C, rfl⟩ : ∃ R C : Fin 8192, i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  generalize (⟨R.val / 4096, by omega⟩ : Fin 2) = b at hb
  generalize (⟨R.val % 4096, by omega⟩ : Fin 4096) = s at hb
  have eh : hid m c R = rowNorm (fun k => (m ((c.tc : Thread nD τ).loc main_arg0)) (ix3 b s k)) (fun k => (m ((c.tc : Thread nD τ).loc main_arg1)) (ix2 1 k)) := by
    unfold hid
    exact congrArg₂ (fun x g => rowNorm x g) (funext fun k => A1_eq m c R k b s hb) (funext fun k => A2_eq m c k)
  rw [G_eq, ref_apply _ _ _ R C b s hb, eh]
  refine Finset.sum_congr (M := EReal) rfl fun k _ => ?_
  rw [A0_eq]

end Cert.NormMatmul
end
-- ==== Proof.OutProjBlock.lean ====
module

public import proofs.«01_k».proof.Proof.Gen.Kernel5Ideal.Value
public import proofs.«01_k».proof.Proof.Base

/-! The output projection of one part, one grid point. -/

@[expose] public section

noncomputable section

namespace Cert.OutProj

open Idealize.ShloMosaic Idealize.ShloMosaic.TcCoe Cert.Base
open Cert.Kernel5Ideal Cert.Kernel5Ideal.Gen

/-- What a point of case A leaves in the output's block. -/
theorem out_A_3_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .f32) (harg3 : arg3.IsWhole) (arg4 : Memref sig .tc .vmem S512x2048 .f32) (harg4 : arg4.IsWhole) (arg5 : Memref sig .tc .vmem S2048x2048 .bf16) (harg5 : arg5.IsWhole) (hc0 : cond0_0 i)
    (x0 : Vec Ideal S512x2048 .f32) (x1 : Vec Ideal S512x2048 .bf16) (x2 : Vec Ideal S1x2048x2048 .f32) :
    out0_A_3 (F := Ideal) c i arg1 harg1 arg2 harg2 arg3 harg3 arg4 harg4 arg5 harg5 hc0 x0 x1 x2 = k0_pay2 x0 x1 (k0_pay1 x2) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  simp only [View.readAt_eq_ld, shapeCast_self, harg1.read_unread, harg2.read_unread, harg3.read_unread, harg4.read_unread, harg5.read_unread, View.ld_unit_zero (S := S1x2048x2048) hz3, View.readCov_unit_zero (S := S1x2048x2048) _ hz3, View.canon_unit_zero (S := S1x2048x2048) hz3, View.ld_unit_zero (S := S2048x2048) hz2, View.readCov_unit_zero (S := S2048x2048) _ hz2, View.canon_unit_zero (S := S2048x2048) hz2, View.ld_unit_zero (S := S512x2048) hz2, View.readCov_unit_zero (S := S512x2048) _ hz2, View.canon_unit_zero (S := S512x2048) hz2]

/-- What a point of case A leaves in the carried scratch. -/
theorem sout_A_0_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .f32) (harg3 : arg3.IsWhole) (arg4 : Memref sig .tc .vmem S512x2048 .f32) (harg4 : arg4.IsWhole) (arg5 : Memref sig .tc .vmem S2048x2048 .bf16) (harg5 : arg5.IsWhole) (hc0 : cond0_0 i)
    (x0 : Vec Ideal S512x2048 .f32) (x1 : Vec Ideal S512x2048 .bf16) (x2 : Vec Ideal S1x2048x2048 .f32) :
    sout0_A_0 (F := Ideal) c i arg1 harg1 arg2 harg2 arg3 harg3 arg4 harg4 arg5 harg5 hc0 x0 x1 x2 = k0_pay1 x2 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  simp only [View.readAt_eq_ld, shapeCast_self, harg1.read_unread, harg2.read_unread, harg3.read_unread, harg4.read_unread, harg5.read_unread, View.ld_unit_zero (S := S1x2048x2048) hz3, View.readCov_unit_zero (S := S1x2048x2048) _ hz3, View.canon_unit_zero (S := S1x2048x2048) hz3, View.ld_unit_zero (S := S2048x2048) hz2, View.readCov_unit_zero (S := S2048x2048) _ hz2, View.canon_unit_zero (S := S2048x2048) hz2, View.ld_unit_zero (S := S512x2048) hz2, View.readCov_unit_zero (S := S512x2048) _ hz2, View.canon_unit_zero (S := S512x2048) hz2]

/-- What a point of case B leaves in the output's block. -/
theorem out_B_3_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .f32) (harg3 : arg3.IsWhole) (arg4 : Memref sig .tc .vmem S512x2048 .f32) (harg4 : arg4.IsWhole) (arg5 : Memref sig .tc .vmem S2048x2048 .bf16) (harg5 : arg5.IsWhole) (hc0 : ¬cond0_0 i)
    (x0 : Vec Ideal S512x2048 .f32) (x1 : Vec Ideal S512x2048 .bf16) (x2 : Vec Ideal S1x2048x2048 .f32) (xs0 : Vec Ideal S2048x2048 .bf16) :
    out0_B_3 (F := Ideal) c i arg1 harg1 arg2 harg2 arg3 harg3 arg4 harg4 arg5 harg5 hc0 x0 x1 x2 xs0 = k0_pay2 x0 x1 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  simp only [View.readAt_eq_ld, shapeCast_self, harg1.read_unread, harg2.read_unread, harg3.read_unread, harg4.read_unread, harg5.read_unread, View.ld_unit_zero (S := S1x2048x2048) hz3, View.readCov_unit_zero (S := S1x2048x2048) _ hz3, View.canon_unit_zero (S := S1x2048x2048) hz3, View.ld_unit_zero (S := S2048x2048) hz2, View.readCov_unit_zero (S := S2048x2048) _ hz2, View.canon_unit_zero (S := S2048x2048) hz2, View.ld_unit_zero (S := S512x2048) hz2, View.readCov_unit_zero (S := S512x2048) _ hz2, View.canon_unit_zero (S := S512x2048) hz2]

/-- What a point of case B leaves in the carried scratch. -/
theorem sout_B_0_eq (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048x2048 .f32) (harg3 : arg3.IsWhole) (arg4 : Memref sig .tc .vmem S512x2048 .f32) (harg4 : arg4.IsWhole) (arg5 : Memref sig .tc .vmem S2048x2048 .bf16) (harg5 : arg5.IsWhole) (hc0 : ¬cond0_0 i)
    (x0 : Vec Ideal S512x2048 .f32) (x1 : Vec Ideal S512x2048 .bf16) (x2 : Vec Ideal S1x2048x2048 .f32) (xs0 : Vec Ideal S2048x2048 .bf16) :
    sout0_B_0 (F := Ideal) c i arg1 harg1 arg2 harg2 arg3 harg3 arg4 harg4 arg5 harg5 hc0 x0 x1 x2 xs0 = xs0 := by
  unfold sout0_B_0
  rfl

/-- The cast weights, at an entry. -/
theorem pay1_apply (w : Vec Ideal S1x2048x2048 .f32) (k c : Fin 2048) : k0_pay1 (F := Ideal) w (ix2 k c) = w (ix3 0 k c) := by
  unfold k0_pay1
  pointwise

/-- The residual plus the product, at an entry. -/
theorem pay2_apply (x : Vec Ideal S512x2048 .f32) (a : Vec Ideal S512x2048 .bf16) (w : Vec Ideal S2048x2048 .bf16) (r : Fin 512)
    (c : Fin 2048) : k0_pay2 (F := Ideal) x a w (ix2 r c) = x (ix2 r c) + ∑ k : Fin 2048, a (ix2 r k) * w (ix2 k c) := by
  unfold k0_pay2
  pointwise

end Cert.OutProj
end
-- ==== Proof.OutProjEq.lean ====
module

public import proofs.«01_k».proof.Proof.OutProjBlock
public import proofs.«01_k».proof.Proof.Gen.Reference5Ideal.Read

/-! The output projection of one part: the array the kernel leaves is the reference's. -/

@[expose] public section

noncomputable section

namespace Cert.OutProj

open Idealize.ShloMosaic Idealize.ShloMosaic.TcCoe Idealize.SL.Sem Cert.Base
open Cert.Kernel5Ideal Cert.Kernel5Ideal.Gen

variable (m : (ℓ : Loc nD τ sig) → Buf (Elt Ideal) ℓ)

/-- The array behind window 0, at an entry. -/
def A0 (c : Dev nD) (q0 : Fin 8192) (q1 : Fin 2048) : EReal := V m c main_v0 (ix2 q0 q1)

/-- The block of window 0 at each grid point. -/
theorem index_0 : ∀ t : Fin cfg0.N, win0_0.index t (0 : Fin 2) = t.val ∧ win0_0.index t (1 : Fin 2) = 0 :=
  (by decide +kernel : ∀ t : Fin grid0.N, _)

/-- The block of window 0 at point `t`, read at an entry of the array. -/
theorem iblk_0 (c : Dev nD) (t : Fin cfg0.N) (p0 : Fin 512) (p1 : Fin 2048) (q0 : Fin 8192) (q1 : Fin 2048)
    (h0 : q0.val = t.val * 512 + p0.val) (h1 : q1.val = 0 * 2048 + p1.val) :
    (iblk m c 0 t (ix2 p0 p1) : EReal) = A0 m c q0 q1 := by
  have hi := index_0 t
  unfold iblk A0
  rw [View.read_apply]
  show V m c main_v0 _ = V m c main_v0 _
  congr 1
  funext a; apply Fin.ext
  match a with
  | ⟨0, _⟩ => show win0_0.index t 0 * 512 + 1 * p0.val = q0.val; rw [hi.1, h0]; omega
  | ⟨1, _⟩ => show win0_0.index t 1 * 2048 + 1 * p1.val = q1.val; rw [hi.2, h1]; omega

/-- The array behind window 1, at an entry. -/
def A1 (c : Dev nD) (q0 : Fin 8192) (q1 : Fin 2048) : EReal := V m c main_v1 (ix2 q0 q1)

/-- The block of window 1 at each grid point. -/
theorem index_1 : ∀ t : Fin cfg0.N, win0_1.index t (0 : Fin 2) = t.val ∧ win0_1.index t (1 : Fin 2) = 0 :=
  (by decide +kernel : ∀ t : Fin grid0.N, _)

/-- The block of window 1 at point `t`, read at an entry of the array. -/
theorem iblk_1 (c : Dev nD) (t : Fin cfg0.N) (p0 : Fin 512) (p1 : Fin 2048) (q0 : Fin 8192) (q1 : Fin 2048)
    (h0 : q0.val = t.val * 512 + p0.val) (h1 : q1.val = 0 * 2048 + p1.val) :
    (iblk m c 1 t (ix2 p0 p1) : EReal) = A1 m c q0 q1 := by
  have hi := index_1 t
  unfold iblk A1
  rw [View.read_apply]
  show V m c main_v1 _ = V m c main_v1 _
  congr 1
  funext a; apply Fin.ext
  match a with
  | ⟨0, _⟩ => show win0_1.index t 0 * 512 + 1 * p0.val = q0.val; rw [hi.1, h0]; omega
  | ⟨1, _⟩ => show win0_1.index t 1 * 2048 + 1 * p1.val = q1.val; rw [hi.2, h1]; omega

/-- The array behind window 2, at an entry. -/
def A2 (c : Dev nD) (q0 : Fin 1) (q1 : Fin 2048) (q2 : Fin 2048) : EReal := V m c main_arg2 (ix3 q0 q1 q2)

/-- The block of window 2 at each grid point. -/
theorem index_2 : ∀ t : Fin cfg0.N, win0_2.index t (0 : Fin 3) = 0 ∧ win0_2.index t (1 : Fin 3) = 0 ∧ win0_2.index t (2 : Fin 3) = 0 :=
  (by decide +kernel : ∀ t : Fin grid0.N, _)

/-- The block of window 2 at point `t`, read at an entry of the array. -/
theorem iblk_2 (c : Dev nD) (t : Fin cfg0.N) (p0 : Fin 1) (p1 : Fin 2048) (p2 : Fin 2048) (q0 : Fin 1) (q1 : Fin 2048) (q2 : Fin 2048)
    (h0 : q0.val = 0 * 1 + p0.val) (h1 : q1.val = 0 * 2048 + p1.val) (h2 : q2.val = 0 * 2048 + p2.val) :
    (iblk m c 2 t (ix3 p0 p1 p2) : EReal) = A2 m c q0 q1 q2 := by
  have hi := index_2 t
  unfold iblk A2
  rw [View.read_apply]
  show V m c main_arg2 _ = V m c main_arg2 _
  congr 1
  funext a; apply Fin.ext
  match a with
  | ⟨0, _⟩ => show win0_2.index t 0 * 1 + 1 * p0.val = q0.val; rw [hi.1, h0]; omega
  | ⟨1, _⟩ => show win0_2.index t 1 * 2048 + 1 * p1.val = q1.val; rw [hi.2.1, h1]; omega
  | ⟨2, _⟩ => show win0_2.index t 2 * 2048 + 1 * p2.val = q2.val; rw [hi.2.2, h2]; omega

/-- What each point leaves: its rows' result, and the cast weights carried on. -/
theorem outsAt_eq (c : Dev nD) : ∀ (n : ℕ) (hn : n < cfg0.N),
    (∀ k C : Fin 2048, (outsAt0 m c n hn).2 (ix2 k C) = A2 m c 0 k C)
    ∧ ∀ (r : Fin 512) (R : Fin 8192) (C : Fin 2048), R.val = n * 512 + r.val →
      (outsAt0 m c n hn).1 (ix2 r C) = A0 m c R C + ∑ k : Fin 2048, A1 m c R k * A2 m c 0 k C := by
  intro n
  induction n with
  | zero =>
    intro hn
    have e := outsAt0_A m c ⟨0, hn⟩ rfl
    simp only at e
    rw [e, out_A_3_eq, sout_A_0_eq]
    have h1 : ∀ k C : Fin 2048, k0_pay1 (F := Ideal) (iblk m c 2 ⟨0, hn⟩) (ix2 k C) = A2 m c 0 k C := fun k C => by
      rw [pay1_apply, iblk_2 m c ⟨0, hn⟩ 0 k C 0 k C (by simp) (by simp) (by simp)]
    refine ⟨h1, fun r R C hR => ?_⟩
    dsimp only
    rw [pay2_apply, iblk_0 m c ⟨0, hn⟩ r C R C hR (by simp)]
    refine congrArg (fun z => A0 m c R C + z) (Finset.sum_congr rfl fun k _ => ?_)
    rw [h1, iblk_1 m c ⟨0, hn⟩ r k R k hR (by simp)]
  | succ n ih =>
    intro hn
    have hN : n + 1 < 16 := lt_of_lt_of_eq hn (show cfg0.N = 16 from N_0)
    obtain ⟨i1, -⟩ := ih (by omega)
    have e := outsAt0_B m c ⟨n + 1, hn⟩ (by simp only; omega)
    simp only [Nat.add_sub_cancel] at e
    rw [e, out_B_3_eq, sout_B_0_eq]
    refine ⟨i1, fun r R C hR => ?_⟩
    dsimp only
    rw [pay2_apply, iblk_0 m c ⟨n + 1, hn⟩ r C R C hR (by simp)]
    refine congrArg (fun z => A0 m c R C + z) (Finset.sum_congr rfl fun k _ => ?_)
    rw [i1, iblk_1 m c ⟨n + 1, hn⟩ r k R k hR (by simp)]

/-- The array the call leaves. -/
theorem G_eq (c : Dev nD) (R : Fin 8192) (C : Fin 2048) :
    Value.G3 m c (ix2 R C) = A0 m c R C + ∑ k : Fin 2048, A1 m c R k * A2 m c 0 k C := by
  have hr := R.isLt
  have hc := C.isLt
  have hp : Value.pt3Of (ix2 R C) = R.val / 512 := by
    show 1 * (R.val / 512 - 0) + 1 * (C.val / 2048 - 0) = _
    omega
  have hb : Value.pt3Of (ix2 R C) < cfg0.N := by rw [hp, show cfg0.N = 16 from N_0]; omega
  have hl : Value.loc3Of (ix2 R C) = ix2 ⟨R.val % 512, by omega⟩ ⟨C.val % 2048, by omega⟩ := ext2 _ _ _ rfl rfl
  unfold Value.G3
  rw [dif_pos hb, ← Value.outsAt0_sweep m c _ hb, hl]
  exact (outsAt_eq m c _ hb).2 _ R _ (by rw [hp]; simp only; omega) |>.trans (by rw [show (⟨C.val % 2048, by omega⟩ : Fin 2048) = C from Fin.ext (Nat.mod_eq_of_lt C.isLt)])

/-- The joined rows read at batch `b`, position `s`. -/
theorem A0_eq (c : Dev nD) (R : Fin 8192) (k : Fin 2048) (b : Fin 2) (s : Fin 4096) (h : R.val = b.val * 4096 + s.val) :
    A0 m c R k = m ((c.tc : Thread nD τ).loc main_arg0) (ix3 b s k) := by
  have e : V m c main_v0 = shapeCast S8192x2048 (m ((c.tc : Thread nD τ).loc main_arg0)) shapeCasts_S2x4096x2048_S8192x2048 := by
    unfold V
    after_results_simp
    rfl
  unfold A0
  rw [e]
  refine shapeCast_apply _ _ (ix2 R k) (ix3 b s k) ?_
  rw [Shape.rowMajor_val_three, Shape.rowMajor_val_two]
  show (b.val * 4096 + s.val) * 2048 + k.val = R.val * 2048 + k.val
  omega

/-- The joined rows read at batch `b`, position `s`. -/
theorem A1_eq (c : Dev nD) (R : Fin 8192) (k : Fin 2048) (b : Fin 2) (s : Fin 4096) (h : R.val = b.val * 4096 + s.val) :
    A1 m c R k = m ((c.tc : Thread nD τ).loc main_arg1) (ix3 b s k) := by
  have e : V m c main_v1 = shapeCast S8192x2048 (m ((c.tc : Thread nD τ).loc main_arg1)) shapeCasts_S2x4096x2048_S8192x2048 := by
    unfold V
    after_results_simp
    rfl
  unfold A1
  rw [e]
  refine shapeCast_apply _ _ (ix2 R k) (ix3 b s k) ?_
  rw [Shape.rowMajor_val_three, Shape.rowMajor_val_two]
  show (b.val * 4096 + s.val) * 2048 + k.val = R.val * 2048 + k.val
  omega

theorem A2_eq (c : Dev nD) (k : Fin 2048) (f : Fin 2048) : A2 m c 0 k f = m ((c.tc : Thread nD τ).loc main_arg2) (ix3 0 k f) := by
  unfold A2 V
  after_results_simp

open Cert.Reference5Ideal.Read in
/-- The reference's result at row `R` of the joined batch and sequence. -/
theorem ref_apply (x : (⟨S2x4096x2048, .f32⟩ : BufTy).Contents (Elt Ideal)) (a : (⟨S2x4096x2048, .bf16⟩ : BufTy).Contents (Elt Ideal))
    (w : (⟨S1x2048x2048, .f32⟩ : BufTy).Contents (Elt Ideal)) (R : Fin 8192) (C : Fin 2048) (b : Fin 2) (s : Fin 4096)
    (h : R.val = b.val * 4096 + s.val) :
    val_main_v4 (F := Ideal) x a w (ix2 R C) = (x (ix3 b s C) : EReal) + ∑ k : Fin 2048, (a (ix3 b s k) : EReal) * w (ix3 0 k C) := by
  have hs := s.isLt; have hC := C.isLt; have hb' := b.isLt
  have e : idx_main_v4 (ix2 R C) = ix3 b s C := by
    refine ext3 _ _ _ _ ?_ ?_ ?_
    · show (R.val * 2048 + C.val) / 8388608 = b.val; omega
    · show (R.val * 2048 + C.val) / 2048 % 4096 = s.val; omega
    · show (R.val * 2048 + C.val) % 2048 = C.val; omega
  have e1 : ∀ k, lidx_main_v2 (ix3 b s C) k = ix3 b s k := fun k => ext3 _ _ _ _ rfl rfl rfl
  have e2 : ∀ k, idx_main_v1 (ridx_main_v2 (ix3 b s C) k) = ix3 0 k C := fun k => by
    have hk := k.isLt
    refine ext3 _ _ _ _ rfl ?_ ?_
    · show (k.val * 2048 + C.val) / 2048 % 2048 = k.val; omega
    · show (k.val * 2048 + C.val) % 2048 = C.val; omega
  rw [val_main_v4_apply, e, val_main_v3_apply, val_main_v2_apply]
  simp only [e1, val_main_v0_apply, val_main_v1_apply, e2]
  rfl

/-- The kernel's array is the reference's. -/
theorem value_eq (c : Dev nD) : Value.G3 m c = Reference5Ideal.Read.val_main_v4 (F := Ideal) (m ((c.tc : Thread nD τ).loc main_arg0)) (m ((c.tc : Thread nD τ).loc main_arg1)) (m ((c.tc : Thread nD τ).loc main_arg2)) := by
  funext i
  obtain ⟨R, C, rfl⟩ : ∃ (R : Fin 8192) (C : Fin 2048), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  generalize (⟨R.val / 4096, by omega⟩ : Fin 2) = b at hb
  generalize (⟨R.val % 4096, by omega⟩ : Fin 4096) = s at hb
  rw [G_eq, ref_apply _ _ _ R C b s hb, ← A0_eq m c R C b s hb]
  refine congrArg (fun z : EReal => A0 m c R C + z) (Finset.sum_congr rfl fun k _ => ?_)
  rw [A1_eq m c R k b s hb, A2_eq]

end Cert.OutProj
end
-- ==== Proof.OutProj2Block.lean ====
module

public import proofs.«01_k».proof.Proof.Gen.Kernel6Ideal.Value
public import proofs.«01_k».proof.Proof.Base

/-! The output projection of two parts, one grid point. -/

@[expose] public section

noncomputable section

namespace Cert.OutProj2

open Idealize.ShloMosaic Idealize.ShloMosaic.TcCoe Cert.Base
open Cert.Kernel6Ideal Cert.Kernel6Ideal.Gen

/-- What a point of case A leaves in the output's block. -/
theorem out_A_4_eq (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x2048x2048 .f32) (harg4 : arg4.IsWhole) (arg5 : Memref sig .tc .vmem S512x2048 .f32) (harg5 : arg5.IsWhole) (arg6 : Memref sig .tc .vmem S2048x2048 .bf16) (harg6 : arg6.IsWhole) (hc0 : cond0_0 i)
    (x0 : Vec Ideal S512x2048 .f32) (x1 : Vec Ideal S512x1024 .bf16) (x2 : Vec Ideal S512x1024 .bf16) (x3 : Vec Ideal S1x2048x2048 .f32) :
    out0_A_4 (F := Ideal) c i arg1 harg1 arg2 harg2 arg3 harg3 arg4 harg4 arg5 harg5 arg6 harg6 hc0 x0 x1 x2 x3 = k0_pay2 x0 x1 (View.ld (Val := Elt Ideal) (e' := .bf16) (k0_pay1 (F := Ideal) x3) (Rect.unit (s := S2048x2048) ![0, 0] ![1024, 2048] inb_S2048x2048_S1024x2048_0_0)) x2 (View.ld (Val := Elt Ideal) (e' := .bf16) (k0_pay1 (F := Ideal) x3) (Rect.unit (s := S2048x2048) ![1024, 0] ![1024, 2048] inb_S2048x2048_S1024x2048_1024_0)) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp only [View.readAt_eq_ld, shapeCast_self, harg1.read_unread, harg2.read_unread, harg3.read_unread, harg4.read_unread, harg5.read_unread, harg6.read_unread, View.ld_unit_zero (S := S1x2048x2048) hz3, View.readCov_unit_zero (S := S1x2048x2048) _ hz3, View.canon_unit_zero (S := S1x2048x2048) hz3, View.ld_unit_zero (S := S2048x2048) hz2, View.readCov_unit_zero (S := S2048x2048) _ hz2, View.canon_unit_zero (S := S2048x2048) hz2, View.ld_unit_zero (S := S512x1024) hz2, View.readCov_unit_zero (S := S512x1024) _ hz2, View.canon_unit_zero (S := S512x1024) hz2, View.ld_unit_zero (S := S512x2048) hz2, View.readCov_unit_zero (S := S512x2048) _ hz2, View.canon_unit_zero (S := S512x2048) hz2]
  rw [readCov_whole (S := S2048x2048) _ hz2, readCov_whole (S := S2048x2048) _ hz2]

/-- What a point of case A leaves in the carried scratch. -/
theorem sout_A_0_eq (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x2048x2048 .f32) (harg4 : arg4.IsWhole) (arg5 : Memref sig .tc .vmem S512x2048 .f32) (harg5 : arg5.IsWhole) (arg6 : Memref sig .tc .vmem S2048x2048 .bf16) (harg6 : arg6.IsWhole) (hc0 : cond0_0 i)
    (x0 : Vec Ideal S512x2048 .f32) (x1 : Vec Ideal S512x1024 .bf16) (x2 : Vec Ideal S512x1024 .bf16) (x3 : Vec Ideal S1x2048x2048 .f32) :
    sout0_A_0 (F := Ideal) c i arg1 harg1 arg2 harg2 arg3 harg3 arg4 harg4 arg5 harg5 arg6 harg6 hc0 x0 x1 x2 x3 = k0_pay1 x3 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, shapeCast_self, harg1.read_unread, harg2.read_unread, harg3.read_unread, harg4.read_unread, harg5.read_unread, harg6.read_unread, View.ld_unit_zero (S := S1x2048x2048) hz3, View.readCov_unit_zero (S := S1x2048x2048) _ hz3, View.canon_unit_zero (S := S1x2048x2048) hz3, View.ld_unit_zero (S := S2048x2048) hz2, View.readCov_unit_zero (S := S2048x2048) _ hz2, View.canon_unit_zero (S := S2048x2048) hz2, View.ld_unit_zero (S := S512x1024) hz2, View.readCov_unit_zero (S := S512x1024) _ hz2, View.canon_unit_zero (S := S512x1024) hz2, View.ld_unit_zero (S := S512x2048) hz2, View.readCov_unit_zero (S := S512x2048) _ hz2, View.canon_unit_zero (S := S512x2048) hz2]

/-- What a point of case B leaves in the output's block. -/
theorem out_B_4_eq (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x2048x2048 .f32) (harg4 : arg4.IsWhole) (arg5 : Memref sig .tc .vmem S512x2048 .f32) (harg5 : arg5.IsWhole) (arg6 : Memref sig .tc .vmem S2048x2048 .bf16) (harg6 : arg6.IsWhole) (hc0 : ¬cond0_0 i)
    (x0 : Vec Ideal S512x2048 .f32) (x1 : Vec Ideal S512x1024 .bf16) (x2 : Vec Ideal S512x1024 .bf16) (x3 : Vec Ideal S1x2048x2048 .f32) (xs0 : Vec Ideal S2048x2048 .bf16) :
    out0_B_4 (F := Ideal) c i arg1 harg1 arg2 harg2 arg3 harg3 arg4 harg4 arg5 harg5 arg6 harg6 hc0 x0 x1 x2 x3 xs0 = k0_pay2 x0 x1 (View.ld (Val := Elt Ideal) (e' := .bf16) xs0 (Rect.unit (s := S2048x2048) ![0, 0] ![1024, 2048] inb_S2048x2048_S1024x2048_0_0)) x2 (View.ld (Val := Elt Ideal) (e' := .bf16) xs0 (Rect.unit (s := S2048x2048) ![1024, 0] ![1024, 2048] inb_S2048x2048_S1024x2048_1024_0)) := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  simp only [View.readAt_eq_ld, shapeCast_self, harg1.read_unread, harg2.read_unread, harg3.read_unread, harg4.read_unread, harg5.read_unread, harg6.read_unread, View.ld_unit_zero (S := S1x2048x2048) hz3, View.readCov_unit_zero (S := S1x2048x2048) _ hz3, View.canon_unit_zero (S := S1x2048x2048) hz3, View.ld_unit_zero (S := S2048x2048) hz2, View.readCov_unit_zero (S := S2048x2048) _ hz2, View.canon_unit_zero (S := S2048x2048) hz2, View.ld_unit_zero (S := S512x1024) hz2, View.readCov_unit_zero (S := S512x1024) _ hz2, View.canon_unit_zero (S := S512x1024) hz2, View.ld_unit_zero (S := S512x2048) hz2, View.readCov_unit_zero (S := S512x2048) _ hz2, View.canon_unit_zero (S := S512x2048) hz2]

/-- What a point of case B leaves in the carried scratch. -/
theorem sout_B_0_eq (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x2048x2048 .f32) (harg4 : arg4.IsWhole) (arg5 : Memref sig .tc .vmem S512x2048 .f32) (harg5 : arg5.IsWhole) (arg6 : Memref sig .tc .vmem S2048x2048 .bf16) (harg6 : arg6.IsWhole) (hc0 : ¬cond0_0 i)
    (x0 : Vec Ideal S512x2048 .f32) (x1 : Vec Ideal S512x1024 .bf16) (x2 : Vec Ideal S512x1024 .bf16) (x3 : Vec Ideal S1x2048x2048 .f32) (xs0 : Vec Ideal S2048x2048 .bf16) :
    sout0_B_0 (F := Ideal) c i arg1 harg1 arg2 harg2 arg3 harg3 arg4 harg4 arg5 harg5 arg6 harg6 hc0 x0 x1 x2 x3 xs0 = xs0 := by
  unfold sout0_B_0
  rfl

/-- The cast weights, at an entry. -/
theorem pay1_apply (w : Vec Ideal S1x2048x2048 .f32) (k c : Fin 2048) : k0_pay1 (F := Ideal) w (ix2 k c) = w (ix3 0 k c) := by
  unfold k0_pay1
  pointwise

/-- The residual plus the two products, at an entry. -/
theorem pay2_apply (x : Vec Ideal S512x2048 .f32) (a b : Vec Ideal S512x1024 .bf16) (w v : Vec Ideal S1024x2048 .bf16) (r : Fin 512)
    (c : Fin 2048) : k0_pay2 (F := Ideal) x a w b v (ix2 r c)
      = x (ix2 r c) + ∑ k : Fin 1024, a (ix2 r k) * w (ix2 k c) + ∑ k : Fin 1024, b (ix2 r k) * v (ix2 k c) := by
  unfold k0_pay2
  pointwise

/-- The two halves of the weights, at an entry. -/
theorem top_apply (w : Vec Ideal S2048x2048 .bf16) (k : Fin 1024) (c : Fin 2048) :
    View.ld (Val := Elt Ideal) (e' := .bf16) w (Rect.unit (s := S2048x2048) ![0, 0] ![1024, 2048] inb_S2048x2048_S1024x2048_0_0) (ix2 k c) = w (ix2 ⟨k.val, by omega⟩ c) :=
  congrArg w (ext2 _ _ _ (by show 0 + 1 * k.val = k.val; omega) (by show 0 + 1 * c.val = c.val; omega))

theorem bot_apply (w : Vec Ideal S2048x2048 .bf16) (k : Fin 1024) (c : Fin 2048) :
    View.ld (Val := Elt Ideal) (e' := .bf16) w (Rect.unit (s := S2048x2048) ![1024, 0] ![1024, 2048] inb_S2048x2048_S1024x2048_1024_0) (ix2 k c) = w (ix2 ⟨1024 + k.val, by omega⟩ c) :=
  congrArg w (ext2 _ _ _ (by show 1024 + 1 * k.val = 1024 + k.val; omega) (by show 0 + 1 * c.val = c.val; omega))

end Cert.OutProj2
end
-- ==== Proof.OutProj2Eq.lean ====
module

public import proofs.«01_k».proof.Proof.OutProj2Block
public import proofs.«01_k».proof.Proof.Gen.Reference6Ideal.Read

/-! The output projection of two parts: the array the kernel leaves is the reference's. -/

@[expose] public section

noncomputable section

namespace Cert.OutProj2

open Idealize.ShloMosaic Idealize.ShloMosaic.TcCoe Idealize.SL.Sem Cert.Base
open Cert.Kernel6Ideal Cert.Kernel6Ideal.Gen

variable (m : (ℓ : Loc nD τ sig) → Buf (Elt Ideal) ℓ)

/-- The array behind window 0, at an entry. -/
def A0 (c : Dev nD) (q0 : Fin 8192) (q1 : Fin 2048) : EReal := V m c main_v0 (ix2 q0 q1)

/-- The block of window 0 at each grid point. -/
theorem index_0 : ∀ t : Fin cfg0.N, win0_0.index t (0 : Fin 2) = t.val ∧ win0_0.index t (1 : Fin 2) = 0 :=
  (by decide +kernel : ∀ t : Fin grid0.N, _)

/-- The block of window 0 at point `t`, read at an entry of the array. -/
theorem iblk_0 (c : Dev nD) (t : Fin cfg0.N) (p0 : Fin 512) (p1 : Fin 2048) (q0 : Fin 8192) (q1 : Fin 2048)
    (h0 : q0.val = t.val * 512 + p0.val) (h1 : q1.val = 0 * 2048 + p1.val) :
    (iblk m c 0 t (ix2 p0 p1) : EReal) = A0 m c q0 q1 := by
  have hi := index_0 t
  unfold iblk A0
  rw [View.read_apply]
  show V m c main_v0 _ = V m c main_v0 _
  congr 1
  funext a; apply Fin.ext
  match a with
  | ⟨0, _⟩ => show win0_0.index t 0 * 512 + 1 * p0.val = q0.val; rw [hi.1, h0]; omega
  | ⟨1, _⟩ => show win0_0.index t 1 * 2048 + 1 * p1.val = q1.val; rw [hi.2, h1]; omega

/-- The array behind window 1, at an entry. -/
def A1 (c : Dev nD) (q0 : Fin 8192) (q1 : Fin 1024) : EReal := V m c main_v1 (ix2 q0 q1)

/-- The block of window 1 at each grid point. -/
theorem index_1 : ∀ t : Fin cfg0.N, win0_1.index t (0 : Fin 2) = t.val ∧ win0_1.index t (1 : Fin 2) = 0 :=
  (by decide +kernel : ∀ t : Fin grid0.N, _)

/-- The block of window 1 at point `t`, read at an entry of the array. -/
theorem iblk_1 (c : Dev nD) (t : Fin cfg0.N) (p0 : Fin 512) (p1 : Fin 1024) (q0 : Fin 8192) (q1 : Fin 1024)
    (h0 : q0.val = t.val * 512 + p0.val) (h1 : q1.val = 0 * 1024 + p1.val) :
    (iblk m c 1 t (ix2 p0 p1) : EReal) = A1 m c q0 q1 := by
  have hi := index_1 t
  unfold iblk A1
  rw [View.read_apply]
  show V m c main_v1 _ = V m c main_v1 _
  congr 1
  funext a; apply Fin.ext
  match a with
  | ⟨0, _⟩ => show win0_1.index t 0 * 512 + 1 * p0.val = q0.val; rw [hi.1, h0]; omega
  | ⟨1, _⟩ => show win0_1.index t 1 * 1024 + 1 * p1.val = q1.val; rw [hi.2, h1]; omega

/-- The array behind window 2, at an entry. -/
def A2 (c : Dev nD) (q0 : Fin 8192) (q1 : Fin 1024) : EReal := V m c main_v2 (ix2 q0 q1)

/-- The block of window 2 at each grid point. -/
theorem index_2 : ∀ t : Fin cfg0.N, win0_2.index t (0 : Fin 2) = t.val ∧ win0_2.index t (1 : Fin 2) = 0 :=
  (by decide +kernel : ∀ t : Fin grid0.N, _)

/-- The block of window 2 at point `t`, read at an entry of the array. -/
theorem iblk_2 (c : Dev nD) (t : Fin cfg0.N) (p0 : Fin 512) (p1 : Fin 1024) (q0 : Fin 8192) (q1 : Fin 1024)
    (h0 : q0.val = t.val * 512 + p0.val) (h1 : q1.val = 0 * 1024 + p1.val) :
    (iblk m c 2 t (ix2 p0 p1) : EReal) = A2 m c q0 q1 := by
  have hi := index_2 t
  unfold iblk A2
  rw [View.read_apply]
  show V m c main_v2 _ = V m c main_v2 _
  congr 1
  funext a; apply Fin.ext
  match a with
  | ⟨0, _⟩ => show win0_2.index t 0 * 512 + 1 * p0.val = q0.val; rw [hi.1, h0]; omega
  | ⟨1, _⟩ => show win0_2.index t 1 * 1024 + 1 * p1.val = q1.val; rw [hi.2, h1]; omega

/-- The array behind window 3, at an entry. -/
def A3 (c : Dev nD) (q0 : Fin 1) (q1 : Fin 2048) (q2 : Fin 2048) : EReal := V m c main_arg3 (ix3 q0 q1 q2)

/-- The block of window 3 at each grid point. -/
theorem index_3 : ∀ t : Fin cfg0.N, win0_3.index t (0 : Fin 3) = 0 ∧ win0_3.index t (1 : Fin 3) = 0 ∧ win0_3.index t (2 : Fin 3) = 0 :=
  (by decide +kernel : ∀ t : Fin grid0.N, _)

/-- The block of window 3 at point `t`, read at an entry of the array. -/
theorem iblk_3 (c : Dev nD) (t : Fin cfg0.N) (p0 : Fin 1) (p1 : Fin 2048) (p2 : Fin 2048) (q0 : Fin 1) (q1 : Fin 2048) (q2 : Fin 2048)
    (h0 : q0.val = 0 * 1 + p0.val) (h1 : q1.val = 0 * 2048 + p1.val) (h2 : q2.val = 0 * 2048 + p2.val) :
    (iblk m c 3 t (ix3 p0 p1 p2) : EReal) = A3 m c q0 q1 q2 := by
  have hi := index_3 t
  unfold iblk A3
  rw [View.read_apply]
  show V m c main_arg3 _ = V m c main_arg3 _
  congr 1
  funext a; apply Fin.ext
  match a with
  | ⟨0, _⟩ => show win0_3.index t 0 * 1 + 1 * p0.val = q0.val; rw [hi.1, h0]; omega
  | ⟨1, _⟩ => show win0_3.index t 1 * 2048 + 1 * p1.val = q1.val; rw [hi.2.1, h1]; omega
  | ⟨2, _⟩ => show win0_3.index t 2 * 2048 + 1 * p2.val = q2.val; rw [hi.2.2, h2]; omega

/-- What each point leaves: its rows' result, and the cast weights carried on. -/
theorem outsAt_eq (c : Dev nD) : ∀ (n : ℕ) (hn : n < cfg0.N),
    (∀ k C : Fin 2048, (outsAt0 m c n hn).2 (ix2 k C) = A3 m c 0 k C)
    ∧ ∀ (r : Fin 512) (R : Fin 8192) (C : Fin 2048), R.val = n * 512 + r.val →
      (outsAt0 m c n hn).1 (ix2 r C) = A0 m c R C + ∑ k : Fin 1024, A1 m c R k * A3 m c 0 ⟨k.val, by omega⟩ C
        + ∑ k : Fin 1024, A2 m c R k * A3 m c 0 ⟨1024 + k.val, by omega⟩ C := by
  intro n
  induction n with
  | zero =>
    intro hn
    have e := outsAt0_A m c ⟨0, hn⟩ rfl
    simp only at e
    rw [e, out_A_4_eq, sout_A_0_eq]
    have h1 : ∀ k C : Fin 2048, k0_pay1 (F := Ideal) (iblk m c 3 ⟨0, hn⟩) (ix2 k C) = A3 m c 0 k C := fun k C => by
      rw [pay1_apply, iblk_3 m c ⟨0, hn⟩ 0 k C 0 k C (by simp) (by simp) (by simp)]
    refine ⟨h1, fun r R C hR => ?_⟩
    dsimp only
    rw [pay2_apply, iblk_0 m c ⟨0, hn⟩ r C R C hR (by simp)]
    refine congrArg₂ (fun y z => A0 m c R C + y + z) (Finset.sum_congr rfl fun k _ => ?_) (Finset.sum_congr rfl fun k _ => ?_)
    · rw [top_apply, h1, iblk_1 m c ⟨0, hn⟩ r k R k hR (by simp)]
    · rw [bot_apply, h1, iblk_2 m c ⟨0, hn⟩ r k R k hR (by simp)]
  | succ n ih =>
    intro hn
    have hN : n + 1 < 16 := lt_of_lt_of_eq hn (show cfg0.N = 16 from N_0)
    obtain ⟨i1, -⟩ := ih (by omega)
    have e := outsAt0_B m c ⟨n + 1, hn⟩ (by simp only; omega)
    simp only [Nat.add_sub_cancel] at e
    rw [e, out_B_4_eq, sout_B_0_eq]
    refine ⟨i1, fun r R C hR => ?_⟩
    dsimp only
    rw [pay2_apply, iblk_0 m c ⟨n + 1, hn⟩ r C R C hR (by simp)]
    refine congrArg₂ (fun y z => A0 m c R C + y + z) (Finset.sum_congr rfl fun k _ => ?_) (Finset.sum_congr rfl fun k _ => ?_)
    · rw [top_apply, i1, iblk_1 m c ⟨n + 1, hn⟩ r k R k hR (by simp)]
    · rw [bot_apply, i1, iblk_2 m c ⟨n + 1, hn⟩ r k R k hR (by simp)]

/-- The array the call leaves. -/
theorem G_eq (c : Dev nD) (R : Fin 8192) (C : Fin 2048) :
    Value.G4 m c (ix2 R C) = A0 m c R C + ∑ k : Fin 1024, A1 m c R k * A3 m c 0 ⟨k.val, by omega⟩ C
        + ∑ k : Fin 1024, A2 m c R k * A3 m c 0 ⟨1024 + k.val, by omega⟩ C := by
  have hr := R.isLt
  have hc := C.isLt
  have hp : Value.pt4Of (ix2 R C) = R.val / 512 := by
    show 1 * (R.val / 512 - 0) + 1 * (C.val / 2048 - 0) = _
    omega
  have hb : Value.pt4Of (ix2 R C) < cfg0.N := by rw [hp, show cfg0.N = 16 from N_0]; omega
  have hl : Value.loc4Of (ix2 R C) = ix2 ⟨R.val % 512, by omega⟩ ⟨C.val % 2048, by omega⟩ := ext2 _ _ _ rfl rfl
  unfold Value.G4
  rw [dif_pos hb, ← Value.outsAt0_sweep m c _ hb, hl]
  exact (outsAt_eq m c _ hb).2 _ R _ (by rw [hp]; simp only; omega) |>.trans (by rw [show (⟨C.val % 2048, by omega⟩ : Fin 2048) = C from Fin.ext (Nat.mod_eq_of_lt C.isLt)])

/-- The joined rows read at batch `b`, position `s`. -/
theorem A0_eq (c : Dev nD) (R : Fin 8192) (k : Fin 2048) (b : Fin 2) (s : Fin 4096) (h : R.val = b.val * 4096 + s.val) :
    A0 m c R k = m ((c.tc : Thread nD τ).loc main_arg0) (ix3 b s k) := by
  have e : V m c main_v0 = shapeCast S8192x2048 (m ((c.tc : Thread nD τ).loc main_arg0)) shapeCasts_S2x4096x2048_S8192x2048 := by
    unfold V
    after_results_simp
    rfl
  unfold A0
  rw [e]
  refine shapeCast_apply _ _ (ix2 R k) (ix3 b s k) ?_
  rw [Shape.rowMajor_val_three, Shape.rowMajor_val_two]
  show (b.val * 4096 + s.val) * 2048 + k.val = R.val * 2048 + k.val
  omega

/-- The joined rows read at batch `b`, position `s`. -/
theorem A1_eq (c : Dev nD) (R : Fin 8192) (k : Fin 1024) (b : Fin 2) (s : Fin 4096) (h : R.val = b.val * 4096 + s.val) :
    A1 m c R k = m ((c.tc : Thread nD τ).loc main_arg1) (ix3 b s k) := by
  have e : V m c main_v1 = shapeCast S8192x1024 (m ((c.tc : Thread nD τ).loc main_arg1)) shapeCasts_S2x4096x1024_S8192x1024 := by
    unfold V
    after_results_simp
    rfl
  unfold A1
  rw [e]
  refine shapeCast_apply _ _ (ix2 R k) (ix3 b s k) ?_
  rw [Shape.rowMajor_val_three, Shape.rowMajor_val_two]
  show (b.val * 4096 + s.val) * 1024 + k.val = R.val * 1024 + k.val
  omega

/-- The joined rows read at batch `b`, position `s`. -/
theorem A2_eq (c : Dev nD) (R : Fin 8192) (k : Fin 1024) (b : Fin 2) (s : Fin 4096) (h : R.val = b.val * 4096 + s.val) :
    A2 m c R k = m ((c.tc : Thread nD τ).loc main_arg2) (ix3 b s k) := by
  have e : V m c main_v2 = shapeCast S8192x1024 (m ((c.tc : Thread nD τ).loc main_arg2)) shapeCasts_S2x4096x1024_S8192x1024 := by
    unfold V
    after_results_simp
    rfl
  unfold A2
  rw [e]
  refine shapeCast_apply _ _ (ix2 R k) (ix3 b s k) ?_
  rw [Shape.rowMajor_val_three, Shape.rowMajor_val_two]
  show (b.val * 4096 + s.val) * 1024 + k.val = R.val * 1024 + k.val
  omega

theorem A3_eq (c : Dev nD) (k : Fin 2048) (f : Fin 2048) : A3 m c 0 k f = m ((c.tc : Thread nD τ).loc main_arg3) (ix3 0 k f) := by
  unfold A3 V
  after_results_simp

open Cert.Reference6Ideal Cert.Reference6Ideal.Gen Cert.Reference6Ideal.Read in
/-- The two parts side by side, at an entry. -/
theorem ref_cat (a d : (⟨Cert.Reference6Ideal.S2x4096x1024, .bf16⟩ : BufTy).Contents (Elt Ideal)) (b : Fin 2) (s : Fin 4096) :
    (∀ k : Fin 1024, val_main_v0 (F := Ideal) a d (ix3 b s ⟨k.val, by omega⟩) = a (ix3 b s k))
    ∧ ∀ k : Fin 1024, val_main_v0 (F := Ideal) a d (ix3 b s ⟨1024 + k.val, by omega⟩) = d (ix3 b s k) := by
  constructor <;> intro k <;> unfold val_main_v0
  · pointwise
  · pointwise

open Cert.Reference6Ideal.Read in
/-- The reference's result at row `R` of the joined batch and sequence. -/
theorem ref_apply (x : (⟨S2x4096x2048, .f32⟩ : BufTy).Contents (Elt Ideal)) (a d : (⟨S2x4096x1024, .bf16⟩ : BufTy).Contents (Elt Ideal))
    (w : (⟨S1x2048x2048, .f32⟩ : BufTy).Contents (Elt Ideal)) (R : Fin 8192) (C : Fin 2048) (b : Fin 2) (s : Fin 4096)
    (h : R.val = b.val * 4096 + s.val) :
    val_main_v5 (F := Ideal) x a d w (ix2 R C) = (x (ix3 b s C) : EReal) + (∑ k : Fin 1024, (a (ix3 b s k) : EReal) * w (ix3 0 ⟨k.val, by omega⟩ C)
      + ∑ k : Fin 1024, (d (ix3 b s k) : EReal) * w (ix3 0 ⟨1024 + k.val, by omega⟩ C)) := by
  have hs := s.isLt; have hC := C.isLt; have hb' := b.isLt
  have e : idx_main_v5 (ix2 R C) = ix3 b s C := by
    refine ext3 _ _ _ _ ?_ ?_ ?_
    · show (R.val * 2048 + C.val) / 8388608 = b.val; omega
    · show (R.val * 2048 + C.val) / 2048 % 4096 = s.val; omega
    · show (R.val * 2048 + C.val) % 2048 = C.val; omega
  have e1 : ∀ k, lidx_main_v3 (ix3 b s C) k = ix3 b s k := fun k => ext3 _ _ _ _ rfl rfl rfl
  have e2 : ∀ k, idx_main_v2 (ridx_main_v3 (ix3 b s C) k) = ix3 0 k C := fun k => by
    have hk := k.isLt
    refine ext3 _ _ _ _ rfl ?_ ?_
    · show (k.val * 2048 + C.val) / 2048 % 2048 = k.val; omega
    · show (k.val * 2048 + C.val) % 2048 = C.val; omega
  obtain ⟨c1, c2⟩ := ref_cat a d b s
  rw [val_main_v5_apply, e, val_main_v4_apply, val_main_v3_apply]
  simp only [e1, val_main_v1_apply, val_main_v2_apply, e2]
  refine congrArg (fun z => (x (ix3 b s C) : EReal) + z) ?_
  refine (Fin.sum_univ_add (M := EReal) (a := 1024) (b := 1024) _).trans ?_
  refine congrArg₂ (· + ·) (Finset.sum_congr rfl fun k _ => ?_) (Finset.sum_congr rfl fun k _ => ?_)
  · exact congrArg₂ (fun y z : EReal => y * z) (c1 k) rfl
  · exact congrArg₂ (fun y z : EReal => y * z) (c2 k) rfl

/-- The kernel's array is the reference's. -/
theorem value_eq (c : Dev nD) : Value.G4 m c = Reference6Ideal.Read.val_main_v5 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨R, C, rfl⟩ : ∃ (R : Fin 8192) (C : Fin 2048), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  generalize (⟨R.val / 4096, by omega⟩ : Fin 2) = b at hb
  generalize (⟨R.val % 4096, by omega⟩ : Fin 4096) = s at hb
  rw [G_eq, ref_apply _ _ _ _ R C b s hb, ← A0_eq m c R C b s hb, add_assoc]
  refine congrArg₂ (fun y z : EReal => A0 m c R C + (y + z))
    (Finset.sum_congr rfl fun k _ => ?_) (Finset.sum_congr rfl fun k _ => ?_)
  · rw [A1_eq m c R k b s hb, A3_eq]
  · rw [A2_eq m c R k b s hb, A3_eq]

end Cert.OutProj2
end
-- ==== Proof.Ple0Block.lean ====
module

public import proofs.«01_k».proof.Proof.Gen.Kernel8Ideal.Value
public import proofs.«01_k».proof.Proof.Base

/-! The per-layer embedding of the first layer, one grid point. -/

@[expose] public section

noncomputable section

namespace Cert.Ple0

open Idealize.ShloMosaic Idealize.ShloMosaic.TcCoe Cert.Base
open Cert.Kernel8Ideal Cert.Kernel8Ideal.Gen

/-- What a point of case A leaves in the output's block. -/
theorem out_A_6_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) :
    out0_A_6 (F := Ideal) c i arg1 harg1 arg2 harg2 arg3 harg3 arg4 harg4 arg5 harg5 arg6 harg6 arg7 harg7 arg8 harg8 arg9 harg9 hc0 x0 x1 x2 x3 x4 x5 = k0_pay3 x0 x2 (k0_pay1 x3) x1 (k0_pay2 x4) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case A leaves in the carried scratch. -/
theorem sout_A_0_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) :
    sout0_A_0 (F := Ideal) c i arg1 harg1 arg2 harg2 arg3 harg3 arg4 harg4 arg5 harg5 arg6 harg6 arg7 harg7 arg8 harg8 arg9 harg9 hc0 x0 x1 x2 x3 x4 x5 = k0_pay1 x3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case A leaves in the carried scratch. -/
theorem sout_A_1_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) :
    sout0_A_1 (F := Ideal) c i arg1 harg1 arg2 harg2 arg3 harg3 arg4 harg4 arg5 harg5 arg6 harg6 arg7 harg7 arg8 harg8 arg9 harg9 hc0 x0 x1 x2 x3 x4 x5 = k0_pay2 x4 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case B leaves in the output's block. -/
theorem out_B_6_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : ¬cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) (xs0 : Vec Ideal S2048x2048 .bf16) (xs1 : Vec Ideal S256x2048 .bf16) :
    out0_B_6 (F := Ideal) c i arg1 harg1 arg2 harg2 arg3 harg3 arg4 harg4 arg5 harg5 arg6 harg6 arg7 harg7 arg8 harg8 arg9 harg9 hc0 x0 x1 x2 x3 x4 x5 xs0 xs1 = k0_pay3 x0 x2 xs0 x1 xs1 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0 xs1)]
  unfold kernelRun0_B
  dsimp only
  sl_unfold_words
  simp only [View.readAt_eq_ld, shapeCast_self, harg1.read_unread, harg2.read_unread, harg3.read_unread, harg4.read_unread, harg5.read_unread, harg6.read_unread, harg7.read_unread, harg8.read_unread, harg9.read_unread, View.ld_unit_zero (S := S1x1x2048) hz3, View.readCov_unit_zero (S := S1x1x2048) _ hz3, View.canon_unit_zero (S := S1x1x2048) hz3, View.ld_unit_zero (S := S1x2048) hz2, View.readCov_unit_zero (S := S1x2048) _ hz2, View.canon_unit_zero (S := S1x2048) hz2, View.ld_unit_zero (S := S1x2048x2048) hz3, View.readCov_unit_zero (S := S1x2048x2048) _ hz3, View.canon_unit_zero (S := S1x2048x2048) hz3, View.ld_unit_zero (S := S1x256x2048) hz3, View.readCov_unit_zero (S := S1x256x2048) _ hz3, View.canon_unit_zero (S := S1x256x2048) hz3, View.ld_unit_zero (S := S1x512x256) hz3, View.readCov_unit_zero (S := S1x512x256) _ hz3, View.canon_unit_zero (S := S1x512x256) hz3, View.ld_unit_zero (S := S2048x2048) hz2, View.readCov_unit_zero (S := S2048x2048) _ hz2, View.canon_unit_zero (S := S2048x2048) hz2, View.ld_unit_zero (S := S256x2048) hz2, View.readCov_unit_zero (S := S256x2048) _ hz2, View.canon_unit_zero (S := S256x2048) hz2, View.ld_unit_zero (S := S512x2048) hz2, View.readCov_unit_zero (S := S512x2048) _ hz2, View.canon_unit_zero (S := S512x2048) hz2]

/-- What a point of case B leaves in the carried scratch. -/
theorem sout_B_0_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : ¬cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) (xs0 : Vec Ideal S2048x2048 .bf16) (xs1 : Vec Ideal S256x2048 .bf16) :
    sout0_B_0 (F := Ideal) c i arg1 harg1 arg2 harg2 arg3 harg3 arg4 harg4 arg5 harg5 arg6 harg6 arg7 harg7 arg8 harg8 arg9 harg9 hc0 x0 x1 x2 x3 x4 x5 xs0 xs1 = xs0 := by
  unfold sout0_B_0
  rfl

/-- What a point of case B leaves in the carried scratch. -/
theorem sout_B_1_eq (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x2048 .bf16) (harg8 : arg8.IsWhole) (arg9 : Memref sig .tc .vmem S256x2048 .bf16) (harg9 : arg9.IsWhole) (hc0 : ¬cond0_0 i)
    (x0 : Vec Ideal S512x2048 .f32) (x1 : Vec Ideal S1x512x256 .f32) (x2 : Vec Ideal S1x1x2048 .f32) (x3 : Vec Ideal S1x2048x2048 .f32) (x4 : Vec Ideal S1x256x2048 .f32) (x5 : Vec Ideal S1x2048 .f32) (xs0 : Vec Ideal S2048x2048 .bf16) (xs1 : Vec Ideal S256x2048 .bf16) :
    sout0_B_1 (F := Ideal) c i arg1 harg1 arg2 harg2 arg3 harg3 arg4 harg4 arg5 harg5 arg6 harg6 arg7 harg7 arg8 harg8 arg9 harg9 hc0 x0 x1 x2 x3 x4 x5 xs0 xs1 = xs1 := by
  unfold sout0_B_1
  rfl

/-- The cast weights, at an entry. -/
theorem pay1_apply (w : Vec Ideal S1x2048x2048 .f32) (k c : Fin 2048) : k0_pay1 (F := Ideal) w (ix2 k c) = w (ix3 0 k c) := by
  unfold k0_pay1
  pointwise

theorem pay2_apply (w : Vec Ideal S1x256x2048 .f32) (k : Fin 256) (c : Fin 2048) : k0_pay2 (F := Ideal) w (ix2 k c) = w (ix3 0 k c) := by
  unfold k0_pay2
  pointwise

/-- One entry of the gated sum: the residual plus the embedding's product times the gate. -/
def mixed (x h wg : Fin 2048 → EReal) (e wp : Fin 256 → EReal) (c : Fin 2048) : EReal :=
  x c + (∑ k, e k * wp k) * Ideal.div 1 (1 + Ideal.exp (-(∑ k, h k * wg k)))

theorem pay3_apply (x : Vec Ideal S512x2048 .f32) (g : Vec Ideal S1x1x2048 .f32) (wg : Vec Ideal S2048x2048 .bf16)
    (p : Vec Ideal S1x512x256 .f32) (wp : Vec Ideal S256x2048 .bf16) (r : Fin 512) (c : Fin 2048) :
    k0_pay3 (F := Ideal) x g wg p wp (ix2 r c)
      = mixed (fun k => x (ix2 r k)) (rowNorm (fun k => x (ix2 r k)) (fun k => g (ix3 0 0 k))) (fun k => wg (ix2 k c))
          (fun k => p (ix3 0 r k)) (fun k => wp (ix2 k c)) c := by
  unfold k0_pay3
  pointwise
  rfl

end Cert.Ple0
end
-- ==== Proof.Ple0Eq.lean ====
module

public import proofs.«01_k».proof.Proof.Ple0Block
public import proofs.«01_k».proof.Proof.Gen.Reference8Ideal.Read

/-! The per-layer embedding of the first layer: the array the kernel leaves is the reference's. -/

@[expose] public section

noncomputable section

namespace Cert.Ple0

open Idealize.ShloMosaic Idealize.ShloMosaic.TcCoe Idealize.SL.Sem Cert.Base
open Cert.Kernel8Ideal Cert.Kernel8Ideal.Gen

variable (m : (ℓ : Loc nD τ sig) → Buf (Elt Ideal) ℓ)

/-- The array behind window 0, at an entry. -/
def A0 (c : Dev nD) (q0 : Fin 8192) (q1 : Fin 2048) : EReal := V m c main_v0 (ix2 q0 q1)

/-- The block of window 0 at each grid point. -/
theorem index_0 : ∀ t : Fin cfg0.N, win0_0.index t (0 : Fin 2) = t.val ∧ win0_0.index t (1 : Fin 2) = 0 :=
  (by decide +kernel : ∀ t : Fin grid0.N, _)

/-- The block of window 0 at point `t`, read at an entry of the array. -/
theorem iblk_0 (c : Dev nD) (t : Fin cfg0.N) (p0 : Fin 512) (p1 : Fin 2048) (q0 : Fin 8192) (q1 : Fin 2048)
    (h0 : q0.val = t.val * 512 + p0.val) (h1 : q1.val = 0 * 2048 + p1.val) :
    (iblk m c 0 t (ix2 p0 p1) : EReal) = A0 m c q0 q1 := by
  have hi := index_0 t
  unfold iblk A0
  rw [View.read_apply]
  show V m c main_v0 _ = V m c main_v0 _
  congr 1
  funext a; apply Fin.ext
  match a with
  | ⟨0, _⟩ => show win0_0.index t 0 * 512 + 1 * p0.val = q0.val; rw [hi.1, h0]; omega
  | ⟨1, _⟩ => show win0_0.index t 1 * 2048 + 1 * p1.val = q1.val; rw [hi.2, h1]; omega

/-- The array behind window 1, at an entry. -/
def A1 (c : Dev nD) (q0 : Fin 2) (q1 : Fin 8192) (q2 : Fin 256) : EReal := V m c main_v1 (ix3 q0 q1 q2)

/-- The block of window 1 at each grid point. -/
theorem index_1 : ∀ t : Fin cfg0.N, win0_1.index t (0 : Fin 3) = 0 ∧ win0_1.index t (1 : Fin 3) = t.val ∧ win0_1.index t (2 : Fin 3) = 0 :=
  (by decide +kernel : ∀ t : Fin grid0.N, _)

/-- The block of window 1 at point `t`, read at an entry of the array. -/
theorem iblk_1 (c : Dev nD) (t : Fin cfg0.N) (p0 : Fin 1) (p1 : Fin 512) (p2 : Fin 256) (q0 : Fin 2) (q1 : Fin 8192) (q2 : Fin 256)
    (h0 : q0.val = 0 * 1 + p0.val) (h1 : q1.val = t.val * 512 + p1.val) (h2 : q2.val = 0 * 256 + p2.val) :
    (iblk m c 1 t (ix3 p0 p1 p2) : EReal) = A1 m c q0 q1 q2 := by
  have hi := index_1 t
  unfold iblk A1
  rw [View.read_apply]
  show V m c main_v1 _ = V m c main_v1 _
  congr 1
  funext a; apply Fin.ext
  match a with
  | ⟨0, _⟩ => show win0_1.index t 0 * 1 + 1 * p0.val = q0.val; rw [hi.1, h0]; omega
  | ⟨1, _⟩ => show win0_1.index t 1 * 512 + 1 * p1.val = q1.val; rw [hi.2.1, h1]; omega
  | ⟨2, _⟩ => show win0_1.index t 2 * 256 + 1 * p2.val = q2.val; rw [hi.2.2, h2]; omega

/-- The array behind window 2, at an entry. -/
def A2 (c : Dev nD) (q0 : Fin 2) (q1 : Fin 1) (q2 : Fin 2048) : EReal := V m c main_v2 (ix3 q0 q1 q2)

/-- The block of window 2 at each grid point. -/
theorem index_2 : ∀ t : Fin cfg0.N, win0_2.index t (0 : Fin 3) = 0 ∧ win0_2.index t (1 : Fin 3) = 0 ∧ win0_2.index t (2 : Fin 3) = 0 :=
  (by decide +kernel : ∀ t : Fin grid0.N, _)

/-- The block of window 2 at point `t`, read at an entry of the array. -/
theorem iblk_2 (c : Dev nD) (t : Fin cfg0.N) (p0 : Fin 1) (p1 : Fin 1) (p2 : Fin 2048) (q0 : Fin 2) (q1 : Fin 1) (q2 : Fin 2048)
    (h0 : q0.val = 0 * 1 + p0.val) (h1 : q1.val = 0 * 1 + p1.val) (h2 : q2.val = 0 * 2048 + p2.val) :
    (iblk m c 2 t (ix3 p0 p1 p2) : EReal) = A2 m c q0 q1 q2 := by
  have hi := index_2 t
  unfold iblk A2
  rw [View.read_apply]
  show V m c main_v2 _ = V m c main_v2 _
  congr 1
  funext a; apply Fin.ext
  match a with
  | ⟨0, _⟩ => show win0_2.index t 0 * 1 + 1 * p0.val = q0.val; rw [hi.1, h0]; omega
  | ⟨1, _⟩ => show win0_2.index t 1 * 1 + 1 * p1.val = q1.val; rw [hi.2.1, h1]; omega
  | ⟨2, _⟩ => show win0_2.index t 2 * 2048 + 1 * p2.val = q2.val; rw [hi.2.2, h2]; omega

/-- The array behind window 3, at an entry. -/
def A3 (c : Dev nD) (q0 : Fin 2) (q1 : Fin 2048) (q2 : Fin 2048) : EReal := V m c main_arg3 (ix3 q0 q1 q2)

/-- The block of window 3 at each grid point. -/
theorem index_3 : ∀ t : Fin cfg0.N, win0_3.index t (0 : Fin 3) = 0 ∧ win0_3.index t (1 : Fin 3) = 0 ∧ win0_3.index t (2 : Fin 3) = 0 :=
  (by decide +kernel : ∀ t : Fin grid0.N, _)

/-- The block of window 3 at point `t`, read at an entry of the array. -/
theorem iblk_3 (c : Dev nD) (t : Fin cfg0.N) (p0 : Fin 1) (p1 : Fin 2048) (p2 : Fin 2048) (q0 : Fin 2) (q1 : Fin 2048) (q2 : Fin 2048)
    (h0 : q0.val = 0 * 1 + p0.val) (h1 : q1.val = 0 * 2048 + p1.val) (h2 : q2.val = 0 * 2048 + p2.val) :
    (iblk m c 3 t (ix3 p0 p1 p2) : EReal) = A3 m c q0 q1 q2 := by
  have hi := index_3 t
  unfold iblk A3
  rw [View.read_apply]
  show V m c main_arg3 _ = V m c main_arg3 _
  congr 1
  funext a; apply Fin.ext
  match a with
  | ⟨0, _⟩ => show win0_3.index t 0 * 1 + 1 * p0.val = q0.val; rw [hi.1, h0]; omega
  | ⟨1, _⟩ => show win0_3.index t 1 * 2048 + 1 * p1.val = q1.val; rw [hi.2.1, h1]; omega
  | ⟨2, _⟩ => show win0_3.index t 2 * 2048 + 1 * p2.val = q2.val; rw [hi.2.2, h2]; omega

/-- The array behind window 4, at an entry. -/
def A4 (c : Dev nD) (q0 : Fin 2) (q1 : Fin 256) (q2 : Fin 2048) : EReal := V m c main_arg4 (ix3 q0 q1 q2)

/-- The block of window 4 at each grid point. -/
theorem index_4 : ∀ t : Fin cfg0.N, win0_4.index t (0 : Fin 3) = 0 ∧ win0_4.index t (1 : Fin 3) = 0 ∧ win0_4.index t (2 : Fin 3) = 0 :=
  (by decide +kernel : ∀ t : Fin grid0.N, _)

/-- The block of window 4 at point `t`, read at an entry of the array. -/
theorem iblk_4 (c : Dev nD) (t : Fin cfg0.N) (p0 : Fin 1) (p1 : Fin 256) (p2 : Fin 2048) (q0 : Fin 2) (q1 : Fin 256) (q2 : Fin 2048)
    (h0 : q0.val = 0 * 1 + p0.val) (h1 : q1.val = 0 * 256 + p1.val) (h2 : q2.val = 0 * 2048 + p2.val) :
    (iblk m c 4 t (ix3 p0 p1 p2) : EReal) = A4 m c q0 q1 q2 := by
  have hi := index_4 t
  unfold iblk A4
  rw [View.read_apply]
  show V m c main_arg4 _ = V m c main_arg4 _
  congr 1
  funext a; apply Fin.ext
  match a with
  | ⟨0, _⟩ => show win0_4.index t 0 * 1 + 1 * p0.val = q0.val; rw [hi.1, h0]; omega
  | ⟨1, _⟩ => show win0_4.index t 1 * 256 + 1 * p1.val = q1.val; rw [hi.2.1, h1]; omega
  | ⟨2, _⟩ => show win0_4.index t 2 * 2048 + 1 * p2.val = q2.val; rw [hi.2.2, h2]; omega

/-- Row `R` of the result. -/
def row (c : Dev nD) (R : Fin 8192) (C : Fin 2048) : EReal :=
  mixed (fun k => A0 m c R k) (rowNorm (fun k => A0 m c R k) (fun k => A2 m c 0 0 k)) (fun k => A3 m c 0 k C)
    (fun k => A1 m c 0 R k) (fun k => A4 m c 0 k C) C

/-- A point's block of the result, over the weights it reads. -/
theorem block_eq (c : Dev nD) (t : Fin cfg0.N) (wg : Vec Ideal S2048x2048 .bf16) (wp : Vec Ideal S256x2048 .bf16)
    (hg : ∀ k C : Fin 2048, wg (ix2 k C) = A3 m c 0 k C) (hp : ∀ (k : Fin 256) (C : Fin 2048), wp (ix2 k C) = A4 m c 0 k C)
    (r : Fin 512) (R : Fin 8192) (C : Fin 2048) (hR : R.val = t.val * 512 + r.val) :
    k0_pay3 (F := Ideal) (iblk m c 0 t) (iblk m c 2 t) wg (iblk m c 1 t) wp (ix2 r C) = row m c R C := by
  have e0 : (fun k => (iblk m c 0 t (ix2 r k) : EReal)) = fun k => A0 m c R k :=
    funext fun k => iblk_0 m c t r k R k hR (by simp)
  have e2 : (fun k => (iblk m c 2 t (ix3 0 0 k) : EReal)) = fun k => A2 m c 0 0 k :=
    funext fun k => iblk_2 m c t 0 0 k 0 0 k (by simp) (by simp) (by simp)
  have e1 : (fun k => (iblk m c 1 t (ix3 0 r k) : EReal)) = fun k => A1 m c 0 R k :=
    funext fun k => iblk_1 m c t 0 r k 0 R k (by simp) hR (by simp)
  rw [pay3_apply]
  unfold row
  have eg : (fun k => wg (ix2 k C)) = fun k => A3 m c 0 k C := funext fun k => hg k C
  have ep : (fun k => wp (ix2 k C)) = fun k => A4 m c 0 k C := funext fun k => hp k C
  rw [eg, ep]
  refine (congrArg (fun x => mixed x (rowNorm x (fun k => (iblk m c 2 t (ix3 0 0 k) : EReal))) (fun k => A3 m c 0 k C)
    (fun k => (iblk m c 1 t (ix3 0 r k) : EReal)) (fun k => A4 m c 0 k C) C) e0).trans ?_
  exact congrArg₂ (fun g e => mixed (fun k => A0 m c R k) (rowNorm (fun k => A0 m c R k) g) (fun k => A3 m c 0 k C) e
    (fun k => A4 m c 0 k C) C) e2 e1

/-- What each point leaves: its rows' result, and the two cast weights carried on. -/
theorem outsAt_eq (c : Dev nD) : ∀ (n : ℕ) (hn : n < cfg0.N),
    (∀ k C : Fin 2048, (outsAt0 m c n hn).2.1 (ix2 k C) = A3 m c 0 k C)
    ∧ (∀ (k : Fin 256) (C : Fin 2048), (outsAt0 m c n hn).2.2 (ix2 k C) = A4 m c 0 k C)
    ∧ ∀ (r : Fin 512) (R : Fin 8192) (C : Fin 2048), R.val = n * 512 + r.val →
      (outsAt0 m c n hn).1 (ix2 r C) = row m c R C := by
  intro n
  induction n with
  | zero =>
    intro hn
    have e := outsAt0_A m c ⟨0, hn⟩ rfl
    simp only at e
    rw [e, out_A_6_eq, sout_A_0_eq, sout_A_1_eq]
    have h1 : ∀ k C : Fin 2048, k0_pay1 (F := Ideal) (iblk m c 3 ⟨0, hn⟩) (ix2 k C) = A3 m c 0 k C := fun k C => by
      rw [pay1_apply, iblk_3 m c ⟨0, hn⟩ 0 k C 0 k C (by simp) (by simp) (by simp)]
    have h2 : ∀ (k : Fin 256) (C : Fin 2048), k0_pay2 (F := Ideal) (iblk m c 4 ⟨0, hn⟩) (ix2 k C) = A4 m c 0 k C := fun k C => by
      rw [pay2_apply, iblk_4 m c ⟨0, hn⟩ 0 k C 0 k C (by simp) (by simp) (by simp)]
    exact ⟨h1, h2, fun r R C hR => block_eq m c ⟨0, hn⟩ _ _ h1 h2 r R C hR⟩
  | succ n ih =>
    intro hn
    have hN : n + 1 < 16 := lt_of_lt_of_eq hn (show cfg0.N = 16 from N_0)
    obtain ⟨i1, i2, -⟩ := ih (by omega)
    have e := outsAt0_B m c ⟨n + 1, hn⟩ (by simp only; omega)
    simp only [Nat.add_sub_cancel] at e
    rw [e, out_B_6_eq, sout_B_0_eq, sout_B_1_eq]
    exact ⟨i1, i2, fun r R C hR => block_eq m c ⟨n + 1, hn⟩ _ _ i1 i2 r R C hR⟩

/-- The array the call leaves. -/
theorem G_eq (c : Dev nD) (R : Fin 8192) (C : Fin 2048) :
    Value.G6 m c (ix2 R C) = row m c R C := by
  have hr := R.isLt
  have hc := C.isLt
  have hp : Value.pt6Of (ix2 R C) = R.val / 512 := by
    show 1 * (R.val / 512 - 0) + 1 * (C.val / 2048 - 0) = _
    omega
  have hb : Value.pt6Of (ix2 R C) < cfg0.N := by rw [hp, show cfg0.N = 16 from N_0]; omega
  have hl : Value.loc6Of (ix2 R C) = ix2 ⟨R.val % 512, by omega⟩ ⟨C.val % 2048, by omega⟩ := ext2 _ _ _ rfl rfl
  unfold Value.G6
  rw [dif_pos hb, ← Value.outsAt0_sweep m c _ hb, hl]
  exact (outsAt_eq m c _ hb).2.2 _ R _ (by rw [hp]; simp only; omega) |>.trans (by rw [show (⟨C.val % 2048, by omega⟩ : Fin 2048) = C from Fin.ext (Nat.mod_eq_of_lt C.isLt)])

/-- The joined rows read at batch `b`, position `s`. -/
theorem A0_eq (c : Dev nD) (R : Fin 8192) (k : Fin 2048) (b : Fin 2) (s : Fin 4096) (h : R.val = b.val * 4096 + s.val) :
    A0 m c R k = m ((c.tc : Thread nD τ).loc main_arg0) (ix3 b s k) := by
  have e : V m c main_v0 = shapeCast S8192x2048 (m ((c.tc : Thread nD τ).loc main_arg0)) shapeCasts_S2x4096x2048_S8192x2048 := by
    unfold V
    after_results_simp
    rfl
  unfold A0
  rw [e]
  refine shapeCast_apply _ _ (ix2 R k) (ix3 b s k) ?_
  rw [Shape.rowMajor_val_three, Shape.rowMajor_val_two]
  show (b.val * 4096 + s.val) * 2048 + k.val = R.val * 2048 + k.val
  omega

theorem A2_eq (c : Dev nD) (k : Fin 2048) : A2 m c 0 0 k = m ((c.tc : Thread nD τ).loc main_arg2) (ix2 0 k) := by
  have e : V m c main_v2 = shapeCast S2x1x2048 (m ((c.tc : Thread nD τ).loc main_arg2)) shapeCasts_S2x2048_S2x1x2048 := by
    unfold V
    after_results_simp
    rfl
  unfold A2
  rw [e]
  refine shapeCast_apply _ _ (ix3 0 0 k) (ix2 0 k) ?_
  rw [Shape.rowMajor_val_three, Shape.rowMajor_val_two]
  rfl

theorem A3_eq (c : Dev nD) (k : Fin 2048) (f : Fin 2048) : A3 m c 0 k f = m ((c.tc : Thread nD τ).loc main_arg3) (ix3 0 k f) := by
  unfold A3 V
  after_results_simp

theorem A4_eq (c : Dev nD) (k : Fin 256) (f : Fin 2048) : A4 m c 0 k f = m ((c.tc : Thread nD τ).loc main_arg4) (ix3 0 k f) := by
  unfold A4 V
  after_results_simp

/-- The first layer's embedding read at batch `b`, position `s`. -/
theorem A1_eq (c : Dev nD) (R : Fin 8192) (k : Fin 256) (b : Fin 2) (s : Fin 4096) (h : R.val = b.val * 4096 + s.val) :
    A1 m c 0 R k = m ((c.tc : Thread nD τ).loc main_arg1) (ix4 0 b s k) := by
  have e : V m c main_v1 = shapeCast S2x8192x256 (m ((c.tc : Thread nD τ).loc main_arg1)) shapeCasts_S2x2x4096x256_S2x8192x256 := by
    unfold V
    after_results_simp
    rfl
  unfold A1
  rw [e]
  refine shapeCast_apply _ _ (ix3 0 R k) (ix4 0 b s k) ?_
  rw [Shape.rowMajor_val_three, Shape.rowMajor_val_four]
  show ((0 * 2 + b.val) * 4096 + s.val) * 256 + k.val = (0 * 8192 + R.val) * 256 + k.val
  omega

open Cert.Reference8Ideal.Read in
/-- The reference's normalised row, at an entry. -/
theorem ref_norm (x : (⟨S2x4096x2048, .f32⟩ : BufTy).Contents (Elt Ideal)) (g : (⟨S2x2048, .f32⟩ : BufTy).Contents (Elt Ideal))
    (b : Fin 2) (s : Fin 4096) (k : Fin 2048) :
    val_main_v14 (F := Ideal) x g (ix3 b s k) = rowNorm (fun k => x (ix3 b s k)) (fun k => g (ix2 0 k)) k := by
  have e0 : ∀ q, idx_main_v3 (idx_main_v4 (idx_main_v10 (ix3 b s k))) q = ix3 b s q := fun q => ext3 _ _ _ _ rfl rfl rfl
  have e1 : idx_main_v0 (idx_main_v1 (idx_main_v12 (idx_main_v13 (ix3 b s k)))) = ix2 0 k :=
    ext2 _ _ _ rfl (Nat.mod_eq_of_lt k.isLt)
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, e0, e1]
  rw [show (FloatOps.ofBits FTy.f32 0#32 : Ideal FTy.f32) = 0 from zero_eq, zero_add]
  rfl

section
open Cert.Reference8Ideal.Read

variable (x : (⟨S2x4096x2048, .f32⟩ : BufTy).Contents (Elt Ideal)) (p : (⟨S2x2x4096x256, .f32⟩ : BufTy).Contents (Elt Ideal))
  (g : (⟨S2x2048, .f32⟩ : BufTy).Contents (Elt Ideal)) (wg : (⟨S2x2048x2048, .f32⟩ : BufTy).Contents (Elt Ideal))
  (wp : (⟨S2x256x2048, .f32⟩ : BufTy).Contents (Elt Ideal))

/-- The reference's gated sum, at an entry. -/
theorem ref_mixed (b : Fin 2) (s : Fin 4096) (C : Fin 2048) :
    val_main_v30 (F := Ideal) x p g wg wp (ix3 b s C)
      = mixed (fun k => x (ix3 b s k)) (rowNorm (fun k => x (ix3 b s k)) (fun k => g (ix2 0 k))) (fun k => wg (ix3 0 k C))
          (fun k => p (ix4 0 b s k)) (fun k => wp (ix3 0 k C)) C := by
  have hs := s.isLt; have hC := C.isLt; have hb := b.isLt
  have a1 : ∀ k, lidx_main_v17 (ix3 b s C) k = ix3 b s k := fun k => ext3 _ _ _ _ rfl rfl rfl
  have a2 : ∀ k, idx_main_v15 (idx_main_v16 (ridx_main_v17 (ix3 b s C) k)) = ix3 0 k C := fun k => by
    have hk := k.isLt
    refine ext3 _ _ _ _ rfl ?_ ?_
    · show (k.val * 2048 + C.val) / 2048 % 2048 = k.val; omega
    · show (k.val * 2048 + C.val) % 2048 = C.val; omega
  have a3 : ∀ k, idx_main_v24 (idx_main_v25 (lidx_main_v28 (ix3 b s C) k)) = ix4 0 b s k := fun k => by
    have hk := k.isLt
    refine ext4 _ _ _ _ _ rfl ?_ ?_ ?_
    · show ((b.val * 4096 + s.val) * 256 + k.val) / 1048576 % 2 = b.val; omega
    · show ((b.val * 4096 + s.val) * 256 + k.val) / 256 % 4096 = s.val; omega
    · show ((b.val * 4096 + s.val) * 256 + k.val) % 256 = k.val; omega
  have a4 : ∀ k, idx_main_v26 (idx_main_v27 (ridx_main_v28 (ix3 b s C) k)) = ix3 0 k C := fun k => by
    have hk := k.isLt
    refine ext3 _ _ _ _ rfl ?_ ?_
    · show (k.val * 2048 + C.val) / 2048 % 256 = k.val; omega
    · show (k.val * 2048 + C.val) % 2048 = C.val; omega
  simp only [val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_cst_2_apply,
    val_main_cst_3_apply, a1, a2, a3, a4, ref_norm]
  rw [show (FloatOps.ofBits FTy.f32 1065353216#32 : Ideal FTy.f32) = 1 from one_eq]
  rfl

/-- The reference's result at row `R` of the joined batch and sequence. -/
theorem ref_apply (R : Fin 8192) (C : Fin 2048) (b : Fin 2) (s : Fin 4096) (h : R.val = b.val * 4096 + s.val) :
    val_main_v31 (F := Ideal) x p g wg wp (ix2 R C)
      = mixed (fun k => x (ix3 b s k)) (rowNorm (fun k => x (ix3 b s k)) (fun k => g (ix2 0 k)))
          (fun k => wg (ix3 0 k C)) (fun k => p (ix4 0 b s k)) (fun k => wp (ix3 0 k C)) C := by
  have hs := s.isLt; have hC := C.isLt; have hb' := b.isLt
  have e : idx_main_v31 (ix2 R C) = ix3 b s C := by
    refine ext3 _ _ _ _ ?_ ?_ ?_
    · show (R.val * 2048 + C.val) / 8388608 = b.val; omega
    · show (R.val * 2048 + C.val) / 2048 % 4096 = s.val; omega
    · show (R.val * 2048 + C.val) % 2048 = C.val; omega
  rw [val_main_v31_apply, e, ref_mixed]

end

/-- The kernel's array is the reference's. -/
theorem value_eq (c : Dev nD) : Value.G6 m c = Reference8Ideal.Read.val_main_v31 (F := Ideal) (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4)) := by
  funext i
  obtain ⟨R, C, rfl⟩ : ∃ (R : Fin 8192) (C : Fin 2048), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  generalize (⟨R.val / 4096, by omega⟩ : Fin 2) = b at hb
  generalize (⟨R.val % 4096, by omega⟩ : Fin 4096) = s at hb
  rw [G_eq, ref_apply _ _ _ _ _ R C b s hb]
  have e0 : (fun k => A0 m c R k) = fun k => (m ((c.tc : Thread nD τ).loc main_arg0)) (ix3 b s k) := funext fun k => A0_eq m c R k b s hb
  have e1 : (fun k => A1 m c 0 R k) = fun k => (m ((c.tc : Thread nD τ).loc main_arg1)) (ix4 0 b s k) := funext fun k => A1_eq m c R k b s hb
  have e2 : (fun k => A2 m c 0 0 k) = fun k => (m ((c.tc : Thread nD τ).loc main_arg2)) (ix2 0 k) := funext fun k => A2_eq m c k
  have e3 : ∀ q, (fun k => A3 m c 0 k q) = fun k => (m ((c.tc : Thread nD τ).loc main_arg3)) (ix3 0 k q) := fun q => funext fun k => A3_eq m c k q
  have e4 : ∀ q, (fun k => A4 m c 0 k q) = fun k => (m ((c.tc : Thread nD τ).loc main_arg4)) (ix3 0 k q) := fun q => funext fun k => A4_eq m c k q
  unfold row
  rw [e0, e1, e2, e3, e4]

end Cert.Ple0
end
-- ==== Proof.AbProjSkel.lean ====
module

public import proofs.«01_k».proof.Proof.Gen.Kernel7Ideal.Frame

/-! The even layer's norm and input projection: the body as memory operations over named values. -/

@[expose] public section

set_option maxRecDepth 16384

noncomputable section

namespace Cert.AbProj

open Idealize.ShloMosaic Idealize.SL.Sem
open Cert.Kernel7Ideal Cert.Kernel7Ideal.Gen

variable {F : FTy → Type} [FloatOps F]
/-! ## `cc0_ab_proj` -/

/-- A value the body stores or hands on. -/
noncomputable def k0_pay1 (v69 : FVec F S1024x128 .f32) : FVec F S1024x128 .f32 :=
  have v72 : FVec F S1024x128 .f32 := shapeCast S1024x128 v69 shapeCasts_S1024x128_S1024x128
  v72

/-- A value the body stores or hands on. -/
noncomputable def k0_pay2 (v73 : Vec F S1024x2048 .bf16) (v74 : Vec F S1x2048x512 .f32) : FVec F S1024x512 .f32 :=
  have v75 : FVec F S2048x512 .f32 := shapeCast S2048x512 v74 shapeCasts_S1x2048x512_S2048x512
  have v76 : FVec F S2048x512 .bf16 := truncf .bf16 v75 bitsLt_bf16_f32
  have cst_37 : FVec F S1024x512 .f32 := constant S1024x512 .f32 0x00000000#32
  have v77 : FVec F S1024x512 .f32 := matmul dot_S1024x2048_S2048x512_S1024x512_1_0_0_1_n_n none v73 v76 cst_37
  v77

/-- A value the body stores or hands on. -/
noncomputable def k0_pay3 (v34 : Vec F S1024x2048 .bf16) (v35 : Vec F S1x2048x512 .f32) : FVec F S1024x512 .f32 :=
  have v36 : FVec F S2048x512 .f32 := shapeCast S2048x512 v35 shapeCasts_S1x2048x512_S2048x512
  have v37 : FVec F S2048x512 .bf16 := truncf .bf16 v36 bitsLt_bf16_f32
  have cst : FVec F S1024x512 .f32 := constant S1024x512 .f32 0x00000000#32
  have v38 : FVec F S1024x512 .f32 := matmul dot_S1024x2048_S2048x512_S1024x512_1_0_0_1_n_n none v34 v37 cst
  v38

/-- A value the body stores or hands on. -/
noncomputable def k0_pay4 (v39 : Vec F S1024x128 .f32) (v40 : Vec F S1024x128 .f32) (v50 : FVec F S1024x128 .f32) (v59 : FVec F S1024x128 .f32) (v68 : FVec F S1024x128 .f32) (v69 : FVec F S1024x128 .f32) (v71 : IVec S1024x128 1) (v72 : FVec F S1024x128 .f32) : FVec F S1024x512 .bf16 :=
  have v73 : FVec F S1024x128 .f32 := dynamicRotate 1 16#32 none v69 rotates_S1024x128_d1
  have v74 : FVec F S1024x128 .f32 := select v71 v72 v73
  have v75 : FVec F S1024x128 .f32 := mulf v69 v39
  have v76 : FVec F S1024x128 .f32 := mulf v74 v40
  have v77 : FVec F S1024x128 .f32 := addf v75 v76
  have v78 : FVec F S1024x512 .f32 := concatenate S1024x512 1 [⟨S1024x128, v50⟩, ⟨S1024x128, v59⟩, ⟨S1024x128, v68⟩, ⟨S1024x128, v77⟩] concatenates_S1024x128_S1024x128_S1024x128_S1024x128_S1024x512_d1
  have cst_32 : F .f32 := Scalar.ofBits .f32 0x3E0293EE#32
  have v79 : FVec F S1024x512 .f32 := broadcast S1024x512 cst_32
  have v80 : FVec F S1024x512 .f32 := mulf v78 v79
  have v81 : FVec F S1024x512 .bf16 := truncf .bf16 v80 bitsLt_bf16_f32
  v81

/-- A value the body stores or hands on. -/
noncomputable def k0_pay6 (v39 : Vec F S1024x128 .f32) (v40 : Vec F S1024x128 .f32) (v50 : FVec F S1024x128 .f32) (v59 : FVec F S1024x128 .f32) (v68 : FVec F S1024x128 .f32) (v69 : FVec F S1024x128 .f32) (v71 : IVec S1024x128 1) (v72 : FVec F S1024x128 .f32) : FVec F S1024x512 .bf16 :=
  have v73 : FVec F S1024x128 .f32 := dynamicRotate 1 16#32 none v69 rotates_S1024x128_d1
  have v74 : FVec F S1024x128 .f32 := select v71 v72 v73
  have v75 : FVec F S1024x128 .f32 := mulf v69 v39
  have v76 : FVec F S1024x128 .f32 := mulf v74 v40
  have v77 : FVec F S1024x128 .f32 := addf v75 v76
  have v78 : FVec F S1024x512 .f32 := concatenate S1024x512 1 [⟨S1024x128, v50⟩, ⟨S1024x128, v59⟩, ⟨S1024x128, v68⟩, ⟨S1024x128, v77⟩] concatenates_S1024x128_S1024x128_S1024x128_S1024x128_S1024x512_d1
  have v79 : FVec F S1024x512 .bf16 := truncf .bf16 v78 bitsLt_bf16_f32
  v79

/-- A value the body stores or hands on. -/
noncomputable def k0_pay8 (v34 : Vec F S1024x2048 .bf16) (v35 : Vec F S1x2048x512 .f32) : FVec F S1024x512 .bf16 :=
  have v36 : FVec F S2048x512 .f32 := shapeCast S2048x512 v35 shapeCasts_S1x2048x512_S2048x512
  have v37 : FVec F S2048x512 .bf16 := truncf .bf16 v36 bitsLt_bf16_f32
  have cst : FVec F S1024x512 .f32 := constant S1024x512 .f32 0x00000000#32
  have v38 : FVec F S1024x512 .f32 := matmul dot_S1024x2048_S2048x512_S1024x512_1_0_0_1_n_n none v34 v37 cst
  have v39 : FVec F S1024x512 .bf16 := truncf .bf16 v38 bitsLt_bf16_f32
  v39

/-- A value the body stores or hands on. -/
noncomputable def k0_pay10 (v34 : Vec F S1024x2048 .f32) (v36 : Vec F S1x1x2048 .f32) : FVec F S1024x2048 .bf16 :=
  have v35 : FVec F S1024x2048 .f32 := shapeCast S1024x2048 v34 shapeCasts_S1024x2048_S1024x2048
  have v37 : FVec F S1x2048 .f32 := shapeCast S1x2048 v36 shapeCasts_S1x1x2048_S1x2048
  have v38 : FVec F S1024x2048 .f32 := mulf v35 v35
  have v39 : FVec F S1024 .f32 := multiReduction .add [1] S1024 v38 0x00000000#32 reduces_S1024x2048_S1024 (.inl rfl) rfl
  have v40 : FVec F S1024x1 .f32 := shapeCast S1024x1 v39 shapeCasts_S1024_S1024x1
  have cst_18 : F .f32 := Scalar.ofBits .f32 0x45000000#32
  have v41 : FVec F S1024x1 .f32 := broadcast S1024x1 cst_18
  have v42 : FVec F S1024x1 .f32 := divf v40 v41
  have cst_19 : F .f32 := Scalar.ofBits .f32 0x358637BD#32
  have v43 : FVec F S1024x1 .f32 := broadcast S1024x1 cst_19
  have v44 : FVec F S1024x1 .f32 := addf v42 v43
  have v45 : FVec F S1024x1 .f32 := rsqrt v44
  have v46 : FVec F S1024x2048 .f32 := broadcastTo S1024x2048 v45 broadcasts_S1024x1_S1024x2048
  have v47 : FVec F S1024x2048 .f32 := mulf v35 v46
  have v48 : FVec F S1024x2048 .f32 := broadcastTo S1024x2048 v37 broadcasts_S1x2048_S1024x2048
  have v49 : FVec F S1024x2048 .f32 := mulf v47 v48
  have v50 : FVec F S1024x2048 .bf16 := truncf .bf16 v49 bitsLt_bf16_f32
  have v53 : FVec F S1024x2048 .bf16 := shapeCast S1024x2048 v50 shapeCasts_S1024x2048_S1024x2048
  v53

/-- A value the body stores or hands on. -/
noncomputable def k0_pay11 (v54 : Vec F S1024x1 .f32) (v56 : Vec F S1x128 .f32) : FVec F S1024x128 .f32 :=
  have v55 : FVec F S1024x1 .f32 := shapeCast S1024x1 v54 shapeCasts_S1024x1_S1024x1
  have v57 : FVec F S1x128 .f32 := shapeCast S1x128 v56 shapeCasts_S1x128_S1x128
  have v58 : FVec F S1024x128 .f32 := broadcastTo S1024x128 v55 broadcasts_S1024x1_S1024x128
  have v59 : FVec F S1024x128 .f32 := broadcastTo S1024x128 v57 broadcasts_S1x128_S1024x128
  have v60 : FVec F S1024x128 .f32 := mulf v58 v59
  v60

/-- A value the body stores or hands on. -/
noncomputable def k0_pay12 (v54 : Vec F S1024x1 .f32) (v56 : Vec F S1x128 .f32) : FVec F S1024x128 .f32 :=
  have v61 : FVec F S1024x128 .f32 := cos (k0_pay11 v54 v56)
  have v64 : FVec F S1024x128 .f32 := shapeCast S1024x128 v61 shapeCasts_S1024x128_S1024x128
  v64

/-- A value the body stores or hands on. -/
noncomputable def k0_pay13 (v54 : Vec F S1024x1 .f32) (v56 : Vec F S1x128 .f32) (v66 : Vec F S1x128 .f32) : FVec F S1024x128 .f32 :=
  have v65 : FVec F S1024x128 .f32 := sin (k0_pay11 v54 v56)
  have v67 : FVec F S1x128 .f32 := shapeCast S1x128 v66 shapeCasts_S1x128_S1x128
  have v68 : FVec F S1024x128 .f32 := broadcastTo S1024x128 v67 broadcasts_S1x128_S1024x128
  have v69 : FVec F S1024x128 .f32 := mulf v65 v68
  v69

/-- A value the body stores or hands on. -/
noncomputable def k0_pay14 (v34 : Vec F S1024x2048 .bf16) (v35 : Vec F S1x2048x512 .f32) : FVec F S1024x512 .f32 :=
  have v36 : FVec F S2048x512 .f32 := shapeCast S2048x512 v35 shapeCasts_S1x2048x512_S2048x512
  have v37 : FVec F S2048x512 .bf16 := truncf .bf16 v36 bitsLt_bf16_f32
  have cst : FVec F S1024x512 .f32 := constant S1024x512 .f32 0x00000000#32
  have v38 : FVec F S1024x512 .f32 := matmul dot_S1024x2048_S2048x512_S1024x512_1_0_0_1_n_n none v34 v37 cst
  v38

/-- A value the body stores or hands on. -/
noncomputable def k0_pay15 (v34 : Vec F S1024x2048 .bf16) (v35 : Vec F S1x2048x512 .f32) (v39 : Vec F S1024x128 .f32) (v40 : Vec F S1024x128 .f32) : FVec F S1024x128 .f32 :=
  have v41 : IVec S1024x128 32 := iota .tc S1024x128 32 [1] iota_S1024x128_d1_w32
  have v42 : FVec F S1024x128 .f32 := extractStridedSlice S1024x128 ![0, 0] (k0_pay14 v34 v35) slices_S1024x512_o0_0_S1024x128
  have v43 : IVec S1024x128 32 := broadcast S1024x128 16#32
  have v44 : IVec S1024x128 1 := cmpi .slt v41 v43
  have v45 : FVec F S1024x128 .f32 := dynamicRotate 1 112#32 none v42 rotates_S1024x128_d1
  have v46 : FVec F S1024x128 .f32 := dynamicRotate 1 16#32 none v42 rotates_S1024x128_d1
  have v47 : FVec F S1024x128 .f32 := select v44 v45 v46
  have v48 : FVec F S1024x128 .f32 := mulf v42 v39
  have v49 : FVec F S1024x128 .f32 := mulf v47 v40
  have v50 : FVec F S1024x128 .f32 := addf v48 v49
  v50

/-- A value the body stores or hands on. -/
noncomputable def k0_pay16 (v34 : Vec F S1024x2048 .bf16) (v35 : Vec F S1x2048x512 .f32) (v39 : Vec F S1024x128 .f32) (v40 : Vec F S1024x128 .f32) : FVec F S1024x128 .f32 :=
  have v41 : IVec S1024x128 32 := iota .tc S1024x128 32 [1] iota_S1024x128_d1_w32
  have v51 : FVec F S1024x128 .f32 := extractStridedSlice S1024x128 ![0, 128] (k0_pay14 v34 v35) slices_S1024x512_o0_128_S1024x128
  have v52 : IVec S1024x128 32 := broadcast S1024x128 16#32
  have v53 : IVec S1024x128 1 := cmpi .slt v41 v52
  have v54 : FVec F S1024x128 .f32 := dynamicRotate 1 112#32 none v51 rotates_S1024x128_d1
  have v55 : FVec F S1024x128 .f32 := dynamicRotate 1 16#32 none v51 rotates_S1024x128_d1
  have v56 : FVec F S1024x128 .f32 := select v53 v54 v55
  have v57 : FVec F S1024x128 .f32 := mulf v51 v39
  have v58 : FVec F S1024x128 .f32 := mulf v56 v40
  have v59 : FVec F S1024x128 .f32 := addf v57 v58
  v59

/-- A value the body stores or hands on. -/
noncomputable def k0_pay17 (v34 : Vec F S1024x2048 .bf16) (v35 : Vec F S1x2048x512 .f32) (v39 : Vec F S1024x128 .f32) (v40 : Vec F S1024x128 .f32) : FVec F S1024x128 .f32 :=
  have v41 : IVec S1024x128 32 := iota .tc S1024x128 32 [1] iota_S1024x128_d1_w32
  have v60 : FVec F S1024x128 .f32 := extractStridedSlice S1024x128 ![0, 256] (k0_pay14 v34 v35) slices_S1024x512_o0_256_S1024x128
  have v61 : IVec S1024x128 32 := broadcast S1024x128 16#32
  have v62 : IVec S1024x128 1 := cmpi .slt v41 v61
  have v63 : FVec F S1024x128 .f32 := dynamicRotate 1 112#32 none v60 rotates_S1024x128_d1
  have v64 : FVec F S1024x128 .f32 := dynamicRotate 1 16#32 none v60 rotates_S1024x128_d1
  have v65 : FVec F S1024x128 .f32 := select v62 v63 v64
  have v66 : FVec F S1024x128 .f32 := mulf v60 v39
  have v67 : FVec F S1024x128 .f32 := mulf v65 v40
  have v68 : FVec F S1024x128 .f32 := addf v66 v67
  v68

/-- A value the body stores or hands on. -/
noncomputable def k0_pay18 (v34 : Vec F S1024x2048 .bf16) (v35 : Vec F S1x2048x512 .f32) : FVec F S1024x128 .f32 :=
  have v69 : FVec F S1024x128 .f32 := extractStridedSlice S1024x128 ![0, 384] (k0_pay14 v34 v35) slices_S1024x512_o0_384_S1024x128
  v69

/-- A value the body stores or hands on. -/
noncomputable def k0_pay19 : IVec S1024x128 1 :=
  have v41 : IVec S1024x128 32 := iota .tc S1024x128 32 [1] iota_S1024x128_d1_w32
  have v70 : IVec S1024x128 32 := broadcast S1024x128 16#32
  have v71 : IVec S1024x128 1 := cmpi .slt v41 v70
  v71

/-- A value the body stores or hands on. -/
noncomputable def k0_pay20 (v34 : Vec F S1024x2048 .bf16) (v35 : Vec F S1x2048x512 .f32) : FVec F S1024x128 .f32 :=
  have v72 : FVec F S1024x128 .f32 := dynamicRotate 1 112#32 none (k0_pay18 v34 v35) rotates_S1024x128_d1
  v72

/-- A value the body stores or hands on. -/
noncomputable def k0_pay21 (v34 : Vec F S1024x2048 .bf16) (v35 : Vec F S1x2048x512 .f32) : FVec F S1024x512 .f32 :=
  have v36 : FVec F S2048x512 .f32 := shapeCast S2048x512 v35 shapeCasts_S1x2048x512_S2048x512
  have v37 : FVec F S2048x512 .bf16 := truncf .bf16 v36 bitsLt_bf16_f32
  have cst : FVec F S1024x512 .f32 := constant S1024x512 .f32 0x00000000#32
  have v38 : FVec F S1024x512 .f32 := matmul dot_S1024x2048_S2048x512_S1024x512_1_0_0_1_n_n none v34 v37 cst
  v38

/-- A value the body stores or hands on. -/
noncomputable def k0_pay22 (v34 : Vec F S1024x2048 .bf16) (v35 : Vec F S1x2048x512 .f32) (v39 : Vec F S1024x128 .f32) (v40 : Vec F S1024x128 .f32) : FVec F S1024x128 .f32 :=
  have v41 : IVec S1024x128 32 := iota .tc S1024x128 32 [1] iota_S1024x128_d1_w32
  have v42 : FVec F S1024x128 .f32 := extractStridedSlice S1024x128 ![0, 0] (k0_pay21 v34 v35) slices_S1024x512_o0_0_S1024x128
  have v43 : IVec S1024x128 32 := broadcast S1024x128 16#32
  have v44 : IVec S1024x128 1 := cmpi .slt v41 v43
  have v45 : FVec F S1024x128 .f32 := dynamicRotate 1 112#32 none v42 rotates_S1024x128_d1
  have v46 : FVec F S1024x128 .f32 := dynamicRotate 1 16#32 none v42 rotates_S1024x128_d1
  have v47 : FVec F S1024x128 .f32 := select v44 v45 v46
  have v48 : FVec F S1024x128 .f32 := mulf v42 v39
  have v49 : FVec F S1024x128 .f32 := mulf v47 v40
  have v50 : FVec F S1024x128 .f32 := addf v48 v49
  v50

/-- A value the body stores or hands on. -/
noncomputable def k0_pay23 (v34 : Vec F S1024x2048 .bf16) (v35 : Vec F S1x2048x512 .f32) (v39 : Vec F S1024x128 .f32) (v40 : Vec F S1024x128 .f32) : FVec F S1024x128 .f32 :=
  have v41 : IVec S1024x128 32 := iota .tc S1024x128 32 [1] iota_S1024x128_d1_w32
  have v51 : FVec F S1024x128 .f32 := extractStridedSlice S1024x128 ![0, 128] (k0_pay21 v34 v35) slices_S1024x512_o0_128_S1024x128
  have v52 : IVec S1024x128 32 := broadcast S1024x128 16#32
  have v53 : IVec S1024x128 1 := cmpi .slt v41 v52
  have v54 : FVec F S1024x128 .f32 := dynamicRotate 1 112#32 none v51 rotates_S1024x128_d1
  have v55 : FVec F S1024x128 .f32 := dynamicRotate 1 16#32 none v51 rotates_S1024x128_d1
  have v56 : FVec F S1024x128 .f32 := select v53 v54 v55
  have v57 : FVec F S1024x128 .f32 := mulf v51 v39
  have v58 : FVec F S1024x128 .f32 := mulf v56 v40
  have v59 : FVec F S1024x128 .f32 := addf v57 v58
  v59

/-- A value the body stores or hands on. -/
noncomputable def k0_pay24 (v34 : Vec F S1024x2048 .bf16) (v35 : Vec F S1x2048x512 .f32) (v39 : Vec F S1024x128 .f32) (v40 : Vec F S1024x128 .f32) : FVec F S1024x128 .f32 :=
  have v41 : IVec S1024x128 32 := iota .tc S1024x128 32 [1] iota_S1024x128_d1_w32
  have v60 : FVec F S1024x128 .f32 := extractStridedSlice S1024x128 ![0, 256] (k0_pay21 v34 v35) slices_S1024x512_o0_256_S1024x128
  have v61 : IVec S1024x128 32 := broadcast S1024x128 16#32
  have v62 : IVec S1024x128 1 := cmpi .slt v41 v61
  have v63 : FVec F S1024x128 .f32 := dynamicRotate 1 112#32 none v60 rotates_S1024x128_d1
  have v64 : FVec F S1024x128 .f32 := dynamicRotate 1 16#32 none v60 rotates_S1024x128_d1
  have v65 : FVec F S1024x128 .f32 := select v62 v63 v64
  have v66 : FVec F S1024x128 .f32 := mulf v60 v39
  have v67 : FVec F S1024x128 .f32 := mulf v65 v40
  have v68 : FVec F S1024x128 .f32 := addf v66 v67
  v68

/-- A value the body stores or hands on. -/
noncomputable def k0_pay25 (v34 : Vec F S1024x2048 .bf16) (v35 : Vec F S1x2048x512 .f32) : FVec F S1024x128 .f32 :=
  have v69 : FVec F S1024x128 .f32 := extractStridedSlice S1024x128 ![0, 384] (k0_pay21 v34 v35) slices_S1024x512_o0_384_S1024x128
  v69

/-- A value the body stores or hands on. -/
noncomputable def k0_pay26 : IVec S1024x128 1 :=
  have v41 : IVec S1024x128 32 := iota .tc S1024x128 32 [1] iota_S1024x128_d1_w32
  have v70 : IVec S1024x128 32 := broadcast S1024x128 16#32
  have v71 : IVec S1024x128 1 := cmpi .slt v41 v70
  v71

/-- A value the body stores or hands on. -/
noncomputable def k0_pay27 (v34 : Vec F S1024x2048 .bf16) (v35 : Vec F S1x2048x512 .f32) : FVec F S1024x128 .f32 :=
  have v72 : FVec F S1024x128 .f32 := dynamicRotate 1 112#32 none (k0_pay25 v34 v35) rotates_S1024x128_d1
  v72

/-- `cc0_ab_proj` as a skeleton of memory operations over payloads. -/
noncomputable def cc0_ab_proj_skel (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) :
    Prog (TpuEff nD τ sig (Elt F) Λ₀ .tc) PUnit := do

  if k0_h1 : k0_cond1 i = 1#1 then do
    let v69 : FVec F S1024x128 .f32 ← k0_part1 i arg2 harg2 arg3 harg3 arg4 harg4 arg5 harg5 arg6 harg6 arg7 harg7 arg8 harg8 arg9 harg9 arg10 harg10 arg11 harg11 arg12 harg12
    Prog.lift (.store arg12 (Rect.unit (s := S1024x128) ![0, 0] S1024x128.size inb_S1024x128_S1024x128_0_0) (k0_pay1 v69) Finset.univ (View.stores_vmem_bits_univ h_S1024x128 rfl) (.inl rfl))
    let v73 : Vec F S1024x2048 .bf16 ← Prog.lift (.load arg10 (Rect.unit (s := S1024x2048) ![0, 0] S1024x2048.size inb_S1024x2048_S1024x2048_0_0).toLoadRect (View.loadsAt_vmem h_S1024x2048))
    let v74 : Vec F S1x2048x512 .f32 ← Prog.lift (.load arg4 (Rect.unit (s := S1x2048x512) ![0, 0, 0] S1x2048x512.size inb_S1x2048x512_S1x2048x512_0_0_0).toLoadRect (View.loadsAt_vmem h_S1x2048x512))
    let v78 : Vec F S1024x512 .f32 ← Prog.lift (.load arg8 (Rect.unit (s := S1024x512) ![0, 0] S1024x512.size inb_S1024x512_S1024x512_0_0).toLoadRect (View.loadsAt_vmem h_S1024x512))
    Prog.lift (.store arg8 (Rect.unit (s := S1024x512) ![0, 0] S1024x512.size inb_S1024x512_S1024x512_0_0) (k0_pay2 v73 v74) Finset.univ (View.stores_vmem_bits_univ h_S1024x512 rfl) (.inl rfl))
    pure ⟨⟩
  else do
    pure ⟨⟩

  if k0_h2 : k0_cond2 i = 1#1 then do
    let v34 : Vec F S1024x2048 .bf16 ← Prog.lift (.load arg10 (Rect.unit (s := S1024x2048) ![0, 0] S1024x2048.size inb_S1024x2048_S1024x2048_0_0).toLoadRect (View.loadsAt_vmem h_S1024x2048))
    let v35 : Vec F S1x2048x512 .f32 ← Prog.lift (.load arg4 (Rect.unit (s := S1x2048x512) ![0, 0, 0] S1x2048x512.size inb_S1x2048x512_S1x2048x512_0_0_0).toLoadRect (View.loadsAt_vmem h_S1x2048x512))
    let v39 : Vec F S1024x512 .f32 ← Prog.lift (.load arg8 (Rect.unit (s := S1024x512) ![0, 0] S1024x512.size inb_S1024x512_S1024x512_0_0).toLoadRect (View.loadsAt_vmem h_S1024x512))
    Prog.lift (.store arg8 (Rect.unit (s := S1024x512) ![0, 0] S1024x512.size inb_S1024x512_S1024x512_0_0) (k0_pay3 v34 v35) Finset.univ (View.stores_vmem_bits_univ h_S1024x512 rfl) (.inl rfl))
    pure ⟨⟩
  else do
    pure ⟨⟩

  if k0_h3 : k0_cond3 i = 1#1 then do
    let ⟨v39, v40, v50, v59, v68, v69, v71, v72⟩ : Σ' (v39 : Vec F S1024x128 .f32) (v40 : Vec F S1024x128 .f32) (v50 : FVec F S1024x128 .f32) (v59 : FVec F S1024x128 .f32) (v68 : FVec F S1024x128 .f32) (v69 : FVec F S1024x128 .f32) (v71 : IVec S1024x128 1), FVec F S1024x128 .f32 ← k0_part2 i arg2 harg2 arg3 harg3 arg4 harg4 arg5 harg5 arg6 harg6 arg7 harg7 arg8 harg8 arg9 harg9 arg10 harg10 arg11 harg11 arg12 harg12
    let v82 : Vec F S1024x512 .bf16 ← Prog.lift (.load arg9 (Rect.unit (s := S1024x512) ![0, 0] S1024x512.size inb_S1024x512_S1024x512_0_0).toLoadRect (View.loadsAt_vmem h_S1024x512))
    Prog.lift (.store arg9 (Rect.unit (s := S1024x512) ![0, 0] S1024x512.size inb_S1024x512_S1024x512_0_0) (k0_pay4 v39 v40 v50 v59 v68 v69 v71 v72) Finset.univ (View.stores_vmem h_S1024x512 (harg9.storeExact_slice rfl _ packedbf16_S1024x512_S1024x512_0_0) (fun _ => rfl)) (.inl rfl))
    pure ⟨⟩
  else do
    pure ⟨⟩

  if k0_h4 : k0_cond4 i = 1#1 then do
    let ⟨v39, v40, v50, v59, v68, v69, v71, v72⟩ : Σ' (v39 : Vec F S1024x128 .f32) (v40 : Vec F S1024x128 .f32) (v50 : FVec F S1024x128 .f32) (v59 : FVec F S1024x128 .f32) (v68 : FVec F S1024x128 .f32) (v69 : FVec F S1024x128 .f32) (v71 : IVec S1024x128 1), FVec F S1024x128 .f32 ← k0_part3 i arg2 harg2 arg3 harg3 arg4 harg4 arg5 harg5 arg6 harg6 arg7 harg7 arg8 harg8 arg9 harg9 arg10 harg10 arg11 harg11 arg12 harg12
    let v80 : Vec F S1024x512 .bf16 ← Prog.lift (.load arg9 (Rect.unit (s := S1024x512) ![0, 0] S1024x512.size inb_S1024x512_S1024x512_0_0).toLoadRect (View.loadsAt_vmem h_S1024x512))
    Prog.lift (.store arg9 (Rect.unit (s := S1024x512) ![0, 0] S1024x512.size inb_S1024x512_S1024x512_0_0) (k0_pay6 v39 v40 v50 v59 v68 v69 v71 v72) Finset.univ (View.stores_vmem h_S1024x512 (harg9.storeExact_slice rfl _ packedbf16_S1024x512_S1024x512_0_0) (fun _ => rfl)) (.inl rfl))
    pure ⟨⟩
  else do
    pure ⟨⟩

  if k0_h5 : k0_cond5 i = 1#1 then do
    let v34 : Vec F S1024x2048 .bf16 ← Prog.lift (.load arg10 (Rect.unit (s := S1024x2048) ![0, 0] S1024x2048.size inb_S1024x2048_S1024x2048_0_0).toLoadRect (View.loadsAt_vmem h_S1024x2048))
    let v35 : Vec F S1x2048x512 .f32 ← Prog.lift (.load arg4 (Rect.unit (s := S1x2048x512) ![0, 0, 0] S1x2048x512.size inb_S1x2048x512_S1x2048x512_0_0_0).toLoadRect (View.loadsAt_vmem h_S1x2048x512))
    let v40 : Vec F S1024x512 .bf16 ← Prog.lift (.load arg9 (Rect.unit (s := S1024x512) ![0, 0] S1024x512.size inb_S1024x512_S1024x512_0_0).toLoadRect (View.loadsAt_vmem h_S1024x512))
    Prog.lift (.store arg9 (Rect.unit (s := S1024x512) ![0, 0] S1024x512.size inb_S1024x512_S1024x512_0_0) (k0_pay8 v34 v35) Finset.univ (View.stores_vmem h_S1024x512 (harg9.storeExact_slice rfl _ packedbf16_S1024x512_S1024x512_0_0) (fun _ => rfl)) (.inl rfl))
    pure ⟨⟩
  else do
    pure ⟨⟩
  pure ⟨⟩

set_option maxRecDepth 65536 in
/-- The printed `cc0_ab_proj` is its skeleton: by definitional unfolding. -/
theorem cc0_ab_proj_eq_skeleton : cc0_ab_proj (F := F) = cc0_ab_proj_skel (F := F) := rfl

/-- `k0_part1` as a skeleton of memory operations over payloads. -/
noncomputable def k0_part1_skel (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) :
    Prog (TpuEff nD τ sig (Elt F) Λ₀ .tc) (FVec F S1024x128 .f32) := do
  let v34 : Vec F S1024x2048 .f32 ← Prog.lift (.load arg2 (Rect.unit (s := S1024x2048) ![0, 0] S1024x2048.size inb_S1024x2048_S1024x2048_0_0).toLoadRect (View.loadsAt_vmem h_S1024x2048))
  let v36 : Vec F S1x1x2048 .f32 ← Prog.lift (.load arg3 (Rect.unit (s := S1x1x2048) ![0, 0, 0] S1x1x2048.size inb_S1x1x2048_S1x1x2048_0_0_0).toLoadRect (View.loadsAt_vmem h_S1x1x2048))

  let v51 : Vec F S1024x2048 .bf16 ← Prog.lift (.load arg10 (Rect.unit (s := S1024x2048) ![0, 0] S1024x2048.size inb_S1024x2048_S1024x2048_0_0).toLoadRect (View.loadsAt_vmem h_S1024x2048))

  Prog.lift (.store arg10 (Rect.unit (s := S1024x2048) ![0, 0] S1024x2048.size inb_S1024x2048_S1024x2048_0_0) (k0_pay10 v34 v36) Finset.univ (View.stores_vmem h_S1024x2048 (harg10.storeExact_slice rfl _ packedbf16_S1024x2048_S1024x2048_0_0) (fun _ => rfl)) (.inl rfl))
  let v54 : Vec F S1024x1 .f32 ← Prog.lift (.load arg5 (Rect.unit (s := S1024x1) ![0, 0] S1024x1.size inb_S1024x1_S1024x1_0_0).toLoadRect (View.loadsAt_vmem h_S1024x1))
  let v56 : Vec F S1x128 .f32 ← Prog.lift (.load arg6 (Rect.unit (s := S1x128) ![0, 0] S1x128.size inb_S1x128_S1x128_0_0).toLoadRect (View.loadsAt_vmem h_S1x128))
  let v62 : Vec F S1024x128 .f32 ← Prog.lift (.load arg11 (Rect.unit (s := S1024x128) ![0, 0] S1024x128.size inb_S1024x128_S1024x128_0_0).toLoadRect (View.loadsAt_vmem h_S1024x128))

  Prog.lift (.store arg11 (Rect.unit (s := S1024x128) ![0, 0] S1024x128.size inb_S1024x128_S1024x128_0_0) (k0_pay12 v54 v56) Finset.univ (View.stores_vmem_bits_univ h_S1024x128 rfl) (.inl rfl))
  let v66 : Vec F S1x128 .f32 ← Prog.lift (.load arg7 (Rect.unit (s := S1x128) ![0, 0] S1x128.size inb_S1x128_S1x128_0_0).toLoadRect (View.loadsAt_vmem h_S1x128))
  let v70 : Vec F S1024x128 .f32 ← Prog.lift (.load arg12 (Rect.unit (s := S1024x128) ![0, 0] S1024x128.size inb_S1024x128_S1024x128_0_0).toLoadRect (View.loadsAt_vmem h_S1024x128))

  pure (k0_pay13 v54 v56 v66)

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) :
    Prog (TpuEff nD τ sig (Elt F) Λ₀ .tc) (Σ' (v39 : Vec F S1024x128 .f32) (v40 : Vec F S1024x128 .f32) (v50 : FVec F S1024x128 .f32) (v59 : FVec F S1024x128 .f32) (v68 : FVec F S1024x128 .f32) (v69 : FVec F S1024x128 .f32) (v71 : IVec S1024x128 1), FVec F S1024x128 .f32) := do
  let v34 : Vec F S1024x2048 .bf16 ← Prog.lift (.load arg10 (Rect.unit (s := S1024x2048) ![0, 0] S1024x2048.size inb_S1024x2048_S1024x2048_0_0).toLoadRect (View.loadsAt_vmem h_S1024x2048))
  let v35 : Vec F S1x2048x512 .f32 ← Prog.lift (.load arg4 (Rect.unit (s := S1x2048x512) ![0, 0, 0] S1x2048x512.size inb_S1x2048x512_S1x2048x512_0_0_0).toLoadRect (View.loadsAt_vmem h_S1x2048x512))
  let v39 : Vec F S1024x128 .f32 ← Prog.lift (.load arg11 (Rect.unit (s := S1024x128) ![0, 0] S1024x128.size inb_S1024x128_S1024x128_0_0).toLoadRect (View.loadsAt_vmem h_S1024x128))
  let v40 : Vec F S1024x128 .f32 ← Prog.lift (.load arg12 (Rect.unit (s := S1024x128) ![0, 0] S1024x128.size inb_S1024x128_S1024x128_0_0).toLoadRect (View.loadsAt_vmem h_S1024x128))
  pure ⟨v39, v40, k0_pay15 v34 v35 v39 v40, k0_pay16 v34 v35 v39 v40, k0_pay17 v34 v35 v39 v40, k0_pay18 v34 v35, k0_pay19, k0_pay20 v34 v35⟩

set_option maxRecDepth 65536 in
/-- The printed `k0_part2` is its skeleton: by definitional unfolding. -/
theorem k0_part2_eq_skeleton : k0_part2 (F := F) = k0_part2_skel (F := F) := rfl

/-- `k0_part3` as a skeleton of memory operations over payloads. -/
noncomputable def k0_part3_skel (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) :
    Prog (TpuEff nD τ sig (Elt F) Λ₀ .tc) (Σ' (v39 : Vec F S1024x128 .f32) (v40 : Vec F S1024x128 .f32) (v50 : FVec F S1024x128 .f32) (v59 : FVec F S1024x128 .f32) (v68 : FVec F S1024x128 .f32) (v69 : FVec F S1024x128 .f32) (v71 : IVec S1024x128 1), FVec F S1024x128 .f32) := do
  let v34 : Vec F S1024x2048 .bf16 ← Prog.lift (.load arg10 (Rect.unit (s := S1024x2048) ![0, 0] S1024x2048.size inb_S1024x2048_S1024x2048_0_0).toLoadRect (View.loadsAt_vmem h_S1024x2048))
  let v35 : Vec F S1x2048x512 .f32 ← Prog.lift (.load arg4 (Rect.unit (s := S1x2048x512) ![0, 0, 0] S1x2048x512.size inb_S1x2048x512_S1x2048x512_0_0_0).toLoadRect (View.loadsAt_vmem h_S1x2048x512))
  let v39 : Vec F S1024x128 .f32 ← Prog.lift (.load arg11 (Rect.unit (s := S1024x128) ![0, 0] S1024x128.size inb_S1024x128_S1024x128_0_0).toLoadRect (View.loadsAt_vmem h_S1024x128))
  let v40 : Vec F S1024x128 .f32 ← Prog.lift (.load arg12 (Rect.unit (s := S1024x128) ![0, 0] S1024x128.size inb_S1024x128_S1024x128_0_0).toLoadRect (View.loadsAt_vmem h_S1024x128))
  pure ⟨v39, v40, k0_pay22 v34 v35 v39 v40, k0_pay23 v34 v35 v39 v40, k0_pay24 v34 v35 v39 v40, k0_pay25 v34 v35, k0_pay26, k0_pay27 v34 v35⟩

set_option maxRecDepth 65536 in
/-- The printed `k0_part3` is its skeleton: by definitional unfolding. -/
theorem k0_part3_eq_skeleton : k0_part3 (F := F) = k0_part3_skel (F := F) := rfl

end Cert.AbProj

end
-- ==== Proof.AbProjRun.lean ====
module

public import proofs.«01_k».proof.Proof.AbProjSkel
public import proofs.«01_k».proof.Proof.Base

/-! The even layer's norm and input projection: what one grid point leaves, case by case. -/

@[expose] public section

set_option maxRecDepth 16384

noncomputable section

namespace Cert.AbProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Base
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The rotary sines with their signs. -/
def sinV (x3 : Vec F S1024x1 .f32) (x4 x5 : Vec F S1x128 .f32) : Vec F S1024x128 .f32 := k0_pay1 (k0_pay13 x3 x4 x5)
/-- A tile of queries: projected, rotated, scaled. -/
def qV (h : Vec F S1024x2048 .bf16) (w : Vec F S1x2048x512 .f32) (c s : Vec F S1024x128 .f32) : Vec F S1024x512 .bf16 :=
  k0_pay4 c s (k0_pay15 h w c s) (k0_pay16 h w c s) (k0_pay17 h w c s) (k0_pay18 h w) k0_pay19 (k0_pay20 h w)
/-- A tile of keys: projected, rotated. -/
def kV (h : Vec F S1024x2048 .bf16) (w : Vec F S1x2048x512 .f32) (c s : Vec F S1024x128 .f32) : Vec F S1024x512 .bf16 :=
  k0_pay6 c s (k0_pay22 h w c s) (k0_pay23 h w c s) (k0_pay24 h w c s) (k0_pay25 h w) k0_pay26 (k0_pay27 h w)

/-- A buffer stored whole once reads as what was stored. -/
theorem read_one {κ : Kind} {sp : Space} {S : Shape} {e : EltTy} (v : View sig κ sp S e) (f : v.ty.Contents (Elt F))
    {off : Fin S.rank → Nat} (h : off = fun _ => 0) (inb : ∀ a, off a + S.size a ≤ S.size a) (w x : S.Idx → Elt F e)
    (hx : w = x) : v.read (Elt F) (v.writes (Elt F) f [(⟨Rect.unit off S.size inb, w⟩ : View.Piece (Elt F) S e)]) = x := by
  rw [View.read_writes_eq_canon _ _ _ (fun y => ⟨_, List.mem_singleton_self _, View.mem_set_unit_zero h inb y⟩),
    View.canon_unit_zero h, hx]

abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1
abbrev cond0_4 (i : grid0.Coords) : Prop := k0_cond5 i = 1#1

/-- The first tile: the rows normalised, the angles, and the first tile of the ungated half. -/
theorem run_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : cond0_0 i) (hc1 : ¬cond0_1 i) (hc2 : ¬cond0_2 i) (hc3 : ¬cond0_3 i) (hc4 : ¬cond0_4 i)
    (x0 : Vec F S1024x2048 .f32) (x1 : Vec F S1x1x2048 .f32) (x2 : Vec F S1x2048x512 .f32) (x3 : Vec F S1024x1 .f32) (x4 x5 : Vec F S1x128 .f32) (x7 : Vec F S1024x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 (k0_pay10 x0 x1) x2) ∗ owns (c : Thread nD τ) arg9 fullShare x7 ∗ owns (c : Thread nD τ) arg10 fullShare (k0_pay10 x0 x1) ∗ owns (c : Thread nD τ) arg11 fullShare (k0_pay12 x3 x4) ∗ owns (c : Thread nD τ) arg12 fullShare (sinV x3 x4 x5)) -∗ K ⟨⟩))
      ⊢ wp frame (wpE (defs₀ (F := F)) Variants.none c none) E (cc0_ab_proj i arg2 harg2 arg3 harg3 arg4 harg4 arg5 harg5 arg6 harg6 arg7 harg7 arg8 harg8 arg9 harg9 arg10 harg10 arg11 harg11 arg12 harg12) K := by
  simp only [cc0_ab_proj_eq_skeleton]; unfold cc0_ab_proj_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
    rfl
  isplitl [H9]
  · iexists _; isplitr; · ipureintro; exact harg9.read_unread _
    iexact H9
  isplitl [H10]
  · iexists _; isplitr
    swap; · iexact H10
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
  isplitl [H11]
  · iexists _; isplitr
    swap; · iexact H11
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
  iexists _; isplitr
  swap; · iexact H12
  ipureintro
  refine read_one _ _ hz2 _ _ _ ?_
  sl_unfold_words
  simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
  rfl

/-- The ungated half, its second tile. -/
theorem run_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : cond0_1 i) (hc2 : ¬cond0_2 i) (hc3 : ¬cond0_3 i) (hc4 : ¬cond0_4 i)
    (x0 : Vec F S1024x2048 .f32) (x1 : Vec F S1x1x2048 .f32) (x2 : Vec F S1x2048x512 .f32) (x3 : Vec F S1024x1 .f32) (x4 x5 : Vec F S1x128 .f32) (x7 : Vec F S1024x512 .bf16) (s0 : Vec F S1024x2048 .bf16) (s1 s2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare s0 ∗ owns (c : Thread nD τ) arg11 fullShare s1 ∗ owns (c : Thread nD τ) arg12 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 s0 x2) ∗ owns (c : Thread nD τ) arg9 fullShare x7 ∗ owns (c : Thread nD τ) arg10 fullShare s0 ∗ owns (c : Thread nD τ) arg11 fullShare s1 ∗ owns (c : Thread nD τ) arg12 fullShare s2) -∗ K ⟨⟩))
      ⊢ wp frame (wpE (defs₀ (F := F)) Variants.none c none) E (cc0_ab_proj i arg2 harg2 arg3 harg3 arg4 harg4 arg5 harg5 arg6 harg6 arg7 harg7 arg8 harg8 arg9 harg9 arg10 harg10 arg11 harg11 arg12 harg12) K := by
  simp only [cc0_ab_proj_eq_skeleton]; unfold cc0_ab_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

/-- A tile of the queries. -/
theorem run_C (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i) (hc2 : cond0_2 i) (hc3 : ¬cond0_3 i) (hc4 : ¬cond0_4 i)
    (x0 : Vec F S1024x2048 .f32) (x1 : Vec F S1x1x2048 .f32) (x2 : Vec F S1x2048x512 .f32) (x3 : Vec F S1024x1 .f32) (x4 x5 : Vec F S1x128 .f32) (x6 : Vec F S1024x512 .f32) (s0 : Vec F S1024x2048 .bf16) (s1 s2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare s0 ∗ owns (c : Thread nD τ) arg11 fullShare s1 ∗ owns (c : Thread nD τ) arg12 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (qV s0 x2 s1 s2) ∗ owns (c : Thread nD τ) arg10 fullShare s0 ∗ owns (c : Thread nD τ) arg11 fullShare s1 ∗ owns (c : Thread nD τ) arg12 fullShare s2) -∗ K ⟨⟩))
      ⊢ wp frame (wpE (defs₀ (F := F)) Variants.none c none) E (cc0_ab_proj i arg2 harg2 arg3 harg3 arg4 harg4 arg5 harg5 arg6 harg6 arg7 harg7 arg8 harg8 arg9 harg9 arg10 harg10 arg11 harg11 arg12 harg12) K := by
  simp only [cc0_ab_proj_eq_skeleton]; unfold cc0_ab_proj_skel
  simp only [k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
    rfl
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

/-- A tile of the keys. -/
theorem run_D (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i) (hc2 : ¬cond0_2 i) (hc3 : cond0_3 i) (hc4 : ¬cond0_4 i)
    (x0 : Vec F S1024x2048 .f32) (x1 : Vec F S1x1x2048 .f32) (x2 : Vec F S1x2048x512 .f32) (x3 : Vec F S1024x1 .f32) (x4 x5 : Vec F S1x128 .f32) (x6 : Vec F S1024x512 .f32) (s0 : Vec F S1024x2048 .bf16) (s1 s2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare s0 ∗ owns (c : Thread nD τ) arg11 fullShare s1 ∗ owns (c : Thread nD τ) arg12 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (kV s0 x2 s1 s2) ∗ owns (c : Thread nD τ) arg10 fullShare s0 ∗ owns (c : Thread nD τ) arg11 fullShare s1 ∗ owns (c : Thread nD τ) arg12 fullShare s2) -∗ K ⟨⟩))
      ⊢ wp frame (wpE (defs₀ (F := F)) Variants.none c none) E (cc0_ab_proj i arg2 harg2 arg3 harg3 arg4 harg4 arg5 harg5 arg6 harg6 arg7 harg7 arg8 harg8 arg9 harg9 arg10 harg10 arg11 harg11 arg12 harg12) K := by
  simp only [cc0_ab_proj_eq_skeleton]; unfold cc0_ab_proj_skel
  simp only [k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
    rfl
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

/-- A tile of the values. -/
theorem run_E (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x128 .f32) (harg12 : arg12.IsWhole) (hc0 : ¬cond0_0 i) (hc1 : ¬cond0_1 i) (hc2 : ¬cond0_2 i) (hc3 : ¬cond0_3 i) (hc4 : cond0_4 i)
    (x0 : Vec F S1024x2048 .f32) (x1 : Vec F S1x1x2048 .f32) (x2 : Vec F S1x2048x512 .f32) (x3 : Vec F S1024x1 .f32) (x4 x5 : Vec F S1x128 .f32) (x6 : Vec F S1024x512 .f32) (s0 : Vec F S1024x2048 .bf16) (s1 s2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare s0 ∗ owns (c : Thread nD τ) arg11 fullShare s1 ∗ owns (c : Thread nD τ) arg12 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay8 s0 x2) ∗ owns (c : Thread nD τ) arg10 fullShare s0 ∗ owns (c : Thread nD τ) arg11 fullShare s1 ∗ owns (c : Thread nD τ) arg12 fullShare s2) -∗ K ⟨⟩))
      ⊢ wp frame (wpE (defs₀ (F := F)) Variants.none c none) E (cc0_ab_proj i arg2 harg2 arg3 harg3 arg4 harg4 arg5 harg5 arg6 harg6 arg7 harg7 arg8 harg8 arg9 harg9 arg10 harg10 arg11 harg11 arg12 harg12) K := by
  simp only [cc0_ab_proj_eq_skeleton]; unfold cc0_ab_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine read_one _ _ hz2 _ _ _ ?_
    sl_unfold_words
    simp only [View.readAt_eq_ld, shapeCast_self, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.readCov_unit_zero (S := S1x1x2048) _ hz3, View.ld_unit_zero (S := S1x2048x512) hz3, View.readCov_unit_zero (S := S1x2048x512) _ hz3, View.ld_unit_zero (S := S1024x2048) hz2, View.readCov_unit_zero (S := S1024x2048) _ hz2, View.ld_unit_zero (S := S1024x1) hz2, View.readCov_unit_zero (S := S1024x1) _ hz2, View.ld_unit_zero (S := S1x128) hz2, View.readCov_unit_zero (S := S1x128) _ hz2, View.ld_unit_zero (S := S1024x128) hz2, View.readCov_unit_zero (S := S1024x128) _ hz2, View.ld_unit_zero (S := S1024x512) hz2, View.readCov_unit_zero (S := S1024x512) _ hz2]
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

end Cert.AbProj
end
-- ==== Proof.AbProjFrame.lean ====
module

public import proofs.«01_k».proof.Proof.AbProjRun
public import Idealize.ShloMosaic.Lib.Pipeline.TableIdle
public import Idealize.ShloMosaic.Lib.Claim

/-! The even layer's norm and input projection: the grid, its proof data and the frame. -/

@[expose] public section

set_option maxRecDepth 16384

noncomputable section

namespace Cert.AbProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Base
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The five cases over the grid: the column tile is the point modulo 8. -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 1 :=
  (by decide +kernel : ∀ t : Fin grid0.N, cond0_1 (grid0.coords t) ↔ t.val % 8 = 1)
theorem hcond0_2 : ∀ t : Fin cfg0.N, cond0_2 (grid0.coords t) ↔ (2 ≤ t.val % 8 ∧ t.val % 8 ≤ 3) :=
  (by decide +kernel : ∀ t : Fin grid0.N, cond0_2 (grid0.coords t) ↔ (2 ≤ t.val % 8 ∧ t.val % 8 ≤ 3))
theorem hcond0_3 : ∀ t : Fin cfg0.N, cond0_3 (grid0.coords t) ↔ (4 ≤ t.val % 8 ∧ t.val % 8 ≤ 5) :=
  (by decide +kernel : ∀ t : Fin grid0.N, cond0_3 (grid0.coords t) ↔ (4 ≤ t.val % 8 ∧ t.val % 8 ≤ 5))
theorem hcond0_4 : ∀ t : Fin cfg0.N, cond0_4 (grid0.coords t) ↔ 6 ≤ t.val % 8 :=
  (by decide +kernel : ∀ t : Fin grid0.N, cond0_4 (grid0.coords t) ↔ 6 ≤ t.val % 8)

/-! Where the two results are stored, and where they are written back. -/

theorem idle6 : ∀ t : Fin cfg0.N, cfg0.idle 6 (grid0.coords t) = decide (2 ≤ t.val % 8) :=
  (by decide +kernel : ∀ t : Fin cfg0.N, cfg0.idle 6 (grid0.coords t) = decide (2 ≤ t.val % 8))
theorem idle7 : ∀ t : Fin cfg0.N, cfg0.idle 7 (grid0.coords t) = decide (t.val % 8 < 2) :=
  (by decide +kernel : ∀ t : Fin cfg0.N, cfg0.idle 7 (grid0.coords t) = decide (t.val % 8 < 2))
theorem flush6 : ∀ t : Fin cfg0.N, (cfg0.win 6).flush t = decide (t.val % 8 = 0 ∨ t.val % 8 = 7) :=
  (by decide +kernel : ∀ t : Fin cfg0.N, (cfg0.win 6).flush t = decide (t.val % 8 = 0 ∨ t.val % 8 = 7))
theorem noFlush7 : ∀ t : Fin cfg0.N, t.val % 8 < 2 → (cfg0.win 7).flush t = false :=
  (by decide +kernel : ∀ t : Fin cfg0.N, t.val % 8 < 2 → (cfg0.win 7).flush t = false)

/-- Whether the first result's buffer holds nothing stored since the last write-back, before each point. -/
def freshTab : ℕ → Bool
  | 0 => true
  | n + 1 => decide (n % 8 = 0 ∨ n % 8 = 7)
theorem freshTab_step : ∀ t : Fin cfg0.N,
    freshTab (t.val + 1) = ((cfg0.win 6).flush t || (cfg0.idle 6 (cfg0.grid.coords t) && freshTab t.val)) := by decide +kernel
theorem fresh6 (t : Fin cfg0.N) : cfg0.fresh 6 t.val = freshTab t.val :=
  Pipeline.Cfg.fresh_tab cfg0 6 freshTab rfl freshTab_step t.val (Nat.le_of_lt t.isLt)
theorem notFresh6 : ∀ t : Fin cfg0.N, 2 ≤ t.val % 8 → cfg0.fresh 6 t.val = false := by
  intro t; rw [fresh6 t]; revert t; decide +kernel

/-! The staging memrefs at a point. -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .bf16 := win0_7.stage (cfg0.slots t 7)
abbrev hs0_7 (t : Fin cfg0.N) : (ms0_7 t).IsWhole := hstage0_7 ((cfg0.slots t 7).cast nbuf0_7)
abbrev scM0_0 : Memref sig .tc .vmem S1024x2048 .bf16 := Memref.whole cc0_scratch0
abbrev scM0_1 : Memref sig .tc .vmem S1024x128 .f32 := Memref.whole cc0_scratch1
abbrev scM0_2 : Memref sig .tc .vmem S1024x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! What the points of one block of rows leave, from the row block's first point on. -/

/-- The first point of a row block. -/
def start (t : Fin cfg0.N) : Fin cfg0.N := ⟨8 * (t.val / 8), Nat.lt_of_le_of_lt (Nat.mul_div_le t.val 8) t.isLt⟩

/-- The last point at which the first result was stored. -/
def lastU (t : Fin cfg0.N) : Fin cfg0.N :=
  ⟨8 * (t.val / 8) + min (t.val % 8) 1, Nat.lt_of_le_of_lt (by omega) t.isLt⟩

/-- The normalised rows. -/
def hS (c : Dev nD) (t : Fin cfg0.N) : Vec F S1024x2048 .bf16 := k0_pay10 (iblk m c 0 t) (iblk m c 1 t)
/-- The cosines. -/
def cS (c : Dev nD) (t : Fin cfg0.N) : Vec F S1024x128 .f32 := k0_pay12 (iblk m c 3 t) (iblk m c 4 t)
/-- The signed sines. -/
def sS (c : Dev nD) (t : Fin cfg0.N) : Vec F S1024x128 .f32 := sinV (iblk m c 3 t) (iblk m c 4 t) (iblk m c 5 t)
/-- The first result's block. -/
def uS (c : Dev nD) (t : Fin cfg0.N) : Vec F S1024x512 .f32 := k0_pay3 (hS m c (start t)) (iblk m c 2 (lastU t))
/-- The second result's block. -/
def qkvS (c : Dev nD) (t : Fin cfg0.N) : Vec F S1024x512 .bf16 :=
  if t.val % 8 ≤ 3 then qV (hS m c (start t)) (iblk m c 2 t) (cS m c (start t)) (sS m c (start t))
  else if t.val % 8 ≤ 5 then kV (hS m c (start t)) (iblk m c 2 t) (cS m c (start t)) (sS m c (start t))
  else k0_pay8 (hS m c (start t)) (iblk m c 2 t)

/-- The three scratch buffers as a point leaves them. -/
def PhiS (c : Dev nD) : (n : ℕ) → n ≤ cfg0.N → sProp 𝕄
  | 0, _ => Pipeline.ΦA spec0 c
  | n + 1, hn => iprop(iprop(owns (c : Thread nD τ) scM0_0 fullShare (hS m c (start ⟨n, hn⟩)) ∗ owns (c : Thread nD τ) scM0_1 fullShare (cS m c (start ⟨n, hn⟩)) ∗ owns (c : Thread nD τ) scM0_2 fullShare (sS m c (start ⟨n, hn⟩))) ∗ (∃ r, prngReg c r))

theorem PhiS_succ (c : Dev nD) (t : Fin cfg0.N) :
    PhiS m c (t.val + 1) t.isLt = iprop(iprop(owns (c : Thread nD τ) scM0_0 fullShare (hS m c (start t)) ∗ owns (c : Thread nD τ) scM0_1 fullShare (cS m c (start t)) ∗ owns (c : Thread nD τ) scM0_2 fullShare (sS m c (start t))) ∗ (∃ r, prngReg c r)) := rfl

/-- Within a row block the point before has the same first point. -/
theorem PhiS_mid (c : Dev nD) (t : Fin cfg0.N) (h : t.val % 8 ≠ 0) :
    PhiS m c t.val (Nat.le_of_lt t.isLt) = iprop(iprop(owns (c : Thread nD τ) scM0_0 fullShare (hS m c (start t)) ∗ owns (c : Thread nD τ) scM0_1 fullShare (cS m c (start t)) ∗ owns (c : Thread nD τ) scM0_2 fullShare (sS m c (start t))) ∗ (∃ r, prngReg c r)) := by
  obtain ⟨n, hn⟩ := t
  cases n with
  | zero => exact absurd (Nat.zero_mod 8) h
  | succ n =>
    have e : start ⟨n, Nat.lt_of_succ_lt hn⟩ = start ⟨n + 1, hn⟩ := Fin.ext (by
      show 8 * (n / 8) = 8 * ((n + 1) / 8)
      have h : (n + 1) % 8 ≠ 0 := h
      omega)
    show PhiS m c (n + 1) _ = _
    rw [← e]; rfl

/-- Whatever the scratch holds, it is owned. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_succ m c ⟨n, h⟩, PhiA0_eq]
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-- The same, buffer by buffer. -/
theorem PhiS_any (c : Dev nD) (n : ℕ) (h : n ≤ cfg0.N) : PhiS m c n h
    ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  rw [← PhiA0_eq]; exact PhiS_out m c n h

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => uS m c t
    | ⟨7, _⟩ => qkvS m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (grid0.coords t) = false from rfl], after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (grid0.coords t) = false from rfl], after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (grid0.coords t) = false from rfl], after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [show cfg0.idle 3 (grid0.coords t) = false from rfl], after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [show cfg0.idle 4 (grid0.coords t) = false from rfl], after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [show cfg0.idle 5 (grid0.coords t) = false from rfl], after0_5]
theorem after0_6 (c : Dev nD) (t : Fin cfg0.N) : (dats m 0 c).after 6 t = uS m c t := by dsimp only [dats]
theorem after0_7 (c : Dev nD) (t : Fin cfg0.N) : (dats m 0 c).after 7 t = qkvS m c t := by dsimp only [dats]

theorem leaves0_6_live (c : Dev nD) (t : Fin cfg0.N) (h : t.val % 8 < 2) :
    (dats m 0 c).leavesExact 6 t = owns (c : Thread nD τ) (ms0_6 t) fullShare (uS m c t) := by
  rw [show (dats m 0 c).leavesExact 6 t = owns (c : Thread nD τ) (ms0_6 t) fullShare ((dats m 0 c).after 6 t) from by
    unfold Dat.leavesExact; rw [idle6 t, decide_eq_false (by omega)], after0_6]

theorem leaves0_7_live (c : Dev nD) (t : Fin cfg0.N) (h : 2 ≤ t.val % 8) :
    (dats m 0 c).leavesExact 7 t = owns (c : Thread nD τ) (ms0_7 t) fullShare (qkvS m c t) := by
  rw [show (dats m 0 c).leavesExact 7 t = owns (c : Thread nD τ) (ms0_7 t) fullShare ((dats m 0 c).after 7 t) from by
    unfold Dat.leavesExact; rw [idle7 t, decide_eq_false (by omega)], after0_7]

theorem leaves0_7_idle (c : Dev nD) (t : Fin cfg0.N) (h : t.val % 8 < 2) :
    (dats m 0 c).leavesExact 7 t = iprop(∃ d, owns (c : Thread nD τ) (ms0_7 t) fullShare ((dats m 0 c).before 7 t d)) :=
  Dat.leavesExact_idle (dats m 0 c) 7 t ((idle7 t).trans (decide_eq_true h)) (noFlush7 t h)

/-- Where the first result is not stored its block stays as the point before left it. -/
theorem uS_prev (c : Dev nD) (t : Fin cfg0.N) (h : 2 ≤ t.val % 8) :
    uS m c t = uS m c ⟨t.val - 1, Nat.lt_of_le_of_lt (Nat.sub_le _ _) t.isLt⟩ := by
  have e1 : start t = start ⟨t.val - 1, Nat.lt_of_le_of_lt (Nat.sub_le _ _) t.isLt⟩ := Fin.ext (by
    show 8 * (t.val / 8) = 8 * ((t.val - 1) / 8); omega)
  have e2 : lastU t = lastU ⟨t.val - 1, Nat.lt_of_le_of_lt (Nat.sub_le _ _) t.isLt⟩ := Fin.ext (by
    show 8 * (t.val / 8) + min (t.val % 8) 1 = 8 * ((t.val - 1) / 8) + min ((t.val - 1) % 8) 1; omega)
  unfold uS; rw [e1, e2]

theorem hcarry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  rw [idle6 t, decide_eq_true_iff] at hi
  exact uS_prev m c t hi

theorem before0_6 (c : Dev nD) (t : Fin cfg0.N) (h : 2 ≤ t.val % 8) (d) : (dats m 0 c).before 6 t d = uS m c t := by
  rw [Dat.before_out_traj _ 6 rfl (fun _ _ => rfl) (hcarry6 m c) t.val t rfl d,
    if_neg (by rw [notFresh6 t h]; exact Bool.false_ne_true), uS_prev m c t h]
  dsimp only [dats]

/-- There the buffer is handed back as it was found, written back or not. -/
theorem leaves0_6_idle (c : Dev nD) (t : Fin cfg0.N) (h : 2 ≤ t.val % 8) :
    owns (c : Thread nD τ) (ms0_6 t) fullShare (uS m c t) ⊢ (dats m 0 c).leavesExact 6 t := by
  have hi := (idle6 t).trans (decide_eq_true h)
  by_cases h7 : t.val % 8 = 7
  · have hf := (flush6 t).trans (decide_eq_true (Or.inr h7))
    rw [show (dats m 0 c).leavesExact 6 t = owns (c : Thread nD τ) (ms0_6 t) fullShare ((dats m 0 c).after 6 t) from by
      unfold Dat.leavesExact; rw [hi, hf], after0_6]
  · have hf := (flush6 t).trans (decide_eq_false (by omega))
    rw [Dat.leavesExact_idle (dats m 0 c) 6 t hi hf]
    simp only [before0_6 m c t h]
    iintro H; iexists (fun _ => Classical.arbitrary _); iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem start_eq (t : Fin cfg0.N) (h : t.val % 8 = 0) : start t = t := Fin.ext (by show 8 * (t.val / 8) = t.val; omega)
theorem lastU_eq (t : Fin cfg0.N) (h : t.val % 8 < 2) : lastU t = t := Fin.ext (by
  show 8 * (t.val / 8) + min (t.val % 8) 1 = t.val; omega)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4, leaves0_5]
  have n0 := hcond0_0 t; have n1 := hcond0_1 t; have n2 := hcond0_2 t; have n3 := hcond0_3 t; have n4 := hcond0_4 t
  have hcases : t.val % 8 = 0 ∨ t.val % 8 = 1 ∨ (2 ≤ t.val % 8 ∧ t.val % 8 ≤ 3) ∨ (4 ≤ t.val % 8 ∧ t.val % 8 ≤ 5) ∨ 6 ≤ t.val % 8 := by omega
  rcases hcases with h | h | h | h | h
  · rw [leaves0_6_live m c t (by omega), leaves0_7_idle m c t (by omega)]
    have eu : uS m c t = k0_pay3 (hS m c (start t)) (iblk m c 2 t) := by unfold uS; rw [lastU_eq t (by omega)]
    rw [eu]
    rw [start_eq t (by omega)]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HA := (PhiS_any m c _ _) $$ HP
    icases HA with ⟨⟨HS0, HS1, HS2⟩, Hg⟩
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (n0.2 (by omega)) (fun h => absurd (n1.1 h) (by omega)) (fun h => absurd (n2.1 h) (by omega)) (fun h => absurd (n3.1 h) (by omega)) (fun h => absurd (n4.1 h) (by omega)) (iblk m c 0 t) (iblk m c 1 t) (iblk m c 2 t) (iblk m c 3 t) (iblk m c 4 t) (iblk m c 5 t) ((dats m 0 c).before 7 t d7)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS_mid m c t (by omega)]
    rw [leaves0_6_live m c t (by omega), leaves0_7_idle m c t (by omega)]
    have eu : uS m c t = k0_pay3 (hS m c (start t)) (iblk m c 2 t) := by unfold uS; rw [lastU_eq t (by omega)]
    rw [eu]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => absurd (n0.1 h) (by omega)) (n1.2 (by omega)) (fun h => absurd (n2.1 h) (by omega)) (fun h => absurd (n3.1 h) (by omega)) (fun h => absurd (n4.1 h) (by omega)) (iblk m c 0 t) (iblk m c 1 t) (iblk m c 2 t) (iblk m c 3 t) (iblk m c 4 t) (iblk m c 5 t) ((dats m 0 c).before 7 t d7) (hS m c (start t)) (cS m c (start t)) (sS m c (start t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS_mid m c t (by omega)]
    simp only [before0_6 m c t (by omega)]
    rw [leaves0_7_live m c t (by omega)]
    have ev : qkvS m c t = qV (hS m c (start t)) (iblk m c 2 t) (cS m c (start t)) (sS m c (start t)) := by unfold qkvS; rw [if_pos (by omega)]
    rw [ev]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => absurd (n0.1 h) (by omega)) (fun h => absurd (n1.1 h) (by omega)) (n2.2 (by omega)) (fun h => absurd (n3.1 h) (by omega)) (fun h => absurd (n4.1 h) (by omega)) (iblk m c 0 t) (iblk m c 1 t) (iblk m c 2 t) (iblk m c 3 t) (iblk m c 4 t) (iblk m c 5 t) (uS m c t) (hS m c (start t)) (cS m c (start t)) (sS m c (start t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves0_6_idle m c t (by omega)); iexact H6
    iexact H7
  · rw [PhiS_mid m c t (by omega)]
    simp only [before0_6 m c t (by omega)]
    rw [leaves0_7_live m c t (by omega)]
    have ev : qkvS m c t = kV (hS m c (start t)) (iblk m c 2 t) (cS m c (start t)) (sS m c (start t)) := by unfold qkvS; rw [if_neg (by omega), if_pos (by omega)]
    rw [ev]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => absurd (n0.1 h) (by omega)) (fun h => absurd (n1.1 h) (by omega)) (fun h => absurd (n2.1 h) (by omega)) (n3.2 (by omega)) (fun h => absurd (n4.1 h) (by omega)) (iblk m c 0 t) (iblk m c 1 t) (iblk m c 2 t) (iblk m c 3 t) (iblk m c 4 t) (iblk m c 5 t) (uS m c t) (hS m c (start t)) (cS m c (start t)) (sS m c (start t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves0_6_idle m c t (by omega)); iexact H6
    iexact H7
  · rw [PhiS_mid m c t (by omega)]
    simp only [before0_6 m c t (by omega)]
    rw [leaves0_7_live m c t (by omega)]
    have ev : qkvS m c t = k0_pay8 (hS m c (start t)) (iblk m c 2 t) := by unfold qkvS; rw [if_neg (by omega), if_neg (by omega)]
    rw [ev]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => absurd (n0.1 h) (by omega)) (fun h => absurd (n1.1 h) (by omega)) (fun h => absurd (n2.1 h) (by omega)) (fun h => absurd (n3.1 h) (by omega)) (n4.2 (by omega)) (iblk m c 0 t) (iblk m c 1 t) (iblk m c 2 t) (iblk m c 3 t) (iblk m c 4 t) (iblk m c 5 t) (uS m c t) (hS m c (start t)) (cS m c (start t)) (sS m c (start t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves0_6_idle m c t (by omega)); iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := PhiS_out m c (Fin.last cfg0.N).val (Nat.le_of_lt_succ (Fin.last cfg0.N).isLt)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AbProj

end
-- ==== Proof.AbProjEntry.lean ====
module

public import proofs.«01_k».proof.Proof.AbProjRun

/-! The even layer's norm and input projection, one grid point, entry by entry. -/

@[expose] public section

noncomputable section

namespace Cert.AbProj

open Idealize.ShloMosaic Idealize.ShloMosaic.TcCoe Cert.Base
open Cert.Kernel7Ideal Cert.Kernel7Ideal.Gen

/-- The factor the queries are scaled by. -/
abbrev scale : EReal := Ideal.ofBits .f32 0x3E0293EE#32

/-- The rotary rotation of one head: each lane times its cosine plus its partner lane times its signed sine. -/
def rope (p c s : Fin 128 → EReal) (l : Fin 128) : EReal :=
  p l * c l + p (if l.val < 16 then ⟨(l.val + 16) % 128, Nat.mod_lt _ (by decide)⟩ else ⟨(l.val + 112) % 128, Nat.mod_lt _ (by decide)⟩) * s l

theorem pay10_apply (x : Vec Ideal S1024x2048 .f32) (g : Vec Ideal S1x1x2048 .f32) (r : Fin 1024) (k : Fin 2048) :
    k0_pay10 (F := Ideal) x g (ix2 r k) = rowNorm (fun k => x (ix2 r k)) (fun k => g (ix3 0 0 k)) k := by
  unfold k0_pay10
  pointwise
  rfl

theorem pay3_apply (h : Vec Ideal S1024x2048 .bf16) (w : Vec Ideal S1x2048x512 .f32) (r : Fin 1024) (f : Fin 512) :
    k0_pay3 (F := Ideal) h w (ix2 r f) = ∑ k : Fin 2048, h (ix2 r k) * w (ix3 0 k f) := by
  unfold k0_pay3
  pointwise

theorem pay8_apply (h : Vec Ideal S1024x2048 .bf16) (w : Vec Ideal S1x2048x512 .f32) (r : Fin 1024) (f : Fin 512) :
    k0_pay8 (F := Ideal) h w (ix2 r f) = ∑ k : Fin 2048, h (ix2 r k) * w (ix3 0 k f) := by
  unfold k0_pay8
  pointwise

theorem pay14_apply (h : Vec Ideal S1024x2048 .bf16) (w : Vec Ideal S1x2048x512 .f32) (r : Fin 1024) (f : Fin 512) :
    k0_pay14 (F := Ideal) h w (ix2 r f) = ∑ k : Fin 2048, h (ix2 r k) * w (ix3 0 k f) := by
  unfold k0_pay14
  pointwise

theorem pay21_apply (h : Vec Ideal S1024x2048 .bf16) (w : Vec Ideal S1x2048x512 .f32) (r : Fin 1024) (f : Fin 512) :
    k0_pay21 (F := Ideal) h w (ix2 r f) = ∑ k : Fin 2048, h (ix2 r k) * w (ix3 0 k f) := by
  unfold k0_pay21
  pointwise

theorem pay12_apply (p : Vec Ideal S1024x1 .f32) (q : Vec Ideal S1x128 .f32) (r : Fin 1024) (l : Fin 128) :
    k0_pay12 (F := Ideal) p q (ix2 r l) = Ideal.cos (p (ix2 r 0) * q (ix2 0 l)) := by
  unfold k0_pay12 k0_pay11
  pointwise

theorem sinV_apply (p : Vec Ideal S1024x1 .f32) (q s : Vec Ideal S1x128 .f32) (r : Fin 1024) (l : Fin 128) :
    sinV (F := Ideal) p q s (ix2 r l) = Ideal.sin (p (ix2 r 0) * q (ix2 0 l)) * s (ix2 0 l) := by
  unfold sinV k0_pay1 k0_pay13 k0_pay11
  pointwise

theorem lt16_word : ∀ l : Fin 128, IntOp.cmpi CmpIPredicate.slt (BitVec.ofNat 32 l.val) 16#32 = if l.val < 16 then 1#1 else 0#1 := by
  decide +kernel

/-- A head as the body rotates it: the lane below 16 takes the lane 16 on, the others the lane 16 back. -/
theorem head_apply (x c s : FVec Ideal S1024x128 .f32) (h1 h2 : S1024x128.Rotates 1 none) (r : Fin 1024) (l : Fin 128) :
    addf (F := Ideal) (mulf x c) (mulf (select (cmpi .slt (iota .tc S1024x128 32 [1] iota_S1024x128_d1_w32) (broadcast S1024x128 16#32))
      (dynamicRotate 1 112#32 none x h1) (dynamicRotate 1 16#32 none x h2)) s) (ix2 r l)
      = rope (fun l => x (ix2 r l)) (fun l => c (ix2 r l)) (fun l => s (ix2 r l)) l := by
  unfold rope
  pointwise
  rw [lt16_word l]
  by_cases h : l.val < 16
  · rw [if_pos h, if_pos h]
    have e : (l.val + 128 - 112) % 128 = (l.val + 16) % 128 := by omega
    simp only [e]
    rfl
  · rw [if_neg h, if_neg h]
    have e : (l.val + 128 - 16) % 128 = (l.val + 112) % 128 := by omega
    simp only [e]
    rfl

/-- Four heads side by side: a column is the head it lies in, at its lane. -/
theorem four_apply (x0 x1 x2 x3 : FVec Ideal S1024x128 .f32) (r : Fin 1024) (a : Fin 4) (l : Fin 128) (f : Fin 512) (hf : f.val = 128 * a.val + l.val) :
    concatenate S1024x512 1 [⟨S1024x128, x0⟩, ⟨S1024x128, x1⟩, ⟨S1024x128, x2⟩, ⟨S1024x128, x3⟩] concatenates_S1024x128_S1024x128_S1024x128_S1024x128_S1024x512_d1 (ix2 r f)
      = (match a with | 0 => x0 | 1 => x1 | 2 => x2 | 3 => x3) (ix2 r l) := by
  pointwise
  have hl := l.isLt
  match a, hf with
  | 0, hf =>
    have hf : f.val = l.val := by simpa using hf
    rw [dif_pos (by omega)]
    exact congrArg (fun l => x0 (ix2 r l)) (Fin.ext hf)
  | 1, hf =>
    have hf : f.val = 128 + l.val := hf
    rw [dif_neg (by omega), dif_pos (by omega)]
    exact congrArg (fun l => x1 (ix2 r l)) (Fin.ext (show f.val - 128 = l.val by omega))
  | 2, hf =>
    have hf : f.val = 256 + l.val := hf
    rw [dif_neg (by omega), dif_neg (by omega), dif_pos (by omega)]
    exact congrArg (fun l => x2 (ix2 r l)) (Fin.ext (show f.val - 128 - 128 = l.val by omega))
  | 3, hf =>
    have hf : f.val = 384 + l.val := hf
    rw [dif_neg (by omega), dif_neg (by omega), dif_neg (by omega)]
    exact congrArg (fun l => x3 (ix2 r l)) (Fin.ext (show f.val - 128 - 128 - 128 = l.val by omega))

/-- A lane of a product's row: head `a` of the four. -/
def lane (P : Fin 512 → EReal) (a : Fin 4) (l : Fin 128) : EReal := P ⟨128 * a.val + l.val, by omega⟩

/-- The product's row. -/
def row (h : Vec Ideal S1024x2048 .bf16) (w : Vec Ideal S1x2048x512 .f32) (r : Fin 1024) (f : Fin 512) : EReal := ∑ k : Fin 2048, h (ix2 r k) * w (ix3 0 k f)

theorem slice14_0 (h : Vec Ideal S1024x2048 .bf16) (w : Vec Ideal S1x2048x512 .f32) (r : Fin 1024) (l : Fin 128) :
    extractStridedSlice S1024x128 ![0, 0] (k0_pay14 (F := Ideal) h w) slices_S1024x512_o0_0_S1024x128 (ix2 r l) = lane (row h w r) 0 l := by
  unfold lane row
  rw [← pay14_apply]
  pointwise

theorem pay15_apply (h : Vec Ideal S1024x2048 .bf16) (w : Vec Ideal S1x2048x512 .f32) (c s : Vec Ideal S1024x128 .f32) (r : Fin 1024) (l : Fin 128) :
    k0_pay15 (F := Ideal) h w c s (ix2 r l) = rope (lane (row h w r) 0) (fun l => c (ix2 r l)) (fun l => s (ix2 r l)) l := by
  have e : k0_pay15 (F := Ideal) h w c s = addf (F := Ideal) (mulf (extractStridedSlice S1024x128 ![0, 0] (k0_pay14 (F := Ideal) h w) slices_S1024x512_o0_0_S1024x128) c)
      (mulf (select (cmpi .slt (iota .tc S1024x128 32 [1] iota_S1024x128_d1_w32) (broadcast S1024x128 16#32))
        (dynamicRotate 1 112#32 none (extractStridedSlice S1024x128 ![0, 0] (k0_pay14 (F := Ideal) h w) slices_S1024x512_o0_0_S1024x128) rotates_S1024x128_d1) (dynamicRotate 1 16#32 none (extractStridedSlice S1024x128 ![0, 0] (k0_pay14 (F := Ideal) h w) slices_S1024x512_o0_0_S1024x128) rotates_S1024x128_d1)) s) := rfl
  rw [e, head_apply]
  exact congrArg (fun p => rope p _ _ l) (funext fun l => slice14_0 h w r l)

theorem slice14_1 (h : Vec Ideal S1024x2048 .bf16) (w : Vec Ideal S1x2048x512 .f32) (r : Fin 1024) (l : Fin 128) :
    extractStridedSlice S1024x128 ![0, 128] (k0_pay14 (F := Ideal) h w) slices_S1024x512_o0_128_S1024x128 (ix2 r l) = lane (row h w r) 1 l := by
  unfold lane row
  rw [← pay14_apply]
  pointwise

theorem pay16_apply (h : Vec Ideal S1024x2048 .bf16) (w : Vec Ideal S1x2048x512 .f32) (c s : Vec Ideal S1024x128 .f32) (r : Fin 1024) (l : Fin 128) :
    k0_pay16 (F := Ideal) h w c s (ix2 r l) = rope (lane (row h w r) 1) (fun l => c (ix2 r l)) (fun l => s (ix2 r l)) l := by
  have e : k0_pay16 (F := Ideal) h w c s = addf (F := Ideal) (mulf (extractStridedSlice S1024x128 ![0, 128] (k0_pay14 (F := Ideal) h w) slices_S1024x512_o0_128_S1024x128) c)
      (mulf (select (cmpi .slt (iota .tc S1024x128 32 [1] iota_S1024x128_d1_w32) (broadcast S1024x128 16#32))
        (dynamicRotate 1 112#32 none (extractStridedSlice S1024x128 ![0, 128] (k0_pay14 (F := Ideal) h w) slices_S1024x512_o0_128_S1024x128) rotates_S1024x128_d1) (dynamicRotate 1 16#32 none (extractStridedSlice S1024x128 ![0, 128] (k0_pay14 (F := Ideal) h w) slices_S1024x512_o0_128_S1024x128) rotates_S1024x128_d1)) s) := rfl
  rw [e, head_apply]
  exact congrArg (fun p => rope p _ _ l) (funext fun l => slice14_1 h w r l)

theorem slice14_2 (h : Vec Ideal S1024x2048 .bf16) (w : Vec Ideal S1x2048x512 .f32) (r : Fin 1024) (l : Fin 128) :
    extractStridedSlice S1024x128 ![0, 256] (k0_pay14 (F := Ideal) h w) slices_S1024x512_o0_256_S1024x128 (ix2 r l) = lane (row h w r) 2 l := by
  unfold lane row
  rw [← pay14_apply]
  pointwise

theorem pay17_apply (h : Vec Ideal S1024x2048 .bf16) (w : Vec Ideal S1x2048x512 .f32) (c s : Vec Ideal S1024x128 .f32) (r : Fin 1024) (l : Fin 128) :
    k0_pay17 (F := Ideal) h w c s (ix2 r l) = rope (lane (row h w r) 2) (fun l => c (ix2 r l)) (fun l => s (ix2 r l)) l := by
  have e : k0_pay17 (F := Ideal) h w c s = addf (F := Ideal) (mulf (extractStridedSlice S1024x128 ![0, 256] (k0_pay14 (F := Ideal) h w) slices_S1024x512_o0_256_S1024x128) c)
      (mulf (select (cmpi .slt (iota .tc S1024x128 32 [1] iota_S1024x128_d1_w32) (broadcast S1024x128 16#32))
        (dynamicRotate 1 112#32 none (extractStridedSlice S1024x128 ![0, 256] (k0_pay14 (F := Ideal) h w) slices_S1024x512_o0_256_S1024x128) rotates_S1024x128_d1) (dynamicRotate 1 16#32 none (extractStridedSlice S1024x128 ![0, 256] (k0_pay14 (F := Ideal) h w) slices_S1024x512_o0_256_S1024x128) rotates_S1024x128_d1)) s) := rfl
  rw [e, head_apply]
  exact congrArg (fun p => rope p _ _ l) (funext fun l => slice14_2 h w r l)

theorem slice14_3 (h : Vec Ideal S1024x2048 .bf16) (w : Vec Ideal S1x2048x512 .f32) (r : Fin 1024) (l : Fin 128) :
    extractStridedSlice S1024x128 ![0, 384] (k0_pay14 (F := Ideal) h w) slices_S1024x512_o0_384_S1024x128 (ix2 r l) = lane (row h w r) 3 l := by
  unfold lane row
  rw [← pay14_apply]
  pointwise

theorem slice21_0 (h : Vec Ideal S1024x2048 .bf16) (w : Vec Ideal S1x2048x512 .f32) (r : Fin 1024) (l : Fin 128) :
    extractStridedSlice S1024x128 ![0, 0] (k0_pay21 (F := Ideal) h w) slices_S1024x512_o0_0_S1024x128 (ix2 r l) = lane (row h w r) 0 l := by
  unfold lane row
  rw [← pay21_apply]
  pointwise

theorem pay22_apply (h : Vec Ideal S1024x2048 .bf16) (w : Vec Ideal S1x2048x512 .f32) (c s : Vec Ideal S1024x128 .f32) (r : Fin 1024) (l : Fin 128) :
    k0_pay22 (F := Ideal) h w c s (ix2 r l) = rope (lane (row h w r) 0) (fun l => c (ix2 r l)) (fun l => s (ix2 r l)) l := by
  have e : k0_pay22 (F := Ideal) h w c s = addf (F := Ideal) (mulf (extractStridedSlice S1024x128 ![0, 0] (k0_pay21 (F := Ideal) h w) slices_S1024x512_o0_0_S1024x128) c)
      (mulf (select (cmpi .slt (iota .tc S1024x128 32 [1] iota_S1024x128_d1_w32) (broadcast S1024x128 16#32))
        (dynamicRotate 1 112#32 none (extractStridedSlice S1024x128 ![0, 0] (k0_pay21 (F := Ideal) h w) slices_S1024x512_o0_0_S1024x128) rotates_S1024x128_d1) (dynamicRotate 1 16#32 none (extractStridedSlice S1024x128 ![0, 0] (k0_pay21 (F := Ideal) h w) slices_S1024x512_o0_0_S1024x128) rotates_S1024x128_d1)) s) := rfl
  rw [e, head_apply]
  exact congrArg (fun p => rope p _ _ l) (funext fun l => slice21_0 h w r l)

theorem slice21_1 (h : Vec Ideal S1024x2048 .bf16) (w : Vec Ideal S1x2048x512 .f32) (r : Fin 1024) (l : Fin 128) :
    extractStridedSlice S1024x128 ![0, 128] (k0_pay21 (F := Ideal) h w) slices_S1024x512_o0_128_S1024x128 (ix2 r l) = lane (row h w r) 1 l := by
  unfold lane row
  rw [← pay21_apply]
  pointwise

theorem pay23_apply (h : Vec Ideal S1024x2048 .bf16) (w : Vec Ideal S1x2048x512 .f32) (c s : Vec Ideal S1024x128 .f32) (r : Fin 1024) (l : Fin 128) :
    k0_pay23 (F := Ideal) h w c s (ix2 r l) = rope (lane (row h w r) 1) (fun l => c (ix2 r l)) (fun l => s (ix2 r l)) l := by
  have e : k0_pay23 (F := Ideal) h w c s = addf (F := Ideal) (mulf (extractStridedSlice S1024x128 ![0, 128] (k0_pay21 (F := Ideal) h w) slices_S1024x512_o0_128_S1024x128) c)
      (mulf (select (cmpi .slt (iota .tc S1024x128 32 [1] iota_S1024x128_d1_w32) (broadcast S1024x128 16#32))
        (dynamicRotate 1 112#32 none (extractStridedSlice S1024x128 ![0, 128] (k0_pay21 (F := Ideal) h w) slices_S1024x512_o0_128_S1024x128) rotates_S1024x128_d1) (dynamicRotate 1 16#32 none (extractStridedSlice S1024x128 ![0, 128] (k0_pay21 (F := Ideal) h w) slices_S1024x512_o0_128_S1024x128) rotates_S1024x128_d1)) s) := rfl
  rw [e, head_apply]
  exact congrArg (fun p => rope p _ _ l) (funext fun l => slice21_1 h w r l)

theorem slice21_2 (h : Vec Ideal S1024x2048 .bf16) (w : Vec Ideal S1x2048x512 .f32) (r : Fin 1024) (l : Fin 128) :
    extractStridedSlice S1024x128 ![0, 256] (k0_pay21 (F := Ideal) h w) slices_S1024x512_o0_256_S1024x128 (ix2 r l) = lane (row h w r) 2 l := by
  unfold lane row
  rw [← pay21_apply]
  pointwise

theorem pay24_apply (h : Vec Ideal S1024x2048 .bf16) (w : Vec Ideal S1x2048x512 .f32) (c s : Vec Ideal S1024x128 .f32) (r : Fin 1024) (l : Fin 128) :
    k0_pay24 (F := Ideal) h w c s (ix2 r l) = rope (lane (row h w r) 2) (fun l => c (ix2 r l)) (fun l => s (ix2 r l)) l := by
  have e : k0_pay24 (F := Ideal) h w c s = addf (F := Ideal) (mulf (extractStridedSlice S1024x128 ![0, 256] (k0_pay21 (F := Ideal) h w) slices_S1024x512_o0_256_S1024x128) c)
      (mulf (select (cmpi .slt (iota .tc S1024x128 32 [1] iota_S1024x128_d1_w32) (broadcast S1024x128 16#32))
        (dynamicRotate 1 112#32 none (extractStridedSlice S1024x128 ![0, 256] (k0_pay21 (F := Ideal) h w) slices_S1024x512_o0_256_S1024x128) rotates_S1024x128_d1) (dynamicRotate 1 16#32 none (extractStridedSlice S1024x128 ![0, 256] (k0_pay21 (F := Ideal) h w) slices_S1024x512_o0_256_S1024x128) rotates_S1024x128_d1)) s) := rfl
  rw [e, head_apply]
  exact congrArg (fun p => rope p _ _ l) (funext fun l => slice21_2 h w r l)

theorem slice21_3 (h : Vec Ideal S1024x2048 .bf16) (w : Vec Ideal S1x2048x512 .f32) (r : Fin 1024) (l : Fin 128) :
    extractStridedSlice S1024x128 ![0, 384] (k0_pay21 (F := Ideal) h w) slices_S1024x512_o0_384_S1024x128 (ix2 r l) = lane (row h w r) 3 l := by
  unfold lane row
  rw [← pay21_apply]
  pointwise

/-- A tile, at an entry: column `f` is lane `l` of head `a`. -/
theorem qV_apply (h : Vec Ideal S1024x2048 .bf16) (w : Vec Ideal S1x2048x512 .f32) (c s : Vec Ideal S1024x128 .f32) (r : Fin 1024) (a : Fin 4) (l : Fin 128) (f : Fin 512)
    (hf : f.val = 128 * a.val + l.val) :
    qV (F := Ideal) h w c s (ix2 r f) = rope (lane (row h w r) a) (fun l => c (ix2 r l)) (fun l => s (ix2 r l)) l * scale := by
  unfold qV k0_pay4
  refine Eq.trans (b := (fun y : EReal => y * scale) (concatenate S1024x512 1 [⟨S1024x128, k0_pay15 (F := Ideal) h w c s⟩, ⟨S1024x128, k0_pay16 (F := Ideal) h w c s⟩, ⟨S1024x128, k0_pay17 (F := Ideal) h w c s⟩,
    ⟨S1024x128, addf (F := Ideal) (mulf (k0_pay18 (F := Ideal) h w) c) (mulf (select (cmpi .slt (iota .tc S1024x128 32 [1] iota_S1024x128_d1_w32) (broadcast S1024x128 16#32))
      (dynamicRotate 1 112#32 none (k0_pay18 (F := Ideal) h w) rotates_S1024x128_d1) (dynamicRotate 1 16#32 none (k0_pay18 (F := Ideal) h w) rotates_S1024x128_d1)) s)⟩] concatenates_S1024x128_S1024x128_S1024x128_S1024x128_S1024x512_d1 (ix2 r f))) rfl ?_
  rw [four_apply _ _ _ _ r a l f hf]
  match a with
  | 0 => exact congrArg (fun y : EReal => y * scale) (pay15_apply h w c s r l)
  | 1 => exact congrArg (fun y : EReal => y * scale) (pay16_apply h w c s r l)
  | 2 => exact congrArg (fun y : EReal => y * scale) (pay17_apply h w c s r l)
  | 3 =>
    refine (congrArg (fun y : EReal => y * scale) (head_apply (k0_pay18 (F := Ideal) h w) c s _ _ r l)).trans ?_
    exact congrArg (fun p => rope p _ _ l * scale) (funext fun l => slice14_3 h w r l)

/-- A tile, at an entry: column `f` is lane `l` of head `a`. -/
theorem kV_apply (h : Vec Ideal S1024x2048 .bf16) (w : Vec Ideal S1x2048x512 .f32) (c s : Vec Ideal S1024x128 .f32) (r : Fin 1024) (a : Fin 4) (l : Fin 128) (f : Fin 512)
    (hf : f.val = 128 * a.val + l.val) :
    kV (F := Ideal) h w c s (ix2 r f) = rope (lane (row h w r) a) (fun l => c (ix2 r l)) (fun l => s (ix2 r l)) l := by
  unfold kV k0_pay6
  refine Eq.trans (b := (concatenate S1024x512 1 [⟨S1024x128, k0_pay22 (F := Ideal) h w c s⟩, ⟨S1024x128, k0_pay23 (F := Ideal) h w c s⟩, ⟨S1024x128, k0_pay24 (F := Ideal) h w c s⟩,
    ⟨S1024x128, addf (F := Ideal) (mulf (k0_pay25 (F := Ideal) h w) c) (mulf (select (cmpi .slt (iota .tc S1024x128 32 [1] iota_S1024x128_d1_w32) (broadcast S1024x128 16#32))
      (dynamicRotate 1 112#32 none (k0_pay25 (F := Ideal) h w) rotates_S1024x128_d1) (dynamicRotate 1 16#32 none (k0_pay25 (F := Ideal) h w) rotates_S1024x128_d1)) s)⟩] concatenates_S1024x128_S1024x128_S1024x128_S1024x128_S1024x512_d1 (ix2 r f))) rfl ?_
  rw [four_apply _ _ _ _ r a l f hf]
  match a with
  | 0 => exact congrArg (fun y : EReal => y) (pay22_apply h w c s r l)
  | 1 => exact congrArg (fun y : EReal => y) (pay23_apply h w c s r l)
  | 2 => exact congrArg (fun y : EReal => y) (pay24_apply h w c s r l)
  | 3 =>
    refine (congrArg (fun y : EReal => y) (head_apply (k0_pay25 (F := Ideal) h w) c s _ _ r l)).trans ?_
    exact congrArg (fun p => rope p _ _ l) (funext fun l => slice21_3 h w r l)

end Cert.AbProj
end
-- ==== Proof.AbProjArr.lean ====
module

public import proofs.«01_k».proof.Proof.AbProjFrame
public import proofs.«01_k».proof.Proof.AbProjEntry
public import Idealize.ShloMosaic.Lib.Pipeline.ValueKit

/-! The even layer's norm and input projection: the two arrays the call leaves, entry by entry. -/

@[expose] public section

noncomputable section

namespace Cert.AbProj

open Idealize.ShloMosaic Idealize.ShloMosaic.TcCoe Idealize.SL.Sem Cert.Base
open Cert.Kernel7Ideal Cert.Kernel7Ideal.Gen

variable (m : (ℓ : Loc nD τ sig) → Buf (Elt Ideal) ℓ)

/-- The array behind window 0, at an entry. -/
def A0 (c : Dev nD) (q0 : Fin 8192) (q1 : Fin 2048) : EReal := V m c main_v20 (ix2 q0 q1)

/-- The block of window 0 at each grid point. -/
theorem index_0 : ∀ t : Fin cfg0.N, win0_0.index t (0 : Fin 2) = t.val / 8 ∧ win0_0.index t (1 : Fin 2) = 0 :=
  (by decide +kernel : ∀ t : Fin grid0.N, _)

/-- The block of window 0 at point `t`, read at an entry of the array. -/
theorem iblk_0 (c : Dev nD) (t : Fin cfg0.N) (p0 : Fin 1024) (p1 : Fin 2048) (q0 : Fin 8192) (q1 : Fin 2048)
    (h0 : q0.val = t.val / 8 * 1024 + p0.val) (h1 : q1.val = 0 * 2048 + p1.val) :
    (iblk m c 0 t (ix2 p0 p1) : EReal) = A0 m c q0 q1 := by
  have hi := index_0 t
  unfold iblk A0
  rw [View.read_apply]
  show V m c main_v20 _ = V m c main_v20 _
  congr 1
  funext a; apply Fin.ext
  match a with
  | ⟨0, _⟩ => show win0_0.index t 0 * 1024 + 1 * p0.val = q0.val; rw [hi.1, h0]; omega
  | ⟨1, _⟩ => show win0_0.index t 1 * 2048 + 1 * p1.val = q1.val; rw [hi.2, h1]; omega

/-- The array behind window 1, at an entry. -/
def A1 (c : Dev nD) (q0 : Fin 2) (q1 : Fin 1) (q2 : Fin 2048) : EReal := V m c main_v21 (ix3 q0 q1 q2)

/-- The block of window 1 at each grid point. -/
theorem index_1 : ∀ t : Fin cfg0.N, win0_1.index t (0 : Fin 3) = 0 ∧ win0_1.index t (1 : Fin 3) = 0 ∧ win0_1.index t (2 : Fin 3) = 0 :=
  (by decide +kernel : ∀ t : Fin grid0.N, _)

/-- The block of window 1 at point `t`, read at an entry of the array. -/
theorem iblk_1 (c : Dev nD) (t : Fin cfg0.N) (p0 : Fin 1) (p1 : Fin 1) (p2 : Fin 2048) (q0 : Fin 2) (q1 : Fin 1) (q2 : Fin 2048)
    (h0 : q0.val = 0 * 1 + p0.val) (h1 : q1.val = 0 * 1 + p1.val) (h2 : q2.val = 0 * 2048 + p2.val) :
    (iblk m c 1 t (ix3 p0 p1 p2) : EReal) = A1 m c q0 q1 q2 := by
  have hi := index_1 t
  unfold iblk A1
  rw [View.read_apply]
  show V m c main_v21 _ = V m c main_v21 _
  congr 1
  funext a; apply Fin.ext
  match a with
  | ⟨0, _⟩ => show win0_1.index t 0 * 1 + 1 * p0.val = q0.val; rw [hi.1, h0]; omega
  | ⟨1, _⟩ => show win0_1.index t 1 * 1 + 1 * p1.val = q1.val; rw [hi.2.1, h1]; omega
  | ⟨2, _⟩ => show win0_1.index t 2 * 2048 + 1 * p2.val = q2.val; rw [hi.2.2, h2]; omega

/-- The array behind window 2, at an entry. -/
def A2 (c : Dev nD) (q0 : Fin 1) (q1 : Fin 2048) (q2 : Fin 4096) : EReal := V m c main_arg3 (ix3 q0 q1 q2)

/-- The block of window 2 at each grid point. -/
theorem index_2 : ∀ t : Fin cfg0.N, win0_2.index t (0 : Fin 3) = 0 ∧ win0_2.index t (1 : Fin 3) = 0 ∧ win0_2.index t (2 : Fin 3) = (t.val % 8) :=
  (by decide +kernel : ∀ t : Fin grid0.N, _)

/-- The block of window 2 at point `t`, read at an entry of the array. -/
theorem iblk_2 (c : Dev nD) (t : Fin cfg0.N) (p0 : Fin 1) (p1 : Fin 2048) (p2 : Fin 512) (q0 : Fin 1) (q1 : Fin 2048) (q2 : Fin 4096)
    (h0 : q0.val = 0 * 1 + p0.val) (h1 : q1.val = 0 * 2048 + p1.val) (h2 : q2.val = (t.val % 8) * 512 + p2.val) :
    (iblk m c 2 t (ix3 p0 p1 p2) : EReal) = A2 m c q0 q1 q2 := by
  have hi := index_2 t
  unfold iblk A2
  rw [View.read_apply]
  show V m c main_arg3 _ = V m c main_arg3 _
  congr 1
  funext a; apply Fin.ext
  match a with
  | ⟨0, _⟩ => show win0_2.index t 0 * 1 + 1 * p0.val = q0.val; rw [hi.1, h0]; omega
  | ⟨1, _⟩ => show win0_2.index t 1 * 2048 + 1 * p1.val = q1.val; rw [hi.2.1, h1]; omega
  | ⟨2, _⟩ => show win0_2.index t 2 * 512 + 1 * p2.val = q2.val; rw [hi.2.2, h2]; omega

/-- The array behind window 3, at an entry. -/
def A3 (c : Dev nD) (q0 : Fin 8192) (q1 : Fin 1) : EReal := V m c main_v19 (ix2 q0 q1)

/-- The block of window 3 at each grid point. -/
theorem index_3 : ∀ t : Fin cfg0.N, win0_3.index t (0 : Fin 2) = t.val / 8 ∧ win0_3.index t (1 : Fin 2) = 0 :=
  (by decide +kernel : ∀ t : Fin grid0.N, _)

/-- The block of window 3 at point `t`, read at an entry of the array. -/
theorem iblk_3 (c : Dev nD) (t : Fin cfg0.N) (p0 : Fin 1024) (p1 : Fin 1) (q0 : Fin 8192) (q1 : Fin 1)
    (h0 : q0.val = t.val / 8 * 1024 + p0.val) (h1 : q1.val = 0 * 1 + p1.val) :
    (iblk m c 3 t (ix2 p0 p1) : EReal) = A3 m c q0 q1 := by
  have hi := index_3 t
  unfold iblk A3
  rw [View.read_apply]
  show V m c main_v19 _ = V m c main_v19 _
  congr 1
  funext a; apply Fin.ext
  match a with
  | ⟨0, _⟩ => show win0_3.index t 0 * 1024 + 1 * p0.val = q0.val; rw [hi.1, h0]; omega
  | ⟨1, _⟩ => show win0_3.index t 1 * 1 + 1 * p1.val = q1.val; rw [hi.2, h1]; omega

/-- The array behind window 4, at an entry. -/
def A4 (c : Dev nD) (q0 : Fin 1) (q1 : Fin 128) : EReal := V m c main_v12 (ix2 q0 q1)

/-- The block of window 4 at each grid point. -/
theorem index_4 : ∀ t : Fin cfg0.N, win0_4.index t (0 : Fin 2) = 0 ∧ win0_4.index t (1 : Fin 2) = 0 :=
  (by decide +kernel : ∀ t : Fin grid0.N, _)

/-- The block of window 4 at point `t`, read at an entry of the array. -/
theorem iblk_4 (c : Dev nD) (t : Fin cfg0.N) (p0 : Fin 1) (p1 : Fin 128) (q0 : Fin 1) (q1 : Fin 128)
    (h0 : q0.val = 0 * 1 + p0.val) (h1 : q1.val = 0 * 128 + p1.val) :
    (iblk m c 4 t (ix2 p0 p1) : EReal) = A4 m c q0 q1 := by
  have hi := index_4 t
  unfold iblk A4
  rw [View.read_apply]
  show V m c main_v12 _ = V m c main_v12 _
  congr 1
  funext a; apply Fin.ext
  match a with
  | ⟨0, _⟩ => show win0_4.index t 0 * 1 + 1 * p0.val = q0.val; rw [hi.1, h0]; omega
  | ⟨1, _⟩ => show win0_4.index t 1 * 128 + 1 * p1.val = q1.val; rw [hi.2, h1]; omega

/-- The array behind window 5, at an entry. -/
def A5 (c : Dev nD) (q0 : Fin 1) (q1 : Fin 128) : EReal := V m c main_v17 (ix2 q0 q1)

/-- The block of window 5 at each grid point. -/
theorem index_5 : ∀ t : Fin cfg0.N, win0_5.index t (0 : Fin 2) = 0 ∧ win0_5.index t (1 : Fin 2) = 0 :=
  (by decide +kernel : ∀ t : Fin grid0.N, _)

/-- The block of window 5 at point `t`, read at an entry of the array. -/
theorem iblk_5 (c : Dev nD) (t : Fin cfg0.N) (p0 : Fin 1) (p1 : Fin 128) (q0 : Fin 1) (q1 : Fin 128)
    (h0 : q0.val = 0 * 1 + p0.val) (h1 : q1.val = 0 * 128 + p1.val) :
    (iblk m c 5 t (ix2 p0 p1) : EReal) = A5 m c q0 q1 := by
  have hi := index_5 t
  unfold iblk A5
  rw [View.read_apply]
  show V m c main_v17 _ = V m c main_v17 _
  congr 1
  funext a; apply Fin.ext
  match a with
  | ⟨0, _⟩ => show win0_5.index t 0 * 1 + 1 * p0.val = q0.val; rw [hi.1, h0]; omega
  | ⟨1, _⟩ => show win0_5.index t 1 * 128 + 1 * p1.val = q1.val; rw [hi.2, h1]; omega

/-- Row `R` normalised. -/
def hid (c : Dev nD) (R : Fin 8192) : Fin 2048 → EReal :=
  rowNorm (fun k => A0 m c R k) (fun k => A1 m c 0 0 k)

/-- The projection's entry. -/
def proj (c : Dev nD) (R : Fin 8192) (C : Fin 4096) : EReal := ∑ k : Fin 2048, hid m c R k * A2 m c 0 k C

/-- The cosines and the signed sines of row `R`. -/
def cosr (c : Dev nD) (R : Fin 8192) (l : Fin 128) : EReal := Ideal.cos (A3 m c R 0 * A4 m c 0 l)
def sinr (c : Dev nD) (R : Fin 8192) (l : Fin 128) : EReal := Ideal.sin (A3 m c R 0 * A4 m c 0 l) * A5 m c 0 l

/-- The head of the projection that column `C` of the second result lies in. -/
def headRow (c : Dev nD) (R : Fin 8192) (C : Fin 3072) (l : Fin 128) : EReal := proj m c R ⟨1024 + C.val / 128 * 128 + l.val, by omega⟩

/-- The first result. -/
def G6 (c : Dev nD) (R : Fin 8192) (C : Fin 1024) : EReal := proj m c R ⟨C.val, by omega⟩
/-- The second result: the queries rotated and scaled, the keys rotated, the values. -/
def G7 (c : Dev nD) (R : Fin 8192) (C : Fin 3072) : EReal :=
  if C.val < 1024 then rope (headRow m c R C) (cosr m c R) (sinr m c R) ⟨C.val % 128, Nat.mod_lt _ (by decide)⟩ * scale
  else if C.val < 2048 then rope (headRow m c R C) (cosr m c R) (sinr m c R) ⟨C.val % 128, Nat.mod_lt _ (by decide)⟩
  else proj m c R ⟨1024 + C.val, by omega⟩

theorem start_val (t : Fin cfg0.N) : (start t).val = 8 * (t.val / 8) := rfl
theorem lastU_val (t : Fin cfg0.N) : (lastU t).val = 8 * (t.val / 8) + min (t.val % 8) 1 := rfl

theorem hS_apply (c : Dev nD) (t : Fin cfg0.N) (r : Fin 1024) (R : Fin 8192) (hR : R.val = t.val / 8 * 1024 + r.val) (k : Fin 2048) :
    hS m c (start t) (ix2 r k) = hid m c R k := by
  have hs : R.val = (start t).val / 8 * 1024 + r.val := by rw [start_val, hR]; omega
  unfold hS
  rw [pay10_apply]
  unfold hid
  have e0 : (fun k => (iblk m c 0 (start t) (ix2 r k) : EReal)) = fun k => A0 m c R k :=
    funext fun k => iblk_0 m c (start t) r k R k hs (by simp)
  have e1 : (fun k => (iblk m c 1 (start t) (ix3 0 0 k) : EReal)) = fun k => A1 m c 0 0 k :=
    funext fun k => iblk_1 m c (start t) 0 0 k 0 0 k (by simp) (by simp) (by simp)
  exact congrArg₂ (fun a b => rowNorm a b k) e0 e1

theorem cS_apply (c : Dev nD) (t : Fin cfg0.N) (r : Fin 1024) (R : Fin 8192) (hR : R.val = t.val / 8 * 1024 + r.val) (l : Fin 128) :
    cS m c (start t) (ix2 r l) = cosr m c R l := by
  have hs : R.val = (start t).val / 8 * 1024 + r.val := by rw [start_val, hR]; omega
  unfold cS cosr
  rw [pay12_apply]
  exact congrArg₂ (fun a b : EReal => Ideal.cos (a * b)) (iblk_3 m c (start t) r 0 R 0 hs (by simp))
    (iblk_4 m c (start t) 0 l 0 l (by simp) (by simp))

theorem sS_apply (c : Dev nD) (t : Fin cfg0.N) (r : Fin 1024) (R : Fin 8192) (hR : R.val = t.val / 8 * 1024 + r.val) (l : Fin 128) :
    sS m c (start t) (ix2 r l) = sinr m c R l := by
  have hs : R.val = (start t).val / 8 * 1024 + r.val := by rw [start_val, hR]; omega
  unfold sS sinr
  rw [sinV_apply]
  exact congrArg₂ (fun a b : EReal => a * b)
    (congrArg₂ (fun a b : EReal => Ideal.sin (a * b)) (iblk_3 m c (start t) r 0 R 0 hs (by simp))
      (iblk_4 m c (start t) 0 l 0 l (by simp) (by simp)))
    (iblk_5 m c (start t) 0 l 0 l (by simp) (by simp))

/-- The product of the point's rows with the weights' tile at point `t'`. -/
theorem row_apply (c : Dev nD) (t t' : Fin cfg0.N) (r : Fin 1024) (R : Fin 8192) (hR : R.val = t.val / 8 * 1024 + r.val) (f : Fin 512) (C : Fin 4096)
    (hC : C.val = (t'.val % 8) * 512 + f.val) :
    row (hS m c (start t)) (iblk m c 2 t') r f = proj m c R C := by
  unfold row proj
  refine Finset.sum_congr rfl fun k _ => ?_
  rw [hS_apply m c t r R hR]
  exact congrArg (fun y : EReal => hid m c R k * y) (iblk_2 m c t' 0 k f 0 k C (by simp) (by simp) hC)

theorem uS_apply (c : Dev nD) (t : Fin cfg0.N) (r : Fin 1024) (R : Fin 8192) (hR : R.val = t.val / 8 * 1024 + r.val) (f : Fin 512) (C : Fin 1024)
    (hC : C.val = min (t.val % 8) 1 * 512 + f.val) :
    uS m c t (ix2 r f) = G6 m c R C := by
  unfold uS G6
  rw [pay3_apply]
  refine row_apply m c t (lastU t) r R hR f ⟨C.val, by omega⟩ ?_
  show C.val = (lastU t).val % 8 * 512 + f.val
  rw [lastU_val, hC]; omega

theorem lane_apply (c : Dev nD) (t : Fin cfg0.N) (r : Fin 1024) (R : Fin 8192) (hR : R.val = t.val / 8 * 1024 + r.val) (f : Fin 512) (C : Fin 3072)
    (ht : 2 ≤ t.val % 8) (hC : C.val = (t.val % 8 - 2) * 512 + f.val) (a : Fin 4) (ha : a.val = f.val / 128) (l : Fin 128) :
    lane (row (hS m c (start t)) (iblk m c 2 t) r) a l = headRow m c R C l := by
  unfold lane headRow
  refine row_apply m c t t r R hR _ _ ?_
  show 1024 + C.val / 128 * 128 + l.val = t.val % 8 * 512 + (128 * a.val + l.val)
  have := l.isLt
  omega

theorem qkvS_apply (c : Dev nD) (t : Fin cfg0.N) (r : Fin 1024) (R : Fin 8192) (hR : R.val = t.val / 8 * 1024 + r.val) (f : Fin 512) (C : Fin 3072)
    (ht : 2 ≤ t.val % 8) (hC : C.val = (t.val % 8 - 2) * 512 + f.val) :
    qkvS m c t (ix2 r f) = G7 m c R C := by
  have hf := f.isLt
  have hl := fun l => lane_apply m c t r R hR f C ht hC ⟨f.val / 128, by omega⟩ rfl l
  have ef : f.val = 128 * (⟨f.val / 128, by omega⟩ : Fin 4).val + (⟨C.val % 128, Nat.mod_lt _ (by decide)⟩ : Fin 128).val := by
    show f.val = 128 * (f.val / 128) + C.val % 128
    omega
  have er : rope (lane (row (hS m c (start t)) (iblk m c 2 t) r) ⟨f.val / 128, by omega⟩) (fun l => cS m c (start t) (ix2 r l))
      (fun l => sS m c (start t) (ix2 r l)) = rope (headRow m c R C) (cosr m c R) (sinr m c R) := by
    rw [show lane (row (hS m c (start t)) (iblk m c 2 t) r) ⟨f.val / 128, by omega⟩ = headRow m c R C from funext hl,
      show (fun l => (cS m c (start t) (ix2 r l) : EReal)) = cosr m c R from funext fun l => cS_apply m c t r R hR l,
      show (fun l => (sS m c (start t) (ix2 r l) : EReal)) = sinr m c R from funext fun l => sS_apply m c t r R hR l]
  unfold qkvS G7
  by_cases h1 : t.val % 8 ≤ 3
  · rw [if_pos h1, if_pos (by omega), qV_apply _ _ _ _ r _ _ f ef, er]
  · by_cases h2 : t.val % 8 ≤ 5
    · rw [if_neg h1, if_pos h2, if_neg (by omega), if_pos (by omega), kV_apply _ _ _ _ r _ _ f ef, er]
    · rw [if_neg h1, if_neg h2, if_neg (by omega), if_neg (by omega), pay8_apply]
      refine row_apply m c t t r R hR f ⟨1024 + C.val, by omega⟩ ?_
      show 1024 + C.val = t.val % 8 * 512 + f.val
      omega

theorem index_6 : ∀ t : Fin cfg0.N, win0_6.index t (0 : Fin 2) = t.val / 8 ∧ win0_6.index t (1 : Fin 2) = min (t.val % 8) 1 :=
  (by decide +kernel : ∀ t : Fin grid0.N, _)
theorem index_7 : ∀ t : Fin cfg0.N, win0_7.index t (0 : Fin 2) = t.val / 8 ∧ win0_7.index t (1 : Fin 2) = t.val % 8 - 2 :=
  (by decide +kernel : ∀ t : Fin grid0.N, _)

/-- The first result after the run. -/
theorem final6 (c : Dev nD) (R : Fin 8192) (C : Fin 1024) : ((dats m 0 c).arrAt 6 cfg0.N : FVec Ideal S8192x1024 .f32) (ix2 R C) = G6 m c R C := by
  have e : (dats m 0 c).arrAt 6 cfg0.N = (fun i => G6 m c (i 0) (i 1) : FVec Ideal S8192x1024 .f32) := by
    refine (dats m 0 c).arrAt_eq_of_covers 6 _ (by decide +kernel) fun t hf y => ?_
    have hi := index_6 t
    blk_simp
    rw [after0_6]
    obtain ⟨r, f, rfl⟩ : ∃ (r : Fin 1024) (f : Fin 512), y = (ix2 r f : S1024x512.Idx) := ⟨y 0, y 1, eq_ix2 y⟩
    refine uS_apply m c t r _ ?_ f _ ?_
    · show win0_6.index t 0 * 1024 + 1 * r.val = t.val / 8 * 1024 + r.val
      rw [hi.1]; omega
    · show win0_6.index t 1 * 512 + 1 * f.val = _
      rw [hi.2]; omega
  rw [e]
  rfl

/-- The second result after the run. -/
theorem final7 (c : Dev nD) (R : Fin 8192) (C : Fin 3072) : ((dats m 0 c).arrAt 7 cfg0.N : FVec Ideal S8192x3072 .bf16) (ix2 R C) = G7 m c R C := by
  have e : (dats m 0 c).arrAt 7 cfg0.N = (fun i => G7 m c (i 0) (i 1) : FVec Ideal S8192x3072 .bf16) := by
    refine (dats m 0 c).arrAt_eq_of_covers 7 _ (by decide +kernel) fun t hf y => ?_
    have hi := index_7 t
    have ht : 2 ≤ t.val % 8 := by
      by_contra h
      rw [noFlush7 t (by omega)] at hf
      exact absurd hf (by decide)
    blk_simp
    rw [after0_7]
    obtain ⟨r, f, rfl⟩ : ∃ (r : Fin 1024) (f : Fin 512), y = (ix2 r f : S1024x512.Idx) := ⟨y 0, y 1, eq_ix2 y⟩
    refine qkvS_apply m c t r _ ?_ f _ ht ?_
    · show win0_7.index t 0 * 1024 + 1 * r.val = t.val / 8 * 1024 + r.val
      rw [hi.1]; omega
    · show win0_7.index t 1 * 512 + 1 * f.val = _
      rw [hi.2]; omega
  rw [e]
  rfl

end Cert.AbProj
end
-- ==== Proof.AbProjRef.lean ====
module

public import proofs.«01_k».proof.Proof.Gen.Reference7Ideal.Read
public import proofs.«01_k».proof.Proof.Base

/-! The even layer's norm and input projection: the reference's two results, entry by entry. -/

@[expose] public section

noncomputable section

namespace Cert.AbProjRef

open Idealize.ShloMosaic Idealize.ShloMosaic.TcCoe Cert.Base
open Cert.Reference7Ideal Cert.Reference7Ideal.Gen Cert.Reference7Ideal.Read

theorem ext5 {a b d e g : ℕ} (i : (⟨5, ![a, b, d, e, g]⟩ : Shape).Idx) (p : Fin a) (q : Fin b) (r : Fin d) (t : Fin e) (u : Fin g)
    (h0 : (i 0).val = p.val) (h1 : (i 1).val = q.val) (h2 : (i 2).val = r.val) (h3 : (i 3).val = t.val) (h4 : (i 4).val = u.val) :
    i = ix5 p q r t u :=
  funext fun x => Fin.ext (match x with
    | ⟨0, _⟩ => h0
    | ⟨1, _⟩ => h1
    | ⟨2, _⟩ => h2
    | ⟨3, _⟩ => h3
    | ⟨4, _⟩ => h4)

variable (x0 : (⟨S2x4096x2048, .f32⟩ : BufTy).Contents (Elt Ideal)) (x1 : (⟨S2x4096, .i32⟩ : BufTy).Contents (Elt Ideal))
  (x2 : (⟨S2x2048, .f32⟩ : BufTy).Contents (Elt Ideal)) (x3 : (⟨S1x2048x4096, .f32⟩ : BufTy).Contents (Elt Ideal))

/-- The inverse frequency of a rotary lane. -/
def invF (j : Fin 16) : EReal := val_main_v9 (F := Ideal) (ix1 j)
/-- A position as a number. -/
def pos (b : Fin 2) (s : Fin 4096) : EReal := FloatOps.sitofp (F := Ideal) .f32 (x1 (ix2 b s))
/-- The cosine and the sine of a position's angle. -/
def cosv (b : Fin 2) (s : Fin 4096) (j : Fin 16) : EReal := Ideal.cos (pos x1 b s * invF j)
def sinv (b : Fin 2) (s : Fin 4096) (j : Fin 16) : EReal := Ideal.sin (pos x1 b s * invF j)
/-- The projection's entry. -/
def projv (b : Fin 2) (s : Fin 4096) (C : Fin 4096) : EReal :=
  ∑ k : Fin 2048, rowNorm (fun k => x0 (ix3 b s k)) (fun k => x2 (ix2 0 k)) k * x3 (ix3 0 k C)

/-- The rotary rotation of one head over its first 32 lanes. -/
def ropeRef (p : Fin 128 → EReal) (c s : Fin 16 → EReal) (l : Fin 128) : EReal :=
  if h : l.val < 16 then p ⟨l.val, by omega⟩ * c ⟨l.val, h⟩ - p ⟨16 + l.val, by omega⟩ * s ⟨l.val, h⟩
  else if h : l.val < 32 then p ⟨16 + (l.val - 16), by omega⟩ * c ⟨l.val - 16, by omega⟩ + p ⟨l.val - 16, by omega⟩ * s ⟨l.val - 16, by omega⟩
  else p l

theorem norm_apply (b : Fin 2) (s : Fin 4096) (k : Fin 2048) :
    val_main_v32 (F := Ideal) x0 x2 (ix3 b s k) = rowNorm (fun k => x0 (ix3 b s k)) (fun k => x2 (ix2 0 k)) k := by
  have e0 : ∀ q, idx_main_v21 (idx_main_v22 (idx_main_v28 (ix3 b s k))) q = ix3 b s q := fun q => ext3 _ _ _ _ rfl rfl rfl
  have e1 : idx_main_v18 (idx_main_v19 (idx_main_v30 (idx_main_v31 (ix3 b s k)))) = ix2 0 k :=
    ext2 _ _ _ rfl (Nat.mod_eq_of_lt k.isLt)
  simp only [val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_cst_3_apply, val_main_cst_4_apply,
    val_main_cst_5_apply, e0, e1]
  rw [show (FloatOps.ofBits FTy.f32 0#32 : Ideal FTy.f32) = 0 from zero_eq, zero_add]
  rfl

theorem proj_apply (b : Fin 2) (s : Fin 4096) (C : Fin 4096) :
    val_main_v34 (F := Ideal) x0 x2 x3 (ix3 b s C) = projv x0 x2 x3 b s C := by
  have hC := C.isLt
  have e1 : ∀ k, lidx_main_v34 (ix3 b s C) k = ix3 b s k := fun k => ext3 _ _ _ _ rfl rfl rfl
  have e2 : ∀ k, idx_main_v33 (ridx_main_v34 (ix3 b s C) k) = ix3 0 k C := fun k => by
    have hk := k.isLt
    refine ext3 _ _ _ _ rfl ?_ ?_
    · show (k.val * 4096 + C.val) / 4096 % 2048 = k.val; omega
    · show (k.val * 4096 + C.val) % 4096 = C.val; omega
  rw [val_main_v34_apply]
  simp only [e1, norm_apply, val_main_v33_apply, e2]
  rfl

theorem cos_apply (b : Fin 2) (s : Fin 4096) (j : Fin 16) : val_main_v16 (F := Ideal) x1 (ix3 b s j) = cosv x1 b s j := by
  have e1 : idx_main_v11 (idx_main_v13 (ix3 b s j)) = ix2 b s := ext2 _ _ _ rfl rfl
  have e2 : idx_main_v12 (idx_main_v14 (ix3 b s j)) = ix1 j := by rw [eq_ix1 (idx_main_v12 _)]; rfl
  rw [val_main_v16_apply, val_main_v15_apply, val_main_v13_apply, val_main_v11_apply, val_main_v10_apply, val_main_v14_apply,
    val_main_v12_apply, e1, e2]
  rfl

theorem sin_apply (b : Fin 2) (s : Fin 4096) (j : Fin 16) : val_main_v17 (F := Ideal) x1 (ix3 b s j) = sinv x1 b s j := by
  have e1 : idx_main_v11 (idx_main_v13 (ix3 b s j)) = ix2 b s := ext2 _ _ _ rfl rfl
  have e2 : idx_main_v12 (idx_main_v14 (ix3 b s j)) = ix1 j := by rw [eq_ix1 (idx_main_v12 _)]; rfl
  rw [val_main_v17_apply, val_main_v15_apply, val_main_v13_apply, val_main_v11_apply, val_main_v10_apply, val_main_v14_apply,
    val_main_v12_apply, e1, e2]
  rfl

theorem cat16_apply (y0 y1 : S2x4096x4x2x16.Idx → EReal) (b : Fin 2) (s : Fin 4096) (h : Fin 4) (d : Fin 2) (l : Fin 32) :
    concatenate S2x4096x4x2x32 4 [⟨S2x4096x4x2x16, y0⟩, ⟨S2x4096x4x2x16, y1⟩] concatenates_S2x4096x4x2x16_S2x4096x4x2x16_S2x4096x4x2x32_d4 (ix5 b s h d l)
      = if hl : l.val < 16 then y0 (ix5 b s h d ⟨l.val, hl⟩) else y1 (ix5 b s h d ⟨l.val - 16, by omega⟩) := by
  pointwise

theorem cat32_apply (y0 : S2x4096x4x2x32.Idx → EReal) (y1 : S2x4096x4x2x96.Idx → EReal) (b : Fin 2) (s : Fin 4096) (h : Fin 4) (d : Fin 2) (l : Fin 128) :
    concatenate S2x4096x4x2x128 4 [⟨S2x4096x4x2x32, y0⟩, ⟨S2x4096x4x2x96, y1⟩] concatenates_S2x4096x4x2x32_S2x4096x4x2x96_S2x4096x4x2x128_d4 (ix5 b s h d l)
      = if hl : l.val < 32 then y0 (ix5 b s h d ⟨l.val, hl⟩) else y1 (ix5 b s h d ⟨l.val - 32, by omega⟩) := by
  pointwise

/-- A head of the projection. -/
def qHead (b : Fin 2) (s : Fin 4096) (h : Fin 4) (d : Fin 2) (l : Fin 128) : EReal :=
  projv x0 x2 x3 b s ⟨1024 + (h.val * 256 + d.val * 128 + l.val), by omega⟩

theorem qHead_apply (b : Fin 2) (s : Fin 4096) (h : Fin 4) (d : Fin 2) (l : Fin 128) :
    val_main_v39 (F := Ideal) x0 x2 x3 (ix5 b s h d l) = qHead x0 x2 x3 b s h d l := by
  have hb := b.isLt; have hs := s.isLt; have hh := h.isLt; have hd := d.isLt; have hl := l.isLt
  rw [val_main_v39_apply, val_main_v36_apply, qHead, ← proj_apply]
  refine congrArg _ (ext3 _ _ _ _ ?_ ?_ ?_)
  · show ((((b.val * 4096 + s.val) * 4 + h.val) * 2 + d.val) * 128 + l.val) / 4194304 = b.val; omega
  · show ((((b.val * 4096 + s.val) * 4 + h.val) * 2 + d.val) * 128 + l.val) / 1024 % 4096 = s.val; omega
  · show 1024 + ((((b.val * 4096 + s.val) * 4 + h.val) * 2 + d.val) * 128 + l.val) % 1024 = 1024 + (h.val * 256 + d.val * 128 + l.val); omega

theorem q_low (b : Fin 2) (s : Fin 4096) (h : Fin 4) (d : Fin 2) (j : Fin 16) :
    val_main_v48 (F := Ideal) x0 x1 x2 x3 (ix5 b s h d j)
      = qHead x0 x2 x3 b s h d ⟨j.val, by omega⟩ * cosv x1 b s j - qHead x0 x2 x3 b s h d ⟨16 + j.val, by omega⟩ * sinv x1 b s j := by
  have e1 : idx_main_v42 (ix5 b s h d j) = ix5 b s h d ⟨j.val, by omega⟩ := ext5 _ _ _ _ _ _ rfl rfl rfl rfl rfl
  have e2 : idx_main_v43 (ix5 b s h d j) = ix5 b s h d ⟨16 + j.val, by omega⟩ := ext5 _ _ _ _ _ _ rfl rfl rfl rfl rfl
  have e3 : idx_main_v40 (idx_main_v44 (ix5 b s h d j)) = ix3 b s j := ext3 _ _ _ _ rfl rfl rfl
  have e4 : idx_main_v41 (idx_main_v46 (ix5 b s h d j)) = ix3 b s j := ext3 _ _ _ _ rfl rfl rfl
  rw [val_main_v48_apply, val_main_v45_apply, val_main_v47_apply, val_main_v42_apply, val_main_v43_apply, val_main_v44_apply, val_main_v46_apply, val_main_v40_apply,
    val_main_v41_apply, e1, e2, e3, e4, qHead_apply, qHead_apply, cos_apply, sin_apply]
  rfl

theorem q_high (b : Fin 2) (s : Fin 4096) (h : Fin 4) (d : Fin 2) (j : Fin 16) :
    val_main_v53 (F := Ideal) x0 x1 x2 x3 (ix5 b s h d j)
      = qHead x0 x2 x3 b s h d ⟨16 + j.val, by omega⟩ * cosv x1 b s j + qHead x0 x2 x3 b s h d ⟨j.val, by omega⟩ * sinv x1 b s j := by
  have e1 : idx_main_v42 (ix5 b s h d j) = ix5 b s h d ⟨j.val, by omega⟩ := ext5 _ _ _ _ _ _ rfl rfl rfl rfl rfl
  have e2 : idx_main_v43 (ix5 b s h d j) = ix5 b s h d ⟨16 + j.val, by omega⟩ := ext5 _ _ _ _ _ _ rfl rfl rfl rfl rfl
  have e3 : idx_main_v40 (idx_main_v49 (ix5 b s h d j)) = ix3 b s j := ext3 _ _ _ _ rfl rfl rfl
  have e4 : idx_main_v41 (idx_main_v51 (ix5 b s h d j)) = ix3 b s j := ext3 _ _ _ _ rfl rfl rfl
  rw [val_main_v53_apply, val_main_v50_apply, val_main_v52_apply, val_main_v42_apply, val_main_v43_apply, val_main_v49_apply, val_main_v51_apply, val_main_v40_apply,
    val_main_v41_apply, e1, e2, e3, e4, qHead_apply, qHead_apply, cos_apply, sin_apply]
  rfl

theorem q_rot (b : Fin 2) (s : Fin 4096) (h : Fin 4) (d : Fin 2) (l : Fin 128) :
    val_main_v56 (F := Ideal) x0 x1 x2 x3 (ix5 b s h d l) = ropeRef (qHead x0 x2 x3 b s h d) (cosv x1 b s) (sinv x1 b s) l := by
  have hl := l.isLt
  unfold ropeRef
  unfold val_main_v56
  refine (cat32_apply (val_main_v54 (F := Ideal) x0 x1 x2 x3) (val_main_v55 (F := Ideal) x0 x2 x3) b s h d l).trans ?_
  by_cases h1 : l.val < 16
  · rw [dif_pos h1, dif_pos (by omega), ← q_low x0 x1 x2 x3 b s h d ⟨l.val, h1⟩]
    unfold val_main_v54
    refine (cat16_apply (val_main_v48 (F := Ideal) x0 x1 x2 x3) (val_main_v53 (F := Ideal) x0 x1 x2 x3) b s h d ⟨l.val, by omega⟩).trans ?_
    rw [dif_pos h1]
  · rw [dif_neg h1]
    by_cases h2 : l.val < 32
    · rw [dif_pos h2, dif_pos h2, ← q_high x0 x1 x2 x3 b s h d ⟨l.val - 16, by omega⟩]
      unfold val_main_v54
      refine (cat16_apply (val_main_v48 (F := Ideal) x0 x1 x2 x3) (val_main_v53 (F := Ideal) x0 x1 x2 x3) b s h d ⟨l.val, h2⟩).trans ?_
      rw [dif_neg h1]
    · rw [dif_neg h2, dif_neg h2, ← qHead_apply, val_main_v55_apply]
      exact congrArg _ (ext5 _ _ _ _ _ _ rfl rfl rfl rfl (show 32 + (l.val - 32) = l.val by omega))

theorem q_apply (b : Fin 2) (s : Fin 4096) (C : Fin 1024) :
    val_main_v57 (F := Ideal) x0 x1 x2 x3 (ix3 b s C)
      = ropeRef (fun l => projv x0 x2 x3 b s ⟨1024 + (C.val / 128 * 128 + l.val), by omega⟩) (cosv x1 b s) (sinv x1 b s) ⟨C.val % 128, Nat.mod_lt _ (by decide)⟩ := by
  have hb := b.isLt; have hs := s.isLt; have hC := C.isLt
  have e : idx_main_v57 (ix3 b s C) = ix5 b s ⟨C.val / 256, by omega⟩ ⟨C.val / 128 % 2, by omega⟩ ⟨C.val % 128, Nat.mod_lt _ (by decide)⟩ := by
    refine ext5 _ _ _ _ _ _ ?_ ?_ ?_ ?_ ?_
    · show ((b.val * 4096 + s.val) * 1024 + C.val) / 4194304 = b.val; omega
    · show ((b.val * 4096 + s.val) * 1024 + C.val) / 1024 % 4096 = s.val; omega
    · show ((b.val * 4096 + s.val) * 1024 + C.val) / 256 % 4 = C.val / 256; omega
    · show ((b.val * 4096 + s.val) * 1024 + C.val) / 128 % 2 = C.val / 128 % 2; omega
    · show ((b.val * 4096 + s.val) * 1024 + C.val) % 128 = C.val % 128; omega
  rw [val_main_v57_apply, e, q_rot]
  refine congrArg (fun p => ropeRef p _ _ _) (funext fun l => ?_)
  unfold qHead
  refine congrArg (projv x0 x2 x3 b s) (Fin.ext ?_)
  show 1024 + (C.val / 256 * 256 + C.val / 128 % 2 * 128 + l.val) = 1024 + (C.val / 128 * 128 + l.val)
  omega

/-- A head of the projection. -/
def kHead (b : Fin 2) (s : Fin 4096) (h : Fin 4) (d : Fin 2) (l : Fin 128) : EReal :=
  projv x0 x2 x3 b s ⟨2048 + (h.val * 256 + d.val * 128 + l.val), by omega⟩

theorem kHead_apply (b : Fin 2) (s : Fin 4096) (h : Fin 4) (d : Fin 2) (l : Fin 128) :
    val_main_v58 (F := Ideal) x0 x2 x3 (ix5 b s h d l) = kHead x0 x2 x3 b s h d l := by
  have hb := b.isLt; have hs := s.isLt; have hh := h.isLt; have hd := d.isLt; have hl := l.isLt
  rw [val_main_v58_apply, val_main_v37_apply, kHead, ← proj_apply]
  refine congrArg _ (ext3 _ _ _ _ ?_ ?_ ?_)
  · show ((((b.val * 4096 + s.val) * 4 + h.val) * 2 + d.val) * 128 + l.val) / 4194304 = b.val; omega
  · show ((((b.val * 4096 + s.val) * 4 + h.val) * 2 + d.val) * 128 + l.val) / 1024 % 4096 = s.val; omega
  · show 2048 + ((((b.val * 4096 + s.val) * 4 + h.val) * 2 + d.val) * 128 + l.val) % 1024 = 2048 + (h.val * 256 + d.val * 128 + l.val); omega

theorem k_low (b : Fin 2) (s : Fin 4096) (h : Fin 4) (d : Fin 2) (j : Fin 16) :
    val_main_v67 (F := Ideal) x0 x1 x2 x3 (ix5 b s h d j)
      = kHead x0 x2 x3 b s h d ⟨j.val, by omega⟩ * cosv x1 b s j - kHead x0 x2 x3 b s h d ⟨16 + j.val, by omega⟩ * sinv x1 b s j := by
  have e1 : idx_main_v61 (ix5 b s h d j) = ix5 b s h d ⟨j.val, by omega⟩ := ext5 _ _ _ _ _ _ rfl rfl rfl rfl rfl
  have e2 : idx_main_v62 (ix5 b s h d j) = ix5 b s h d ⟨16 + j.val, by omega⟩ := ext5 _ _ _ _ _ _ rfl rfl rfl rfl rfl
  have e3 : idx_main_v59 (idx_main_v63 (ix5 b s h d j)) = ix3 b s j := ext3 _ _ _ _ rfl rfl rfl
  have e4 : idx_main_v60 (idx_main_v65 (ix5 b s h d j)) = ix3 b s j := ext3 _ _ _ _ rfl rfl rfl
  rw [val_main_v67_apply, val_main_v64_apply, val_main_v66_apply, val_main_v61_apply, val_main_v62_apply, val_main_v63_apply, val_main_v65_apply, val_main_v59_apply,
    val_main_v60_apply, e1, e2, e3, e4, kHead_apply, kHead_apply, cos_apply, sin_apply]
  rfl

theorem k_high (b : Fin 2) (s : Fin 4096) (h : Fin 4) (d : Fin 2) (j : Fin 16) :
    val_main_v72 (F := Ideal) x0 x1 x2 x3 (ix5 b s h d j)
      = kHead x0 x2 x3 b s h d ⟨16 + j.val, by omega⟩ * cosv x1 b s j + kHead x0 x2 x3 b s h d ⟨j.val, by omega⟩ * sinv x1 b s j := by
  have e1 : idx_main_v61 (ix5 b s h d j) = ix5 b s h d ⟨j.val, by omega⟩ := ext5 _ _ _ _ _ _ rfl rfl rfl rfl rfl
  have e2 : idx_main_v62 (ix5 b s h d j) = ix5 b s h d ⟨16 + j.val, by omega⟩ := ext5 _ _ _ _ _ _ rfl rfl rfl rfl rfl
  have e3 : idx_main_v59 (idx_main_v68 (ix5 b s h d j)) = ix3 b s j := ext3 _ _ _ _ rfl rfl rfl
  have e4 : idx_main_v60 (idx_main_v70 (ix5 b s h d j)) = ix3 b s j := ext3 _ _ _ _ rfl rfl rfl
  rw [val_main_v72_apply, val_main_v69_apply, val_main_v71_apply, val_main_v61_apply, val_main_v62_apply, val_main_v68_apply, val_main_v70_apply, val_main_v59_apply,
    val_main_v60_apply, e1, e2, e3, e4, kHead_apply, kHead_apply, cos_apply, sin_apply]
  rfl

theorem k_rot (b : Fin 2) (s : Fin 4096) (h : Fin 4) (d : Fin 2) (l : Fin 128) :
    val_main_v75 (F := Ideal) x0 x1 x2 x3 (ix5 b s h d l) = ropeRef (kHead x0 x2 x3 b s h d) (cosv x1 b s) (sinv x1 b s) l := by
  have hl := l.isLt
  unfold ropeRef
  unfold val_main_v75
  refine (cat32_apply (val_main_v73 (F := Ideal) x0 x1 x2 x3) (val_main_v74 (F := Ideal) x0 x2 x3) b s h d l).trans ?_
  by_cases h1 : l.val < 16
  · rw [dif_pos h1, dif_pos (by omega), ← k_low x0 x1 x2 x3 b s h d ⟨l.val, h1⟩]
    unfold val_main_v73
    refine (cat16_apply (val_main_v67 (F := Ideal) x0 x1 x2 x3) (val_main_v72 (F := Ideal) x0 x1 x2 x3) b s h d ⟨l.val, by omega⟩).trans ?_
    rw [dif_pos h1]
  · rw [dif_neg h1]
    by_cases h2 : l.val < 32
    · rw [dif_pos h2, dif_pos h2, ← k_high x0 x1 x2 x3 b s h d ⟨l.val - 16, by omega⟩]
      unfold val_main_v73
      refine (cat16_apply (val_main_v67 (F := Ideal) x0 x1 x2 x3) (val_main_v72 (F := Ideal) x0 x1 x2 x3) b s h d ⟨l.val, h2⟩).trans ?_
      rw [dif_neg h1]
    · rw [dif_neg h2, dif_neg h2, ← kHead_apply, val_main_v74_apply]
      exact congrArg _ (ext5 _ _ _ _ _ _ rfl rfl rfl rfl (show 32 + (l.val - 32) = l.val by omega))

theorem k_apply (b : Fin 2) (s : Fin 4096) (C : Fin 1024) :
    val_main_v76 (F := Ideal) x0 x1 x2 x3 (ix3 b s C)
      = ropeRef (fun l => projv x0 x2 x3 b s ⟨2048 + (C.val / 128 * 128 + l.val), by omega⟩) (cosv x1 b s) (sinv x1 b s) ⟨C.val % 128, Nat.mod_lt _ (by decide)⟩ := by
  have hb := b.isLt; have hs := s.isLt; have hC := C.isLt
  have e : idx_main_v76 (ix3 b s C) = ix5 b s ⟨C.val / 256, by omega⟩ ⟨C.val / 128 % 2, by omega⟩ ⟨C.val % 128, Nat.mod_lt _ (by decide)⟩ := by
    refine ext5 _ _ _ _ _ _ ?_ ?_ ?_ ?_ ?_
    · show ((b.val * 4096 + s.val) * 1024 + C.val) / 4194304 = b.val; omega
    · show ((b.val * 4096 + s.val) * 1024 + C.val) / 1024 % 4096 = s.val; omega
    · show ((b.val * 4096 + s.val) * 1024 + C.val) / 256 % 4 = C.val / 256; omega
    · show ((b.val * 4096 + s.val) * 1024 + C.val) / 128 % 2 = C.val / 128 % 2; omega
    · show ((b.val * 4096 + s.val) * 1024 + C.val) % 128 = C.val % 128; omega
  rw [val_main_v76_apply, e, k_rot]
  refine congrArg (fun p => ropeRef p _ _ _) (funext fun l => ?_)
  unfold kHead
  refine congrArg (projv x0 x2 x3 b s) (Fin.ext ?_)
  show 2048 + (C.val / 256 * 256 + C.val / 128 % 2 * 128 + l.val) = 2048 + (C.val / 128 * 128 + l.val)
  omega

theorem three_apply (y0 y1 y2 : S2x4096x1024.Idx → EReal) (b : Fin 2) (s : Fin 4096) (C : Fin 3072) :
    concatenate S2x4096x3072 2 [⟨S2x4096x1024, y0⟩, ⟨S2x4096x1024, y1⟩, ⟨S2x4096x1024, y2⟩] concatenates_S2x4096x1024_S2x4096x1024_S2x4096x1024_S2x4096x3072_d2 (ix3 b s C)
      = if h : C.val < 1024 then y0 (ix3 b s ⟨C.val, h⟩) else if h : C.val - 1024 < 1024 then y1 (ix3 b s ⟨C.val - 1024, h⟩)
        else y2 (ix3 b s ⟨C.val - 1024 - 1024, by omega⟩) := by
  pointwise

/-- The first result at row `R` of the joined batch and sequence. -/
theorem res0_apply (R : Fin 8192) (C : Fin 1024) (b : Fin 2) (s : Fin 4096) (h : R.val = b.val * 4096 + s.val) :
    val_main_v81 (F := Ideal) x0 x2 x3 (ix2 R C) = projv x0 x2 x3 b s ⟨C.val, by omega⟩ := by
  have hb := b.isLt; have hs := s.isLt; have hC := C.isLt
  rw [val_main_v81_apply, val_main_v35_apply, ← proj_apply]
  refine congrArg _ (ext3 _ _ _ _ ?_ ?_ ?_)
  · show (R.val * 1024 + C.val) / 4194304 = b.val; omega
  · show (R.val * 1024 + C.val) / 1024 % 4096 = s.val; omega
  · show (R.val * 1024 + C.val) % 1024 = C.val; omega

/-- The factor the queries are scaled by. -/
abbrev scaleR : EReal := Ideal.ofBits .f32 0x3E0293EE#32

/-- The second result: the queries rotated and scaled, the keys rotated, the values. -/
theorem res1_apply (R : Fin 8192) (C : Fin 3072) (b : Fin 2) (s : Fin 4096) (h : R.val = b.val * 4096 + s.val) :
    val_main_v82 (F := Ideal) x0 x1 x2 x3 (ix2 R C)
      = if C.val < 1024 then ropeRef (fun l => projv x0 x2 x3 b s ⟨1024 + C.val / 128 * 128 + l.val, by omega⟩) (cosv x1 b s) (sinv x1 b s) ⟨C.val % 128, Nat.mod_lt _ (by decide)⟩ * scaleR
        else if C.val < 2048 then ropeRef (fun l => projv x0 x2 x3 b s ⟨1024 + C.val / 128 * 128 + l.val, by omega⟩) (cosv x1 b s) (sinv x1 b s) ⟨C.val % 128, Nat.mod_lt _ (by decide)⟩
        else projv x0 x2 x3 b s ⟨1024 + C.val, by omega⟩ := by
  have hb := b.isLt; have hs := s.isLt; have hC := C.isLt
  have e : idx_main_v82 (ix2 R C) = ix3 b s C := by
    refine ext3 _ _ _ _ ?_ ?_ ?_
    · show (R.val * 3072 + C.val) / 12582912 = b.val; omega
    · show (R.val * 3072 + C.val) / 3072 % 4096 = s.val; omega
    · show (R.val * 3072 + C.val) % 3072 = C.val; omega
  rw [val_main_v82_apply, e, val_main_v80_apply]
  show val_main_v79 (F := Ideal) x0 x1 x2 x3 (ix3 b s C) = _
  refine (three_apply (val_main_v78 (F := Ideal) x0 x1 x2 x3) (val_main_v76 (F := Ideal) x0 x1 x2 x3) (val_main_v38 (F := Ideal) x0 x2 x3) b s C).trans ?_
  by_cases h1 : C.val < 1024
  · rw [dif_pos h1, if_pos h1, val_main_v78_apply, q_apply, val_main_v77_apply, val_main_cst_6_apply]
    refine congrArg (fun p => ropeRef p (cosv x1 b s) (sinv x1 b s) ⟨C.val % 128, Nat.mod_lt _ (by decide)⟩ * scaleR) (funext fun l => ?_)
    refine congrArg (projv x0 x2 x3 b s) (Fin.ext ?_)
    show 1024 + (C.val / 128 * 128 + l.val) = 1024 + C.val / 128 * 128 + l.val
    omega
  · rw [dif_neg h1, if_neg h1]
    by_cases h2 : C.val < 2048
    · rw [dif_pos (by omega), if_pos h2, k_apply]
      have el : (⟨(C.val - 1024) % 128, Nat.mod_lt _ (by decide)⟩ : Fin 128) = ⟨C.val % 128, Nat.mod_lt _ (by decide)⟩ :=
        Fin.ext (show (C.val - 1024) % 128 = C.val % 128 by omega)
      show ropeRef _ _ _ (⟨(C.val - 1024) % 128, Nat.mod_lt _ (by decide)⟩ : Fin 128) = _
      rw [el]
      refine congrArg (fun p => ropeRef p (cosv x1 b s) (sinv x1 b s) ⟨C.val % 128, Nat.mod_lt _ (by decide)⟩) (funext fun l => ?_)
      refine congrArg (projv x0 x2 x3 b s) (Fin.ext ?_)
      show 2048 + ((C.val - 1024) / 128 * 128 + l.val) = 1024 + C.val / 128 * 128 + l.val
      omega
    · rw [dif_neg (by omega), if_neg h2, val_main_v38_apply, ← proj_apply]
      refine congrArg _ (ext3 _ _ _ _ rfl rfl ?_)
      show 3072 + (C.val - 1024 - 1024) = 1024 + C.val
      omega

end Cert.AbProjRef
end
-- ==== Proof.AbProjEq.lean ====
module

public import proofs.«01_k».proof.Proof.AbProjArr
public import proofs.«01_k».proof.Proof.AbProjRef

/-! The even layer's norm and input projection: the arrays the kernel leaves are the reference's. -/

@[expose] public section

noncomputable section

namespace Cert.AbProj

open Idealize.ShloMosaic Idealize.ShloMosaic.TcCoe Idealize.SL.Sem Cert.Base
open Cert.Kernel7Ideal Cert.Kernel7Ideal.Gen
open Cert.AbProjRef (invF pos cosv sinv projv ropeRef res0_apply res1_apply)

variable (m : (ℓ : Loc nD τ sig) → Buf (Elt Ideal) ℓ)

/-- The joined rows read at batch `b`, position `s`. -/
theorem A0_eq (c : Dev nD) (R : Fin 8192) (k : Fin 2048) (b : Fin 2) (s : Fin 4096) (h : R.val = b.val * 4096 + s.val) :
    A0 m c R k = m ((c.tc : Thread nD τ).loc main_arg0) (ix3 b s k) := by
  have e : V m c main_v20 = shapeCast S8192x2048 (m ((c.tc : Thread nD τ).loc main_arg0)) shapeCasts_S2x4096x2048_S8192x2048 := by
    unfold V
    after_results_simp
    rfl
  unfold A0
  rw [e]
  refine shapeCast_apply _ _ (ix2 R k) (ix3 b s k) ?_
  rw [Shape.rowMajor_val_three, Shape.rowMajor_val_two]
  show (b.val * 4096 + s.val) * 2048 + k.val = R.val * 2048 + k.val
  omega

theorem A1_eq (c : Dev nD) (k : Fin 2048) : A1 m c 0 0 k = m ((c.tc : Thread nD τ).loc main_arg2) (ix2 0 k) := by
  have e : V m c main_v21 = shapeCast S2x1x2048 (m ((c.tc : Thread nD τ).loc main_arg2)) shapeCasts_S2x2048_S2x1x2048 := by
    unfold V
    after_results_simp
    rfl
  unfold A1
  rw [e]
  refine shapeCast_apply _ _ (ix3 0 0 k) (ix2 0 k) ?_
  rw [Shape.rowMajor_val_three, Shape.rowMajor_val_two]
  rfl

theorem A2_eq (c : Dev nD) (k : Fin 2048) (f : Fin 4096) : A2 m c 0 k f = m ((c.tc : Thread nD τ).loc main_arg3) (ix3 0 k f) := by
  unfold A2
  rw [V_main_arg3]

/-- The positions as numbers. -/
theorem A3_eq (c : Dev nD) (R : Fin 8192) (b : Fin 2) (s : Fin 4096) (h : R.val = b.val * 4096 + s.val) :
    A3 m c R 0 = pos (m ((c.tc : Thread nD τ).loc main_arg1)) b s := by
  have e : V m c main_v19 = sitofp (F := Ideal) .f32 (shapeCast S8192x1 (m ((c.tc : Thread nD τ).loc main_arg1)) shapeCasts_S2x4096_S8192x1) := by
    unfold V
    after_results_simp
    rfl
  unfold A3 pos
  rw [e]
  refine congrArg (FloatOps.sitofp (F := Ideal) .f32) (shapeCast_apply _ _ (ix2 R 0) (ix2 b s) ?_)
  rw [Shape.rowMajor_val_two, Shape.rowMajor_val_two]
  show b.val * 4096 + s.val = R.val * 1 + 0
  omega

/-- Sixteen lanes, sixteen more, and the other ninety-six. -/
theorem lanes_apply (y0 y1 : S16.Idx → EReal) (y2 : S96.Idx → EReal) (l : Fin 128) :
    concatenate S128 0 [⟨S16, y0⟩, ⟨S16, y1⟩, ⟨S96, y2⟩] concatenates_S16_S16_S96_S128_d0 (ix1 l)
      = if h : l.val < 16 then y0 (ix1 ⟨l.val, h⟩) else if h : l.val - 16 < 16 then y1 (ix1 ⟨l.val - 16, h⟩)
        else y2 (ix1 ⟨l.val - 16 - 16, by omega⟩) := by
  pointwise

/-- The frequency of each lane. -/
theorem A4_eq (c : Dev nD) (l : Fin 128) :
    A4 m c 0 l = if h : l.val < 16 then invF ⟨l.val, h⟩ else if h : l.val - 16 < 16 then invF ⟨l.val - 16, h⟩ else 0 := by
  have e : V m c main_v12 = shapeCast S1x128 (concatenate S128 0 [⟨S16, Reference7Ideal.Read.val_main_v9 (F := Ideal)⟩, ⟨S16, Reference7Ideal.Read.val_main_v9 (F := Ideal)⟩,
      ⟨S96, fun _ => Ideal.ofBits .f32 0#32⟩] concatenates_S16_S16_S96_S128_d0) shapeCasts_S128_S1x128 := by
    unfold V
    after_results_simp
    rfl
  unfold A4
  rw [e]
  refine (shapeCast_apply _ _ (ix2 0 l) (ix1 l) ?_).trans ?_
  · rw [Shape.rowMajor_val_one, Shape.rowMajor_val_two]
    show l.val = 0 * 128 + l.val
    omega
  · rw [lanes_apply, zero_eq]
    rfl

/-- The sign of each lane. -/
theorem A5_eq (c : Dev nD) (l : Fin 128) :
    A5 m c 0 l = if h : l.val < 16 then -1 else if h : l.val - 16 < 16 then 1 else 0 := by
  have e : V m c main_v17 = shapeCast S1x128 (concatenate S128 0 [⟨S16, fun _ => -Ideal.ofBits .f32 0x3F800000#32⟩, ⟨S16, fun _ => Ideal.ofBits .f32 0x3F800000#32⟩,
      ⟨S96, fun _ => Ideal.ofBits .f32 0#32⟩] concatenates_S16_S16_S96_S128_d0) shapeCasts_S128_S1x128 := by
    unfold V
    after_results_simp
    rfl
  unfold A5
  rw [e]
  refine (shapeCast_apply _ _ (ix2 0 l) (ix1 l) ?_).trans ?_
  · rw [Shape.rowMajor_val_one, Shape.rowMajor_val_two]
    show l.val = 0 * 128 + l.val
    omega
  · rw [lanes_apply, zero_eq, one_eq]

/-- The rotation by signed sines is the rotation of the two halves, the other lanes as they are. -/
theorem rope_eq (c : Dev nD) (R : Fin 8192) (b : Fin 2) (s : Fin 4096) (h : R.val = b.val * 4096 + s.val) (p : Fin 128 → EReal) (l : Fin 128) :
    rope p (cosr m c R) (sinr m c R) l
      = ropeRef p (cosv (m ((c.tc : Thread nD τ).loc main_arg1)) b s) (sinv (m ((c.tc : Thread nD τ).loc main_arg1)) b s) l := by
  have hl := l.isLt
  unfold rope ropeRef cosr sinr cosv sinv
  rw [A3_eq m c R b s h, A4_eq, A5_eq]
  by_cases h1 : l.val < 16
  · have e : (⟨(l.val + 16) % 128, Nat.mod_lt _ (by decide)⟩ : Fin 128) = ⟨16 + l.val, by omega⟩ := Fin.ext (show (l.val + 16) % 128 = 16 + l.val by omega)
    rw [dif_pos h1, dif_pos h1, dif_pos h1, if_pos h1, e, mul_neg, mul_one, mul_neg, ← sub_eq_add_neg]
  · have e : (⟨(l.val + 112) % 128, Nat.mod_lt _ (by decide)⟩ : Fin 128) = ⟨l.val - 16, by omega⟩ := Fin.ext (show (l.val + 112) % 128 = l.val - 16 by omega)
    rw [dif_neg h1, dif_neg h1, dif_neg h1, if_neg h1, e]
    by_cases h2 : l.val < 32
    · have e' : (⟨16 + (l.val - 16), by omega⟩ : Fin 128) = l := Fin.ext (show 16 + (l.val - 16) = l.val by omega)
      rw [dif_pos (show l.val - 16 < 16 by omega), dif_pos (show l.val - 16 < 16 by omega), dif_pos h2, mul_one, e']
    · rw [dif_neg (show ¬ l.val - 16 < 16 by omega), dif_neg (show ¬ l.val - 16 < 16 by omega), dif_neg h2, mul_zero, mul_zero, mul_zero, add_zero,
        show Ideal.cos 0 = 1 from by
          show ((Real.cos 0 : ℝ) : EReal) = 1
          rw [Real.cos_zero]; rfl, mul_one]

theorem proj_eq (c : Dev nD) (R : Fin 8192) (C : Fin 4096) (b : Fin 2) (s : Fin 4096) (h : R.val = b.val * 4096 + s.val) :
    proj m c R C = projv (m ((c.tc : Thread nD τ).loc main_arg0)) (m ((c.tc : Thread nD τ).loc main_arg2)) (m ((c.tc : Thread nD τ).loc main_arg3)) b s C := by
  have eh : hid m c R = rowNorm (fun k => (m ((c.tc : Thread nD τ).loc main_arg0)) (ix3 b s k)) (fun k => (m ((c.tc : Thread nD τ).loc main_arg2)) (ix2 0 k)) := by
    unfold hid
    exact congrArg₂ (fun x g => rowNorm x g) (funext fun k => A0_eq m c R k b s h) (funext fun k => A1_eq m c k)
  unfold proj projv
  rw [eh]
  refine Finset.sum_congr (M := EReal) rfl fun k _ => ?_
  rw [A2_eq]

/-- The kernel's first array is the reference's. -/
theorem value0_eq (c : Dev nD) : ((dats m 0 c).arrAt 6 cfg0.N : FVec Ideal S8192x1024 .f32)
    = Reference7Ideal.Read.val_main_v81 (F := Ideal) (m ((c.tc : Thread nD τ).loc main_arg0)) (m ((c.tc : Thread nD τ).loc main_arg2)) (m ((c.tc : Thread nD τ).loc main_arg3)) := by
  funext i
  obtain ⟨R, C, rfl⟩ : ∃ (R : Fin 8192) (C : Fin 1024), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  rw [final6, res0_apply _ _ _ R C _ _ hb]
  unfold G6
  exact proj_eq m c R _ _ _ hb

/-- The kernel's second array is the reference's. -/
theorem value1_eq (c : Dev nD) : ((dats m 0 c).arrAt 7 cfg0.N : FVec Ideal S8192x3072 .bf16)
    = Reference7Ideal.Read.val_main_v82 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨R, C, rfl⟩ : ∃ (R : Fin 8192) (C : Fin 3072), i = ix2 R C := ⟨i 0, i 1, eq_ix2 i⟩
  have hR := R.isLt
  have hb : R.val = (⟨R.val / 4096, by omega⟩ : Fin 2).val * 4096 + (⟨R.val % 4096, by omega⟩ : Fin 4096).val := by
    simp only; omega
  rw [final7, res1_apply _ _ _ _ R C _ _ hb]
  unfold G7
  have ep : headRow m c R C = fun l => projv (m ((c.tc : Thread nD τ).loc main_arg0)) (m ((c.tc : Thread nD τ).loc main_arg2)) (m ((c.tc : Thread nD τ).loc main_arg3)) ⟨R.val / 4096, by omega⟩ ⟨R.val % 4096, by omega⟩ ⟨1024 + C.val / 128 * 128 + l.val, by omega⟩ :=
    funext fun l => proj_eq m c R _ _ _ hb
  rw [rope_eq m c R _ _ hb, ep, proj_eq m c R _ _ _ hb]

/-- The run, both output arrays named by the pipeline's data and the arguments unchanged. -/
theorem run_value (ρ : Dev nD → PrngReg) : θ_run (defs (F := Ideal)) (onTc (τ := τ) (main (F := Ideal))) ⟨m, fun _ => 0, ρ⟩ fun r => ∀ c : Dev nD,
      r.2.mem ((c.tc : Thread nD τ).loc main_v22_0) = (dats m 0 c).arrAt 6 cfg0.N
      ∧ r.2.mem ((c.tc : Thread nD τ).loc main_v22_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩)
    (run_main m ρ)

end Cert.AbProj
end
-- ==== Proof.Keeps.lean ====
module

public import Idealize.ShloMosaic.Lib.Exec
public import Idealize.ShloMosaic.Lib.Tactic
public import Idealize.ShloMosaic.Lib.Pipeline.Kit
public import Idealize.ShloMosaic.Lib.Pipeline.FrameBody

/-! A kernel's body keeps the buffers it is handed, whatever they hold: one rule per operation, for any kernel. -/

@[expose] public section

set_option maxRecDepth 16384

noncomputable section

namespace Cert.Keeping

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ₀ : Labels} {F : FTy → Type} [FloatOps F]

local notation "𝕄" => MT nD τ sig Unit (Elt F) ℕ (UR sig nD τ) ℕ

/-- The program runs to its end and keeps the resources `R`. -/
def Keeps (D : Defs nD τ sig (Elt F) Λ₀) (c : Dev nD) (R : sProp 𝕄) {α : Type} (p : Prog (TpuEff nD τ sig (Elt F) Λ₀ .tc) α) : Prop :=
  R ⊢ wp frame (wpE D Variants.none c none) Set.univ p (fun _ => R)

/-- `R` holds the memref at some contents and takes it back at the same. -/
def Reads (c : Dev nD) (R : sProp 𝕄) {s : Shape} {e : EltTy} (m : Memref sig .tc .vmem s e) : Prop :=
  R ⊢ iprop(∃ d, owns (c : Thread nD τ) m fullShare d ∗ (owns (c : Thread nD τ) m fullShare d -∗ R))

/-- `R` holds the memref at some contents and takes it back at any. -/
def Writes (c : Dev nD) (R : sProp 𝕄) {s : Shape} {e : EltTy} (m : Memref sig .tc .vmem s e) : Prop :=
  R ⊢ iprop((∃ d, owns (c : Thread nD τ) m fullShare d) ∗ ((∃ d, owns (c : Thread nD τ) m fullShare d) -∗ R))

section rules
variable {D : Defs nD τ sig (Elt F) Λ₀} {c : Dev nD} {R : sProp (MT nD τ sig Unit (Elt F) ℕ (UR sig nD τ) ℕ)}

theorem Writes.reads {s : Shape} {e : EltTy} {m : Memref sig .tc .vmem s e} (h : Writes c R m) : Reads c R m := by
  unfold Reads
  refine h.trans ?_
  iintro ⟨⟨%d, H⟩, HR⟩
  iexists d
  isplitl [H]; · iexact H
  iintro H
  iapply HR
  iexists d; iexact H

theorem keeps_ret {α : Type} (a : α) : Keeps D c R (pure a) := by
  unfold Keeps
  rw [wp_pure]
  exact fupd_intro

theorem ret_ent {α : Type} (a : α) :
    R ⊢ wp frame (wpE D Variants.none c none) Set.univ (Prog.ret a) (fun _ => R) := keeps_ret a

theorem keeps_bind {α β : Type} {p : Prog (TpuEff nD τ sig (Elt F) Λ₀ .tc) α} {k : α → Prog (TpuEff nD τ sig (Elt F) Λ₀ .tc) β}
    (hp : Keeps D c R p) (hk : ∀ a, Keeps D c R (k a)) : Keeps D c R (p >>= k) := by
  unfold Keeps
  rw [wp_bind]
  exact BIBase.Entails.trans hp (wp_mono _ _ _ hk)

theorem keeps_load {s : Shape} {e : EltTy} {m : Memref sig .tc .vmem s e} {r : LoadRect s} {hl : m.view.LoadsAt r} (h : Reads c R m) :
    Keeps D c R (Prog.lift (.load m r hl)) := by
  unfold Keeps
  refine h.trans ?_
  unfold owns
  iintro ⟨%d, ⟨%f, %hf, H⟩, HR⟩
  iapply (wp_load Variants.none (c : Thread nD τ) none Set.univ (hl := hl) (m.view.setOn_subset_set _)) $$ H
  iintro H
  iapply (ret_ent (D := D) (c := c) (R := R) _)
  iapply HR
  iexists f; isplitr; · ipureintro; exact hf
  iexact H

theorem keeps_store {s : Shape} {e : EltTy} {m : Memref sig .tc .vmem s e} {r : Rect s} {w : r.shape.Idx → Elt F e} {Mk : Finset r.shape.Idx}
    {hx : (m.access r).Stores Mk} {hm : Mk = Finset.univ ∨ ∀ a, r.stride a = 1} (h : Writes c R m) :
    Keeps D c R (Prog.lift (.store m r w Mk hx hm)) := by
  unfold Keeps
  refine h.trans ?_
  unfold owns
  iintro ⟨⟨%d, %f, %hf, H⟩, HR⟩
  iapply (wp_store Variants.none (c : Thread nD τ) none Set.univ (hx := hx) (hm := hm) (((m.access r).setOn_subset_set _).trans (m.view.set_slice_subset r))) $$ H
  iintro H
  iapply (ret_ent (D := D) (c := c) (R := R) _)
  iapply HR
  iexists _, _; isplitr; swap; · iexact H
  ipureintro; rfl

theorem keeps_for {w : ℕ} {σ : Type} (l : Scf.Loop w) (hok : l.OK) (init : σ) (body : Fin l.trips → σ → Prog (TpuEff nD τ sig (Elt F) Λ₀ .tc) σ)
    (h : ∀ k a, Keeps D c R (body k a)) : Keeps D c R (Scf.Loop.for l hok init body) := by
  unfold Keeps
  refine BIBase.Entails.trans ?_ (Scf.wp_for frame (wpE D Variants.none c none) Set.univ l.lb l.ub l.st hok init body (fun _ _ => R) h)
  iintro H
  isplitl [H]; · iexact H
  iintro %a H; iexact H

theorem keeps_ite {α : Type} {p : Prop} [Decidable p] {a b : Prog (TpuEff nD τ sig (Elt F) Λ₀ .tc) α}
    (ha : Keeps D c R a) (hb : Keeps D c R b) : Keeps D c R (if p then a else b) := by
  split <;> assumption

theorem keeps_dite {α : Type} {p : Prop} [Decidable p] {a : p → Prog (TpuEff nD τ sig (Elt F) Λ₀ .tc) α}
    {b : ¬p → Prog (TpuEff nD τ sig (Elt F) Λ₀ .tc) α}
    (ha : ∀ h, Keeps D c R (a h)) (hb : ∀ h, Keeps D c R (b h)) : Keeps D c R (if h : p then a h else b h) := by
  split
  · exact ha _
  · exact hb _

end rules

section pieces
variable {c : Dev nD} {A B : sProp (MT nD τ sig Unit (Elt F) ℕ (UR sig nD τ) ℕ)} {s : Shape} {e : EltTy} {m : Memref sig .tc .vmem s e}

theorem reads_self (d : s.Idx → Elt F e) : Reads c (owns (c : Thread nD τ) m fullShare d) m := by
  unfold Reads
  iintro H
  iexists d
  isplitl [H]; · iexact H
  iintro H; iexact H

theorem writes_self : Writes (F := F) c iprop(∃ d, owns (c : Thread nD τ) m fullShare d) m := by
  unfold Writes
  iintro H
  isplitl [H]; · iexact H
  iintro H; iexact H

theorem reads_left (h : Reads c A m) : Reads c iprop(A ∗ B) m := by
  unfold Reads at h ⊢
  iintro ⟨HA, HB⟩
  ihave H := h $$ HA
  icases H with ⟨%d, H, HA⟩
  iexists d
  isplitl [H]; · iexact H
  iintro H
  isplitl [HA H]; · iapply HA; iexact H
  iexact HB

theorem reads_right (h : Reads c B m) : Reads c iprop(A ∗ B) m := by
  unfold Reads at h ⊢
  iintro ⟨HA, HB⟩
  ihave H := h $$ HB
  icases H with ⟨%d, H, HB⟩
  iexists d
  isplitl [H]; · iexact H
  iintro H
  isplitl [HA]; · iexact HA
  iapply HB; iexact H

theorem writes_left (h : Writes c A m) : Writes c iprop(A ∗ B) m := by
  unfold Writes at h ⊢
  iintro ⟨HA, HB⟩
  ihave H := h $$ HA
  icases H with ⟨H, HA⟩
  isplitl [H]; · iexact H
  iintro H
  isplitl [HA H]; · iapply HA; iexact H
  iexact HB

theorem writes_right (h : Writes c B m) : Writes c iprop(A ∗ B) m := by
  unfold Writes at h ⊢
  iintro ⟨HA, HB⟩
  ihave H := h $$ HB
  icases H with ⟨H, HB⟩
  isplitl [H]; · iexact H
  iintro H
  isplitl [HA]; · iexact HA
  iapply HB; iexact H

end pieces

attribute [irreducible] Keeps Reads Writes

/-- What `Keeps` says, the definition being closed from here on. -/
theorem Keeps.wp {D : Defs nD τ sig (Elt F) Λ₀} {c : Dev nD} {R : sProp (MT nD τ sig Unit (Elt F) ℕ (UR sig nD τ) ℕ)} {α : Type}
    {p : Prog (TpuEff nD τ sig (Elt F) Λ₀ .tc) α} (h : Keeps D c R p) :
    R ⊢ wp frame (wpE D Variants.none c none) Set.univ p (fun _ => R) := by
  unfold Keeps at h; exact h

end Cert.Keeping

end
-- ==== Proof.AttnBody.lean ====
module

public import proofs.«01_k».proof.Proof.Keeps
public import proofs.«01_k».proof.Proof.Gen.Kernel9Ideal.Frame
public import proofs.«01_k».proof.Proof.Gen.Kernel9Ideal.Loops

/-! The differential attention: the body's parts, one after another, keep the buffers. -/

@[expose] public section

set_option maxRecDepth 16384

noncomputable section

namespace Cert.Attn

open Idealize.ShloMosaic Idealize.ShloMosaic.TcCoe Idealize.ShloMosaic.Tactic
open Idealize.SL Idealize.SL.RA Idealize.SL.BI
open Idealize.SL.Sem
open Cert.Keeping Cert.Kernel9Ideal Cert.Kernel9Ideal.Gen

variable {F : FTy → Type} [FloatOps F]

local notation "𝕄" => MT nD τ sig Unit (Elt F) ℕ (UR sig nD τ) ℕ

variable (c : Dev nD) (R : sProp (MT nD τ sig Unit (Elt F) ℕ (UR sig nD τ) ℕ)) (i : grid0.Coords) (arg3 : Memref sig .tc .vmem S1x4x128 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x2048x256 .bf16) (harg6 : arg6.IsWhole) (arg7 : Memref sig .tc .vmem S1x1x256 .f32) (harg7 : arg7.IsWhole) (arg8 : Memref sig .tc .vmem S1x2048x256 .bf16) (harg8 : arg8.IsWhole) (arg9 : Memref sig .tc .vmem S2x2048x1 .f32) (harg9 : arg9.IsWhole) (arg10 : Memref sig .tc .vmem S2x2048x128 .f32) (harg10 : arg10.IsWhole) (arg11 : Memref sig .tc .vmem S2x2048x256 .f32) (harg11 : arg11.IsWhole) (arg12 : Memref sig .tc .vmem S2x2x512x2048 .f32) (harg12 : arg12.IsWhole) (arg13 : Memref sig .tc .vmem S2x1024x2048 .bf16) (harg13 : arg13.IsWhole) (arg14 : Memref sig .tc .vmem S2x2x512x1 .f32) (harg14 : arg14.IsWhole)
  (h3 : Reads c R arg3) (h4 : Reads c R arg4) (h5 : Reads c R arg5) (h6 : Reads c R arg6) (h7 : Reads c R arg7) (h8 : Writes c R arg8) (h9 : Writes c R arg9) (h10 : Writes c R arg10) (h11 : Writes c R arg11) (h12 : Writes c R arg12) (h13 : Writes c R arg13) (h14 : Writes c R arg14)
include h3 h4 h5 h6 h7 h8 h9 h10 h11 h12 h13 h14
theorem keeps_part1 (c0_i32_10 : BitVec 32) (c1_i32_11 : BitVec 32) (k0_t1 : Fin (k0_t1_loop i).trips) :
    Keeps (defs₀ (F := F)) c R (k0_part1 (F := F) i arg3 harg3 arg4 harg4 arg5 harg5 arg6 harg6 arg7 harg7 arg8 harg8 arg9 harg9 arg10 harg10 arg11 harg11 arg12 harg12 arg13 harg13 arg14 harg14 c0_i32_10 c1_i32_11 k0_t1) := by
  rw [k0_part1_eq_skeleton (F := F)]; unfold k0_part1_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part2 (k0_t1 : Fin (k0_t1_loop i).trips) (v708 : BitVec 32) (v732 : FVec F S512x2048 .f32) :
    Keeps (defs₀ (F := F)) c R (k0_part2 (F := F) i arg3 harg3 arg4 harg4 arg5 harg5 arg6 harg6 arg7 harg7 arg8 harg8 arg9 harg9 arg10 harg10 arg11 harg11 arg12 harg12 arg13 harg13 arg14 harg14 k0_t1 v708 v732) := by
  rw [k0_part2_eq_skeleton (F := F)]; unfold k0_part2_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part3 (v751 : FVec F S512x1 .f32) (v753 : FVec F S512x1 .f32) (v756 : FVec F S512x2048 .f32) (v757 : FVec F S512x128 .f32) (v758 : FVec F S512x128 .f32) (v759 : FVec F S512x128 .f32) (v760 : FVec F S512x128 .f32) (v761 : FVec F S512x128 .f32) (v762 : FVec F S512x128 .f32) (v763 : FVec F S512x128 .f32) (v764 : FVec F S512x128 .f32) (v765 : FVec F S512x128 .f32) (v766 : FVec F S512x128 .f32) (v767 : FVec F S512x128 .f32) (v768 : FVec F S512x128 .f32) (v769 : FVec F S512x128 .f32) (v770 : FVec F S512x128 .f32) (v771 : FVec F S512x128 .f32) (v772 : FVec F S512x128 .f32) :
    Keeps (defs₀ (F := F)) c R (k0_part3 (F := F) i arg3 harg3 arg4 harg4 arg5 harg5 arg6 harg6 arg7 harg7 arg8 harg8 arg9 harg9 arg10 harg10 arg11 harg11 arg12 harg12 arg13 harg13 arg14 harg14 v751 v753 v756 v757 v758 v759 v760 v761 v762 v763 v764 v765 v766 v767 v768 v769 v770 v771 v772) := by
  rw [k0_part3_eq_skeleton (F := F)]; unfold k0_part3_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part4 (v807 : FVec F S512x2048 .f32) :
    Keeps (defs₀ (F := F)) c R (k0_part4 (F := F) i arg3 harg3 arg4 harg4 arg5 harg5 arg6 harg6 arg7 harg7 arg8 harg8 arg9 harg9 arg10 harg10 arg11 harg11 arg12 harg12 arg13 harg13 arg14 harg14 v807) := by
  rw [k0_part4_eq_skeleton (F := F)]; unfold k0_part4_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part5 (k0_t1 : Fin (k0_t1_loop i).trips) (v708 : BitVec 32) (v812 : FVec F S512x1 .f32) (v814 : FVec F S512x1 .f32) (v817 : FVec F S512x2048 .f32) :
    Keeps (defs₀ (F := F)) c R (k0_part5 (F := F) i arg3 harg3 arg4 harg4 arg5 harg5 arg6 harg6 arg7 harg7 arg8 harg8 arg9 harg9 arg10 harg10 arg11 harg11 arg12 harg12 arg13 harg13 arg14 harg14 k0_t1 v708 v812 v814 v817) := by
  rw [k0_part5_eq_skeleton (F := F)]; unfold k0_part5_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part6 (k0_t1 : Fin (k0_t1_loop i).trips) (v708 : BitVec 32) (v872 : FVec F S1024x256 .f32) :
    Keeps (defs₀ (F := F)) c R (k0_part6 (F := F) i arg3 harg3 arg4 harg4 arg5 harg5 arg6 harg6 arg7 harg7 arg8 harg8 arg9 harg9 arg10 harg10 arg11 harg11 arg12 harg12 arg13 harg13 arg14 harg14 k0_t1 v708 v872) := by
  rw [k0_part6_eq_skeleton (F := F)]; unfold k0_part6_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part7  :
    Keeps (defs₀ (F := F)) c R (k0_part7 (F := F) i arg3 harg3 arg4 harg4 arg5 harg5 arg6 harg6 arg7 harg7 arg8 harg8 arg9 harg9 arg10 harg10 arg11 harg11 arg12 harg12 arg13 harg13 arg14 harg14 ) := by
  rw [k0_part7_eq_skeleton (F := F)]; unfold k0_part7_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part8 (v919 : FVec F S512x1 .f32) (v921 : FVec F S512x1 .f32) (v924 : FVec F S512x2048 .f32) (v960 : FVec F S512x128 .f32) :
    Keeps (defs₀ (F := F)) c R (k0_part8 (F := F) i arg3 harg3 arg4 harg4 arg5 harg5 arg6 harg6 arg7 harg7 arg8 harg8 arg9 harg9 arg10 harg10 arg11 harg11 arg12 harg12 arg13 harg13 arg14 harg14 v919 v921 v924 v960) := by
  rw [k0_part8_eq_skeleton (F := F)]; unfold k0_part8_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part9 (v980 : FVec F S512x1 .f32) (v982 : FVec F S512x1 .f32) (v985 : FVec F S512x2048 .f32) (v986 : FVec F S512x128 .f32) (v987 : FVec F S512x128 .f32) (v988 : FVec F S512x128 .f32) (v989 : FVec F S512x128 .f32) (v990 : FVec F S512x128 .f32) (v991 : FVec F S512x128 .f32) (v992 : FVec F S512x128 .f32) (v993 : FVec F S512x128 .f32) (v994 : FVec F S512x128 .f32) (v995 : FVec F S512x128 .f32) (v996 : FVec F S512x128 .f32) (v997 : FVec F S512x128 .f32) (v998 : FVec F S512x128 .f32) :
    Keeps (defs₀ (F := F)) c R (k0_part9 (F := F) i arg3 harg3 arg4 harg4 arg5 harg5 arg6 harg6 arg7 harg7 arg8 harg8 arg9 harg9 arg10 harg10 arg11 harg11 arg12 harg12 arg13 harg13 arg14 harg14 v980 v982 v985 v986 v987 v988 v989 v990 v991 v992 v993 v994 v995 v996 v997 v998) := by
  rw [k0_part9_eq_skeleton (F := F)]; unfold k0_part9_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part10 (k0_t1 : Fin (k0_t1_loop i).trips) (v708 : BitVec 32) (v1035 : Vec F S1x1024x2048 .bf16) :
    Keeps (defs₀ (F := F)) c R (k0_part10 (F := F) i arg3 harg3 arg4 harg4 arg5 harg5 arg6 harg6 arg7 harg7 arg8 harg8 arg9 harg9 arg10 harg10 arg11 harg11 arg12 harg12 arg13 harg13 arg14 harg14 k0_t1 v708 v1035) := by
  rw [k0_part10_eq_skeleton (F := F)]; unfold k0_part10_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part11 (k0_t1 : Fin (k0_t1_loop i).trips) (v708 : BitVec 32) (v1064 : FVec F S512x128 .bf16) :
    Keeps (defs₀ (F := F)) c R (k0_part11 (F := F) i arg3 harg3 arg4 harg4 arg5 harg5 arg6 harg6 arg7 harg7 arg8 harg8 arg9 harg9 arg10 harg10 arg11 harg11 arg12 harg12 arg13 harg13 arg14 harg14 k0_t1 v708 v1064) := by
  rw [k0_part11_eq_skeleton (F := F)]; unfold k0_part11_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part12 (v1087 : FVec F S512x1 .f32) (v1089 : FVec F S512x1 .f32) (v1092 : FVec F S512x2048 .f32) (v1093 : FVec F S512x128 .f32) (v1094 : FVec F S512x128 .f32) (v1095 : FVec F S512x128 .f32) (v1096 : FVec F S512x128 .f32) (v1097 : FVec F S512x128 .f32) (v1098 : FVec F S512x128 .f32) (v1099 : FVec F S512x128 .f32) (v1100 : FVec F S512x128 .f32) :
    Keeps (defs₀ (F := F)) c R (k0_part12 (F := F) i arg3 harg3 arg4 harg4 arg5 harg5 arg6 harg6 arg7 harg7 arg8 harg8 arg9 harg9 arg10 harg10 arg11 harg11 arg12 harg12 arg13 harg13 arg14 harg14 v1087 v1089 v1092 v1093 v1094 v1095 v1096 v1097 v1098 v1099 v1100) := by
  rw [k0_part12_eq_skeleton (F := F)]; unfold k0_part12_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part13 (v1141 : FVec F S1x512x2048 .bf16) :
    Keeps (defs₀ (F := F)) c R (k0_part13 (F := F) i arg3 harg3 arg4 harg4 arg5 harg5 arg6 harg6 arg7 harg7 arg8 harg8 arg9 harg9 arg10 harg10 arg11 harg11 arg12 harg12 arg13 harg13 arg14 harg14 v1141) := by
  rw [k0_part13_eq_skeleton (F := F)]; unfold k0_part13_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part14 (k0_t1 : Fin (k0_t1_loop i).trips) (v708 : BitVec 32) (v1148 : FVec F S512x1 .f32) (v1150 : FVec F S512x1 .f32) (v1153 : FVec F S512x2048 .f32) (v1189 : FVec F S512x128 .f32) :
    Keeps (defs₀ (F := F)) c R (k0_part14 (F := F) i arg3 harg3 arg4 harg4 arg5 harg5 arg6 harg6 arg7 harg7 arg8 harg8 arg9 harg9 arg10 harg10 arg11 harg11 arg12 harg12 arg13 harg13 arg14 harg14 k0_t1 v708 v1148 v1150 v1153 v1189) := by
  rw [k0_part14_eq_skeleton (F := F)]; unfold k0_part14_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part15 (v1208 : FVec F S1024x256 .f32) (v1216 : FVec F S512x256 .f32) :
    Keeps (defs₀ (F := F)) c R (k0_part15 (F := F) i arg3 harg3 arg4 harg4 arg5 harg5 arg6 harg6 arg7 harg7 arg8 harg8 arg9 harg9 arg10 harg10 arg11 harg11 arg12 harg12 arg13 harg13 arg14 harg14 v1208 v1216) := by
  rw [k0_part15_eq_skeleton (F := F)]; unfold k0_part15_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part16 (v1237 : FVec F S512x1 .f32) (v1239 : FVec F S512x1 .f32) (v1242 : FVec F S512x2048 .f32) (v1243 : FVec F S512x128 .f32) (v1244 : FVec F S512x128 .f32) (v1245 : FVec F S512x128 .f32) (v1246 : FVec F S512x128 .f32) (v1247 : FVec F S512x128 .f32) (v1248 : FVec F S512x128 .f32) (v1249 : FVec F S512x128 .f32) (v1250 : FVec F S512x128 .f32) (v1251 : FVec F S512x128 .f32) (v1252 : FVec F S512x128 .f32) (v1253 : FVec F S512x128 .f32) (v1254 : FVec F S512x128 .f32) (v1255 : FVec F S512x128 .f32) (v1256 : FVec F S512x128 .f32) :
    Keeps (defs₀ (F := F)) c R (k0_part16 (F := F) i arg3 harg3 arg4 harg4 arg5 harg5 arg6 harg6 arg7 harg7 arg8 harg8 arg9 harg9 arg10 harg10 arg11 harg11 arg12 harg12 arg13 harg13 arg14 harg14 v1237 v1239 v1242 v1243 v1244 v1245 v1246 v1247 v1248 v1249 v1250 v1251 v1252 v1253 v1254 v1255 v1256) := by
  rw [k0_part16_eq_skeleton (F := F)]; unfold k0_part16_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part17 (v1292 : Vec F S1x1x512x2048 .f32) :
    Keeps (defs₀ (F := F)) c R (k0_part17 (F := F) i arg3 harg3 arg4 harg4 arg5 harg5 arg6 harg6 arg7 harg7 arg8 harg8 arg9 harg9 arg10 harg10 arg11 harg11 arg12 harg12 arg13 harg13 arg14 harg14 v1292) := by
  rw [k0_part17_eq_skeleton (F := F)]; unfold k0_part17_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part18 (k0_t1 : Fin (k0_t1_loop i).trips) (v708 : BitVec 32) (v1298 : FVec F S512x1 .f32) (v1300 : FVec F S512x1 .f32) (v1303 : FVec F S512x2048 .f32) (v1342 : FVec F S1x512x128 .f32) :
    Keeps (defs₀ (F := F)) c R (k0_part18 (F := F) i arg3 harg3 arg4 harg4 arg5 harg5 arg6 harg6 arg7 harg7 arg8 harg8 arg9 harg9 arg10 harg10 arg11 harg11 arg12 harg12 arg13 harg13 arg14 harg14 k0_t1 v708 v1298 v1300 v1303 v1342) := by
  rw [k0_part18_eq_skeleton (F := F)]; unfold k0_part18_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part19 (v16 : BitVec 32) (c1_i32_12 : BitVec 32) (k0_t2 : Fin (k0_t2_loop i).trips) :
    Keeps (defs₀ (F := F)) c R (k0_part19 (F := F) i arg3 harg3 arg4 harg4 arg5 harg5 arg6 harg6 arg7 harg7 arg8 harg8 arg9 harg9 arg10 harg10 arg11 harg11 arg12 harg12 arg13 harg13 arg14 harg14 v16 c1_i32_12 k0_t2) := by
  rw [k0_part19_eq_skeleton (F := F)]; unfold k0_part19_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part20 (k0_t2 : Fin (k0_t2_loop i).trips) (v708 : BitVec 32) (v732 : FVec F S512x2048 .f32) :
    Keeps (defs₀ (F := F)) c R (k0_part20 (F := F) i arg3 harg3 arg4 harg4 arg5 harg5 arg6 harg6 arg7 harg7 arg8 harg8 arg9 harg9 arg10 harg10 arg11 harg11 arg12 harg12 arg13 harg13 arg14 harg14 k0_t2 v708 v732) := by
  rw [k0_part20_eq_skeleton (F := F)]; unfold k0_part20_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part21 (v751 : FVec F S512x1 .f32) (v753 : FVec F S512x1 .f32) (v756 : FVec F S512x2048 .f32) (v757 : FVec F S512x128 .f32) (v758 : FVec F S512x128 .f32) (v759 : FVec F S512x128 .f32) (v760 : FVec F S512x128 .f32) (v761 : FVec F S512x128 .f32) (v762 : FVec F S512x128 .f32) (v763 : FVec F S512x128 .f32) (v764 : FVec F S512x128 .f32) (v765 : FVec F S512x128 .f32) (v766 : FVec F S512x128 .f32) (v767 : FVec F S512x128 .f32) (v768 : FVec F S512x128 .f32) (v769 : FVec F S512x128 .f32) (v770 : FVec F S512x128 .f32) (v771 : FVec F S512x128 .f32) (v772 : FVec F S512x128 .f32) :
    Keeps (defs₀ (F := F)) c R (k0_part21 (F := F) i arg3 harg3 arg4 harg4 arg5 harg5 arg6 harg6 arg7 harg7 arg8 harg8 arg9 harg9 arg10 harg10 arg11 harg11 arg12 harg12 arg13 harg13 arg14 harg14 v751 v753 v756 v757 v758 v759 v760 v761 v762 v763 v764 v765 v766 v767 v768 v769 v770 v771 v772) := by
  rw [k0_part21_eq_skeleton (F := F)]; unfold k0_part21_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part22 (v807 : FVec F S512x2048 .f32) :
    Keeps (defs₀ (F := F)) c R (k0_part22 (F := F) i arg3 harg3 arg4 harg4 arg5 harg5 arg6 harg6 arg7 harg7 arg8 harg8 arg9 harg9 arg10 harg10 arg11 harg11 arg12 harg12 arg13 harg13 arg14 harg14 v807) := by
  rw [k0_part22_eq_skeleton (F := F)]; unfold k0_part22_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part23 (k0_t2 : Fin (k0_t2_loop i).trips) (v708 : BitVec 32) (v812 : FVec F S512x1 .f32) (v814 : FVec F S512x1 .f32) (v817 : FVec F S512x2048 .f32) :
    Keeps (defs₀ (F := F)) c R (k0_part23 (F := F) i arg3 harg3 arg4 harg4 arg5 harg5 arg6 harg6 arg7 harg7 arg8 harg8 arg9 harg9 arg10 harg10 arg11 harg11 arg12 harg12 arg13 harg13 arg14 harg14 k0_t2 v708 v812 v814 v817) := by
  rw [k0_part23_eq_skeleton (F := F)]; unfold k0_part23_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part24 (k0_t2 : Fin (k0_t2_loop i).trips) (v708 : BitVec 32) (v872 : FVec F S1024x256 .f32) :
    Keeps (defs₀ (F := F)) c R (k0_part24 (F := F) i arg3 harg3 arg4 harg4 arg5 harg5 arg6 harg6 arg7 harg7 arg8 harg8 arg9 harg9 arg10 harg10 arg11 harg11 arg12 harg12 arg13 harg13 arg14 harg14 k0_t2 v708 v872) := by
  rw [k0_part24_eq_skeleton (F := F)]; unfold k0_part24_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part25  :
    Keeps (defs₀ (F := F)) c R (k0_part25 (F := F) i arg3 harg3 arg4 harg4 arg5 harg5 arg6 harg6 arg7 harg7 arg8 harg8 arg9 harg9 arg10 harg10 arg11 harg11 arg12 harg12 arg13 harg13 arg14 harg14 ) := by
  rw [k0_part25_eq_skeleton (F := F)]; unfold k0_part25_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part26 (v919 : FVec F S512x1 .f32) (v921 : FVec F S512x1 .f32) (v924 : FVec F S512x2048 .f32) (v960 : FVec F S512x128 .f32) :
    Keeps (defs₀ (F := F)) c R (k0_part26 (F := F) i arg3 harg3 arg4 harg4 arg5 harg5 arg6 harg6 arg7 harg7 arg8 harg8 arg9 harg9 arg10 harg10 arg11 harg11 arg12 harg12 arg13 harg13 arg14 harg14 v919 v921 v924 v960) := by
  rw [k0_part26_eq_skeleton (F := F)]; unfold k0_part26_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part27 (v980 : FVec F S512x1 .f32) (v982 : FVec F S512x1 .f32) (v985 : FVec F S512x2048 .f32) (v986 : FVec F S512x128 .f32) (v987 : FVec F S512x128 .f32) (v988 : FVec F S512x128 .f32) (v989 : FVec F S512x128 .f32) (v990 : FVec F S512x128 .f32) (v991 : FVec F S512x128 .f32) (v992 : FVec F S512x128 .f32) (v993 : FVec F S512x128 .f32) (v994 : FVec F S512x128 .f32) (v995 : FVec F S512x128 .f32) (v996 : FVec F S512x128 .f32) (v997 : FVec F S512x128 .f32) (v998 : FVec F S512x128 .f32) :
    Keeps (defs₀ (F := F)) c R (k0_part27 (F := F) i arg3 harg3 arg4 harg4 arg5 harg5 arg6 harg6 arg7 harg7 arg8 harg8 arg9 harg9 arg10 harg10 arg11 harg11 arg12 harg12 arg13 harg13 arg14 harg14 v980 v982 v985 v986 v987 v988 v989 v990 v991 v992 v993 v994 v995 v996 v997 v998) := by
  rw [k0_part27_eq_skeleton (F := F)]; unfold k0_part27_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part28 (k0_t2 : Fin (k0_t2_loop i).trips) (v708 : BitVec 32) (v1035 : Vec F S1x1024x2048 .bf16) :
    Keeps (defs₀ (F := F)) c R (k0_part28 (F := F) i arg3 harg3 arg4 harg4 arg5 harg5 arg6 harg6 arg7 harg7 arg8 harg8 arg9 harg9 arg10 harg10 arg11 harg11 arg12 harg12 arg13 harg13 arg14 harg14 k0_t2 v708 v1035) := by
  rw [k0_part28_eq_skeleton (F := F)]; unfold k0_part28_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part29 (k0_t2 : Fin (k0_t2_loop i).trips) (v708 : BitVec 32) (v1064 : FVec F S512x128 .bf16) :
    Keeps (defs₀ (F := F)) c R (k0_part29 (F := F) i arg3 harg3 arg4 harg4 arg5 harg5 arg6 harg6 arg7 harg7 arg8 harg8 arg9 harg9 arg10 harg10 arg11 harg11 arg12 harg12 arg13 harg13 arg14 harg14 k0_t2 v708 v1064) := by
  rw [k0_part29_eq_skeleton (F := F)]; unfold k0_part29_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part30 (v1087 : FVec F S512x1 .f32) (v1089 : FVec F S512x1 .f32) (v1092 : FVec F S512x2048 .f32) (v1093 : FVec F S512x128 .f32) (v1094 : FVec F S512x128 .f32) (v1095 : FVec F S512x128 .f32) (v1096 : FVec F S512x128 .f32) (v1097 : FVec F S512x128 .f32) (v1098 : FVec F S512x128 .f32) (v1099 : FVec F S512x128 .f32) (v1100 : FVec F S512x128 .f32) :
    Keeps (defs₀ (F := F)) c R (k0_part30 (F := F) i arg3 harg3 arg4 harg4 arg5 harg5 arg6 harg6 arg7 harg7 arg8 harg8 arg9 harg9 arg10 harg10 arg11 harg11 arg12 harg12 arg13 harg13 arg14 harg14 v1087 v1089 v1092 v1093 v1094 v1095 v1096 v1097 v1098 v1099 v1100) := by
  rw [k0_part30_eq_skeleton (F := F)]; unfold k0_part30_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part31 (v1141 : FVec F S1x512x2048 .bf16) :
    Keeps (defs₀ (F := F)) c R (k0_part31 (F := F) i arg3 harg3 arg4 harg4 arg5 harg5 arg6 harg6 arg7 harg7 arg8 harg8 arg9 harg9 arg10 harg10 arg11 harg11 arg12 harg12 arg13 harg13 arg14 harg14 v1141) := by
  rw [k0_part31_eq_skeleton (F := F)]; unfold k0_part31_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part32 (k0_t2 : Fin (k0_t2_loop i).trips) (v708 : BitVec 32) (v1148 : FVec F S512x1 .f32) (v1150 : FVec F S512x1 .f32) (v1153 : FVec F S512x2048 .f32) (v1189 : FVec F S512x128 .f32) :
    Keeps (defs₀ (F := F)) c R (k0_part32 (F := F) i arg3 harg3 arg4 harg4 arg5 harg5 arg6 harg6 arg7 harg7 arg8 harg8 arg9 harg9 arg10 harg10 arg11 harg11 arg12 harg12 arg13 harg13 arg14 harg14 k0_t2 v708 v1148 v1150 v1153 v1189) := by
  rw [k0_part32_eq_skeleton (F := F)]; unfold k0_part32_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part33 (v1208 : FVec F S1024x256 .f32) (v1216 : FVec F S512x256 .f32) :
    Keeps (defs₀ (F := F)) c R (k0_part33 (F := F) i arg3 harg3 arg4 harg4 arg5 harg5 arg6 harg6 arg7 harg7 arg8 harg8 arg9 harg9 arg10 harg10 arg11 harg11 arg12 harg12 arg13 harg13 arg14 harg14 v1208 v1216) := by
  rw [k0_part33_eq_skeleton (F := F)]; unfold k0_part33_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part34 (v1237 : FVec F S512x1 .f32) (v1239 : FVec F S512x1 .f32) (v1242 : FVec F S512x2048 .f32) (v1243 : FVec F S512x128 .f32) (v1244 : FVec F S512x128 .f32) (v1245 : FVec F S512x128 .f32) (v1246 : FVec F S512x128 .f32) (v1247 : FVec F S512x128 .f32) (v1248 : FVec F S512x128 .f32) (v1249 : FVec F S512x128 .f32) (v1250 : FVec F S512x128 .f32) (v1251 : FVec F S512x128 .f32) (v1252 : FVec F S512x128 .f32) (v1253 : FVec F S512x128 .f32) (v1254 : FVec F S512x128 .f32) (v1255 : FVec F S512x128 .f32) (v1256 : FVec F S512x128 .f32) :
    Keeps (defs₀ (F := F)) c R (k0_part34 (F := F) i arg3 harg3 arg4 harg4 arg5 harg5 arg6 harg6 arg7 harg7 arg8 harg8 arg9 harg9 arg10 harg10 arg11 harg11 arg12 harg12 arg13 harg13 arg14 harg14 v1237 v1239 v1242 v1243 v1244 v1245 v1246 v1247 v1248 v1249 v1250 v1251 v1252 v1253 v1254 v1255 v1256) := by
  rw [k0_part34_eq_skeleton (F := F)]; unfold k0_part34_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part35 (v1292 : Vec F S1x1x512x2048 .f32) :
    Keeps (defs₀ (F := F)) c R (k0_part35 (F := F) i arg3 harg3 arg4 harg4 arg5 harg5 arg6 harg6 arg7 harg7 arg8 harg8 arg9 harg9 arg10 harg10 arg11 harg11 arg12 harg12 arg13 harg13 arg14 harg14 v1292) := by
  rw [k0_part35_eq_skeleton (F := F)]; unfold k0_part35_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part36 (k0_t2 : Fin (k0_t2_loop i).trips) (v708 : BitVec 32) (v1298 : FVec F S512x1 .f32) (v1300 : FVec F S512x1 .f32) (v1303 : FVec F S512x2048 .f32) (v1342 : FVec F S1x512x128 .f32) :
    Keeps (defs₀ (F := F)) c R (k0_part36 (F := F) i arg3 harg3 arg4 harg4 arg5 harg5 arg6 harg6 arg7 harg7 arg8 harg8 arg9 harg9 arg10 harg10 arg11 harg11 arg12 harg12 arg13 harg13 arg14 harg14 k0_t2 v708 v1298 v1300 v1303 v1342) := by
  rw [k0_part36_eq_skeleton (F := F)]; unfold k0_part36_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_t1 (k : Fin (k0_t1_loop i).trips) (a : Unit) : Keeps (defs₀ (F := F)) c R (k0_t1_body (F := F) i arg3 harg3 arg4 harg4 arg5 harg5 arg6 harg6 arg7 harg7 arg8 harg8 arg9 harg9 arg10 harg10 arg11 harg11 arg12 harg12 arg13 harg13 arg14 harg14 k a) := by
  unfold k0_t1_body
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (with_reducible exact keeps_part1 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part2 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part3 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _ _ _ _ _ _ _ _ _)
    | (with_reducible exact keeps_part4 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part5 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _)
    | (with_reducible exact keeps_part6 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part7 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14)
    | (with_reducible exact keeps_part8 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _)
    | (with_reducible exact keeps_part9 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _ _ _ _ _ _)
    | (with_reducible exact keeps_part10 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part11 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part12 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _)
    | (with_reducible exact keeps_part13 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part14 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _)
    | (with_reducible exact keeps_part15 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _)
    | (with_reducible exact keeps_part16 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _ _ _ _ _ _ _)
    | (with_reducible exact keeps_part17 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part18 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _)

theorem keeps_t2 (v16 : BitVec 32) (k : Fin (k0_t2_loop i).trips) (a : Unit) : Keeps (defs₀ (F := F)) c R (k0_t2_body (F := F) i arg3 harg3 arg4 harg4 arg5 harg5 arg6 harg6 arg7 harg7 arg8 harg8 arg9 harg9 arg10 harg10 arg11 harg11 arg12 harg12 arg13 harg13 arg14 harg14 v16 k a) := by
  unfold k0_t2_body
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (with_reducible exact keeps_part19 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part20 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part21 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _ _ _ _ _ _ _ _ _)
    | (with_reducible exact keeps_part22 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part23 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _)
    | (with_reducible exact keeps_part24 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part25 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14)
    | (with_reducible exact keeps_part26 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _)
    | (with_reducible exact keeps_part27 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _ _ _ _ _ _)
    | (with_reducible exact keeps_part28 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part29 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part30 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _)
    | (with_reducible exact keeps_part31 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part32 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _)
    | (with_reducible exact keeps_part33 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _)
    | (with_reducible exact keeps_part34 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _ _ _ _ _ _ _ _ _)
    | (with_reducible exact keeps_part35 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part36 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _)

theorem keeps_part37  :
    Keeps (defs₀ (F := F)) c R (k0_part37 (F := F) i arg3 harg3 arg4 harg4 arg5 harg5 arg6 harg6 arg7 harg7 arg8 harg8 arg9 harg9 arg10 harg10 arg11 harg11 arg12 harg12 arg13 harg13 arg14 harg14 ) := by
  rw [k0_part37_eq_skeleton (F := F)]; unfold k0_part37_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | exact keeps_for _ _ _ _ (keeps_t1 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14)
    | exact keeps_for _ _ _ _ (keeps_t2 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)

theorem keeps_part38 (v18 : BitVec 32) (v24 : FVec F S512x512 .f32) :
    Keeps (defs₀ (F := F)) c R (k0_part38 (F := F) i arg3 harg3 arg4 harg4 arg5 harg5 arg6 harg6 arg7 harg7 arg8 harg8 arg9 harg9 arg10 harg10 arg11 harg11 arg12 harg12 arg13 harg13 arg14 harg14 v18 v24) := by
  rw [k0_part38_eq_skeleton (F := F)]; unfold k0_part38_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part39 (v51 : FVec F S512x1024 .f32) :
    Keeps (defs₀ (F := F)) c R (k0_part39 (F := F) i arg3 harg3 arg4 harg4 arg5 harg5 arg6 harg6 arg7 harg7 arg8 harg8 arg9 harg9 arg10 harg10 arg11 harg11 arg12 harg12 arg13 harg13 arg14 harg14 v51) := by
  rw [k0_part39_eq_skeleton (F := F)]; unfold k0_part39_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part40 (v68 : FVec F S512x1 .f32) (v70 : FVec F S512x1 .f32) (v73 : FVec F S512x512 .f32) (v89 : Vec F S1x512x1 .f32) :
    Keeps (defs₀ (F := F)) c R (k0_part40 (F := F) i arg3 harg3 arg4 harg4 arg5 harg5 arg6 harg6 arg7 harg7 arg8 harg8 arg9 harg9 arg10 harg10 arg11 harg11 arg12 harg12 arg13 harg13 arg14 harg14 v68 v70 v73 v89) := by
  rw [k0_part40_eq_skeleton (F := F)]; unfold k0_part40_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part41 (v18 : BitVec 32) (v112 : FVec F S512x1 .f32) (v114 : FVec F S512x1 .f32) (v117 : FVec F S512x512 .f32) (v124 : FVec F S512x128 .f32) (v126 : FVec F S512x128 .f32) :
    Keeps (defs₀ (F := F)) c R (k0_part41 (F := F) i arg3 harg3 arg4 harg4 arg5 harg5 arg6 harg6 arg7 harg7 arg8 harg8 arg9 harg9 arg10 harg10 arg11 harg11 arg12 harg12 arg13 harg13 arg14 harg14 v18 v112 v114 v117 v124 v126) := by
  rw [k0_part41_eq_skeleton (F := F)]; unfold k0_part41_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part42 (v18 : BitVec 32) (v148 : FVec F S1024x256 .f32) (v156 : FVec F S512x256 .f32) :
    Keeps (defs₀ (F := F)) c R (k0_part42 (F := F) i arg3 harg3 arg4 harg4 arg5 harg5 arg6 harg6 arg7 harg7 arg8 harg8 arg9 harg9 arg10 harg10 arg11 harg11 arg12 harg12 arg13 harg13 arg14 harg14 v18 v148 v156) := by
  rw [k0_part42_eq_skeleton (F := F)]; unfold k0_part42_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part43 (v181 : FVec F S512x128 .bf16) (v184 : FVec F S1536x128 .bf16) (cst_142 : FVec F S512x1536 .f32) :
    Keeps (defs₀ (F := F)) c R (k0_part43 (F := F) i arg3 harg3 arg4 harg4 arg5 harg5 arg6 harg6 arg7 harg7 arg8 harg8 arg9 harg9 arg10 harg10 arg11 harg11 arg12 harg12 arg13 harg13 arg14 harg14 v181 v184 cst_142) := by
  rw [k0_part43_eq_skeleton (F := F)]; unfold k0_part43_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part44 (v202 : FVec F S512x1 .f32) (v204 : FVec F S512x1 .f32) (v207 : FVec F S512x1024 .f32) (v222 : FVec F S512x128 .f32) (v226 : FVec F S512x128 .f32) :
    Keeps (defs₀ (F := F)) c R (k0_part44 (F := F) i arg3 harg3 arg4 harg4 arg5 harg5 arg6 harg6 arg7 harg7 arg8 harg8 arg9 harg9 arg10 harg10 arg11 harg11 arg12 harg12 arg13 harg13 arg14 harg14 v202 v204 v207 v222 v226) := by
  rw [k0_part44_eq_skeleton (F := F)]; unfold k0_part44_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part45 (v18 : BitVec 32) (v254 : FVec F S512x1 .f32) (v256 : FVec F S512x1 .f32) (v259 : FVec F S512x1024 .f32) :
    Keeps (defs₀ (F := F)) c R (k0_part45 (F := F) i arg3 harg3 arg4 harg4 arg5 harg5 arg6 harg6 arg7 harg7 arg8 harg8 arg9 harg9 arg10 harg10 arg11 harg11 arg12 harg12 arg13 harg13 arg14 harg14 v18 v254 v256 v259) := by
  rw [k0_part45_eq_skeleton (F := F)]; unfold k0_part45_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part46 (v18 : BitVec 32) (v294 : FVec F S1024x1024 .bf16) :
    Keeps (defs₀ (F := F)) c R (k0_part46 (F := F) i arg3 harg3 arg4 harg4 arg5 harg5 arg6 harg6 arg7 harg7 arg8 harg8 arg9 harg9 arg10 harg10 arg11 harg11 arg12 harg12 arg13 harg13 arg14 harg14 v18 v294) := by
  rw [k0_part46_eq_skeleton (F := F)]; unfold k0_part46_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part47 (v18 : BitVec 32) (v322 : FVec F S512x128 .bf16) (v325 : FVec F S2048x128 .bf16) (cst_228 : FVec F S512x2048 .f32) :
    Keeps (defs₀ (F := F)) c R (k0_part47 (F := F) i arg3 harg3 arg4 harg4 arg5 harg5 arg6 harg6 arg7 harg7 arg8 harg8 arg9 harg9 arg10 harg10 arg11 harg11 arg12 harg12 arg13 harg13 arg14 harg14 v18 v322 v325 cst_228) := by
  rw [k0_part47_eq_skeleton (F := F)]; unfold k0_part47_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part48 (v352 : FVec F S512x1 .f32) (v354 : FVec F S512x1 .f32) (v357 : FVec F S512x1536 .f32) (v358 : FVec F S512x128 .f32) (v359 : FVec F S512x128 .f32) :
    Keeps (defs₀ (F := F)) c R (k0_part48 (F := F) i arg3 harg3 arg4 harg4 arg5 harg5 arg6 harg6 arg7 harg7 arg8 harg8 arg9 harg9 arg10 harg10 arg11 harg11 arg12 harg12 arg13 harg13 arg14 harg14 v352 v354 v357 v358 v359) := by
  rw [k0_part48_eq_skeleton (F := F)]; unfold k0_part48_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part49  :
    Keeps (defs₀ (F := F)) c R (k0_part49 (F := F) i arg3 harg3 arg4 harg4 arg5 harg5 arg6 harg6 arg7 harg7 arg8 harg8 arg9 harg9 arg10 harg10 arg11 harg11 arg12 harg12 arg13 harg13 arg14 harg14 ) := by
  rw [k0_part49_eq_skeleton (F := F)]; unfold k0_part49_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part50 (v18 : BitVec 32) (v412 : FVec F S512x1 .f32) (v414 : FVec F S512x1 .f32) (v417 : FVec F S512x1536 .f32) (v445 : FVec F S512x128 .f32) :
    Keeps (defs₀ (F := F)) c R (k0_part50 (F := F) i arg3 harg3 arg4 harg4 arg5 harg5 arg6 harg6 arg7 harg7 arg8 harg8 arg9 harg9 arg10 harg10 arg11 harg11 arg12 harg12 arg13 harg13 arg14 harg14 v18 v412 v414 v417 v445) := by
  rw [k0_part50_eq_skeleton (F := F)]; unfold k0_part50_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part51 (v464 : FVec F S1024x256 .f32) (v472 : FVec F S512x256 .f32) (v473 : Vec F S1x512x256 .f32) :
    Keeps (defs₀ (F := F)) c R (k0_part51 (F := F) i arg3 harg3 arg4 harg4 arg5 harg5 arg6 harg6 arg7 harg7 arg8 harg8 arg9 harg9 arg10 harg10 arg11 harg11 arg12 harg12 arg13 harg13 arg14 harg14 v464 v472 v473) := by
  rw [k0_part51_eq_skeleton (F := F)]; unfold k0_part51_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part52 (v500 : FVec F S512x1 .f32) (v502 : FVec F S512x1 .f32) (v505 : FVec F S512x2048 .f32) (v506 : FVec F S512x128 .f32) (v507 : FVec F S512x128 .f32) (v508 : FVec F S512x128 .f32) (v509 : FVec F S512x128 .f32) (v510 : FVec F S512x128 .f32) (v511 : FVec F S512x128 .f32) :
    Keeps (defs₀ (F := F)) c R (k0_part52 (F := F) i arg3 harg3 arg4 harg4 arg5 harg5 arg6 harg6 arg7 harg7 arg8 harg8 arg9 harg9 arg10 harg10 arg11 harg11 arg12 harg12 arg13 harg13 arg14 harg14 v500 v502 v505 v506 v507 v508 v509 v510 v511) := by
  rw [k0_part52_eq_skeleton (F := F)]; unfold k0_part52_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part53 (v551 : FVec F S512x2048 .bf16) (v552 : Vec F S1x512x2048 .bf16) :
    Keeps (defs₀ (F := F)) c R (k0_part53 (F := F) i arg3 harg3 arg4 harg4 arg5 harg5 arg6 harg6 arg7 harg7 arg8 harg8 arg9 harg9 arg10 harg10 arg11 harg11 arg12 harg12 arg13 harg13 arg14 harg14 v551 v552) := by
  rw [k0_part53_eq_skeleton (F := F)]; unfold k0_part53_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part54 (v18 : BitVec 32) (v568 : FVec F S512x1 .f32) (v570 : FVec F S512x1 .f32) (v573 : FVec F S512x2048 .f32) (v598 : FVec F S512x128 .f32) (v599 : FVec F S512x128 .f32) (v600 : FVec F S512x128 .f32) (v601 : FVec F S512x128 .f32) :
    Keeps (defs₀ (F := F)) c R (k0_part54 (F := F) i arg3 harg3 arg4 harg4 arg5 harg5 arg6 harg6 arg7 harg7 arg8 harg8 arg9 harg9 arg10 harg10 arg11 harg11 arg12 harg12 arg13 harg13 arg14 harg14 v18 v568 v570 v573 v598 v599 v600 v601) := by
  rw [k0_part54_eq_skeleton (F := F)]; unfold k0_part54_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part55 (v628 : FVec F S1024x256 .f32) (v630 : FVec F S512x1 .f32) :
    Keeps (defs₀ (F := F)) c R (k0_part55 (F := F) i arg3 harg3 arg4 harg4 arg5 harg5 arg6 harg6 arg7 harg7 arg8 harg8 arg9 harg9 arg10 harg10 arg11 harg11 arg12 harg12 arg13 harg13 arg14 harg14 v628 v630) := by
  rw [k0_part55_eq_skeleton (F := F)]; unfold k0_part55_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_part56 (v667 : FVec F S1x1 .f32) :
    Keeps (defs₀ (F := F)) c R (k0_part56 (F := F) i arg3 harg3 arg4 harg4 arg5 harg5 arg6 harg6 arg7 harg7 arg8 harg8 arg9 harg9 arg10 harg10 arg11 harg11 arg12 harg12 arg13 harg13 arg14 harg14 v667) := by
  rw [k0_part56_eq_skeleton (F := F)]; unfold k0_part56_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)

theorem keeps_body : Keeps (defs₀ (F := F)) c R (cc0_diff_attention (F := F) i arg3 harg3 arg4 harg4 arg5 harg5 arg6 harg6 arg7 harg7 arg8 harg8 arg9 harg9 arg10 harg10 arg11 harg11 arg12 harg12 arg13 harg13 arg14 harg14) := by
  rw [cc0_diff_attention_eq_skeleton (F := F)]; unfold cc0_diff_attention_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (with_reducible exact keeps_part37 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14)
    | (with_reducible exact keeps_part38 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _)
    | (with_reducible exact keeps_part39 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)
    | (with_reducible exact keeps_part40 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _)
    | (with_reducible exact keeps_part41 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _)
    | (with_reducible exact keeps_part42 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part43 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part44 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _)
    | (with_reducible exact keeps_part45 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _)
    | (with_reducible exact keeps_part46 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _)
    | (with_reducible exact keeps_part47 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _)
    | (with_reducible exact keeps_part48 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _)
    | (with_reducible exact keeps_part49 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14)
    | (with_reducible exact keeps_part50 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _)
    | (with_reducible exact keeps_part51 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _)
    | (with_reducible exact keeps_part52 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _ _)
    | (with_reducible exact keeps_part53 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _)
    | (with_reducible exact keeps_part54 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ _ _ _ _ _ _)
    | (with_reducible exact keeps_part55 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _)
    | (with_reducible exact keeps_part56 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _)

end Cert.Attn

end
-- ==== Proof.AttnFrame.lean ====
module

public import proofs.«01_k».proof.Proof.AttnBody
public import Idealize.ShloMosaic.Lib.Pipeline.TableIdle
public import Idealize.ShloMosaic.Lib.Claim

/-! The differential attention: the grid, its proof data and the frame. -/

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Keeping Cert.Kernel9Ideal Cert.Kernel9Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x4x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .bf16 := win0_5.stage (cfg0.slots t 5)
abbrev hs0_5 (t : Fin cfg0.N) : (ms0_5 t).IsWhole := hstage0_5 ((cfg0.slots t 5).cast nbuf0_5)
abbrev scM0_0 : Memref sig .tc .vmem S2x2048x1 .f32 := Memref.whole cc0_scratch0
abbrev scM0_1 : Memref sig .tc .vmem S2x2048x128 .f32 := Memref.whole cc0_scratch1
abbrev scM0_2 : Memref sig .tc .vmem S2x2048x256 .f32 := Memref.whole cc0_scratch2
abbrev scM0_3 : Memref sig .tc .vmem S2x2x512x2048 .f32 := Memref.whole cc0_scratch3
abbrev scM0_4 : Memref sig .tc .vmem S2x1024x2048 .bf16 := Memref.whole cc0_scratch4
abbrev scM0_5 : Memref sig .tc .vmem S2x2x512x1 .f32 := Memref.whole cc0_scratch5

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Nothing reads what the kernel leaves in the output. -/
def forgets0 : Fin 6 → Bool := fun w => decide (w = 5)

/-- The proof data of the pipeline: the operands left in place, the output's contents unnamed, the operands' arrays shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (grid0.coords t) = false from rfl], after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (grid0.coords t) = false from rfl], after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (grid0.coords t) = false from rfl], after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [show cfg0.idle 3 (grid0.coords t) = false from rfl], after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [show cfg0.idle 4 (grid0.coords t) = false from rfl], after0_4]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

/-- What the body keeps: the scratch at any contents, the operands at theirs, the output's buffer at any. -/
def held (c : Dev nD) (t : Fin cfg0.N) : sProp 𝕄 :=
  iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ d, owns (c : Thread nD τ) (ms0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  have ePost : bodyPost m c t = held m c t := by
    unfold bodyPost held
    rw [show (dats m 0 c).owesAt () t.succ = (dats m 0 c).owesAt () t.castSucc from rfl,
      show (dats m 0 c).Φ t.succ = Pipeline.ΦA spec0 c from rfl, PhiA0_eq, leaves0_0, leaves0_1, leaves0_2, leaves0_3, leaves0_4]
  have ePre : bodyPre m c t ⊢ held m c t := by
    unfold bodyPre held
    simp only [before0_0, before0_1, before0_2, before0_3, before0_4]
    rw [show (dats m 0 c).Φ t.castSucc = Pipeline.ΦA spec0 c from rfl, PhiA0_eq]
    iintro ⟨HP, Ho, ⟨%d0, H0⟩, ⟨%d1, H1⟩, ⟨%d2, H2⟩, ⟨%d3, H3⟩, ⟨%d4, H4⟩, H5⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    iexact H5
  rw [ePost]
  refine ePre.trans (Keeps.wp ?_)
  unfold bodyAt0
  unfold held
  exact keeps_body c _ (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (reads_right (reads_right (reads_left (reads_self _))))
    (reads_right (reads_right (reads_right (reads_left (reads_self _)))))
    (reads_right (reads_right (reads_right (reads_right (reads_left (reads_self _))))))
    (reads_right (reads_right (reads_right (reads_right (reads_right (reads_left (reads_self _)))))))
    (reads_right (reads_right (reads_right (reads_right (reads_right (reads_right (reads_left (reads_self _))))))))
    (writes_right (writes_right (writes_right (writes_right (writes_right (writes_right (writes_right writes_self)))))))
    (writes_left (writes_left (writes_left writes_self)))
    (writes_left (writes_left (writes_right (writes_left writes_self))))
    (writes_left (writes_left (writes_right (writes_right (writes_left writes_self)))))
    (writes_left (writes_left (writes_right (writes_right (writes_right (writes_left writes_self))))))
    (writes_left (writes_left (writes_right (writes_right (writes_right (writes_right (writes_left writes_self)))))))
    (writes_left (writes_left (writes_right (writes_right (writes_right (writes_right (writes_right writes_self)))))))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 3 rfl).trans ((A_eq m c 3).trans (V_main_arg0 m c)),
      (Pipeline.RDat.FramePost.arr_in h.1 c 0 rfl).trans ((A_eq m c 0).trans (V_main_arg1 m c)),
      ((h.1 c).2 main_arg2 (Pipeline.mem_restRefs_of main_arg2 (by decide) (by decide))).trans (V_main_arg2 m c)⟩, h.2⟩) (run_main m ρ)

end Cert.Attn

end
-- ==== Proof.HgrnBody.lean ====
module

public import proofs.«01_k».proof.Proof.Keeps
public import proofs.«01_k».proof.Proof.Gen.Kernel10Ideal.Skeleton
public import proofs.«01_k».proof.Proof.Gen.Kernel10Ideal.Frame

/-! The gated recurrence: the body, its three loops and their parts, keeps the buffers. -/

@[expose] public section

set_option maxRecDepth 16384
set_option maxHeartbeats 4000000

noncomputable section

namespace Cert.Hgrn

open Idealize.ShloMosaic Idealize.ShloMosaic.TcCoe Idealize.ShloMosaic.Tactic
open Idealize.SL Idealize.SL.RA Idealize.SL.BI
open Idealize.SL.Sem
open Cert.Keeping Cert.Kernel10Ideal Cert.Kernel10Ideal.Gen

variable {F : FTy → Type} [FloatOps F]

variable (c : Dev nD) (R : sProp (MT nD τ sig Unit (Elt F) ℕ (UR sig nD τ) ℕ)) (i : grid0.Coords) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x2048 .f32) (harg7 : arg7.IsWhole) (arg8 : Memref sig .tc .vmem S1x1x128 .f32) (harg8 : arg8.IsWhole) (arg9 : Memref sig .tc .vmem S1x256x2048 .bf16) (harg9 : arg9.IsWhole) (arg10 : Memref sig .tc .vmem S16x128x128 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole)
  (h3 : Reads c R arg3) (h4 : Reads c R arg4) (h5 : Reads c R arg5) (h6 : Reads c R arg6) (h7 : Reads c R arg7) (h8 : Reads c R arg8) (h9 : Writes c R arg9) (h10 : Writes c R arg10) (h11 : Writes c R arg11) (h12 : Writes c R arg12) (h13 : Writes c R arg13) (h14 : Writes c R arg14)
include h3 h4 h5 h6 h7 h8 h9 h10 h11 h12 h13 h14

theorem keeps_t1 (v3 : Vec F S1x2048 .f32) (v8 : IVec S16x2048 32) (k : Fin k0_t1_loop.trips) (a : FVec F S1x2048 .f32) :
    Keeps (defs₀ (F := F)) c R (k0_t1_body (F := F) i arg3 harg3 arg4 harg4 arg5 harg5 arg6 harg6 arg7 harg7 arg8 harg8 arg9 harg9 arg10 harg10 arg11 harg11 arg12 harg12 arg13 harg13 arg14 harg14 v3 v8 k a) := by
  unfold k0_t1_body
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (simp only [
        k0_part1_eq_skeleton, k0_part2_eq_skeleton, k0_part3_eq_skeleton, k0_part4_eq_skeleton, k0_part5_eq_skeleton,
        k0_part6_eq_skeleton, k0_part7_eq_skeleton, k0_part8_eq_skeleton]
       delta
        k0_part1_skel k0_part2_skel k0_part3_skel k0_part4_skel k0_part5_skel k0_part6_skel k0_part7_skel
        k0_part8_skel)

theorem keeps_t2 (k : Fin k0_t2_loop.trips) (a : Unit) :
    Keeps (defs₀ (F := F)) c R (k0_t2_body (F := F) i arg3 harg3 arg4 harg4 arg5 harg5 arg6 harg6 arg7 harg7 arg8 harg8 arg9 harg9 arg10 harg10 arg11 harg11 arg12 harg12 arg13 harg13 arg14 harg14 k a) := by
  unfold k0_t2_body
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (simp only [
        k0_part9_eq_skeleton, k0_part10_eq_skeleton, k0_part11_eq_skeleton, k0_part12_eq_skeleton,
        k0_part13_eq_skeleton, k0_part14_eq_skeleton, k0_part15_eq_skeleton, k0_part16_eq_skeleton,
        k0_part17_eq_skeleton, k0_part18_eq_skeleton, k0_part19_eq_skeleton, k0_part20_eq_skeleton,
        k0_part21_eq_skeleton, k0_part22_eq_skeleton, k0_part23_eq_skeleton, k0_part24_eq_skeleton,
        k0_part25_eq_skeleton, k0_part26_eq_skeleton, k0_part27_eq_skeleton, k0_part28_eq_skeleton,
        k0_part29_eq_skeleton, k0_part30_eq_skeleton, k0_part31_eq_skeleton, k0_part32_eq_skeleton,
        k0_part33_eq_skeleton, k0_part34_eq_skeleton, k0_part35_eq_skeleton, k0_part36_eq_skeleton]
       delta
        k0_part9_skel k0_part10_skel k0_part11_skel k0_part12_skel k0_part13_skel k0_part14_skel k0_part15_skel
        k0_part16_skel k0_part17_skel k0_part18_skel k0_part19_skel k0_part20_skel k0_part21_skel k0_part22_skel
        k0_part23_skel k0_part24_skel k0_part25_skel k0_part26_skel k0_part27_skel k0_part28_skel k0_part29_skel
        k0_part30_skel k0_part31_skel k0_part32_skel k0_part33_skel k0_part34_skel k0_part35_skel k0_part36_skel)

theorem keeps_t3 (v13 : IVec S8x128 32) (k : Fin k0_t3_loop.trips) (a : Unit) :
    Keeps (defs₀ (F := F)) c R (k0_t3_body (F := F) i arg3 harg3 arg4 harg4 arg5 harg5 arg6 harg6 arg7 harg7 arg8 harg8 arg9 harg9 arg10 harg10 arg11 harg11 arg12 harg12 arg13 harg13 arg14 harg14 v13 k a) := by
  unfold k0_t3_body
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (simp only [
        k0_part152_eq_skeleton, k0_part97_eq_skeleton, k0_part98_eq_skeleton, k0_part99_eq_skeleton,
        k0_part100_eq_skeleton, k0_part101_eq_skeleton, k0_part102_eq_skeleton, k0_part103_eq_skeleton,
        k0_part104_eq_skeleton, k0_part105_eq_skeleton, k0_part106_eq_skeleton, k0_part107_eq_skeleton,
        k0_part108_eq_skeleton, k0_part109_eq_skeleton, k0_part110_eq_skeleton, k0_part111_eq_skeleton,
        k0_part112_eq_skeleton, k0_part113_eq_skeleton, k0_part114_eq_skeleton, k0_part115_eq_skeleton,
        k0_part116_eq_skeleton, k0_part117_eq_skeleton, k0_part118_eq_skeleton, k0_part119_eq_skeleton,
        k0_part120_eq_skeleton, k0_part121_eq_skeleton, k0_part122_eq_skeleton, k0_part123_eq_skeleton,
        k0_part124_eq_skeleton, k0_part125_eq_skeleton, k0_part126_eq_skeleton, k0_part127_eq_skeleton,
        k0_part128_eq_skeleton, k0_part129_eq_skeleton, k0_part130_eq_skeleton, k0_part131_eq_skeleton,
        k0_part132_eq_skeleton, k0_part133_eq_skeleton, k0_part134_eq_skeleton, k0_part135_eq_skeleton,
        k0_part136_eq_skeleton, k0_part137_eq_skeleton, k0_part138_eq_skeleton, k0_part139_eq_skeleton,
        k0_part140_eq_skeleton, k0_part141_eq_skeleton, k0_part142_eq_skeleton, k0_part143_eq_skeleton,
        k0_part144_eq_skeleton, k0_part145_eq_skeleton, k0_part146_eq_skeleton, k0_part147_eq_skeleton,
        k0_part148_eq_skeleton, k0_part149_eq_skeleton, k0_part150_eq_skeleton, k0_part151_eq_skeleton,
        k0_part37_eq_skeleton, k0_part38_eq_skeleton, k0_part39_eq_skeleton, k0_part40_eq_skeleton,
        k0_part41_eq_skeleton, k0_part42_eq_skeleton, k0_part43_eq_skeleton, k0_part44_eq_skeleton,
        k0_part45_eq_skeleton, k0_part46_eq_skeleton, k0_part47_eq_skeleton, k0_part48_eq_skeleton,
        k0_part49_eq_skeleton, k0_part50_eq_skeleton, k0_part51_eq_skeleton, k0_part52_eq_skeleton,
        k0_part53_eq_skeleton, k0_part54_eq_skeleton, k0_part55_eq_skeleton, k0_part56_eq_skeleton,
        k0_part57_eq_skeleton, k0_part58_eq_skeleton, k0_part59_eq_skeleton, k0_part60_eq_skeleton,
        k0_part61_eq_skeleton, k0_part62_eq_skeleton, k0_part63_eq_skeleton, k0_part64_eq_skeleton,
        k0_part65_eq_skeleton, k0_part66_eq_skeleton, k0_part67_eq_skeleton, k0_part68_eq_skeleton,
        k0_part69_eq_skeleton, k0_part70_eq_skeleton, k0_part71_eq_skeleton, k0_part72_eq_skeleton,
        k0_part73_eq_skeleton, k0_part74_eq_skeleton, k0_part75_eq_skeleton, k0_part76_eq_skeleton,
        k0_part77_eq_skeleton, k0_part78_eq_skeleton, k0_part79_eq_skeleton, k0_part80_eq_skeleton,
        k0_part81_eq_skeleton, k0_part82_eq_skeleton, k0_part83_eq_skeleton, k0_part84_eq_skeleton,
        k0_part85_eq_skeleton, k0_part86_eq_skeleton, k0_part87_eq_skeleton, k0_part88_eq_skeleton,
        k0_part89_eq_skeleton, k0_part90_eq_skeleton, k0_part91_eq_skeleton, k0_part92_eq_skeleton,
        k0_part93_eq_skeleton, k0_part94_eq_skeleton, k0_part95_eq_skeleton, k0_part96_eq_skeleton]
       delta
        k0_part152_skel k0_part97_skel k0_part98_skel k0_part99_skel k0_part100_skel k0_part101_skel k0_part102_skel
        k0_part103_skel k0_part104_skel k0_part105_skel k0_part106_skel k0_part107_skel k0_part108_skel
        k0_part109_skel k0_part110_skel k0_part111_skel k0_part112_skel k0_part113_skel k0_part114_skel
        k0_part115_skel k0_part116_skel k0_part117_skel k0_part118_skel k0_part119_skel k0_part120_skel
        k0_part121_skel k0_part122_skel k0_part123_skel k0_part124_skel k0_part125_skel k0_part126_skel
        k0_part127_skel k0_part128_skel k0_part129_skel k0_part130_skel k0_part131_skel k0_part132_skel
        k0_part133_skel k0_part134_skel k0_part135_skel k0_part136_skel k0_part137_skel k0_part138_skel
        k0_part139_skel k0_part140_skel k0_part141_skel k0_part142_skel k0_part143_skel k0_part144_skel
        k0_part145_skel k0_part146_skel k0_part147_skel k0_part148_skel k0_part149_skel k0_part150_skel
        k0_part151_skel k0_part37_skel k0_part38_skel k0_part39_skel k0_part40_skel k0_part41_skel k0_part42_skel
        k0_part43_skel k0_part44_skel k0_part45_skel k0_part46_skel k0_part47_skel k0_part48_skel k0_part49_skel
        k0_part50_skel k0_part51_skel k0_part52_skel k0_part53_skel k0_part54_skel k0_part55_skel k0_part56_skel
        k0_part57_skel k0_part58_skel k0_part59_skel k0_part60_skel k0_part61_skel k0_part62_skel k0_part63_skel
        k0_part64_skel k0_part65_skel k0_part66_skel k0_part67_skel k0_part68_skel k0_part69_skel k0_part70_skel
        k0_part71_skel k0_part72_skel k0_part73_skel k0_part74_skel k0_part75_skel k0_part76_skel k0_part77_skel
        k0_part78_skel k0_part79_skel k0_part80_skel k0_part81_skel k0_part82_skel k0_part83_skel k0_part84_skel
        k0_part85_skel k0_part86_skel k0_part87_skel k0_part88_skel k0_part89_skel k0_part90_skel k0_part91_skel
        k0_part92_skel k0_part93_skel k0_part94_skel k0_part95_skel k0_part96_skel)

theorem keeps_body : Keeps (defs₀ (F := F)) c R (cc0_hgrn_scan (F := F) i arg3 harg3 arg4 harg4 arg5 harg5 arg6 harg6 arg7 harg7 arg8 harg8 arg9 harg9 arg10 harg10 arg11 harg11 arg12 harg12 arg13 harg13 arg14 harg14) := by
  rw [cc0_hgrn_scan_eq_skeleton (F := F)]; unfold cc0_hgrn_scan_skel
  repeat' first
    | (with_reducible refine keeps_bind ?_ (fun _ => ?_))
    | (with_reducible exact keeps_ret _)
    | (refine keeps_load ?_; with_reducible assumption)
    | (refine keeps_load (Writes.reads ?_); with_reducible assumption)
    | (refine keeps_store ?_; with_reducible assumption)
    | (with_reducible refine keeps_dite (fun _ => ?_) (fun _ => ?_))
    | (with_reducible refine keeps_ite ?_ ?_)
    | (refine keeps_for _ _ _ _ (fun k a => ?_)
       first
         | exact keeps_t1 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ _ k a
         | exact keeps_t2 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 k a
         | exact keeps_t3 c R i arg3 harg3 arg4 harg4 arg5 harg5 arg6 harg6 arg7 harg7 arg8 harg8 arg9 harg9 arg10 harg10 arg11 harg11 arg12 harg12 arg13 harg13 arg14 harg14 h3 h4 h5 h6 h7 h8 h9 h10 h11 h12 h13 h14 _ k a)

end Cert.Hgrn

end
-- ==== Proof.HgrnFrame.lean ====
module

public import proofs.«01_k».proof.Proof.HgrnBody
public import Idealize.ShloMosaic.Lib.Pipeline.TableIdle
public import Idealize.ShloMosaic.Lib.Claim

/-! The gated recurrence: the grid, its proof data and the frame. -/

@[expose] public section

set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Keeping Cert.Kernel10Ideal Cert.Kernel10Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .bf16 := win0_6.stage (cfg0.slots t 6)
abbrev hs0_6 (t : Fin cfg0.N) : (ms0_6 t).IsWhole := hstage0_6 ((cfg0.slots t 6).cast nbuf0_6)
abbrev scM0_0 : Memref sig .tc .vmem S16x128x128 .f32 := Memref.whole cc0_scratch0
abbrev scM0_1 : Memref sig .tc .vmem S256x2048 .f32 := Memref.whole cc0_scratch1
abbrev scM0_2 : Memref sig .tc .vmem S256x2048 .f32 := Memref.whole cc0_scratch2
abbrev scM0_3 : Memref sig .tc .vmem S256x2048 .f32 := Memref.whole cc0_scratch3
abbrev scM0_4 : Memref sig .tc .vmem S256x2048 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- Nothing reads what the kernel leaves in the output. -/
def forgets0 : Fin 7 → Bool := fun w => decide (w = 6)

/-- The proof data of the pipeline: the operands left in place, the output's contents unnamed, the operands' arrays shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (grid0.coords t) = false from rfl], after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (grid0.coords t) = false from rfl], after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (grid0.coords t) = false from rfl], after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [show cfg0.idle 3 (grid0.coords t) = false from rfl], after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [show cfg0.idle 4 (grid0.coords t) = false from rfl], after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [show cfg0.idle 5 (grid0.coords t) = false from rfl], after0_5]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

/-- What the body keeps: the scratch at any contents, the operands at theirs, the output's buffer at any. -/
def held (c : Dev nD) (t : Fin cfg0.N) : sProp 𝕄 :=
  iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ (∃ d, owns (c : Thread nD τ) (ms0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  have ePost : bodyPost m c t = held m c t := by
    unfold bodyPost held
    rw [show (dats m 0 c).owesAt () t.succ = (dats m 0 c).owesAt () t.castSucc from rfl,
      show (dats m 0 c).Φ t.succ = Pipeline.ΦA spec0 c from rfl, PhiA0_eq, leaves0_0, leaves0_1, leaves0_2, leaves0_3, leaves0_4, leaves0_5]
  have ePre : bodyPre m c t ⊢ held m c t := by
    unfold bodyPre held
    simp only [before0_0, before0_1, before0_2, before0_3, before0_4, before0_5]
    rw [show (dats m 0 c).Φ t.castSucc = Pipeline.ΦA spec0 c from rfl, PhiA0_eq]
    iintro ⟨HP, Ho, ⟨%d0, H0⟩, ⟨%d1, H1⟩, ⟨%d2, H2⟩, ⟨%d3, H3⟩, ⟨%d4, H4⟩, ⟨%d5, H5⟩, H6⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [ePost]
  refine ePre.trans (Keeps.wp ?_)
  unfold bodyAt0
  unfold held
  exact keeps_body c _ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _)
    (reads_right (reads_right (reads_left (reads_self _))))
    (reads_right (reads_right (reads_right (reads_left (reads_self _)))))
    (reads_right (reads_right (reads_right (reads_right (reads_left (reads_self _))))))
    (reads_right (reads_right (reads_right (reads_right (reads_right (reads_left (reads_self _)))))))
    (reads_right (reads_right (reads_right (reads_right (reads_right (reads_right (reads_left (reads_self _))))))))
    (reads_right (reads_right (reads_right (reads_right (reads_right (reads_right (reads_right (reads_left (reads_self _)))))))))
    (writes_right (writes_right (writes_right (writes_right (writes_right (writes_right (writes_right (writes_right writes_self))))))))
    (writes_left (writes_left (writes_left writes_self)))
    (writes_left (writes_left (writes_right (writes_left writes_self))))
    (writes_left (writes_left (writes_right (writes_right (writes_left writes_self)))))
    (writes_left (writes_left (writes_right (writes_right (writes_right (writes_left writes_self))))))
    (writes_left (writes_left (writes_right (writes_right (writes_right (writes_right writes_self))))))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 3 rfl).trans ((A_eq m c 3).trans (V_main_arg0 m c)),
      (Pipeline.RDat.FramePost.arr_in h.1 c 4 rfl).trans ((A_eq m c 4).trans (V_main_arg1 m c)),
      ((h.1 c).2 main_arg2 (Pipeline.mem_restRefs_of main_arg2 (by decide) (by decide))).trans (V_main_arg2 m c)⟩, h.2⟩) (run_main m ρ)

end Cert.Hgrn

end
-- ==== Proof.lean ====
module

public import proofs.«01_k».proof.Defs
public import proofs.«01_k».proof.Proof.PoolEq
public import proofs.«01_k».proof.Proof.FfnEq
public import proofs.«01_k».proof.Proof.PleEq
public import proofs.«01_k».proof.Proof.NormMatmulEq
public import proofs.«01_k».proof.Proof.OutProjEq
public import proofs.«01_k».proof.Proof.OutProj2Eq
public import proofs.«01_k».proof.Proof.Ple0Eq
public import proofs.«01_k».proof.Proof.AbProjEq
public import proofs.«01_k».proof.Proof.AbProjFrame
public import proofs.«01_k».proof.Proof.AttnFrame
public import proofs.«01_k».proof.Proof.HgrnFrame
public import proofs.«01_k».proof.Proof.Gen.Kernel.Frame
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Pre_pool_finite
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Pre_ffn_finite
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Skeleton
public import proofs.«01_k».proof.Proof.Gen.Kernel9Ideal.Loops
public import proofs.«01_k».proof.Proof.Gen.Kernel10.Frame
public import proofs.«01_k».proof.Proof.Gen.Kernel10Ideal.Frame
public import proofs.«01_k».proof.Proof.Gen.Kernel10Ideal.Skeleton
public import Idealize.ShloMosaic.Adequacy
public import Idealize.ShloMosaic.Init
public import Idealize.ShloMosaic.Lib.Quiescent

/-! The certificate: every call's frames and its value claim, put together. -/

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition, at an entry of argument 0. -/
theorem pool_real_0 (m : (ℓ : Loc Cert.KernelIdeal.nD Cert.KernelIdeal.τ Cert.KernelIdeal.sig) → Buf (Elt Ideal) ℓ)
    (h : Pre_KernelIdeal_pool_finite m) (c : Dev Cert.KernelIdeal.nD) :
    ∀ i, Base.IsReal (m ((c.tc : Thread Cert.KernelIdeal.nD Cert.KernelIdeal.τ).loc Cert.KernelIdeal.main_arg0) i) := fun i =>
  Base.isReal_of_abs_lt (congrFun (h c) i)

/-- The windowed mean pooling: the kernel's array is the reference's. -/
theorem algebraic_Pool : algebraic_KernelIdeal_ReferenceIdeal_pre_pool_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2⟩ := hagree c
  refine Eq.trans ?_ (Cert.Pool.value_eq m c (pool_real_0 m hpre c)).symm
  rw [← h0, ← h1, ← h2]
  rfl

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The precondition, at an entry of argument 0. -/
theorem ffn_real_0 (m : (ℓ : Loc Cert.Kernel2Ideal.nD Cert.Kernel2Ideal.τ Cert.Kernel2Ideal.sig) → Buf (Elt Ideal) ℓ)
    (h : Pre_Kernel2Ideal_ffn_finite m) (c : Dev Cert.Kernel2Ideal.nD) :
    ∀ i, Base.IsReal (m ((c.tc : Thread Cert.Kernel2Ideal.nD Cert.Kernel2Ideal.τ).loc Cert.Kernel2Ideal.main_arg0) i) := fun i =>
  Base.isReal_of_abs_lt (congrFun (h c).1 i)

/-- The precondition, at an entry of argument 1. -/
theorem ffn_real_1 (m : (ℓ : Loc Cert.Kernel2Ideal.nD Cert.Kernel2Ideal.τ Cert.Kernel2Ideal.sig) → Buf (Elt Ideal) ℓ)
    (h : Pre_Kernel2Ideal_ffn_finite m) (c : Dev Cert.Kernel2Ideal.nD) :
    ∀ i, Base.IsReal (m ((c.tc : Thread Cert.Kernel2Ideal.nD Cert.Kernel2Ideal.τ).loc Cert.Kernel2Ideal.main_arg1) i) := fun i =>
  Base.isReal_of_abs_lt (congrFun (h c).2.1 i)

/-- The precondition, at an entry of argument 2. -/
theorem ffn_real_2 (m : (ℓ : Loc Cert.Kernel2Ideal.nD Cert.Kernel2Ideal.τ Cert.Kernel2Ideal.sig) → Buf (Elt Ideal) ℓ)
    (h : Pre_Kernel2Ideal_ffn_finite m) (c : Dev Cert.Kernel2Ideal.nD) :
    ∀ i, Base.IsReal (m ((c.tc : Thread Cert.Kernel2Ideal.nD Cert.Kernel2Ideal.τ).loc Cert.Kernel2Ideal.main_arg2) i) := fun i =>
  Base.isReal_of_abs_lt (congrFun (h c).2.2 i)

/-- The feed-forward half step: the kernel's array is the reference's. -/
theorem algebraic_Ffn : algebraic_Kernel2Ideal_Reference2Ideal_pre_ffn_finite := by
  intro m ρ m' ρ' hpre hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4⟩ := hagree c
  refine Eq.trans ?_ (Cert.Ffn.value_eq m c (ffn_real_0 m hpre c) (ffn_real_1 m hpre c) (ffn_real_2 m hpre c)).symm
  rw [← h0, ← h1, ← h2, ← h3, ← h4]
  rfl

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The per-layer embedding with the final norm: the kernel's array is the reference's. -/
theorem algebraic_Ple : algebraic_Kernel3Ideal_Reference3Ideal := by
  intro m ρ m' ρ' hpre hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1, h2, h3, h4, h5⟩ := hagree c
  refine Eq.trans ?_ (Cert.Ple.value_eq m c).symm
  rw [← h0, ← h1, ← h2, ← h3, ← h4, ← h5]
  rfl

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The recurrent mixer's norm and input projection: the kernel's array is the reference's. -/
theorem algebraic_NormMatmul : algebraic_Kernel4Ideal_Reference4Ideal := by
  intro m ρ m' ρ' hpre hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨h0, h1, h2⟩ := hagree c
  refine Eq.trans ?_ (Cert.NormMatmul.value_eq m c).symm
  rw [← h0, ← h1, ← h2]
  rfl

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The recurrent mixer's output projection: the kernel's array is the reference's. -/
theorem algebraic_OutProj : algebraic_Kernel5Ideal_Reference5Ideal := by
  intro m ρ m' ρ' hpre hagree
  refine ⟨_, Cert.Kernel5Ideal.Value.run (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨h0, h1, h2⟩ := hagree c
  refine Eq.trans ?_ (Cert.OutProj.value_eq m c).symm
  rw [← h0, ← h1, ← h2]
  rfl

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The attention and pooling mixers' output projection: the kernel's array is the reference's. -/
theorem algebraic_OutProj2 : algebraic_Kernel6Ideal_Reference6Ideal := by
  intro m ρ m' ρ' hpre hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨h0, h1, h2, h3⟩ := hagree c
  refine Eq.trans ?_ (Cert.OutProj2.value_eq m c).symm
  rw [← h0, ← h1, ← h2, ← h3]
  rfl

/-- The kernel and the ideal kernel have the same text, so that over the bit formats their bodies are the same. -/
theorem bodies7_eq : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, (t, s) => rfl
  | ⟨_ + 1, h⟩, _ => exact absurd h (Nat.not_lt.2 (Nat.le_add_left _ _))

theorem defs7_eq : Cert.Kernel7.defs (F := Bits) = Cert.Kernel7Ideal.defs (F := Bits) := by
  unfold Cert.Kernel7.defs Cert.Kernel7Ideal.defs
  exact congrArg (Pipeline.defs (Cert.Kernel7Ideal.pcfgs (F := Bits))) bodies7_eq

/-- The frame over the bit formats, from the one run. -/
theorem quiescent_Kernel7 : quiescent_Kernel7 := fun m ρ _ => by
  rw [defs7_eq]
  exact Cert.AbProj.frame (F := Bits) m ρ

theorem quiescent_Reference7Ideal : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The attention and pooling mixers' norm, projection and rotary embedding: both of the kernel's arrays are the reference's. -/
theorem algebraic_AbProj : algebraic_Kernel7Ideal_Reference7Ideal := by
  intro m ρ m' ρ' hpre hagree
  refine ⟨_, _, Cert.AbProj.run_value m ρ, ?_⟩
  refine (θ_run Cert.Reference7Ideal.defs _ _).mono (fun _ h c => ⟨?_, ?_, (h c).2.2⟩) (Cert.Reference7Ideal.Value.run (F := Ideal) m' ρ')
  · rw [(h c).1]
    obtain ⟨h0, h1, h2, h3⟩ := hagree c
    refine Eq.trans ?_ (Cert.AbProj.value0_eq m c).symm
    rw [← h0, ← h2, ← h3]
    rfl
  · rw [(h c).2.1, Cert.Reference7Ideal.Read.val_main_v82_eq]
    obtain ⟨h0, h1, h2, h3⟩ := hagree c
    refine Eq.trans ?_ (Cert.AbProj.value1_eq m c).symm
    rw [← h0, ← h1, ← h2, ← h3]

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The per-layer embedding of the first layer: the kernel's array is the reference's. -/
theorem algebraic_Ple0 : algebraic_Kernel8Ideal_Reference8Ideal := by
  intro m ρ m' ρ' hpre hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  rw [(h c).1]
  obtain ⟨h0, h1, h2, h3, h4, h5⟩ := hagree c
  refine Eq.trans ?_ (Cert.Ple0.value_eq m c).symm
  rw [← h0, ← h1, ← h2, ← h3, ← h4]
  rfl

/-- The kernel and the ideal kernel have the same text, so that over the bit formats their bodies are the same. -/
theorem bodies9_eq : Cert.Kernel9.defs₀ (F := Bits) = Cert.Kernel9Ideal.defs₀ (F := Bits) := by
  unfold Cert.Kernel9.defs₀ Cert.Kernel9Ideal.defs₀
  refine congrArg Defs.onTc ?_
  funext l a
  match l, a with
  | 0, (t, s) => rfl
  | ⟨_ + 1, h⟩, _ => exact absurd h (Nat.not_lt.2 (Nat.le_add_left _ _))

theorem defs9_eq : Cert.Kernel9.defs (F := Bits) = Cert.Kernel9Ideal.defs (F := Bits) := by
  unfold Cert.Kernel9.defs Cert.Kernel9Ideal.defs
  exact congrArg (Pipeline.defs (Cert.Kernel9Ideal.pcfgs (F := Bits))) bodies9_eq

/-- The frame over the bit formats, from the one run. -/
theorem quiescent_Kernel9 : quiescent_Kernel9 := fun m ρ _ => by
  rw [defs9_eq]
  exact Cert.Attn.frame (F := Bits) m ρ

/-- The kernel and the ideal kernel have the same text, so that over the bit formats their bodies are the same. -/
theorem bodies10_eq : Cert.Kernel10.defs₀ (F := Bits) = Cert.Kernel10Ideal.defs₀ (F := Bits) := by
  unfold Cert.Kernel10.defs₀ Cert.Kernel10Ideal.defs₀
  refine congrArg Defs.onTc ?_
  funext l a
  match l, a with
  | 0, (t, s) => rfl
  | ⟨_ + 1, h⟩, _ => exact absurd h (Nat.not_lt.2 (Nat.le_add_left _ _))

theorem defs10_eq : Cert.Kernel10.defs (F := Bits) = Cert.Kernel10Ideal.defs (F := Bits) := by
  unfold Cert.Kernel10.defs Cert.Kernel10Ideal.defs
  exact congrArg (Pipeline.defs (Cert.Kernel10Ideal.pcfgs (F := Bits))) bodies10_eq

/-- The frame over the bit formats, from the one run. -/
theorem quiescent_Kernel10 : quiescent_Kernel10 := fun m ρ _ => by
  rw [defs10_eq]
  exact Cert.Hgrn.frame (F := Bits) m ρ

theorem claim : Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Kernel10.Gen.facts,
    Cert.Kernel10Ideal.Gen.facts,
    Cert.Pre_pool_finite.Gen.facts,
    Cert.Pre_ffn_finite.Gen.facts,
    fun m ρ _ => Cert.Kernel.Gen.frame m ρ,
    fun m ρ _ => Cert.KernelIdeal.Gen.frame m ρ,
    fun m ρ _ => Cert.KernelIdeal.Gen.frame m ρ,
    quiescent_ReferenceIdeal,
    fun m ρ _ => quiescent_ReferenceIdeal m ρ trivial,
    fun m ρ _ => Cert.Kernel2.Gen.frame m ρ,
    fun m ρ _ => Cert.Kernel2Ideal.Gen.frame m ρ,
    fun m ρ _ => Cert.Kernel2Ideal.Gen.frame m ρ,
    quiescent_Reference2Ideal,
    fun m ρ _ => quiescent_Reference2Ideal m ρ trivial,
    fun m ρ _ => Cert.Kernel3.Gen.frame m ρ,
    fun m ρ _ => Cert.Kernel3Ideal.Gen.frame m ρ,
    quiescent_Reference3Ideal,
    fun m ρ _ => Cert.Kernel4.Gen.frame m ρ,
    fun m ρ _ => Cert.Kernel4Ideal.Gen.frame m ρ,
    quiescent_Reference4Ideal,
    fun m ρ _ => Cert.Kernel5.Gen.frame m ρ,
    fun m ρ _ => Cert.Kernel5Ideal.Gen.frame m ρ,
    quiescent_Reference5Ideal,
    fun m ρ _ => Cert.Kernel6.Gen.frame m ρ,
    fun m ρ _ => Cert.Kernel6Ideal.Gen.frame m ρ,
    quiescent_Reference6Ideal,
    quiescent_Kernel7,
    fun m ρ _ => Cert.AbProj.frame m ρ,
    quiescent_Reference7Ideal,
    fun m ρ _ => Cert.Kernel8.Gen.frame m ρ,
    fun m ρ _ => Cert.Kernel8Ideal.Gen.frame m ρ,
    quiescent_Reference8Ideal,
    quiescent_Kernel9,
    fun m ρ _ => Cert.Attn.frame m ρ,
    quiescent_Kernel10,
    fun m ρ _ => Cert.Hgrn.frame m ρ,
    trivial,
    algebraic_Pool,
    trivial,
    algebraic_Ffn,
    trivial,
    algebraic_Ple,
    trivial,
    algebraic_NormMatmul,
    trivial,
    algebraic_OutProj,
    trivial,
    algebraic_OutProj2,
    trivial,
    algebraic_AbProj,
    trivial,
    algebraic_Ple0,
    trivial,
    trivial⟩

end Cert.Proof

end
